-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Kernel20Ideal_finite_attention [hPre_finite_attention : Cert.Pre_finite_attention.Facts] (m : (ℓ : Loc Cert.Kernel20Ideal.nD Cert.Kernel20Ideal.τ Cert.Kernel20Ideal.sig) → Buf (Elt Ideal) ℓ) : Prop :=
  ∀ c : Dev Cert.Kernel20Ideal.nD,
    (Cert.Pre_finite_attention.fn (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2))) = (fun _ => 1#1)

def Pre_Reference20Ideal (m : (ℓ : Loc Cert.Reference20Ideal.nD Cert.Reference20Ideal.τ Cert.Reference20Ideal.sig) → Buf (Elt Ideal) ℓ) : Prop :=
  True

def Pre_Reference20Ideal_finite_attention [hPre_finite_attention : Cert.Pre_finite_attention.Facts] (m : (ℓ : Loc Cert.Reference20Ideal.nD Cert.Reference20Ideal.τ Cert.Reference20Ideal.sig) → Buf (Elt Ideal) ℓ) : Prop :=
  ∀ c : Dev Cert.Reference20Ideal.nD,
    (Cert.Pre_finite_attention.fn (F := Ideal) (m ((c.tc : Thread Cert.Reference20Ideal.nD Cert.Reference20Ideal.τ).loc Cert.Reference20Ideal.main_arg0)) (m ((c.tc : Thread Cert.Reference20Ideal.nD Cert.Reference20Ideal.τ).loc Cert.Reference20Ideal.main_arg1)) (m ((c.tc : Thread Cert.Reference20Ideal.nD Cert.Reference20Ideal.τ).loc Cert.Reference20Ideal.main_arg2))) = (fun _ => 1#1)

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel28 (m : (ℓ : Loc Cert.Kernel28.nD Cert.Kernel28.τ Cert.Kernel28.sig) → Buf (Elt Bits) ℓ) : Prop :=
  True

def Pre_Kernel28Ideal (m : (ℓ : Loc Cert.Kernel28Ideal.nD Cert.Kernel28Ideal.τ Cert.Kernel28Ideal.sig) → Buf (Elt Ideal) ℓ) : Prop :=
  True

def Pre_Reference28Ideal (m : (ℓ : Loc Cert.Reference28Ideal.nD Cert.Reference28Ideal.τ Cert.Reference28Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Kernel20Ideal_pre_finite_attention [hKernel20Ideal : Cert.Kernel20Ideal.Facts] [hPre_finite_attention : Cert.Pre_finite_attention.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal_finite_attention m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Reference20Ideal_pre_finite_attention [hReference20Ideal : Cert.Reference20Ideal.Facts] [hPre_finite_attention : Cert.Pre_finite_attention.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal_finite_attention m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1)
      ∧ r.2.mem ((c.tc : Thread Cert.Kernel22.nD Cert.Kernel22.τ).loc Cert.Kernel22.main_arg2) = m ((c.tc : Thread Cert.Kernel22.nD Cert.Kernel22.τ).loc Cert.Kernel22.main_arg2))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
      ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1)
      ∧ r.2.mem ((c.tc : Thread Cert.Reference22Ideal.nD Cert.Reference22Ideal.τ).loc Cert.Reference22Ideal.main_arg2) = m ((c.tc : Thread Cert.Reference22Ideal.nD Cert.Reference22Ideal.τ).loc Cert.Reference22Ideal.main_arg2))
      ∧ r.2.sem = fun _ => 0)

def quiescent_Kernel28 [hKernel28 : Cert.Kernel28.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1))
      ∧ r.2.sem = fun _ => 0)

def quiescent_Kernel28Ideal [hKernel28Ideal : Cert.Kernel28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2)
      ∧ r.2.mem ((c.tc : Thread Cert.Kernel24.nD Cert.Kernel24.τ).loc Cert.Kernel24.main_arg3) = m ((c.tc : Thread Cert.Kernel24.nD Cert.Kernel24.τ).loc Cert.Kernel24.main_arg3)
      ∧ r.2.mem ((c.tc : Thread Cert.Kernel24.nD Cert.Kernel24.τ).loc Cert.Kernel24.main_arg4) = m ((c.tc : Thread Cert.Kernel24.nD Cert.Kernel24.τ).loc Cert.Kernel24.main_arg4)
      ∧ r.2.mem ((c.tc : Thread Cert.Kernel24.nD Cert.Kernel24.τ).loc Cert.Kernel24.main_arg5) = m ((c.tc : Thread Cert.Kernel24.nD Cert.Kernel24.τ).loc Cert.Kernel24.main_arg5)
      ∧ r.2.mem ((c.tc : Thread Cert.Kernel24.nD Cert.Kernel24.τ).loc Cert.Kernel24.main_arg6) = m ((c.tc : Thread Cert.Kernel24.nD Cert.Kernel24.τ).loc Cert.Kernel24.main_arg6))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
      ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
      ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
      ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
      ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2)
      ∧ r.2.mem ((c.tc : Thread Cert.Reference24Ideal.nD Cert.Reference24Ideal.τ).loc Cert.Reference24Ideal.main_arg3) = m ((c.tc : Thread Cert.Reference24Ideal.nD Cert.Reference24Ideal.τ).loc Cert.Reference24Ideal.main_arg3)
      ∧ r.2.mem ((c.tc : Thread Cert.Reference24Ideal.nD Cert.Reference24Ideal.τ).loc Cert.Reference24Ideal.main_arg4) = m ((c.tc : Thread Cert.Reference24Ideal.nD Cert.Reference24Ideal.τ).loc Cert.Reference24Ideal.main_arg4)
      ∧ r.2.mem ((c.tc : Thread Cert.Reference24Ideal.nD Cert.Reference24Ideal.τ).loc Cert.Reference24Ideal.main_arg5) = m ((c.tc : Thread Cert.Reference24Ideal.nD Cert.Reference24Ideal.τ).loc Cert.Reference24Ideal.main_arg5)
      ∧ r.2.mem ((c.tc : Thread Cert.Reference24Ideal.nD Cert.Reference24Ideal.τ).loc Cert.Reference24Ideal.main_arg6) = m ((c.tc : Thread Cert.Reference24Ideal.nD Cert.Reference24Ideal.τ).loc Cert.Reference24Ideal.main_arg6))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2)
      ∧ r.2.mem ((c.tc : Thread Cert.Kernel25.nD Cert.Kernel25.τ).loc Cert.Kernel25.main_arg3) = m ((c.tc : Thread Cert.Kernel25.nD Cert.Kernel25.τ).loc Cert.Kernel25.main_arg3)
      ∧ r.2.mem ((c.tc : Thread Cert.Kernel25.nD Cert.Kernel25.τ).loc Cert.Kernel25.main_arg4) = m ((c.tc : Thread Cert.Kernel25.nD Cert.Kernel25.τ).loc Cert.Kernel25.main_arg4)
      ∧ r.2.mem ((c.tc : Thread Cert.Kernel25.nD Cert.Kernel25.τ).loc Cert.Kernel25.main_arg5) = m ((c.tc : Thread Cert.Kernel25.nD Cert.Kernel25.τ).loc Cert.Kernel25.main_arg5)
      ∧ r.2.mem ((c.tc : Thread Cert.Kernel25.nD Cert.Kernel25.τ).loc Cert.Kernel25.main_arg6) = m ((c.tc : Thread Cert.Kernel25.nD Cert.Kernel25.τ).loc Cert.Kernel25.main_arg6))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
      ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
      ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
      ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
      ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2)
      ∧ r.2.mem ((c.tc : Thread Cert.Reference25Ideal.nD Cert.Reference25Ideal.τ).loc Cert.Reference25Ideal.main_arg3) = m ((c.tc : Thread Cert.Reference25Ideal.nD Cert.Reference25Ideal.τ).loc Cert.Reference25Ideal.main_arg3)
      ∧ r.2.mem ((c.tc : Thread Cert.Reference25Ideal.nD Cert.Reference25Ideal.τ).loc Cert.Reference25Ideal.main_arg4) = m ((c.tc : Thread Cert.Reference25Ideal.nD Cert.Reference25Ideal.τ).loc Cert.Reference25Ideal.main_arg4)
      ∧ r.2.mem ((c.tc : Thread Cert.Reference25Ideal.nD Cert.Reference25Ideal.τ).loc Cert.Reference25Ideal.main_arg5) = m ((c.tc : Thread Cert.Reference25Ideal.nD Cert.Reference25Ideal.τ).loc Cert.Reference25Ideal.main_arg5)
      ∧ r.2.mem ((c.tc : Thread Cert.Reference25Ideal.nD Cert.Reference25Ideal.τ).loc Cert.Reference25Ideal.main_arg6) = m ((c.tc : Thread Cert.Reference25Ideal.nD Cert.Reference25Ideal.τ).loc Cert.Reference25Ideal.main_arg6))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4)
      ∧ r.2.mem ((c.tc : Thread Cert.Kernel26.nD Cert.Kernel26.τ).loc Cert.Kernel26.main_arg5) = m ((c.tc : Thread Cert.Kernel26.nD Cert.Kernel26.τ).loc Cert.Kernel26.main_arg5)
      ∧ r.2.mem ((c.tc : Thread Cert.Kernel26.nD Cert.Kernel26.τ).loc Cert.Kernel26.main_arg6) = m ((c.tc : Thread Cert.Kernel26.nD Cert.Kernel26.τ).loc Cert.Kernel26.main_arg6))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
      ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
      ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4)
      ∧ r.2.mem ((c.tc : Thread Cert.Reference26Ideal.nD Cert.Reference26Ideal.τ).loc Cert.Reference26Ideal.main_arg5) = m ((c.tc : Thread Cert.Reference26Ideal.nD Cert.Reference26Ideal.τ).loc Cert.Reference26Ideal.main_arg5)
      ∧ r.2.mem ((c.tc : Thread Cert.Reference26Ideal.nD Cert.Reference26Ideal.τ).loc Cert.Reference26Ideal.main_arg6) = m ((c.tc : Thread Cert.Reference26Ideal.nD Cert.Reference26Ideal.τ).loc Cert.Reference26Ideal.main_arg6))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v125) = v0 c
          ∧ r.2.mem ((c.tc : Thread Cert.ReferenceIdeal.nD Cert.ReferenceIdeal.τ).loc Cert.ReferenceIdeal.main_v122) = v1 c
          ∧ r.2.mem ((c.tc : Thread Cert.ReferenceIdeal.nD Cert.ReferenceIdeal.τ).loc Cert.ReferenceIdeal.main_v111) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v2) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v3) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v3) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v2) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v3) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v2) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v0) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)) →
    ∃ (v0 : (c : Dev Cert.Kernel11Ideal.nD) → Buf (Elt Ideal) ((c.tc : Thread Cert.Kernel11Ideal.nD Cert.Kernel11Ideal.τ).loc Cert.Kernel11Ideal.main_v1)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v1) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v0) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v0) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)) →
    ∃ (v0 : (c : Dev Cert.Kernel13Ideal.nD) → Buf (Elt Ideal) ((c.tc : Thread Cert.Kernel13Ideal.nD Cert.Kernel13Ideal.τ).loc Cert.Kernel13Ideal.main_v1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v0) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v1_0)) (v1 : (c : Dev Cert.Kernel14Ideal.nD) → Buf (Elt Ideal) ((c.tc : Thread Cert.Kernel14Ideal.nD Cert.Kernel14Ideal.τ).loc Cert.Kernel14Ideal.main_v1_1)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v1_0) = v0 c
          ∧ r.2.mem ((c.tc : Thread Cert.Kernel14Ideal.nD Cert.Kernel14Ideal.τ).loc Cert.Kernel14Ideal.main_v1_1) = v1 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v35) = v0 c
          ∧ r.2.mem ((c.tc : Thread Cert.Reference14Ideal.nD Cert.Reference14Ideal.τ).loc Cert.Reference14Ideal.main_v36) = v1 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v23) = v0 c
          ∧ r.2.mem ((c.tc : Thread Cert.Reference16Ideal.nD Cert.Reference16Ideal.τ).loc Cert.Reference16Ideal.main_v21) = v1 c
          ∧ r.2.mem ((c.tc : Thread Cert.Reference16Ideal.nD Cert.Reference16Ideal.τ).loc Cert.Reference16Ideal.main_v19) = v2 c
          ∧ r.2.mem ((c.tc : Thread Cert.Reference16Ideal.nD Cert.Reference16Ideal.τ).loc Cert.Reference16Ideal.main_v26) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v13) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v9) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v1) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0))

def preserves_Kernel20_Kernel20Ideal : Prop :=
  IdealRules.named_const.Statement Cert.Kernel20Ideal.κ "mask" .f32 0xF149F2CA#32 ⊥

def algebraic_Kernel20Ideal_Reference20Ideal_pre_finite_attention [hKernel20Ideal : Cert.Kernel20Ideal.Facts] [hReference20Ideal : Cert.Reference20Ideal.Facts] [hPre_finite_attention : Cert.Pre_finite_attention.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal_finite_attention m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v49) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)
      ∧ m' ((c.tc : Thread Cert.Reference22Ideal.nD Cert.Reference22Ideal.τ).loc Cert.Reference22Ideal.main_arg2) = m ((c.tc : Thread Cert.Kernel22Ideal.nD Cert.Kernel22Ideal.τ).loc Cert.Kernel22Ideal.main_arg2)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1)
          ∧ r.2.mem ((c.tc : Thread Cert.Kernel22Ideal.nD Cert.Kernel22Ideal.τ).loc Cert.Kernel22Ideal.main_arg2) = m ((c.tc : Thread Cert.Kernel22Ideal.nD Cert.Kernel22Ideal.τ).loc Cert.Kernel22Ideal.main_arg2))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v34) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1)
          ∧ r.2.mem ((c.tc : Thread Cert.Reference22Ideal.nD Cert.Reference22Ideal.τ).loc Cert.Reference22Ideal.main_arg2) = m' ((c.tc : Thread Cert.Reference22Ideal.nD Cert.Reference22Ideal.τ).loc Cert.Reference22Ideal.main_arg2))

def preserves_Kernel28_Kernel28Ideal : Prop :=
  True

def algebraic_Kernel28Ideal_Reference28Ideal [hKernel28Ideal : Cert.Kernel28Ideal.Facts] [hReference28Ideal : Cert.Reference28Ideal.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)) →
    ∃ (v0 : (c : Dev Cert.Kernel28Ideal.nD) → Buf (Elt Ideal) ((c.tc : Thread Cert.Kernel28Ideal.nD Cert.Kernel28Ideal.τ).loc Cert.Kernel28Ideal.main_v1)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v1) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v31) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v53) = v0 c
          ∧ r.2.mem ((c.tc : Thread Cert.Reference23Ideal.nD Cert.Reference23Ideal.τ).loc Cert.Reference23Ideal.main_v52) = v1 c
          ∧ r.2.mem ((c.tc : Thread Cert.Reference23Ideal.nD Cert.Reference23Ideal.τ).loc Cert.Reference23Ideal.main_v54) = v2 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)
      ∧ m' ((c.tc : Thread Cert.Reference24Ideal.nD Cert.Reference24Ideal.τ).loc Cert.Reference24Ideal.main_arg3) = m ((c.tc : Thread Cert.Kernel24Ideal.nD Cert.Kernel24Ideal.τ).loc Cert.Kernel24Ideal.main_arg3)
      ∧ m' ((c.tc : Thread Cert.Reference24Ideal.nD Cert.Reference24Ideal.τ).loc Cert.Reference24Ideal.main_arg4) = m ((c.tc : Thread Cert.Kernel24Ideal.nD Cert.Kernel24Ideal.τ).loc Cert.Kernel24Ideal.main_arg4)
      ∧ m' ((c.tc : Thread Cert.Reference24Ideal.nD Cert.Reference24Ideal.τ).loc Cert.Reference24Ideal.main_arg5) = m ((c.tc : Thread Cert.Kernel24Ideal.nD Cert.Kernel24Ideal.τ).loc Cert.Kernel24Ideal.main_arg5)
      ∧ m' ((c.tc : Thread Cert.Reference24Ideal.nD Cert.Reference24Ideal.τ).loc Cert.Reference24Ideal.main_arg6) = m ((c.tc : Thread Cert.Kernel24Ideal.nD Cert.Kernel24Ideal.τ).loc Cert.Kernel24Ideal.main_arg6)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)) (v2 : (c : Dev Cert.Kernel24Ideal.nD) → Buf (Elt Ideal) ((c.tc : Thread Cert.Kernel24Ideal.nD Cert.Kernel24Ideal.τ).loc Cert.Kernel24Ideal.main_v2_2)) (v3 : (c : Dev Cert.Kernel24Ideal.nD) → Buf (Elt Ideal) ((c.tc : Thread Cert.Kernel24Ideal.nD Cert.Kernel24Ideal.τ).loc Cert.Kernel24Ideal.main_v2_3)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_v2_2) = v2 c
          ∧ r.2.mem ((c.tc : Thread Cert.Kernel24Ideal.nD Cert.Kernel24Ideal.τ).loc Cert.Kernel24Ideal.main_v2_3) = v3 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2)
          ∧ r.2.mem ((c.tc : Thread Cert.Kernel24Ideal.nD Cert.Kernel24Ideal.τ).loc Cert.Kernel24Ideal.main_arg3) = m ((c.tc : Thread Cert.Kernel24Ideal.nD Cert.Kernel24Ideal.τ).loc Cert.Kernel24Ideal.main_arg3)
          ∧ r.2.mem ((c.tc : Thread Cert.Kernel24Ideal.nD Cert.Kernel24Ideal.τ).loc Cert.Kernel24Ideal.main_arg4) = m ((c.tc : Thread Cert.Kernel24Ideal.nD Cert.Kernel24Ideal.τ).loc Cert.Kernel24Ideal.main_arg4)
          ∧ r.2.mem ((c.tc : Thread Cert.Kernel24Ideal.nD Cert.Kernel24Ideal.τ).loc Cert.Kernel24Ideal.main_arg5) = m ((c.tc : Thread Cert.Kernel24Ideal.nD Cert.Kernel24Ideal.τ).loc Cert.Kernel24Ideal.main_arg5)
          ∧ r.2.mem ((c.tc : Thread Cert.Kernel24Ideal.nD Cert.Kernel24Ideal.τ).loc Cert.Kernel24Ideal.main_arg6) = m ((c.tc : Thread Cert.Kernel24Ideal.nD Cert.Kernel24Ideal.τ).loc Cert.Kernel24Ideal.main_arg6))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v8) = v0 c
          ∧ r.2.mem ((c.tc : Thread Cert.Reference24Ideal.nD Cert.Reference24Ideal.τ).loc Cert.Reference24Ideal.main_v32) = v1 c
          ∧ r.2.mem ((c.tc : Thread Cert.Reference24Ideal.nD Cert.Reference24Ideal.τ).loc Cert.Reference24Ideal.main_v13) = v2 c
          ∧ r.2.mem ((c.tc : Thread Cert.Reference24Ideal.nD Cert.Reference24Ideal.τ).loc Cert.Reference24Ideal.main_v19) = v3 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2)
          ∧ r.2.mem ((c.tc : Thread Cert.Reference24Ideal.nD Cert.Reference24Ideal.τ).loc Cert.Reference24Ideal.main_arg3) = m' ((c.tc : Thread Cert.Reference24Ideal.nD Cert.Reference24Ideal.τ).loc Cert.Reference24Ideal.main_arg3)
          ∧ r.2.mem ((c.tc : Thread Cert.Reference24Ideal.nD Cert.Reference24Ideal.τ).loc Cert.Reference24Ideal.main_arg4) = m' ((c.tc : Thread Cert.Reference24Ideal.nD Cert.Reference24Ideal.τ).loc Cert.Reference24Ideal.main_arg4)
          ∧ r.2.mem ((c.tc : Thread Cert.Reference24Ideal.nD Cert.Reference24Ideal.τ).loc Cert.Reference24Ideal.main_arg5) = m' ((c.tc : Thread Cert.Reference24Ideal.nD Cert.Reference24Ideal.τ).loc Cert.Reference24Ideal.main_arg5)
          ∧ r.2.mem ((c.tc : Thread Cert.Reference24Ideal.nD Cert.Reference24Ideal.τ).loc Cert.Reference24Ideal.main_arg6) = m' ((c.tc : Thread Cert.Reference24Ideal.nD Cert.Reference24Ideal.τ).loc Cert.Reference24Ideal.main_arg6))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)
      ∧ m' ((c.tc : Thread Cert.Reference25Ideal.nD Cert.Reference25Ideal.τ).loc Cert.Reference25Ideal.main_arg3) = m ((c.tc : Thread Cert.Kernel25Ideal.nD Cert.Kernel25Ideal.τ).loc Cert.Kernel25Ideal.main_arg3)
      ∧ m' ((c.tc : Thread Cert.Reference25Ideal.nD Cert.Reference25Ideal.τ).loc Cert.Reference25Ideal.main_arg4) = m ((c.tc : Thread Cert.Kernel25Ideal.nD Cert.Kernel25Ideal.τ).loc Cert.Kernel25Ideal.main_arg4)
      ∧ m' ((c.tc : Thread Cert.Reference25Ideal.nD Cert.Reference25Ideal.τ).loc Cert.Reference25Ideal.main_arg5) = m ((c.tc : Thread Cert.Kernel25Ideal.nD Cert.Kernel25Ideal.τ).loc Cert.Kernel25Ideal.main_arg5)
      ∧ m' ((c.tc : Thread Cert.Reference25Ideal.nD Cert.Reference25Ideal.τ).loc Cert.Reference25Ideal.main_arg6) = m ((c.tc : Thread Cert.Kernel25Ideal.nD Cert.Kernel25Ideal.τ).loc Cert.Kernel25Ideal.main_arg6)) →
    ∃ (v0 : (c : Dev Cert.Kernel25Ideal.nD) → Buf (Elt Ideal) ((c.tc : Thread Cert.Kernel25Ideal.nD Cert.Kernel25Ideal.τ).loc Cert.Kernel25Ideal.main_v2_0)) (v1 : (c : Dev Cert.Kernel25Ideal.nD) → Buf (Elt Ideal) ((c.tc : Thread Cert.Kernel25Ideal.nD Cert.Kernel25Ideal.τ).loc Cert.Kernel25Ideal.main_v2_1)) (v2 : (c : Dev Cert.Kernel25Ideal.nD) → Buf (Elt Ideal) ((c.tc : Thread Cert.Kernel25Ideal.nD Cert.Kernel25Ideal.τ).loc Cert.Kernel25Ideal.main_v2_2)) (v3 : (c : Dev Cert.Kernel25Ideal.nD) → Buf (Elt Ideal) ((c.tc : Thread Cert.Kernel25Ideal.nD Cert.Kernel25Ideal.τ).loc Cert.Kernel25Ideal.main_v2_3)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v2_0) = v0 c
          ∧ r.2.mem ((c.tc : Thread Cert.Kernel25Ideal.nD Cert.Kernel25Ideal.τ).loc Cert.Kernel25Ideal.main_v2_1) = v1 c
          ∧ r.2.mem ((c.tc : Thread Cert.Kernel25Ideal.nD Cert.Kernel25Ideal.τ).loc Cert.Kernel25Ideal.main_v2_2) = v2 c
          ∧ r.2.mem ((c.tc : Thread Cert.Kernel25Ideal.nD Cert.Kernel25Ideal.τ).loc Cert.Kernel25Ideal.main_v2_3) = v3 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2)
          ∧ r.2.mem ((c.tc : Thread Cert.Kernel25Ideal.nD Cert.Kernel25Ideal.τ).loc Cert.Kernel25Ideal.main_arg3) = m ((c.tc : Thread Cert.Kernel25Ideal.nD Cert.Kernel25Ideal.τ).loc Cert.Kernel25Ideal.main_arg3)
          ∧ r.2.mem ((c.tc : Thread Cert.Kernel25Ideal.nD Cert.Kernel25Ideal.τ).loc Cert.Kernel25Ideal.main_arg4) = m ((c.tc : Thread Cert.Kernel25Ideal.nD Cert.Kernel25Ideal.τ).loc Cert.Kernel25Ideal.main_arg4)
          ∧ r.2.mem ((c.tc : Thread Cert.Kernel25Ideal.nD Cert.Kernel25Ideal.τ).loc Cert.Kernel25Ideal.main_arg5) = m ((c.tc : Thread Cert.Kernel25Ideal.nD Cert.Kernel25Ideal.τ).loc Cert.Kernel25Ideal.main_arg5)
          ∧ r.2.mem ((c.tc : Thread Cert.Kernel25Ideal.nD Cert.Kernel25Ideal.τ).loc Cert.Kernel25Ideal.main_arg6) = m ((c.tc : Thread Cert.Kernel25Ideal.nD Cert.Kernel25Ideal.τ).loc Cert.Kernel25Ideal.main_arg6))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v8) = v0 c
          ∧ r.2.mem ((c.tc : Thread Cert.Reference25Ideal.nD Cert.Reference25Ideal.τ).loc Cert.Reference25Ideal.main_v32) = v1 c
          ∧ r.2.mem ((c.tc : Thread Cert.Reference25Ideal.nD Cert.Reference25Ideal.τ).loc Cert.Reference25Ideal.main_v13) = v2 c
          ∧ r.2.mem ((c.tc : Thread Cert.Reference25Ideal.nD Cert.Reference25Ideal.τ).loc Cert.Reference25Ideal.main_v19) = v3 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2)
          ∧ r.2.mem ((c.tc : Thread Cert.Reference25Ideal.nD Cert.Reference25Ideal.τ).loc Cert.Reference25Ideal.main_arg3) = m' ((c.tc : Thread Cert.Reference25Ideal.nD Cert.Reference25Ideal.τ).loc Cert.Reference25Ideal.main_arg3)
          ∧ r.2.mem ((c.tc : Thread Cert.Reference25Ideal.nD Cert.Reference25Ideal.τ).loc Cert.Reference25Ideal.main_arg4) = m' ((c.tc : Thread Cert.Reference25Ideal.nD Cert.Reference25Ideal.τ).loc Cert.Reference25Ideal.main_arg4)
          ∧ r.2.mem ((c.tc : Thread Cert.Reference25Ideal.nD Cert.Reference25Ideal.τ).loc Cert.Reference25Ideal.main_arg5) = m' ((c.tc : Thread Cert.Reference25Ideal.nD Cert.Reference25Ideal.τ).loc Cert.Reference25Ideal.main_arg5)
          ∧ r.2.mem ((c.tc : Thread Cert.Reference25Ideal.nD Cert.Reference25Ideal.τ).loc Cert.Reference25Ideal.main_arg6) = m' ((c.tc : Thread Cert.Reference25Ideal.nD Cert.Reference25Ideal.τ).loc Cert.Reference25Ideal.main_arg6))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)
      ∧ m' ((c.tc : Thread Cert.Reference26Ideal.nD Cert.Reference26Ideal.τ).loc Cert.Reference26Ideal.main_arg5) = m ((c.tc : Thread Cert.Kernel26Ideal.nD Cert.Kernel26Ideal.τ).loc Cert.Kernel26Ideal.main_arg5)
      ∧ m' ((c.tc : Thread Cert.Reference26Ideal.nD Cert.Reference26Ideal.τ).loc Cert.Reference26Ideal.main_arg6) = m ((c.tc : Thread Cert.Kernel26Ideal.nD Cert.Kernel26Ideal.τ).loc Cert.Kernel26Ideal.main_arg6)) →
    ∃ (v0 : (c : Dev Cert.Kernel26Ideal.nD) → Buf (Elt Ideal) ((c.tc : Thread Cert.Kernel26Ideal.nD Cert.Kernel26Ideal.τ).loc Cert.Kernel26Ideal.main_v2_0)) (v1 : (c : Dev Cert.Kernel26Ideal.nD) → Buf (Elt Ideal) ((c.tc : Thread Cert.Kernel26Ideal.nD Cert.Kernel26Ideal.τ).loc Cert.Kernel26Ideal.main_v2_1)) (v2 : (c : Dev Cert.Kernel26Ideal.nD) → Buf (Elt Ideal) ((c.tc : Thread Cert.Kernel26Ideal.nD Cert.Kernel26Ideal.τ).loc Cert.Kernel26Ideal.main_v2_2)) (v3 : (c : Dev Cert.Kernel26Ideal.nD) → Buf (Elt Ideal) ((c.tc : Thread Cert.Kernel26Ideal.nD Cert.Kernel26Ideal.τ).loc Cert.Kernel26Ideal.main_v2_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v2_0) = v0 c
          ∧ r.2.mem ((c.tc : Thread Cert.Kernel26Ideal.nD Cert.Kernel26Ideal.τ).loc Cert.Kernel26Ideal.main_v2_1) = v1 c
          ∧ r.2.mem ((c.tc : Thread Cert.Kernel26Ideal.nD Cert.Kernel26Ideal.τ).loc Cert.Kernel26Ideal.main_v2_2) = v2 c
          ∧ r.2.mem ((c.tc : Thread Cert.Kernel26Ideal.nD Cert.Kernel26Ideal.τ).loc Cert.Kernel26Ideal.main_v2_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4)
          ∧ r.2.mem ((c.tc : Thread Cert.Kernel26Ideal.nD Cert.Kernel26Ideal.τ).loc Cert.Kernel26Ideal.main_arg5) = m ((c.tc : Thread Cert.Kernel26Ideal.nD Cert.Kernel26Ideal.τ).loc Cert.Kernel26Ideal.main_arg5)
          ∧ r.2.mem ((c.tc : Thread Cert.Kernel26Ideal.nD Cert.Kernel26Ideal.τ).loc Cert.Kernel26Ideal.main_arg6) = m ((c.tc : Thread Cert.Kernel26Ideal.nD Cert.Kernel26Ideal.τ).loc Cert.Kernel26Ideal.main_arg6))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v8) = v0 c
          ∧ r.2.mem ((c.tc : Thread Cert.Reference26Ideal.nD Cert.Reference26Ideal.τ).loc Cert.Reference26Ideal.main_v32) = v1 c
          ∧ r.2.mem ((c.tc : Thread Cert.Reference26Ideal.nD Cert.Reference26Ideal.τ).loc Cert.Reference26Ideal.main_v13) = v2 c
          ∧ r.2.mem ((c.tc : Thread Cert.Reference26Ideal.nD Cert.Reference26Ideal.τ).loc Cert.Reference26Ideal.main_v19) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4)
          ∧ r.2.mem ((c.tc : Thread Cert.Reference26Ideal.nD Cert.Reference26Ideal.τ).loc Cert.Reference26Ideal.main_arg5) = m' ((c.tc : Thread Cert.Reference26Ideal.nD Cert.Reference26Ideal.τ).loc Cert.Reference26Ideal.main_arg5)
          ∧ r.2.mem ((c.tc : Thread Cert.Reference26Ideal.nD Cert.Reference26Ideal.τ).loc Cert.Reference26Ideal.main_arg6) = m' ((c.tc : Thread Cert.Reference26Ideal.nD Cert.Reference26Ideal.τ).loc Cert.Reference26Ideal.main_arg6))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v2_0)) (v1 : (c : Dev Cert.Kernel27Ideal.nD) → Buf (Elt Ideal) ((c.tc : Thread Cert.Kernel27Ideal.nD Cert.Kernel27Ideal.τ).loc Cert.Kernel27Ideal.main_v2_1)) (v2 : (c : Dev Cert.Kernel27Ideal.nD) → Buf (Elt Ideal) ((c.tc : Thread Cert.Kernel27Ideal.nD Cert.Kernel27Ideal.τ).loc Cert.Kernel27Ideal.main_v2_2)) (v3 : (c : Dev Cert.Kernel27Ideal.nD) → Buf (Elt Ideal) ((c.tc : Thread Cert.Kernel27Ideal.nD Cert.Kernel27Ideal.τ).loc Cert.Kernel27Ideal.main_v2_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v2_0) = v0 c
          ∧ r.2.mem ((c.tc : Thread Cert.Kernel27Ideal.nD Cert.Kernel27Ideal.τ).loc Cert.Kernel27Ideal.main_v2_1) = v1 c
          ∧ r.2.mem ((c.tc : Thread Cert.Kernel27Ideal.nD Cert.Kernel27Ideal.τ).loc Cert.Kernel27Ideal.main_v2_2) = v2 c
          ∧ r.2.mem ((c.tc : Thread Cert.Kernel27Ideal.nD Cert.Kernel27Ideal.τ).loc Cert.Kernel27Ideal.main_v2_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_v32) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_v19) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel22 : Cert.Kernel22.Facts) (hKernel22Ideal : Cert.Kernel22Ideal.Facts) (hReference22Ideal : Cert.Reference22Ideal.Facts) (hKernel28 : Cert.Kernel28.Facts) (hKernel28Ideal : Cert.Kernel28Ideal.Facts) (hReference28Ideal : Cert.Reference28Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hPre_finite : Cert.Pre_finite.Facts) (hPre_finite_attention : Cert.Pre_finite_attention.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Kernel20Ideal_pre_finite_attention (hKernel20Ideal := hKernel20Ideal) (hPre_finite_attention := hPre_finite_attention)
    ∧ quiescent_Reference20Ideal (hReference20Ideal := hReference20Ideal)
    ∧ quiescent_Reference20Ideal_pre_finite_attention (hReference20Ideal := hReference20Ideal) (hPre_finite_attention := hPre_finite_attention)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel28 (hKernel28 := hKernel28)
    ∧ quiescent_Kernel28Ideal (hKernel28Ideal := hKernel28Ideal)
    ∧ quiescent_Reference28Ideal (hReference28Ideal := hReference28Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal_pre_finite_attention (hKernel20Ideal := hKernel20Ideal) (hReference20Ideal := hReference20Ideal) (hPre_finite_attention := hPre_finite_attention)
    ∧ preserves_Kernel22_Kernel22Ideal
    ∧ algebraic_Kernel22Ideal_Reference22Ideal (hKernel22Ideal := hKernel22Ideal) (hReference22Ideal := hReference22Ideal)
    ∧ preserves_Kernel28_Kernel28Ideal
    ∧ algebraic_Kernel28Ideal_Reference28Ideal (hKernel28Ideal := hKernel28Ideal) (hReference28Ideal := hReference28Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
-- ==== Pre_finite.lean ====
abbrev S4224x1024 : Shape := ⟨2, ![4224, 1024]⟩
abbrev S4224x512 : Shape := ⟨2, ![4224, 512]⟩
abbrev S16x1x1 : Shape := ⟨3, ![16, 1, 1]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S16x1x1 : S_.BroadcastsInDim S16x1x1 (![] : Fin 0 → Fin S16x1x1.rank)
  reducesTo_S16x1x1_S_d0_1_2 : S16x1x1.ReducesTo [0, 1, 2] S_

variable [Facts]

def fn_part1 {F : FTy → Type} [FloatOps F] (main_v3 : IVec S_ 1) (main_v7 : IVec S_ 1) (main_v11 : IVec S_ 1) (main_v15 : IVec S_ 1) : IVec S_ 1 :=
  let main_v16 : IVec S_ 1 := andi main_v3 main_v7
  let main_v17 : IVec S_ 1 := andi main_v16 main_v11
  let main_v18 : IVec S_ 1 := andi main_v17 main_v15
  main_v18

def fn {F : FTy → Type} [FloatOps F] (main_arg0 : FVec F S4224x1024 .f32) (main_arg1 : FVec F S4224x512 .f32) (main_arg2 : FVec F S16x1x1 .f32) (main_arg3 : FVec F S4224x1024 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_c_1 : IVec S_ 1 := constantI S_ 1 1#1
  let main_v7 : IVec S_ 1 := (fun x v => Host.reduce IntOp.andi x v reducesTo_S4224x512_S_d0_1 h_S_) main_v6 main_c_1
  let main_v8 : FVec F S16x1x1 .f32 := Host.absf main_arg2
  let main_cst_2 : FVec F S_ .f32 := constant S_ .f32 0x7F800000#32
  let main_v9 : FVec F S16x1x1 .f32 := broadcastInDim S16x1x1 ![] bcast_S_S16x1x1 main_cst_2
  let main_v10 : IVec S16x1x1 1 := cmpf .olt main_v8 main_v9
  let main_c_3 : IVec S_ 1 := constantI S_ 1 1#1
  let main_v11 : IVec S_ 1 := (fun x v => Host.reduce IntOp.andi x v reducesTo_S16x1x1_S_d0_1_2 h_S_) main_v10 main_c_3
  let main_v12 : FVec F S4224x1024 .f32 := Host.absf main_arg3
  let main_cst_4 : FVec F S_ .f32 := constant S_ .f32 0x7F800000#32
  let main_v13 : FVec F S4224x1024 .f32 := broadcastInDim S4224x1024 ![] bcast_S_S4224x1024 main_cst_4
  let main_v14 : IVec S4224x1024 1 := cmpf .olt main_v12 main_v13
  let main_c_5 : IVec S_ 1 := constantI S_ 1 1#1
  let main_v15 : IVec S_ 1 := (fun x v => Host.reduce IntOp.andi x v reducesTo_S4224x1024_S_d0_1 h_S_) main_v14 main_c_5
  fn_part1 (F := F) main_v3 main_v7 main_v11 main_v15
-- ==== Pre_finite_attention.lean ====
abbrev S4224x1024 : Shape := ⟨2, ![4224, 1024]⟩
abbrev S4224x512 : Shape := ⟨2, ![4224, 512]⟩
abbrev S16x1x1 : Shape := ⟨3, ![16, 1, 1]⟩
abbrev S_ : Shape := ⟨0, ![]⟩

class Facts : Prop where
  bcast_S_S4224x1024 : S_.BroadcastsInDim S4224x1024 (![] : Fin 0 → Fin S4224x1024.rank)
  reducesTo_S4224x1024_S_d0_1 : S4224x1024.ReducesTo [0, 1] S_
  h_S_ : 0 < S_.numel
  bcast_S_S4224x512 : S_.BroadcastsInDim S4224x512 (![] : Fin 0 → Fin S4224x512.rank)
  reducesTo_S4224x512_S_d0_1 : S4224x512.ReducesTo [0, 1] S_
  bcast_S_S16x1x1 : S_.BroadcastsInDim S16x1x1 (![] : Fin 0 → Fin S16x1x1.rank)
  reducesTo_S16x1x1_S_d0_1_2 : S16x1x1.ReducesTo [0, 1, 2] S_

variable [Facts]

def fn {F : FTy → Type} [FloatOps F] (main_arg0 : FVec F S4224x1024 .f32) (main_arg1 : FVec F S4224x512 .f32) (main_arg2 : FVec F S16x1x1 .f32) : IVec S_ 1 :=
  let main_v0 : FVec F S4224x1024 .f32 := Host.absf main_arg0
  let main_cst : FVec F S_ .f32 := constant S_ .f32 0x7F800000#32
  let main_v1 : FVec F S4224x1024 .f32 := broadcastInDim S4224x1024 ![] bcast_S_S4224x1024 main_cst
  let main_v2 : IVec S4224x1024 1 := cmpf .olt main_v0 main_v1
  let main_c : IVec S_ 1 := constantI S_ 1 1#1
  let main_v3 : IVec S_ 1 := (fun x v => Host.reduce IntOp.andi x v reducesTo_S4224x1024_S_d0_1 h_S_) main_v2 main_c
  let main_v4 : FVec F S4224x512 .f32 := Host.absf main_arg1
  let main_cst_0 : FVec F S_ .f32 := constant S_ .f32 0x7F800000#32
  let main_v5 : FVec F S4224x512 .f32 := broadcastInDim S4224x512 ![] bcast_S_S4224x512 main_cst_0
  let main_v6 : IVec S4224x512 1 := cmpf .olt main_v4 main_v5
  let main_c_1 : IVec S_ 1 := constantI S_ 1 1#1
  let main_v7 : IVec S_ 1 := (fun x v => Host.reduce IntOp.andi x v reducesTo_S4224x512_S_d0_1 h_S_) main_v6 main_c_1
  let main_v8 : FVec F S16x1x1 .f32 := Host.absf main_arg2
  let main_cst_2 : FVec F S_ .f32 := constant S_ .f32 0x7F800000#32
  let main_v9 : FVec F S16x1x1 .f32 := broadcastInDim S16x1x1 ![] bcast_S_S16x1x1 main_cst_2
  let main_v10 : IVec S16x1x1 1 := cmpf .olt main_v8 main_v9
  let main_c_3 : IVec S_ 1 := constantI S_ 1 1#1
  let main_v11 : IVec S_ 1 := (fun x v => Host.reduce IntOp.andi x v reducesTo_S16x1x1_S_d0_1_2 h_S_) main_v10 main_c_3
  let main_v12 : IVec S_ 1 := andi main_v3 main_v7
  let main_v13 : IVec S_ 1 := andi main_v12 main_v11
  main_v13
-- ==== Kernel.lean ====
abbrev S4224x1024 : Shape := ⟨2, ![4224, 1024]⟩
abbrev S4224x512 : Shape := ⟨2, ![4224, 512]⟩
abbrev S16x1x1 : Shape := ⟨3, ![16, 1, 1]⟩
abbrev S128x1024 : Shape := ⟨2, ![128, 1024]⟩
abbrev S128x512 : Shape := ⟨2, ![128, 512]⟩
abbrev S128x256 : Shape := ⟨2, ![128, 256]⟩
abbrev S128x64 : Shape := ⟨2, ![128, 64]⟩
abbrev S1x128x64 : Shape := ⟨3, ![1, 128, 64]⟩
abbrev S4x128x64 : Shape := ⟨3, ![4, 128, 64]⟩
abbrev S16x128x64 : Shape := ⟨3, ![16, 128, 64]⟩
abbrev S4x4x128x64 : Shape := ⟨4, ![4, 4, 128, 64]⟩
abbrev S4x4x1x1 : Shape := ⟨4, ![4, 4, 1, 1]⟩
abbrev S4x512x64 : Shape := ⟨3, ![4, 512, 64]⟩
abbrev S4x384x64 : Shape := ⟨3, ![4, 384, 64]⟩
abbrev S4x512x384 : Shape := ⟨3, ![4, 512, 384]⟩
abbrev S512x384 : Shape := ⟨2, ![512, 384]⟩
abbrev S1x512x384 : Shape := ⟨3, ![1, 512, 384]⟩
abbrev S4x1x1x1 : Shape := ⟨4, ![4, 1, 1, 1]⟩
abbrev S4x1x1 : Shape := ⟨3, ![4, 1, 1]⟩
abbrev S4x128x1 : Shape := ⟨3, ![4, 128, 1]⟩
abbrev S4x512x1 : Shape := ⟨3, ![4, 512, 1]⟩
abbrev S4x512 : Shape := ⟨2, ![4, 512]⟩
abbrev S4 : Shape := ⟨1, ![4]⟩
abbrev S4x3x1x1 : Shape := ⟨4, ![4, 3, 1, 1]⟩
abbrev S4x2x1x1 : Shape := ⟨4, ![4, 2, 1, 1]⟩

abbrev nBuf : Space → Nat
  | .hbm => 7
  | .vmem => 17
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S16x1x1, .f32⟩
  | .hbm, ⟨3, _⟩ => ⟨S4224x1024, .f32⟩
  | .hbm, ⟨4, _⟩ => ⟨S4224x1024, .f32⟩
  | .hbm, ⟨5, _⟩ => ⟨S4224x512, .f32⟩
  | .hbm, ⟨6, _⟩ => ⟨S16x1x1, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S16x1x1, .f32⟩
  | .local _ .vmem, ⟨8, _⟩ => ⟨S128x1024, .f32⟩
  | .local _ .vmem, ⟨9, _⟩ => ⟨S128x1024, .f32⟩
  | .local _ .vmem, ⟨10, _⟩ => ⟨S128x1024, .f32⟩
  | .local _ .vmem, ⟨11, _⟩ => ⟨S128x1024, .f32⟩
  | .local _ .vmem, ⟨12, _⟩ => ⟨S128x512, .f32⟩
  | .local _ .vmem, ⟨13, _⟩ => ⟨S128x512, .f32⟩
  | .local _ .vmem, ⟨14, _⟩ => ⟨S16x1x1, .f32⟩
  | .local _ .vmem, ⟨15, _⟩ => ⟨S128x512, .f32⟩
  | .local _ .vmem, ⟨16, _⟩ => ⟨S128x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_scratch0 : Ref sig .tc := ⟨.vmem, 15, rfl⟩
abbrev cc0_scratch1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c32_i32 : BitVec 32 := 32#32
  let v0 : BitVec 32 := Scalar.subi c32_i32 arg0
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_3 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c32_i32 : BitVec 32 := 32#32
  let v0 : BitVec 32 := Scalar.subi c32_i32 arg0
  let c0_i32 : BitVec 32 := 0#32
  let c0_i32_0 : BitVec 32 := 0#32
  ![v0.toNat, c0_i32.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S16x1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "mask" => some ⊥
  | _ => none
-- ==== ReferenceIdeal.lean ====
abbrev S4224x1024 : Shape := ⟨2, ![4224, 1024]⟩
abbrev S4224x512 : Shape := ⟨2, ![4224, 512]⟩
abbrev S16x1x1 : Shape := ⟨3, ![16, 1, 1]⟩
abbrev S4224x4x4x64 : Shape := ⟨4, ![4224, 4, 4, 64]⟩
abbrev S_ : Shape := ⟨0, ![]⟩
abbrev S4224x256 : Shape := ⟨2, ![4224, 256]⟩
abbrev S4224x4x64 : Shape := ⟨3, ![4224, 4, 64]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S4x4224x4224x4 : Shape := ⟨4, ![4, 4224, 4224, 4]⟩
abbrev S4x4x4224x4224 : Shape := ⟨4, ![4, 4, 4224, 4224]⟩
abbrev S4x4x1x1 : Shape := ⟨4, ![4, 4, 1, 1]⟩
abbrev S4x4x4224 : Shape := ⟨3, ![4, 4, 4224]⟩
abbrev S4x4x4224x1 : Shape := ⟨4, ![4, 4, 4224, 1]⟩
abbrev S4x64x4x4224 : Shape := ⟨4, ![4, 64, 4, 4224]⟩
abbrev S4x64x4224 : Shape := ⟨3, ![4, 64, 4224]⟩
abbrev S4x4x1 : Shape := ⟨3, ![4, 4, 1]⟩
abbrev S4x4224x4x64 : Shape := ⟨4, ![4, 4224, 4, 64]⟩
abbrev S4x4224x64 : Shape := ⟨3, ![4, 4224, 64]⟩

abbrev nBuf : Space → Nat
  | .hbm => 161
  | .vmem => 0
  | .smem => 0
  | _ => 0

abbrev hbmTy0_0 (i : Nat) : BufTy := match i % 128 with
  | 0 => ⟨S4224x1024, .f32⟩
  | 1 => ⟨S4224x512, .f32⟩
  | 2 => ⟨S16x1x1, .f32⟩
  | 3 => ⟨S4224x1024, .f32⟩
  | 4 => ⟨S4224x4x4x64, .f32⟩
  | 5 => ⟨S_, .f32⟩
  | 6 => ⟨S4224x4x4x64, .f32⟩
  | 7 => ⟨S4224x4x4x64, .f32⟩
  | 8 => ⟨S4224x256, .f32⟩
  | 9 => ⟨S4224x4x64, .f32⟩
  | 10 => ⟨S4224x256, .f32⟩
  | 11 => ⟨S4224x4x64, .f32⟩
  | 12 => ⟨S4224, .i32⟩
  | 13 => ⟨S4224x1, .i32⟩
  | 14 => ⟨S4224, .i32⟩
  | 15 => ⟨S1x4224, .i32⟩
  | 16 => ⟨S_, .i32⟩
  | 17 => ⟨S1x4224, .i32⟩
  | 18 => ⟨S1x4224, .i1⟩
  | 19 => ⟨S4224x4224, .i32⟩
  | 20 => ⟨S4224x4224, .i32⟩
  | 21 => ⟨S4224x4224, .i1⟩
  | 22 => ⟨S4224x4224, .i1⟩
  | 23 => ⟨S4224x4224, .i1⟩
  | 24 => ⟨S_, .i32⟩
  | 25 => ⟨S4224x1, .i32⟩
  | 26 => ⟨S4224x1, .i32⟩
  | 27 => ⟨S4224x4224, .i32⟩
  | 28 => ⟨S4224x4224, .i32⟩
  | 29 => ⟨S4224x4224, .i1⟩
  | 30 => ⟨S_, .i32⟩
  | 31 => ⟨S1x4224, .i32⟩
  | 32 => ⟨S1x4224, .i1⟩
  | 33 => ⟨S4224x4224, .i1⟩
  | 34 => ⟨S4224x4224, .i1⟩
  | 35 => ⟨S4224x4224, .i1⟩
  | 36 => ⟨S4x4224x4224x4, .f32⟩
  | 37 => ⟨S4x4x4224x4224, .f32⟩
  | 38 => ⟨S_, .f32⟩
  | 39 => ⟨S_, .f32⟩
  | 40 => ⟨S4x4x4224x4224, .i1⟩
  | 41 => ⟨S4x4x4224x4224, .f32⟩
  | 42 => ⟨S4x4x4224x4224, .f32⟩
  | 43 => ⟨S_, .f32⟩
  | 44 => ⟨S4x4x4224x4224, .f32⟩
  | 45 => ⟨S4x4x1x1, .f32⟩
  | 46 => ⟨S_, .f32⟩
  | 47 => ⟨S4x4x4224, .f32⟩
  | 48 => ⟨S4x4x4224x1, .f32⟩
  | 49 => ⟨S4x4x4224x4224, .f32⟩
  | 50 => ⟨S4x4x4224x4224, .i1⟩
  | 51 => ⟨S4x4x4224x4224, .f32⟩
  | 52 => ⟨S_, .f32⟩
  | 53 => ⟨S4x4x4224, .f32⟩
  | 54 => ⟨S4x4x4224x1, .f32⟩
  | 55 => ⟨S4x4x4224x1, .f32⟩
  | 56 => ⟨S4x4x4224x1, .f32⟩
  | 57 => ⟨S4x4x4224x1, .f32⟩
  | 58 => ⟨S4x4x4224x1, .i1⟩
  | 59 => ⟨S4x4x4224x1, .f32⟩
  | 60 => ⟨S4x4x4224x1, .i1⟩
  | 61 => ⟨S_, .f32⟩
  | 62 => ⟨S4x4x4224x1, .f32⟩
  | 63 => ⟨S_, .f32⟩
  | 64 => ⟨S4x4x4224x1, .f32⟩
  | 65 => ⟨S_, .f32⟩
  | 66 => ⟨S4x4x4224x1, .f32⟩
  | 67 => ⟨S4x4x4224x1, .f32⟩
  | 68 => ⟨S4x4x4224x1, .f32⟩
  | 69 => ⟨S4x4x4224x1, .f32⟩
  | 70 => ⟨S4x4x4224x1, .i1⟩
  | 71 => ⟨S4x4x4224x1, .f32⟩
  | 72 => ⟨S4x4x4224x1, .i1⟩
  | 73 => ⟨S_, .f32⟩
  | 74 => ⟨S4x4x4224x1, .f32⟩
  | 75 => ⟨S_, .f32⟩
  | 76 => ⟨S4x4x4224x1, .f32⟩
  | 77 => ⟨S_, .f32⟩
  | 78 => ⟨S4x4x4224x1, .f32⟩
  | 79 => ⟨S4x4x4224x1, .f32⟩
  | 80 => ⟨S4x4x4224x1, .f32⟩
  | 81 => ⟨S4x4x4224x4224, .f32⟩
  | 82 => ⟨S4x4x4224x4224, .f32⟩
  | 83 => ⟨S4x4x4224x4224, .f32⟩
  | 84 => ⟨S_, .f32⟩
  | 85 => ⟨S4x4x4224, .f32⟩
  | 86 => ⟨S4x4x4224x1, .f32⟩
  | 87 => ⟨S4x4x4224x1, .f32⟩
  | 88 => ⟨S4x4x4224x1, .f32⟩
  | 89 => ⟨S4x4x4224x1, .f32⟩
  | 90 => ⟨S4x4x4224x1, .f32⟩
  | 91 => ⟨S4x4x4224x4224, .f32⟩
  | 92 => ⟨S4x4x4224x4224, .f32⟩
  | 93 => ⟨S4x4x4224x1, .f32⟩
  | 94 => ⟨S_, .f32⟩
  | 95 => ⟨S4x4x4224x1, .f32⟩
  | 96 => ⟨S4x4x4224x1, .f32⟩
  | 97 => ⟨S4x64x4x4224, .f32⟩
  | 98 => ⟨S4224x4x4x64, .f32⟩
  | 99 => ⟨S4224x1024, .f32⟩
  | 100 => ⟨S4224x4x4x64, .f32⟩
  | 101 => ⟨S4x64x4x4224, .f32⟩
  | 102 => ⟨S4x4x4224x4224, .f32⟩
  | 103 => ⟨S4x64x4224, .f32⟩
  | 104 => ⟨S4224x4x64, .f32⟩
  | 105 => ⟨S4x4x4224x4224, .f32⟩
  | 106 => ⟨S4x4x4224x4224, .f32⟩
  | 107 => ⟨S4x4x4224x4224, .f32⟩
  | 108 => ⟨S_, .f32⟩
  | 109 => ⟨S4x4x4224, .f32⟩
  | 110 => ⟨S4x4x4224x1, .f32⟩
  | 111 => ⟨S4x4x4224x1, .f32⟩
  | 112 => ⟨S4x4x4224x4224, .f32⟩
  | 113 => ⟨S4x4x4224x4224, .f32⟩
  | 114 => ⟨S4x4x4224x1, .f32⟩
  | 115 => ⟨S_, .f32⟩
  | 116 => ⟨S4x4x1, .f32⟩
  | 117 => ⟨S4x4x1x1, .f32⟩
  | 118 => ⟨S4x4x4224x1, .f32⟩
  | 119 => ⟨S_, .f32⟩
  | 120 => ⟨S4x4x4224, .f32⟩
  | 121 => ⟨S4x4x4224x4224, .f32⟩
  | 122 => ⟨S4x4x4224x4224, .f32⟩
  | 123 => ⟨S4x4x4224x4224, .f32⟩
  | 124 => ⟨S4x4x4224x4224, .f32⟩
  | 125 => ⟨S_, .f32⟩
  | 126 => ⟨S4x4x4224, .f32⟩
  | 127 => ⟨S4x4x4224x1, .f32⟩
  | _ => ⟨S4224x1024, .f32⟩

abbrev hbmTy0_1 (i : Nat) : BufTy := match i % 128 with
  | 0 => ⟨S4x4x4224x1, .f32⟩
  | 1 => ⟨S4x4x4224x1, .f32⟩
  | 2 => ⟨S_, .f32⟩
  | 3 => ⟨S4x4x1, .f32⟩
  | 4 => ⟨S4x4x1x1, .f32⟩
  | 5 => ⟨S4x4x1x1, .f32⟩
  | 6 => ⟨S4x4x4224x1, .f32⟩
  | 7 => ⟨S_, .f32⟩
  | 8 => ⟨S4x4x4224, .f32⟩
  | 9 => ⟨S4x4x4224, .f32⟩
  | 10 => ⟨S4x4x4224x4224, .f32⟩
  | 11 => ⟨S4x4x4224x4224, .f32⟩
  | 12 => ⟨S4x4x4224x4224, .f32⟩
  | 13 => ⟨S16x1x1, .f32⟩
  | 14 => ⟨S_, .f32⟩
  | 15 => ⟨S4x4x4224x4224, .f32⟩
  | 16 => ⟨S4x4x4224x4224, .f32⟩
  | 17 => ⟨S4x4224x4224x4, .f32⟩
  | 18 => ⟨S4x4224x4x64, .f32⟩
  | 19 => ⟨S4224x4x4x64, .f32⟩
  | 20 => ⟨S4x4224x64, .f32⟩
  | 21 => ⟨S4224x4x64, .f32⟩
  | 22 => ⟨S4224x256, .f32⟩
  | 23 => ⟨S_, .f32⟩
  | 24 => ⟨S4224x512, .f32⟩
  | 25 => ⟨S4224x256, .f32⟩
  | 26 => ⟨S_, .f32⟩
  | 27 => ⟨S4224x512, .f32⟩
  | 28 => ⟨S4224x512, .f32⟩
  | 29 => ⟨S_, .f32⟩
  | 30 => ⟨S4224x4x4x64, .f32⟩
  | 31 => ⟨S4224x4x4x64, .f32⟩
  | 32 => ⟨S4224x1024, .f32⟩
  | _ => ⟨S4224x1024, .f32⟩

abbrev hbmTy (i : Nat) : BufTy := match i / 128 with
  | 0 => hbmTy0_0 i
  | 1 => hbmTy0_1 i
  | _ => ⟨S4224x1024, .f32⟩

abbrev bufTy : (tb : Table) → Fin (tcTables nBuf tb) → BufTy
  | .hbm, ⟨i, _⟩ => hbmTy i
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_c : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_0 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_c_1 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_call0_v0 : Ref sig .tc := ⟨.hbm, 39, rfl⟩
abbrev main_v30_1 : Ref sig .tc := ⟨.hbm, 40, rfl⟩
abbrev main_call0_v2 : Ref sig .tc := ⟨.hbm, 41, rfl⟩
abbrev main_v30_0 : Ref sig .tc := ⟨.hbm, 42, rfl⟩
abbrev main_call0_cst : Ref sig .tc := ⟨.hbm, 43, rfl⟩
abbrev main_v30_2 : Ref sig .tc := ⟨.hbm, 44, rfl⟩
abbrev main_v31 : Ref sig .tc := ⟨.hbm, 45, rfl⟩
abbrev main_cst_3 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_4 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_5 : Ref sig .tc := ⟨.hbm, 61, rfl⟩
abbrev main_v45 : Ref sig .tc := ⟨.hbm, 62, rfl⟩
abbrev main_cst_6 : Ref sig .tc := ⟨.hbm, 63, rfl⟩
abbrev main_v46 : Ref sig .tc := ⟨.hbm, 64, rfl⟩
abbrev main_cst_7 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_8 : Ref sig .tc := ⟨.hbm, 73, rfl⟩
abbrev main_v54 : Ref sig .tc := ⟨.hbm, 74, rfl⟩
abbrev main_cst_9 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_cst_11 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_12 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_cst_13 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_cst_14 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_15 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_16 : Ref sig .tc := ⟨.hbm, 125, rfl⟩
abbrev main_v98 : Ref sig .tc := ⟨.hbm, 126, rfl⟩
abbrev main_v99 : Ref sig .tc := ⟨.hbm, 127, rfl⟩
abbrev main_v100 : Ref sig .tc := ⟨.hbm, 128, rfl⟩
abbrev main_v101 : Ref sig .tc := ⟨.hbm, 129, rfl⟩
abbrev main_cst_17 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_18 : Ref sig .tc := ⟨.hbm, 135, rfl⟩
abbrev main_v106 : Ref sig .tc := ⟨.hbm, 136, rfl⟩
abbrev main_v107 : Ref sig .tc := ⟨.hbm, 137, rfl⟩
abbrev main_v108 : Ref sig .tc := ⟨.hbm, 138, rfl⟩
abbrev main_v109 : Ref sig .tc := ⟨.hbm, 139, rfl⟩
abbrev main_v110 : Ref sig .tc := ⟨.hbm, 140, rfl⟩
abbrev main_v111 : Ref sig .tc := ⟨.hbm, 141, rfl⟩
abbrev main_call1_cst : Ref sig .tc := ⟨.hbm, 142, rfl⟩
abbrev main_call1_v0 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_cst_19 : Ref sig .tc := ⟨.hbm, 151, rfl⟩
abbrev main_v119 : Ref sig .tc := ⟨.hbm, 152, rfl⟩
abbrev main_v120 : Ref sig .tc := ⟨.hbm, 153, rfl⟩
abbrev main_cst_20 : Ref sig .tc := ⟨.hbm, 154, rfl⟩
abbrev main_v121 : Ref sig .tc := ⟨.hbm, 155, rfl⟩
abbrev main_v122 : Ref sig .tc := ⟨.hbm, 156, rfl⟩
abbrev main_cst_21 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩

abbrev nD : Nat := 1
abbrev τ : Topo := Topo.v7x

variable {F : FTy → Type} [FloatOps F]
-- ==== Kernel2.lean ====
abbrev S4224x1024 : Shape := ⟨2, ![4224, 1024]⟩
abbrev S1024x12288 : Shape := ⟨2, ![1024, 12288]⟩
abbrev S4224x12288 : Shape := ⟨2, ![4224, 12288]⟩
abbrev S12288x1024 : Shape := ⟨2, ![12288, 1024]⟩
abbrev S1408x4096 : Shape := ⟨2, ![1408, 4096]⟩
abbrev S4096x512 : Shape := ⟨2, ![4096, 512]⟩
abbrev S1408x512 : Shape := ⟨2, ![1408, 512]⟩

abbrev nBuf : Space → Nat
  | .hbm => 7
  | .vmem => 7
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S4224x12288, .bf16⟩
  | .hbm, ⟨4, _⟩ => ⟨S1024x12288, .bf16⟩
  | .hbm, ⟨5, _⟩ => ⟨S12288x1024, .bf16⟩
  | .hbm, ⟨6, _⟩ => ⟨S4224x1024, .f32⟩
  | .local _ .vmem, ⟨0, _⟩ => ⟨S1408x4096, .bf16⟩
  | .local _ .vmem, ⟨1, _⟩ => ⟨S1408x4096, .bf16⟩
  | .local _ .vmem, ⟨2, _⟩ => ⟨S4096x512, .bf16⟩
  | .local _ .vmem, ⟨3, _⟩ => ⟨S4096x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 2, 3], ![false, false, false]⟩

def k0_cond3 (i : grid0.Coords) : BitVec 1 :=
  let arg2 : BitVec 32 := BitVec.ofNat 32 (i 2).val
  let c2_i32 : BitVec 32 := 2#32
  let v11 : BitVec 1 := Scalar.cmpi .eq arg2 c2_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S4224x1024 : Shape := ⟨2, ![4224, 1024]⟩
abbrev S1024x12288 : Shape := ⟨2, ![1024, 12288]⟩
abbrev S4224x12288 : Shape := ⟨2, ![4224, 12288]⟩
abbrev S12288x1024 : Shape := ⟨2, ![12288, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S4224x12288, .f32⟩
  | .hbm, ⟨4, _⟩ => ⟨S12288x1024, .f32⟩
  | .hbm, ⟨5, _⟩ => ⟨S1024x12288, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel3.lean ====
abbrev S4224x1024 : Shape := ⟨2, ![4224, 1024]⟩
abbrev S1024x12288 : Shape := ⟨2, ![1024, 12288]⟩
abbrev S4224x12288 : Shape := ⟨2, ![4224, 12288]⟩
abbrev S1024x4224 : Shape := ⟨2, ![1024, 4224]⟩
abbrev S1024x1024 : Shape := ⟨2, ![1024, 1024]⟩

abbrev nBuf : Space → Nat
  | .hbm => 7
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S4224x12288, .bf16⟩
  | .hbm, ⟨4, _⟩ => ⟨S4224x1024, .bf16⟩
  | .hbm, ⟨5, _⟩ => ⟨S1024x4224, .bf16⟩
  | .hbm, ⟨6, _⟩ => ⟨S1024x12288, .f32⟩
  | .local _ .vmem, ⟨0, _⟩ => ⟨S1024x4224, .bf16⟩
  | .local _ .vmem, ⟨1, _⟩ => ⟨S4224x1024, .bf16⟩
  | .local _ .vmem, ⟨2, _⟩ => ⟨S4224x1024, .bf16⟩
  | .local _ .vmem, ⟨3, _⟩ => ⟨S1024x1024, .f32⟩
  | .local _ .vmem, ⟨4, _⟩ => ⟨S1024x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S4224x1024 : Shape := ⟨2, ![4224, 1024]⟩
abbrev S1024x12288 : Shape := ⟨2, ![1024, 12288]⟩
abbrev S4224x12288 : Shape := ⟨2, ![4224, 12288]⟩
abbrev S12288x1024 : Shape := ⟨2, ![12288, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S4224x12288, .f32⟩
  | .hbm, ⟨4, _⟩ => ⟨S12288x1024, .f32⟩
  | .hbm, ⟨5, _⟩ => ⟨S1024x12288, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S1024x1024, .bf16⟩
  | .hbm, ⟨5, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel4Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S1024x1024, .bf16⟩
  | .hbm, ⟨5, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel5.lean ====
abbrev S4224x1024 : Shape := ⟨2, ![4224, 1024]⟩
abbrev S1024x1024 : Shape := ⟨2, ![1024, 1024]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x4224, .bf16⟩
  | .hbm, ⟨5, _⟩ => ⟨S1024x1024, .f32⟩
  | .local _ .vmem, ⟨0, _⟩ => ⟨S1024x4224, .bf16⟩
  | .local _ .vmem, ⟨1, _⟩ => ⟨S4224x512, .f32⟩
  | .local _ .vmem, ⟨2, _⟩ => ⟨S4224x512, .f32⟩
  | .local _ .vmem, ⟨3, _⟩ => ⟨S1024x512, .f32⟩
  | .local _ .vmem, ⟨4, _⟩ => ⟨S1024x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel5Ideal.lean ====
abbrev S4224x1024 : Shape := ⟨2, ![4224, 1024]⟩
abbrev S1024x1024 : Shape := ⟨2, ![1024, 1024]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .bf16⟩
  | .hbm, ⟨4, _⟩ => ⟨S1024x4224, .bf16⟩
  | .hbm, ⟨5, _⟩ => ⟨S1024x1024, .f32⟩
  | .local _ .vmem, ⟨0, _⟩ => ⟨S1024x4224, .bf16⟩
  | .local _ .vmem, ⟨1, _⟩ => ⟨S4224x512, .f32⟩
  | .local _ .vmem, ⟨2, _⟩ => ⟨S4224x512, .f32⟩
  | .local _ .vmem, ⟨3, _⟩ => ⟨S1024x512, .f32⟩
  | .local _ .vmem, ⟨4, _⟩ => ⟨S1024x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S4224x1024 : Shape := ⟨2, ![4224, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | .hbm, ⟨4, _⟩ => ⟨S1024x1024, .f32⟩
  | .hbm, ⟨5, _⟩ => ⟨S1024x1024, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel6.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩
abbrev S384x4096 : Shape := ⟨2, ![384, 4096]⟩
abbrev S384x1024 : Shape := ⟨2, ![384, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S1024x4096, .bf16⟩
  | .hbm, ⟨4, _⟩ => ⟨S4096x1024, .bf16⟩
  | .hbm, ⟨5, _⟩ => ⟨S4224x1024, .f32⟩
  | .local _ .vmem, ⟨0, _⟩ => ⟨S384x4096, .f32⟩
  | .local _ .vmem, ⟨1, _⟩ => ⟨S384x4096, .f32⟩
  | .local _ .vmem, ⟨2, _⟩ => ⟨S4096x1024, .bf16⟩
  | .local _ .vmem, ⟨3, _⟩ => ⟨S384x1024, .f32⟩
  | .local _ .vmem, ⟨4, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel6Ideal.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩
abbrev S384x4096 : Shape := ⟨2, ![384, 4096]⟩
abbrev S384x1024 : Shape := ⟨2, ![384, 1024]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S1024x4096, .bf16⟩
  | .hbm, ⟨4, _⟩ => ⟨S4096x1024, .bf16⟩
  | .hbm, ⟨5, _⟩ => ⟨S4224x1024, .f32⟩
  | .local _ .vmem, ⟨0, _⟩ => ⟨S384x4096, .f32⟩
  | .local _ .vmem, ⟨1, _⟩ => ⟨S384x4096, .f32⟩
  | .local _ .vmem, ⟨2, _⟩ => ⟨S4096x1024, .bf16⟩
  | .local _ .vmem, ⟨3, _⟩ => ⟨S384x1024, .f32⟩
  | .local _ .vmem, ⟨4, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .f32⟩
  | .hbm, ⟨4, _⟩ => ⟨S4096x1024, .f32⟩
  | .hbm, ⟨5, _⟩ => ⟨S1024x4096, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel7.lean ====
abbrev S4224x1024 : Shape := ⟨2, ![4224, 1024]⟩
abbrev S1024x4096 : Shape := ⟨2, ![1024, 4096]⟩
abbrev S4224x4096 : Shape := ⟨2, ![4224, 4096]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x1024, .bf16⟩
  | .hbm, ⟨4, _⟩ => ⟨S1024x4224, .bf16⟩
  | .hbm, ⟨5, _⟩ => ⟨S1024x4096, .f32⟩
  | .local _ .vmem, ⟨0, _⟩ => ⟨S1024x4224, .bf16⟩
  | .local _ .vmem, ⟨1, _⟩ => ⟨S4224x512, .f32⟩
  | .local _ .vmem, ⟨2, _⟩ => ⟨S4224x512, .f32⟩
  | .local _ .vmem, ⟨3, _⟩ => ⟨S1024x512, .f32⟩
  | .local _ .vmem, ⟨4, _⟩ => ⟨S1024x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel7Ideal.lean ====
abbrev S4224x1024 : Shape := ⟨2, ![4224, 1024]⟩
abbrev S1024x4096 : Shape := ⟨2, ![1024, 4096]⟩
abbrev S4224x4096 : Shape := ⟨2, ![4224, 4096]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 6
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x1024, .bf16⟩
  | .hbm, ⟨4, _⟩ => ⟨S1024x4224, .bf16⟩
  | .hbm, ⟨5, _⟩ => ⟨S1024x4096, .f32⟩
  | .local _ .vmem, ⟨0, _⟩ => ⟨S1024x4224, .bf16⟩
  | .local _ .vmem, ⟨1, _⟩ => ⟨S4224x512, .f32⟩
  | .local _ .vmem, ⟨2, _⟩ => ⟨S4224x512, .f32⟩
  | .local _ .vmem, ⟨3, _⟩ => ⟨S1024x512, .f32⟩
  | .local _ .vmem, ⟨4, _⟩ => ⟨S1024x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![1, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S1024x4224 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S4224x1024 : Shape := ⟨2, ![4224, 1024]⟩
abbrev S1024x4096 : Shape := ⟨2, ![1024, 4096]⟩
abbrev S4224x4096 : Shape := ⟨2, ![4224, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .f32⟩
  | .hbm, ⟨4, _⟩ => ⟨S4096x1024, .f32⟩
  | .hbm, ⟨5, _⟩ => ⟨S1024x4096, .f32⟩
  | .hbm, ⟨6, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel8.lean ====
abbrev S4224x4096 : Shape := ⟨2, ![4224, 4096]⟩
abbrev S4096x1024 : Shape := ⟨2, ![4096, 1024]⟩
abbrev S4224x1024 : Shape := ⟨2, ![4224, 1024]⟩
abbrev S1024x4096 : Shape := ⟨2, ![1024, 4096]⟩
abbrev S1408x1024 : Shape := ⟨2, ![1408, 1024]⟩
abbrev S1024x1024 : Shape := ⟨2, ![1024, 1024]⟩

abbrev nBuf : Space → Nat
  | .hbm => 6
  | .vmem => 6
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4096x1024, .bf16⟩
  | .hbm, ⟨4, _⟩ => ⟨S1024x4096, .bf16⟩
  | .hbm, ⟨5, _⟩ => ⟨S4224x4096, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S4224x4096 : Shape := ⟨2, ![4224, 4096]⟩
abbrev S4096x1024 : Shape := ⟨2, ![4096, 1024]⟩
abbrev S4224x1024 : Shape := ⟨2, ![4224, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x1024, .f32⟩
  | .hbm, ⟨4, _⟩ => ⟨S1024x4096, .f32⟩
  | .hbm, ⟨5, _⟩ => ⟨S4096x1024, .f32⟩
  | .hbm, ⟨6, _⟩ => ⟨S4224x4096, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel9.lean ====
abbrev S4224x4096 : Shape := ⟨2, ![4224, 4096]⟩
abbrev S4096x1024 : Shape := ⟨2, ![4096, 1024]⟩
abbrev S4224x1024 : Shape := ⟨2, ![4224, 1024]⟩
abbrev S4096x4224 : Shape := ⟨2, ![4096, 4224]⟩
abbrev S1024x4224 : Shape := ⟨2, ![1024, 4224]⟩
abbrev S4224x512 : Shape := ⟨2, ![4224, 512]⟩
abbrev S1024x512 : Shape := ⟨2, ![1024, 512]⟩

abbrev nBuf : Space → Nat
  | .hbm => 6
  | .vmem => 6
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x4096, .bf16⟩
  | .hbm, ⟨4, _⟩ => ⟨S4096x4224, .bf16⟩
  | .hbm, ⟨5, _⟩ => ⟨S4096x1024, .f32⟩
  | .local _ .vmem, ⟨0, _⟩ => ⟨S1024x4224, .bf16⟩
  | .local _ .vmem, ⟨1, _⟩ => ⟨S1024x4224, .bf16⟩
  | .local _ .vmem, ⟨2, _⟩ => ⟨S4224x512, .f32⟩
  | .local _ .vmem, ⟨3, _⟩ => ⟨S4224x512, .f32⟩
  | .local _ .vmem, ⟨4, _⟩ => ⟨S1024x512, .f32⟩
  | .local _ .vmem, ⟨5, _⟩ => ⟨S1024x512, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4224 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4224x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S4224x4096 : Shape := ⟨2, ![4224, 4096]⟩
abbrev S4096x1024 : Shape := ⟨2, ![4096, 1024]⟩
abbrev S4224x1024 : Shape := ⟨2, ![4224, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x1024, .f32⟩
  | .hbm, ⟨4, _⟩ => ⟨S1024x4096, .f32⟩
  | .hbm, ⟨5, _⟩ => ⟨S4096x1024, .f32⟩
  | .hbm, ⟨6, _⟩ => ⟨S4224x4096, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel10.lean ====
abbrev S4224x1024 : Shape := ⟨2, ![4224, 1024]⟩
abbrev S1024x12288 : Shape := ⟨2, ![1024, 12288]⟩
abbrev S4224x12288 : Shape := ⟨2, ![4224, 12288]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S1024x12288, .bf16⟩
  | .hbm, ⟨4, _⟩ => ⟨S4224x12288, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel10Ideal.lean ====
abbrev S4224x1024 : Shape := ⟨2, ![4224, 1024]⟩
abbrev S1024x12288 : Shape := ⟨2, ![1024, 12288]⟩
abbrev S4224x12288 : Shape := ⟨2, ![4224, 12288]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S1024x12288, .bf16⟩
  | .hbm, ⟨4, _⟩ => ⟨S4224x12288, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 12, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S4224x1024 : Shape := ⟨2, ![4224, 1024]⟩
abbrev S1024x12288 : Shape := ⟨2, ![1024, 12288]⟩
abbrev S4224x12288 : Shape := ⟨2, ![4224, 12288]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x12288, .f32⟩
  | .hbm, ⟨2, _⟩ => ⟨S4224x12288, .f32⟩
  | .hbm, ⟨3, _⟩ => ⟨S4224x12288, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel11.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel11Ideal.lean ====
abbrev S4224x1024 : Shape := ⟨2, ![4224, 1024]⟩
abbrev S1024x1024 : Shape := ⟨2, ![1024, 1024]⟩
abbrev S1408x1024 : Shape := ⟨2, ![1408, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S1024x1024, .bf16⟩
  | .hbm, ⟨4, _⟩ => ⟨S4224x1024, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1408x1024, .f32⟩
  | .local _ .vmem, ⟨4, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![3, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4224x1024 : Shape := ⟨2, ![4224, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1024, .f32⟩
  | .hbm, ⟨2, _⟩ => ⟨S4224x1024, .f32⟩
  | .hbm, ⟨3, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel12.lean ====
abbrev S4224x1024 : Shape := ⟨2, ![4224, 1024]⟩
abbrev S1024x4096 : Shape := ⟨2, ![1024, 4096]⟩
abbrev S4224x4096 : Shape := ⟨2, ![4224, 4096]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S1024x4096, .bf16⟩
  | .hbm, ⟨4, _⟩ => ⟨S4224x4096, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Kernel12Ideal.lean ====
abbrev S4224x1024 : Shape := ⟨2, ![4224, 1024]⟩
abbrev S1024x4096 : Shape := ⟨2, ![1024, 4096]⟩
abbrev S4224x4096 : Shape := ⟨2, ![4224, 4096]⟩
abbrev S1408x1024 : Shape := ⟨2, ![1408, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S1024x4096, .bf16⟩
  | .hbm, ⟨4, _⟩ => ⟨S4224x4096, .f32⟩
  | .local _ .vmem, ⟨0, _⟩ => ⟨S1408x1024, .f32⟩
  | .local _ .vmem, ⟨1, _⟩ => ⟨S1408x1024, .f32⟩
  | .local _ .vmem, ⟨2, _⟩ => ⟨S1024x1024, .bf16⟩
  | .local _ .vmem, ⟨3, _⟩ => ⟨S1024x1024, .bf16⟩
  | .local _ .vmem, ⟨4, _⟩ => ⟨S1408x1024, .f32⟩
  | .local _ .vmem, ⟨5, _⟩ => ⟨S1408x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![3, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S4224x1024 : Shape := ⟨2, ![4224, 1024]⟩
abbrev S1024x4096 : Shape := ⟨2, ![1024, 4096]⟩
abbrev S4224x4096 : Shape := ⟨2, ![4224, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4224x4096, .f32⟩
  | .hbm, ⟨3, _⟩ => ⟨S4224x4096, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel13.lean ====
abbrev S4224x4096 : Shape := ⟨2, ![4224, 4096]⟩
abbrev S4096x1024 : Shape := ⟨2, ![4096, 1024]⟩
abbrev S4224x1024 : Shape := ⟨2, ![4224, 1024]⟩
abbrev S384x4096 : Shape := ⟨2, ![384, 4096]⟩
abbrev S384x1024 : Shape := ⟨2, ![384, 1024]⟩

abbrev nBuf : Space → Nat
  | .hbm => 5
  | .vmem => 5
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4096x1024, .bf16⟩
  | .hbm, ⟨4, _⟩ => ⟨S4224x1024, .f32⟩
  | .local _ .vmem, ⟨0, _⟩ => ⟨S384x4096, .f32⟩
  | .local _ .vmem, ⟨1, _⟩ => ⟨S384x4096, .f32⟩
  | .local _ .vmem, ⟨2, _⟩ => ⟨S4096x1024, .bf16⟩
  | .local _ .vmem, ⟨3, _⟩ => ⟨S384x1024, .f32⟩
  | .local _ .vmem, ⟨4, _⟩ => ⟨S384x1024, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![11, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S384x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S4224x4096 : Shape := ⟨2, ![4224, 4096]⟩
abbrev S4096x1024 : Shape := ⟨2, ![4096, 1024]⟩
abbrev S4224x1024 : Shape := ⟨2, ![4224, 1024]⟩

abbrev nBuf : Space → Nat
  | .hbm => 4
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4096x1024, .f32⟩
  | .hbm, ⟨2, _⟩ => ⟨S4224x1024, .f32⟩
  | .hbm, ⟨3, _⟩ => ⟨S4224x1024, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩

abbrev nD : Nat := 1
abbrev τ : Topo := Topo.v7x

variable {F : FTy → Type} [FloatOps F]
-- ==== Kernel14.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 6
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S1x1024, .f32⟩
  | .hbm, ⟨4, _⟩ => ⟨S4224x1024, .f32⟩
  | .hbm, ⟨5, _⟩ => ⟨S1x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .f32⟩
  | .local _ .vmem, ⟨4, _⟩ => ⟨S384x1024, .f32⟩
  | .local _ .vmem, ⟨5, _⟩ => ⟨S384x1024, .f32⟩
  | .local _ .vmem, ⟨6, _⟩ => ⟨S384x1024, .f32⟩
  | .local _ .vmem, ⟨7, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S384x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Reference14Ideal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4224x1024, .f32⟩
  | .hbm, ⟨28, _⟩ => ⟨S4224x1024, .f32⟩
  | .hbm, ⟨29, _⟩ => ⟨S_, .f32⟩
  | .hbm, ⟨30, _⟩ => ⟨S1024, .f32⟩
  | .hbm, ⟨31, _⟩ => ⟨S4224x1024, .f32⟩
  | .hbm, ⟨32, _⟩ => ⟨S_, .f32⟩
  | .hbm, ⟨33, _⟩ => ⟨S4224, .f32⟩
  | .hbm, ⟨34, _⟩ => ⟨S4224x1, .f32⟩
  | .hbm, ⟨35, _⟩ => ⟨S4224x1024, .f32⟩
  | .hbm, ⟨36, _⟩ => ⟨S4224x1024, .f32⟩
  | .hbm, ⟨37, _⟩ => ⟨S4224x1, .f32⟩
  | .hbm, ⟨38, _⟩ => ⟨S_, .f32⟩
  | .hbm, ⟨39, _⟩ => ⟨S4224x1, .f32⟩
  | .hbm, ⟨40, _⟩ => ⟨S4224x1, .f32⟩
  | .hbm, ⟨41, _⟩ => ⟨S_, .f32⟩
  | .hbm, ⟨42, _⟩ => ⟨S4224, .f32⟩
  | .hbm, ⟨43, _⟩ => ⟨S4224x1024, .f32⟩
  | .hbm, ⟨44, _⟩ => ⟨S4224x1024, .f32⟩
  | .hbm, ⟨45, _⟩ => ⟨S4224x1024, .f32⟩
  | .hbm, ⟨46, _⟩ => ⟨S4224x1024, .f32⟩
  | .hbm, ⟨47, _⟩ => ⟨S4224x1024, .f32⟩
  | .hbm, ⟨48, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel15.lean ====
abbrev S4224x1024 : Shape := ⟨2, ![4224, 1024]⟩
abbrev S1024 : Shape := ⟨1, ![1024]⟩
abbrev S1x1024 : Shape := ⟨2, ![1, 1024]⟩
abbrev S384x1024 : Shape := ⟨2, ![384, 1024]⟩
abbrev S384 : Shape := ⟨1, ![384]⟩
abbrev S384x1 : Shape := ⟨2, ![384, 1]⟩

abbrev nBuf : Space → Nat
  | .hbm => 4
  | .vmem => 5
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S1x1024, .f32⟩
  | .hbm, ⟨3, _⟩ => ⟨S4224x1024, .f32⟩
  | .local _ .vmem, ⟨0, _⟩ => ⟨S384x1024, .f32⟩
  | .local _ .vmem, ⟨1, _⟩ => ⟨S384x1024, .f32⟩
  | .local _ .vmem, ⟨2, _⟩ => ⟨S1x1024, .f32⟩
  | .local _ .vmem, ⟨3, _⟩ => ⟨S384x1024, .f32⟩
  | .local _ .vmem, ⟨4, _⟩ => ⟨S384x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![11], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S384x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S384x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference15Ideal.lean ====
abbrev S4224x1024 : Shape := ⟨2, ![4224, 1024]⟩
abbrev S1024 : Shape := ⟨1, ![1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩

abbrev nBuf : Space → Nat
  | .hbm => 18
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4224x1024, .f32⟩
  | .hbm, ⟨3, _⟩ => ⟨S_, .f32⟩
  | .hbm, ⟨4, _⟩ => ⟨S4224, .f32⟩
  | .hbm, ⟨5, _⟩ => ⟨S4224x1, .f32⟩
  | .hbm, ⟨6, _⟩ => ⟨S_, .f32⟩
  | .hbm, ⟨7, _⟩ => ⟨S4224x1, .f32⟩
  | .hbm, ⟨8, _⟩ => ⟨S4224x1, .f32⟩
  | .hbm, ⟨9, _⟩ => ⟨S_, .f32⟩
  | .hbm, ⟨10, _⟩ => ⟨S4224x1, .f32⟩
  | .hbm, ⟨11, _⟩ => ⟨S4224x1, .f32⟩
  | .hbm, ⟨12, _⟩ => ⟨S4224x1, .f32⟩
  | .hbm, ⟨13, _⟩ => ⟨S4224x1024, .f32⟩
  | .hbm, ⟨14, _⟩ => ⟨S4224x1024, .f32⟩
  | .hbm, ⟨15, _⟩ => ⟨S1x1024, .f32⟩
  | .hbm, ⟨16, _⟩ => ⟨S4224x1024, .f32⟩
  | .hbm, ⟨17, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S4224x1024 : Shape := ⟨2, ![4224, 1024]⟩
abbrev S4224x3072 : Shape := ⟨2, ![4224, 3072]⟩
abbrev S192x1024 : Shape := ⟨2, ![192, 1024]⟩
abbrev S192x3072 : Shape := ⟨2, ![192, 3072]⟩
abbrev S192x2048 : Shape := ⟨2, ![192, 2048]⟩

abbrev nBuf : Space → Nat
  | .hbm => 9
  | .vmem => 18
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x3072, .f32⟩
  | .hbm, ⟨4, _⟩ => ⟨S4224x1024, .f32⟩
  | .hbm, ⟨5, _⟩ => ⟨S4224x1024, .f32⟩
  | .hbm, ⟨6, _⟩ => ⟨S4224x1024, .f32⟩
  | .hbm, ⟨7, _⟩ => ⟨S4224x1024, .f32⟩
  | .hbm, ⟨8, _⟩ => ⟨S4224x3072, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x3072, .f32⟩
  | .local _ .vmem, ⟨7, _⟩ => ⟨S192x3072, .f32⟩
  | .local _ .vmem, ⟨8, _⟩ => ⟨S192x1024, .f32⟩
  | .local _ .vmem, ⟨9, _⟩ => ⟨S192x1024, .f32⟩
  | .local _ .vmem, ⟨10, _⟩ => ⟨S192x1024, .f32⟩
  | .local _ .vmem, ⟨11, _⟩ => ⟨S192x1024, .f32⟩
  | .local _ .vmem, ⟨12, _⟩ => ⟨S192x1024, .f32⟩
  | .local _ .vmem, ⟨13, _⟩ => ⟨S192x1024, .f32⟩
  | .local _ .vmem, ⟨14, _⟩ => ⟨S192x1024, .f32⟩
  | .local _ .vmem, ⟨15, _⟩ => ⟨S192x1024, .f32⟩
  | .local _ .vmem, ⟨16, _⟩ => ⟨S192x3072, .f32⟩
  | .local _ .vmem, ⟨17, _⟩ => ⟨S192x3072, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S192x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S192x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S192x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S192x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference16Ideal.lean ====
abbrev S4224x1024 : Shape := ⟨2, ![4224, 1024]⟩
abbrev S4224x3072 : Shape := ⟨2, ![4224, 3072]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x3072, .f32⟩
  | .hbm, ⟨4, _⟩ => ⟨S4224x1024, .f32⟩
  | .hbm, ⟨5, _⟩ => ⟨S4224x3072, .f32⟩
  | .hbm, ⟨6, _⟩ => ⟨S4224x3072, .f32⟩
  | .hbm, ⟨7, _⟩ => ⟨S_, .f32⟩
  | .hbm, ⟨8, _⟩ => ⟨S4224x3072, .f32⟩
  | .hbm, ⟨9, _⟩ => ⟨S4224x3072, .f32⟩
  | .hbm, ⟨10, _⟩ => ⟨S_, .f32⟩
  | .hbm, ⟨11, _⟩ => ⟨S4224x3072, .f32⟩
  | .hbm, ⟨12, _⟩ => ⟨S4224x3072, .f32⟩
  | .hbm, ⟨13, _⟩ => ⟨S_, .f32⟩
  | .hbm, ⟨14, _⟩ => ⟨S4224x3072, .f32⟩
  | .hbm, ⟨15, _⟩ => ⟨S4224x3072, .f32⟩
  | .hbm, ⟨16, _⟩ => ⟨S4224x3072, .f32⟩
  | .hbm, ⟨17, _⟩ => ⟨S4224x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S4224x1024, .f32⟩
  | .hbm, ⟨23, _⟩ => ⟨S4224x1024, .f32⟩
  | .hbm, ⟨24, _⟩ => ⟨S4224x1024, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S4224x1024, .f32⟩
  | .hbm, ⟨29, _⟩ => ⟨S4224x1024, .f32⟩
  | .hbm, ⟨30, _⟩ => ⟨S4224x1024, .f32⟩
  | .hbm, ⟨31, _⟩ => ⟨S4224x1024, .f32⟩
  | .hbm, ⟨32, _⟩ => ⟨S4224x1024, .f32⟩
  | .hbm, ⟨33, _⟩ => ⟨S4224x3072, .f32⟩
  | .hbm, ⟨34, _⟩ => ⟨S4224x3072, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel17.lean ====
abbrev S4224x1024 : Shape := ⟨2, ![4224, 1024]⟩
abbrev S4224x3072 : Shape := ⟨2, ![4224, 3072]⟩
abbrev S192x1024 : Shape := ⟨2, ![192, 1024]⟩
abbrev S192x3072 : Shape := ⟨2, ![192, 3072]⟩

abbrev nBuf : Space → Nat
  | .hbm => 5
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x3072, .f32⟩
  | .hbm, ⟨4, _⟩ => ⟨S4224x1024, .f32⟩
  | .local _ .vmem, ⟨0, _⟩ => ⟨S192x1024, .f32⟩
  | .local _ .vmem, ⟨1, _⟩ => ⟨S192x1024, .f32⟩
  | .local _ .vmem, ⟨2, _⟩ => ⟨S192x1024, .f32⟩
  | .local _ .vmem, ⟨3, _⟩ => ⟨S192x1024, .f32⟩
  | .local _ .vmem, ⟨4, _⟩ => ⟨S192x1024, .f32⟩
  | .local _ .vmem, ⟨5, _⟩ => ⟨S192x1024, .f32⟩
  | .local _ .vmem, ⟨6, _⟩ => ⟨S192x3072, .f32⟩
  | .local _ .vmem, ⟨7, _⟩ => ⟨S192x3072, .f32⟩
  | .local _ .vmem, ⟨8, _⟩ => ⟨S192x1024, .f32⟩
  | .local _ .vmem, ⟨9, _⟩ => ⟨S192x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S192x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference17Ideal.lean ====
abbrev S4224x1024 : Shape := ⟨2, ![4224, 1024]⟩
abbrev S4224x3072 : Shape := ⟨2, ![4224, 3072]⟩
abbrev S_ : Shape := ⟨0, ![]⟩

abbrev nBuf : Space → Nat
  | .hbm => 20
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S4224x1024, .f32⟩
  | .hbm, ⟨3, _⟩ => ⟨S4224x3072, .f32⟩
  | .hbm, ⟨4, _⟩ => ⟨S4224x3072, .f32⟩
  | .hbm, ⟨5, _⟩ => ⟨S4224x3072, .f32⟩
  | .hbm, ⟨6, _⟩ => ⟨S_, .f32⟩
  | .hbm, ⟨7, _⟩ => ⟨S4224x3072, .f32⟩
  | .hbm, ⟨8, _⟩ => ⟨S4224x3072, .f32⟩
  | .hbm, ⟨9, _⟩ => ⟨S_, .f32⟩
  | .hbm, ⟨10, _⟩ => ⟨S4224x3072, .f32⟩
  | .hbm, ⟨11, _⟩ => ⟨S4224x3072, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S4224x1024, .f32⟩
  | .hbm, ⟨16, _⟩ => ⟨S4224x1024, .f32⟩
  | .hbm, ⟨17, _⟩ => ⟨S4224x1024, .f32⟩
  | .hbm, ⟨18, _⟩ => ⟨S4224x1024, .f32⟩
  | .hbm, ⟨19, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Kernel18.lean ====
abbrev S4224x4096 : Shape := ⟨2, ![4224, 4096]⟩
abbrev S192x4096 : Shape := ⟨2, ![192, 4096]⟩

abbrev nBuf : Space → Nat
  | .hbm => 3
  | .vmem => 6
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S4224x4096, .f32⟩
  | .local _ .vmem, ⟨0, _⟩ => ⟨S192x4096, .f32⟩
  | .local _ .vmem, ⟨1, _⟩ => ⟨S192x4096, .f32⟩
  | .local _ .vmem, ⟨2, _⟩ => ⟨S192x4096, .f32⟩
  | .local _ .vmem, ⟨3, _⟩ => ⟨S192x4096, .f32⟩
  | .local _ .vmem, ⟨4, _⟩ => ⟨S192x4096, .f32⟩
  | .local _ .vmem, ⟨5, _⟩ => ⟨S192x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S192x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference18Ideal.lean ====
abbrev S4224x4096 : Shape := ⟨2, ![4224, 4096]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .hbm, ⟨2, _⟩ => ⟨S_, .f32⟩
  | .hbm, ⟨3, _⟩ => ⟨S4224x4096, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .i1⟩
  | .hbm, ⟨8, _⟩ => ⟨S_, .f32⟩
  | .hbm, ⟨9, _⟩ => ⟨S4224x4096, .f32⟩
  | .hbm, ⟨10, _⟩ => ⟨S4224x4096, .f32⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S4224x4096, .f32⟩
  | .hbm, ⟨15, _⟩ => ⟨S_, .f32⟩
  | .hbm, ⟨16, _⟩ => ⟨S4224x4096, .f32⟩
  | .hbm, ⟨17, _⟩ => ⟨S4224x4096, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_v0 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩

abbrev nD : Nat := 1
abbrev τ : Topo := Topo.v7x

variable {F : FTy → Type} [FloatOps F]
-- ==== Kernel19.lean ====
abbrev S4224x4096 : Shape := ⟨2, ![4224, 4096]⟩
abbrev S192x4096 : Shape := ⟨2, ![192, 4096]⟩

abbrev nBuf : Space → Nat
  | .hbm => 2
  | .vmem => 4
  | .smem => 0
  | _ => 0

abbrev bufTy : (tb : Table) → Fin (tcTables nBuf tb) → BufTy
  | .hbm, ⟨0, _⟩ => ⟨S4224x4096, .f32⟩
  | .hbm, ⟨1, _⟩ => ⟨S4224x4096, .f32⟩
  | .local _ .vmem, ⟨0, _⟩ => ⟨S192x4096, .f32⟩
  | .local _ .vmem, ⟨1, _⟩ => ⟨S192x4096, .f32⟩
  | .local _ .vmem, ⟨2, _⟩ => ⟨S192x4096, .f32⟩
  | .local _ .vmem, ⟨3, _⟩ => ⟨S192x4096, .f32⟩
  | _, _ => ⟨S4224x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![22], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S192x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S192x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference19Ideal.lean ====
abbrev S4224x4096 : Shape := ⟨2, ![4224, 4096]⟩
abbrev S_ : Shape := ⟨0, ![]⟩

abbrev nBuf : Space → Nat
  | .hbm => 5
  | .vmem => 0
  | .smem => 0
  | _ => 0

abbrev bufTy : (tb : Table) → Fin (tcTables nBuf tb) → BufTy
  | .hbm, ⟨0, _⟩ => ⟨S4224x4096, .f32⟩
  | .hbm, ⟨1, _⟩ => ⟨S_, .f32⟩
  | .hbm, ⟨2, _⟩ => ⟨S4224x4096, .f32⟩
  | .hbm, ⟨3, _⟩ => ⟨S4224x4096, .f32⟩
  | .hbm, ⟨4, _⟩ => ⟨S4224x4096, .f32⟩
  | _, _ => ⟨S4224x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_cst : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel20.lean ====
abbrev S4224x1024 : Shape := ⟨2, ![4224, 1024]⟩
abbrev S4224x512 : Shape := ⟨2, ![4224, 512]⟩
abbrev S16x1x1 : Shape := ⟨3, ![16, 1, 1]⟩
abbrev S128x1024 : Shape := ⟨2, ![128, 1024]⟩
abbrev S128x512 : Shape := ⟨2, ![128, 512]⟩
abbrev S128x256 : Shape := ⟨2, ![128, 256]⟩
abbrev S128x64 : Shape := ⟨2, ![128, 64]⟩
abbrev S1x128x64 : Shape := ⟨3, ![1, 128, 64]⟩
abbrev S4x128x64 : Shape := ⟨3, ![4, 128, 64]⟩
abbrev S16x128x64 : Shape := ⟨3, ![16, 128, 64]⟩
abbrev S4x4x128x64 : Shape := ⟨4, ![4, 4, 128, 64]⟩
abbrev S4x4x1x1 : Shape := ⟨4, ![4, 4, 1, 1]⟩
abbrev S4x512x64 : Shape := ⟨3, ![4, 512, 64]⟩
abbrev S4x384x64 : Shape := ⟨3, ![4, 384, 64]⟩
abbrev S4x512x384 : Shape := ⟨3, ![4, 512, 384]⟩
abbrev S512x384 : Shape := ⟨2, ![512, 384]⟩
abbrev S1x512x384 : Shape := ⟨3, ![1, 512, 384]⟩
abbrev S4x1x1x1 : Shape := ⟨4, ![4, 1, 1, 1]⟩
abbrev S4x1x1 : Shape := ⟨3, ![4, 1, 1]⟩
abbrev S4x128x1 : Shape := ⟨3, ![4, 128, 1]⟩
abbrev S4x512x1 : Shape := ⟨3, ![4, 512, 1]⟩
abbrev S4x512 : Shape := ⟨2, ![4, 512]⟩

abbrev nBuf : Space → Nat
  | .hbm => 4
  | .vmem => 10
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S16x1x1, .f32⟩
  | .hbm, ⟨3, _⟩ => ⟨S4224x1024, .f32⟩
  | .local _ .vmem, ⟨0, _⟩ => ⟨S128x1024, .f32⟩
  | .local _ .vmem, ⟨1, _⟩ => ⟨S128x1024, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S16x1x1, .f32⟩
  | .local _ .vmem, ⟨8, _⟩ => ⟨S128x1024, .f32⟩
  | .local _ .vmem, ⟨9, _⟩ => ⟨S128x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S16x1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel20Ideal.lean ====
variable {F : FTy → Type} [FloatOps F] [Named F]
def κ : String → Option EReal := fun
  | "mask" => some ⊥
  | _ => none
-- ==== Reference20Ideal.lean ====
abbrev S4224x1024 : Shape := ⟨2, ![4224, 1024]⟩
abbrev S4224x512 : Shape := ⟨2, ![4224, 512]⟩
abbrev S16x1x1 : Shape := ⟨3, ![16, 1, 1]⟩
abbrev S4224x4x4x64 : Shape := ⟨4, ![4224, 4, 4, 64]⟩
abbrev S_ : Shape := ⟨0, ![]⟩
abbrev S4224x256 : Shape := ⟨2, ![4224, 256]⟩
abbrev S4224x4x64 : Shape := ⟨3, ![4224, 4, 64]⟩
abbrev S4224 : Shape := ⟨1, ![4224]⟩
abbrev S4224x1 : Shape := ⟨2, ![4224, 1]⟩
abbrev S1x4224 : Shape := ⟨2, ![1, 4224]⟩
abbrev S4224x4224 : Shape := ⟨2, ![4224, 4224]⟩
abbrev S4x4224x4224x4 : Shape := ⟨4, ![4, 4224, 4224, 4]⟩
abbrev S4x4x4224x4224 : Shape := ⟨4, ![4, 4, 4224, 4224]⟩
abbrev S4x4x1x1 : Shape := ⟨4, ![4, 4, 1, 1]⟩
abbrev S4x4x4224 : Shape := ⟨3, ![4, 4, 4224]⟩
abbrev S4x4x4224x1 : Shape := ⟨4, ![4, 4, 4224, 1]⟩
abbrev S4x64x4x4224 : Shape := ⟨4, ![4, 64, 4, 4224]⟩

abbrev nBuf : Space → Nat
  | .hbm => 63
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x512, .f32⟩
  | .hbm, ⟨2, _⟩ => ⟨S16x1x1, .f32⟩
  | .hbm, ⟨3, _⟩ => ⟨S4224x4x4x64, .f32⟩
  | .hbm, ⟨4, _⟩ => ⟨S_, .f32⟩
  | .hbm, ⟨5, _⟩ => ⟨S4224x4x4x64, .f32⟩
  | .hbm, ⟨6, _⟩ => ⟨S4224x4x4x64, .f32⟩
  | .hbm, ⟨7, _⟩ => ⟨S4224x256, .f32⟩
  | .hbm, ⟨8, _⟩ => ⟨S4224x4x64, .f32⟩
  | .hbm, ⟨9, _⟩ => ⟨S4224x256, .f32⟩
  | .hbm, ⟨10, _⟩ => ⟨S4224x4x64, .f32⟩
  | .hbm, ⟨11, _⟩ => ⟨S4224, .i32⟩
  | .hbm, ⟨12, _⟩ => ⟨S4224x1, .i32⟩
  | .hbm, ⟨13, _⟩ => ⟨S4224, .i32⟩
  | .hbm, ⟨14, _⟩ => ⟨S1x4224, .i32⟩
  | .hbm, ⟨15, _⟩ => ⟨S_, .i32⟩
  | .hbm, ⟨16, _⟩ => ⟨S1x4224, .i32⟩
  | .hbm, ⟨17, _⟩ => ⟨S1x4224, .i1⟩
  | .hbm, ⟨18, _⟩ => ⟨S4224x4224, .i32⟩
  | .hbm, ⟨19, _⟩ => ⟨S4224x4224, .i32⟩
  | .hbm, ⟨20, _⟩ => ⟨S4224x4224, .i1⟩
  | .hbm, ⟨21, _⟩ => ⟨S4224x4224, .i1⟩
  | .hbm, ⟨22, _⟩ => ⟨S4224x4224, .i1⟩
  | .hbm, ⟨23, _⟩ => ⟨S_, .i32⟩
  | .hbm, ⟨24, _⟩ => ⟨S4224x1, .i32⟩
  | .hbm, ⟨25, _⟩ => ⟨S4224x1, .i32⟩
  | .hbm, ⟨26, _⟩ => ⟨S4224x4224, .i32⟩
  | .hbm, ⟨27, _⟩ => ⟨S4224x4224, .i32⟩
  | .hbm, ⟨28, _⟩ => ⟨S4224x4224, .i1⟩
  | .hbm, ⟨29, _⟩ => ⟨S_, .i32⟩
  | .hbm, ⟨30, _⟩ => ⟨S1x4224, .i32⟩
  | .hbm, ⟨31, _⟩ => ⟨S1x4224, .i1⟩
  | .hbm, ⟨32, _⟩ => ⟨S4224x4224, .i1⟩
  | .hbm, ⟨33, _⟩ => ⟨S4224x4224, .i1⟩
  | .hbm, ⟨34, _⟩ => ⟨S4224x4224, .i1⟩
  | .hbm, ⟨35, _⟩ => ⟨S4x4224x4224x4, .f32⟩
  | .hbm, ⟨36, _⟩ => ⟨S4x4x4224x4224, .f32⟩
  | .hbm, ⟨37, _⟩ => ⟨S_, .f32⟩
  | .hbm, ⟨38, _⟩ => ⟨S_, .f32⟩
  | .hbm, ⟨39, _⟩ => ⟨S4x4x4224x4224, .i1⟩
  | .hbm, ⟨40, _⟩ => ⟨S4x4x4224x4224, .f32⟩
  | .hbm, ⟨41, _⟩ => ⟨S4x4x4224x4224, .f32⟩
  | .hbm, ⟨42, _⟩ => ⟨S4x4x1x1, .f32⟩
  | .hbm, ⟨43, _⟩ => ⟨S_, .f32⟩
  | .hbm, ⟨44, _⟩ => ⟨S4x4x4224, .f32⟩
  | .hbm, ⟨45, _⟩ => ⟨S4x4x4224x1, .f32⟩
  | .hbm, ⟨46, _⟩ => ⟨S4x4x4224x1, .f32⟩
  | .hbm, ⟨47, _⟩ => ⟨S4x4x4224x1, .f32⟩
  | .hbm, ⟨48, _⟩ => ⟨S4x4x4224x4224, .f32⟩
  | .hbm, ⟨49, _⟩ => ⟨S4x4x4224x4224, .f32⟩
  | .hbm, ⟨50, _⟩ => ⟨S4x4x4224x4224, .f32⟩
  | .hbm, ⟨51, _⟩ => ⟨S_, .f32⟩
  | .hbm, ⟨52, _⟩ => ⟨S4x4x4224, .f32⟩
  | .hbm, ⟨53, _⟩ => ⟨S4x4x4224x1, .f32⟩
  | .hbm, ⟨54, _⟩ => ⟨S4x4x4224x1, .f32⟩
  | .hbm, ⟨55, _⟩ => ⟨S4x4x4224x1, .f32⟩
  | .hbm, ⟨56, _⟩ => ⟨S4x4x4224x1, .f32⟩
  | .hbm, ⟨57, _⟩ => ⟨S4x4x4224x1, .f32⟩
  | .hbm, ⟨58, _⟩ => ⟨S4x4x4224x4224, .f32⟩
  | .hbm, ⟨59, _⟩ => ⟨S4x4x4224x4224, .f32⟩
  | .hbm, ⟨60, _⟩ => ⟨S4x64x4x4224, .f32⟩
  | .hbm, ⟨61, _⟩ => ⟨S4224x4x4x64, .f32⟩
  | .hbm, ⟨62, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_c_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_2 : Ref sig .tc := ⟨.hbm, 37, rfl⟩
abbrev main_call0_v0 : Ref sig .tc := ⟨.hbm, 38, rfl⟩
abbrev main_call0_v1 : Ref sig .tc := ⟨.hbm, 39, rfl⟩
abbrev main_call0_v2 : Ref sig .tc := ⟨.hbm, 40, rfl⟩
abbrev main_v30 : Ref sig .tc := ⟨.hbm, 41, rfl⟩
abbrev main_v31 : Ref sig .tc := ⟨.hbm, 42, rfl⟩
abbrev main_cst_3 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩

abbrev nD : Nat := 1
abbrev τ : Topo := Topo.v7x

variable {F : FTy → Type} [FloatOps F]
-- ==== Kernel22.lean ====
abbrev S4224x2048 : Shape := ⟨2, ![4224, 2048]⟩
abbrev S4x2048 : Shape := ⟨2, ![4, 2048]⟩
abbrev S2048 : Shape := ⟨1, ![2048]⟩
abbrev S1x2048 : Shape := ⟨2, ![1, 2048]⟩
abbrev S4224x256 : Shape := ⟨2, ![4224, 256]⟩
abbrev S4x256 : Shape := ⟨2, ![4, 256]⟩
abbrev S1x256 : Shape := ⟨2, ![1, 256]⟩
abbrev S8x256 : Shape := ⟨2, ![8, 256]⟩
abbrev S128x256 : Shape := ⟨2, ![128, 256]⟩
abbrev S136x256 : Shape := ⟨2, ![136, 256]⟩

abbrev nBuf : Space → Nat
  | .hbm => 5
  | .vmem => 8
  | .smem => 0
  | _ => 0

abbrev bufTy : (tb : Table) → Fin (tcTables nBuf tb) → BufTy
  | .hbm, ⟨0, _⟩ => ⟨S4224x2048, .f32⟩
  | .hbm, ⟨1, _⟩ => ⟨S4x2048, .f32⟩
  | .hbm, ⟨2, _⟩ => ⟨S2048, .f32⟩
  | .hbm, ⟨3, _⟩ => ⟨S1x2048, .f32⟩
  | .hbm, ⟨4, _⟩ => ⟨S4224x2048, .f32⟩
  | .local _ .vmem, ⟨0, _⟩ => ⟨S4224x256, .f32⟩
  | .local _ .vmem, ⟨1, _⟩ => ⟨S4224x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4224x256, .f32⟩
  | .local _ .vmem, ⟨7, _⟩ => ⟨S4224x256, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c33_i32 : BitVec 32 := 33#32
  let v3 : BitVec 32 := Scalar.addi c0_i32 c33_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  v4
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let c8_i32 : BitVec 32 := 8#32
  let v6 : BitVec 32 := Scalar.subi v5 c8_i32
  let c0_i32_4 : BitVec 32 := 0#32
  let v7 : BitVec 32 := Scalar.maxsi v6 c0_i32_4
  v7
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let c8_i32 : BitVec 32 := 8#32
  let v6 : BitVec 32 := Scalar.subi v5 c8_i32
  let c0_i32_4 : BitVec 32 := 0#32
  let v7 : BitVec 32 := Scalar.maxsi v6 c0_i32_4
  let v9 : BitVec 32 := v7
  let v10 : Index := Scalar.indexCast v9
  let c0_6 : Index := 0#32
  ![v10.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v14 : Index := Scalar.indexCast v5
  let c0_7 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference22Ideal.lean ====
abbrev S4224x2048 : Shape := ⟨2, ![4224, 2048]⟩
abbrev S4x2048 : Shape := ⟨2, ![4, 2048]⟩
abbrev S2048 : Shape := ⟨1, ![2048]⟩
abbrev S_ : Shape := ⟨0, ![]⟩
abbrev S3x2048 : Shape := ⟨2, ![3, 2048]⟩
abbrev S4227x2048 : Shape := ⟨2, ![4227, 2048]⟩
abbrev S1x2048 : Shape := ⟨2, ![1, 2048]⟩

abbrev nBuf : Space → Nat
  | .hbm => 48
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4x2048, .f32⟩
  | .hbm, ⟨2, _⟩ => ⟨S2048, .f32⟩
  | .hbm, ⟨3, _⟩ => ⟨S_, .f32⟩
  | .hbm, ⟨4, _⟩ => ⟨S3x2048, .f32⟩
  | .hbm, ⟨5, _⟩ => ⟨S4227x2048, .f32⟩
  | .hbm, ⟨6, _⟩ => ⟨S4224x2048, .f32⟩
  | .hbm, ⟨7, _⟩ => ⟨S1x2048, .f32⟩
  | .hbm, ⟨8, _⟩ => ⟨S2048, .f32⟩
  | .hbm, ⟨9, _⟩ => ⟨S1x2048, .f32⟩
  | .hbm, ⟨10, _⟩ => ⟨S4224x2048, .f32⟩
  | .hbm, ⟨11, _⟩ => ⟨S4224x2048, .f32⟩
  | .hbm, ⟨12, _⟩ => ⟨S_, .f32⟩
  | .hbm, ⟨13, _⟩ => ⟨S4224x2048, .f32⟩
  | .hbm, ⟨14, _⟩ => ⟨S4224x2048, .f32⟩
  | .hbm, ⟨15, _⟩ => ⟨S4224x2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S4224x2048, .f32⟩
  | .hbm, ⟨20, _⟩ => ⟨S4224x2048, .f32⟩
  | .hbm, ⟨21, _⟩ => ⟨S4224x2048, .f32⟩
  | .hbm, ⟨22, _⟩ => ⟨S4224x2048, .f32⟩
  | .hbm, ⟨23, _⟩ => ⟨S1x2048, .f32⟩
  | .hbm, ⟨24, _⟩ => ⟨S2048, .f32⟩
  | .hbm, ⟨25, _⟩ => ⟨S1x2048, .f32⟩
  | .hbm, ⟨26, _⟩ => ⟨S4224x2048, .f32⟩
  | .hbm, ⟨27, _⟩ => ⟨S4224x2048, .f32⟩
  | .hbm, ⟨28, _⟩ => ⟨S4224x2048, .f32⟩
  | .hbm, ⟨29, _⟩ => ⟨S4224x2048, .f32⟩
  | .hbm, ⟨30, _⟩ => ⟨S1x2048, .f32⟩
  | .hbm, ⟨31, _⟩ => ⟨S2048, .f32⟩
  | .hbm, ⟨32, _⟩ => ⟨S1x2048, .f32⟩
  | .hbm, ⟨33, _⟩ => ⟨S4224x2048, .f32⟩
  | .hbm, ⟨34, _⟩ => ⟨S4224x2048, .f32⟩
  | .hbm, ⟨35, _⟩ => ⟨S4224x2048, .f32⟩
  | .hbm, ⟨36, _⟩ => ⟨S1x2048, .f32⟩
  | .hbm, ⟨37, _⟩ => ⟨S4224x2048, .f32⟩
  | .hbm, ⟨38, _⟩ => ⟨S4224x2048, .f32⟩
  | .hbm, ⟨39, _⟩ => ⟨S4224x2048, .f32⟩
  | .hbm, ⟨40, _⟩ => ⟨S4224x2048, .f32⟩
  | .hbm, ⟨41, _⟩ => ⟨S_, .f32⟩
  | .hbm, ⟨42, _⟩ => ⟨S4224x2048, .f32⟩
  | .hbm, ⟨43, _⟩ => ⟨S4224x2048, .f32⟩
  | .hbm, ⟨44, _⟩ => ⟨S_, .f32⟩
  | .hbm, ⟨45, _⟩ => ⟨S4224x2048, .f32⟩
  | .hbm, ⟨46, _⟩ => ⟨S4224x2048, .f32⟩
  | .hbm, ⟨47, _⟩ => ⟨S4224x2048, .f32⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_call0_v0 : Ref sig .tc := ⟨.hbm, 39, rfl⟩
abbrev main_call0_v1 : Ref sig .tc := ⟨.hbm, 40, rfl⟩
abbrev main_call0_cst : Ref sig .tc := ⟨.hbm, 41, rfl⟩
abbrev main_call0_v2 : Ref sig .tc := ⟨.hbm, 42, rfl⟩
abbrev main_call0_v3 : Ref sig .tc := ⟨.hbm, 43, rfl⟩
abbrev main_call0_cst_0 : Ref sig .tc := ⟨.hbm, 44, rfl⟩
abbrev main_call0_v4 : Ref sig .tc := ⟨.hbm, 45, rfl⟩
abbrev main_call0_v5 : Ref sig .tc := ⟨.hbm, 46, rfl⟩
abbrev main_v34 : Ref sig .tc := ⟨.hbm, 47, rfl⟩

abbrev nD : Nat := 1
abbrev τ : Topo := Topo.v7x

variable {F : FTy → Type} [FloatOps F]
-- ==== Kernel28.lean ====
abbrev S4224x1024 : Shape := ⟨2, ![4224, 1024]⟩
abbrev S4x1024 : Shape := ⟨2, ![4, 1024]⟩
abbrev S_ : Shape := ⟨0, ![]⟩
abbrev S1x1024 : Shape := ⟨2, ![1, 1024]⟩
abbrev S4224x256 : Shape := ⟨2, ![4224, 256]⟩
abbrev S4x256 : Shape := ⟨2, ![4, 256]⟩
abbrev S1x256 : Shape := ⟨2, ![1, 256]⟩
abbrev S8x256 : Shape := ⟨2, ![8, 256]⟩
abbrev S128x256 : Shape := ⟨2, ![128, 256]⟩
abbrev S136x256 : Shape := ⟨2, ![136, 256]⟩

abbrev nBuf : Space → Nat
  | .hbm => 5
  | .vmem => 8
  | .smem => 0
  | _ => 0

abbrev bufTy : (tb : Table) → Fin (tcTables nBuf tb) → BufTy
  | .hbm, ⟨0, _⟩ => ⟨S4224x1024, .f32⟩
  | .hbm, ⟨1, _⟩ => ⟨S4x1024, .f32⟩
  | .hbm, ⟨2, _⟩ => ⟨S_, .f32⟩
  | .hbm, ⟨3, _⟩ => ⟨S1x1024, .f32⟩
  | .hbm, ⟨4, _⟩ => ⟨S4224x1024, .f32⟩
  | .local _ .vmem, ⟨0, _⟩ => ⟨S4224x256, .f32⟩
  | .local _ .vmem, ⟨1, _⟩ => ⟨S4224x256, .f32⟩
  | .local _ .vmem, ⟨2, _⟩ => ⟨S4x256, .f32⟩
  | .local _ .vmem, ⟨3, _⟩ => ⟨S4x256, .f32⟩
  | .local _ .vmem, ⟨4, _⟩ => ⟨S1x256, .f32⟩
  | .local _ .vmem, ⟨5, _⟩ => ⟨S1x256, .f32⟩
  | .local _ .vmem, ⟨6, _⟩ => ⟨S4224x256, .f32⟩
  | .local _ .vmem, ⟨7, _⟩ => ⟨S4224x256, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![4], ![false]⟩

@[reducible] def k0_t1_loop : Scf.Loop 32 :=
  let c0_i32 : BitVec 32 := 0#32
  let c33_i32 : BitVec 32 := 33#32
  let v3 : BitVec 32 := Scalar.addi c0_i32 c33_i32
  let c1_i32 : BitVec 32 := 1#32
  ⟨c0_i32, v3, c1_i32⟩
def k0_mult1 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  v4
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let c8_i32 : BitVec 32 := 8#32
  let v6 : BitVec 32 := Scalar.subi v5 c8_i32
  let c0_i32_4 : BitVec 32 := 0#32
  let v7 : BitVec 32 := Scalar.maxsi v6 c0_i32_4
  v7
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let c8_i32 : BitVec 32 := 8#32
  let v6 : BitVec 32 := Scalar.subi v5 c8_i32
  let c0_i32_4 : BitVec 32 := 0#32
  let v7 : BitVec 32 := Scalar.maxsi v6 c0_i32_4
  let v9 : BitVec 32 := v7
  let v10 : Index := Scalar.indexCast v9
  let c0_6 : Index := 0#32
  ![v10.toNat, 0]
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c128_i32 : BitVec 32 := 128#32
  let v4 : BitVec 32 := Scalar.muli arg5 c128_i32
  let v5 : BitVec 32 := v4
  let v14 : Index := Scalar.indexCast v5
  let c0_7 : Index := 0#32
  ![v14.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S4224x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4224x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference28Ideal.lean ====
abbrev S4224x1024 : Shape := ⟨2, ![4224, 1024]⟩
abbrev S4x1024 : Shape := ⟨2, ![4, 1024]⟩
abbrev S_ : Shape := ⟨0, ![]⟩
abbrev S3x1024 : Shape := ⟨2, ![3, 1024]⟩
abbrev S4227x1024 : Shape := ⟨2, ![4227, 1024]⟩
abbrev S1x1024 : Shape := ⟨2, ![1, 1024]⟩
abbrev S1024 : Shape := ⟨1, ![1024]⟩

abbrev nBuf : Space → Nat
  | .hbm => 44
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4x1024, .f32⟩
  | .hbm, ⟨2, _⟩ => ⟨S_, .f32⟩
  | .hbm, ⟨3, _⟩ => ⟨S3x1024, .f32⟩
  | .hbm, ⟨4, _⟩ => ⟨S4227x1024, .f32⟩
  | .hbm, ⟨5, _⟩ => ⟨S4224x1024, .f32⟩
  | .hbm, ⟨6, _⟩ => ⟨S1x1024, .f32⟩
  | .hbm, ⟨7, _⟩ => ⟨S1024, .f32⟩
  | .hbm, ⟨8, _⟩ => ⟨S1x1024, .f32⟩
  | .hbm, ⟨9, _⟩ => ⟨S4224x1024, .f32⟩
  | .hbm, ⟨10, _⟩ => ⟨S4224x1024, .f32⟩
  | .hbm, ⟨11, _⟩ => ⟨S_, .f32⟩
  | .hbm, ⟨12, _⟩ => ⟨S4224x1024, .f32⟩
  | .hbm, ⟨13, _⟩ => ⟨S4224x1024, .f32⟩
  | .hbm, ⟨14, _⟩ => ⟨S4224x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S4224x1024, .f32⟩
  | .hbm, ⟨19, _⟩ => ⟨S4224x1024, .f32⟩
  | .hbm, ⟨20, _⟩ => ⟨S4224x1024, .f32⟩
  | .hbm, ⟨21, _⟩ => ⟨S4224x1024, .f32⟩
  | .hbm, ⟨22, _⟩ => ⟨S1x1024, .f32⟩
  | .hbm, ⟨23, _⟩ => ⟨S1024, .f32⟩
  | .hbm, ⟨24, _⟩ => ⟨S1x1024, .f32⟩
  | .hbm, ⟨25, _⟩ => ⟨S4224x1024, .f32⟩
  | .hbm, ⟨26, _⟩ => ⟨S4224x1024, .f32⟩
  | .hbm, ⟨27, _⟩ => ⟨S4224x1024, .f32⟩
  | .hbm, ⟨28, _⟩ => ⟨S4224x1024, .f32⟩
  | .hbm, ⟨29, _⟩ => ⟨S1x1024, .f32⟩
  | .hbm, ⟨30, _⟩ => ⟨S1024, .f32⟩
  | .hbm, ⟨31, _⟩ => ⟨S1x1024, .f32⟩
  | .hbm, ⟨32, _⟩ => ⟨S4224x1024, .f32⟩
  | .hbm, ⟨33, _⟩ => ⟨S4224x1024, .f32⟩
  | .hbm, ⟨34, _⟩ => ⟨S4224x1024, .f32⟩
  | .hbm, ⟨35, _⟩ => ⟨S4224x1024, .f32⟩
  | .hbm, ⟨36, _⟩ => ⟨S4224x1024, .f32⟩
  | .hbm, ⟨37, _⟩ => ⟨S_, .f32⟩
  | .hbm, ⟨38, _⟩ => ⟨S4224x1024, .f32⟩
  | .hbm, ⟨39, _⟩ => ⟨S4224x1024, .f32⟩
  | .hbm, ⟨40, _⟩ => ⟨S_, .f32⟩
  | .hbm, ⟨41, _⟩ => ⟨S4224x1024, .f32⟩
  | .hbm, ⟨42, _⟩ => ⟨S4224x1024, .f32⟩
  | .hbm, ⟨43, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_call0_v0 : Ref sig .tc := ⟨.hbm, 35, rfl⟩
abbrev main_call0_v1 : Ref sig .tc := ⟨.hbm, 36, rfl⟩
abbrev main_call0_cst : Ref sig .tc := ⟨.hbm, 37, rfl⟩
abbrev main_call0_v2 : Ref sig .tc := ⟨.hbm, 38, rfl⟩
abbrev main_call0_v3 : Ref sig .tc := ⟨.hbm, 39, rfl⟩
abbrev main_call0_cst_0 : Ref sig .tc := ⟨.hbm, 40, rfl⟩
abbrev main_call0_v4 : Ref sig .tc := ⟨.hbm, 41, rfl⟩
abbrev main_call0_v5 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Kernel23.lean ====
abbrev S4224x1024 : Shape := ⟨2, ![4224, 1024]⟩
abbrev S1024 : Shape := ⟨1, ![1024]⟩
abbrev S4096x1024 : Shape := ⟨2, ![4096, 1024]⟩
abbrev S1x1024 : Shape := ⟨2, ![1, 1024]⟩
abbrev S1x1 : Shape := ⟨2, ![1, 1]⟩
abbrev S128x1024 : Shape := ⟨2, ![128, 1024]⟩
abbrev S128 : Shape := ⟨1, ![128]⟩
abbrev S128x1 : Shape := ⟨2, ![128, 1]⟩
abbrev S1 : Shape := ⟨1, ![1]⟩
abbrev S1x1x1 : Shape := ⟨3, ![1, 1, 1]⟩

abbrev nBuf : Space → Nat
  | .hbm => 7
  | .vmem => 9
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1x1, .f32⟩
  | .hbm, ⟨5, _⟩ => ⟨S4224x1024, .f32⟩
  | .hbm, ⟨6, _⟩ => ⟨S1x1024, .f32⟩
  | .local _ .vmem, ⟨0, _⟩ => ⟨S128x1024, .f32⟩
  | .local _ .vmem, ⟨1, _⟩ => ⟨S128x1024, .f32⟩
  | .local _ .vmem, ⟨2, _⟩ => ⟨S1x1024, .f32⟩
  | .local _ .vmem, ⟨3, _⟩ => ⟨S128x1024, .f32⟩
  | .local _ .vmem, ⟨4, _⟩ => ⟨S128x1024, .f32⟩
  | .local _ .vmem, ⟨5, _⟩ => ⟨S1x1, .f32⟩
  | .local _ .vmem, ⟨6, _⟩ => ⟨S128x1024, .f32⟩
  | .local _ .vmem, ⟨7, _⟩ => ⟨S128x1024, .f32⟩
  | .local _ .vmem, ⟨8, _⟩ => ⟨S1x1024, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference23Ideal.lean ====
abbrev S4224x1024 : Shape := ⟨2, ![4224, 1024]⟩
abbrev S1024 : Shape := ⟨1, ![1024]⟩
abbrev S4096x1024 : Shape := ⟨2, ![4096, 1024]⟩
abbrev S_ : Shape := ⟨0, ![]⟩
abbrev S4224 : Shape := ⟨1, ![4224]⟩
abbrev S4224x1 : Shape := ⟨2, ![4224, 1]⟩
abbrev S1x1024 : Shape := ⟨2, ![1, 1024]⟩
abbrev S4096 : Shape := ⟨1, ![4096]⟩
abbrev S1x1 : Shape := ⟨2, ![1, 1]⟩

abbrev nBuf : Space → Nat
  | .hbm => 76
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024, .f32⟩
  | .hbm, ⟨2, _⟩ => ⟨S4096x1024, .f32⟩
  | .hbm, ⟨3, _⟩ => ⟨S4224x1024, .f32⟩
  | .hbm, ⟨4, _⟩ => ⟨S_, .f32⟩
  | .hbm, ⟨5, _⟩ => ⟨S4224, .f32⟩
  | .hbm, ⟨6, _⟩ => ⟨S4224x1, .f32⟩
  | .hbm, ⟨7, _⟩ => ⟨S_, .f32⟩
  | .hbm, ⟨8, _⟩ => ⟨S4224x1, .f32⟩
  | .hbm, ⟨9, _⟩ => ⟨S4224x1, .f32⟩
  | .hbm, ⟨10, _⟩ => ⟨S_, .f32⟩
  | .hbm, ⟨11, _⟩ => ⟨S4224x1, .f32⟩
  | .hbm, ⟨12, _⟩ => ⟨S4224x1, .f32⟩
  | .hbm, ⟨13, _⟩ => ⟨S4224x1, .f32⟩
  | .hbm, ⟨14, _⟩ => ⟨S4224x1, .f32⟩
  | .hbm, ⟨15, _⟩ => ⟨S_, .f32⟩
  | .hbm, ⟨16, _⟩ => ⟨S4224x1, .f32⟩
  | .hbm, ⟨17, _⟩ => ⟨S4224x1, .f32⟩
  | .hbm, ⟨18, _⟩ => ⟨S4224x1024, .f32⟩
  | .hbm, ⟨19, _⟩ => ⟨S4224x1024, .f32⟩
  | .hbm, ⟨20, _⟩ => ⟨S1x1024, .f32⟩
  | .hbm, ⟨21, _⟩ => ⟨S4224x1024, .f32⟩
  | .hbm, ⟨22, _⟩ => ⟨S4224x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S_, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S4096, .f32⟩
  | .hbm, ⟨31, _⟩ => ⟨S_, .f32⟩
  | .hbm, ⟨32, _⟩ => ⟨S4096, .f32⟩
  | .hbm, ⟨33, _⟩ => ⟨S4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S4096, .f32⟩
  | .hbm, ⟨42, _⟩ => ⟨S_, .f32⟩
  | .hbm, ⟨43, _⟩ => ⟨S4096, .f32⟩
  | .hbm, ⟨44, _⟩ => ⟨S4096, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S4224x1024, .f32⟩
  | .hbm, ⟨49, _⟩ => ⟨S4224x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4224x1024, .f32⟩
  | .hbm, ⟨54, _⟩ => ⟨S4224x1024, .f32⟩
  | .hbm, ⟨55, _⟩ => ⟨S_, .f32⟩
  | .hbm, ⟨56, _⟩ => ⟨S1024, .f32⟩
  | .hbm, ⟨57, _⟩ => ⟨S4224x1024, .f32⟩
  | .hbm, ⟨58, _⟩ => ⟨S_, .f32⟩
  | .hbm, ⟨59, _⟩ => ⟨S4224, .f32⟩
  | .hbm, ⟨60, _⟩ => ⟨S4224x1, .f32⟩
  | .hbm, ⟨61, _⟩ => ⟨S4224x1024, .f32⟩
  | .hbm, ⟨62, _⟩ => ⟨S4224x1024, .f32⟩
  | .hbm, ⟨63, _⟩ => ⟨S4224x1, .f32⟩
  | .hbm, ⟨64, _⟩ => ⟨S_, .f32⟩
  | .hbm, ⟨65, _⟩ => ⟨S4224x1, .f32⟩
  | .hbm, ⟨66, _⟩ => ⟨S4224x1, .f32⟩
  | .hbm, ⟨67, _⟩ => ⟨S_, .f32⟩
  | .hbm, ⟨68, _⟩ => ⟨S4224, .f32⟩
  | .hbm, ⟨69, _⟩ => ⟨S4224x1024, .f32⟩
  | .hbm, ⟨70, _⟩ => ⟨S4224x1024, .f32⟩
  | .hbm, ⟨71, _⟩ => ⟨S4224x1024, .f32⟩
  | .hbm, ⟨72, _⟩ => ⟨S4224x1024, .f32⟩
  | .hbm, ⟨73, _⟩ => ⟨S4224x1024, .f32⟩
  | .hbm, ⟨74, _⟩ => ⟨S1x1, .f32⟩
  | .hbm, ⟨75, _⟩ => ⟨S1x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_cst_12 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_cst_14 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_cst_16 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== Kernel24.lean ====
abbrev S1024x1536 : Shape := ⟨2, ![1024, 1536]⟩
abbrev S3x1024x1536 : Shape := ⟨3, ![3, 1024, 1536]⟩
abbrev S2x1024x1536 : Shape := ⟨3, ![2, 1024, 1536]⟩
abbrev S1x1024x1536 : Shape := ⟨3, ![1, 1024, 1536]⟩
abbrev S1x128x1536 : Shape := ⟨3, ![1, 128, 1536]⟩
abbrev S3x128x1536 : Shape := ⟨3, ![3, 128, 1536]⟩
abbrev S2x128x1536 : Shape := ⟨3, ![2, 128, 1536]⟩
abbrev S128x1536 : Shape := ⟨2, ![128, 1536]⟩

abbrev nBuf : Space → Nat
  | .hbm => 13
  | .vmem => 22
  | .smem => 0
  | _ => 0

abbrev bufTy : (tb : Table) → Fin (tcTables nBuf tb) → BufTy
  | .hbm, ⟨0, _⟩ => ⟨S1024x1536, .f32⟩
  | .hbm, ⟨1, _⟩ => ⟨S3x1024x1536, .bf16⟩
  | .hbm, ⟨2, _⟩ => ⟨S1024x1536, .f32⟩
  | .hbm, ⟨3, _⟩ => ⟨S3x1024x1536, .bf16⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S1x1024x1536, .f32⟩
  | .hbm, ⟨8, _⟩ => ⟨S1x1024x1536, .f32⟩
  | .hbm, ⟨9, _⟩ => ⟨S2x1024x1536, .f32⟩
  | .hbm, ⟨10, _⟩ => ⟨S2x1024x1536, .f32⟩
  | .hbm, ⟨11, _⟩ => ⟨S2x1024x1536, .f32⟩
  | .hbm, ⟨12, _⟩ => ⟨S2x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S3x128x1536, .bf16⟩
  | .local _ .vmem, ⟨3, _⟩ => ⟨S3x128x1536, .bf16⟩
  | .local _ .vmem, ⟨4, _⟩ => ⟨S1x128x1536, .f32⟩
  | .local _ .vmem, ⟨5, _⟩ => ⟨S1x128x1536, .f32⟩
  | .local _ .vmem, ⟨6, _⟩ => ⟨S3x128x1536, .bf16⟩
  | .local _ .vmem, ⟨7, _⟩ => ⟨S3x128x1536, .bf16⟩
  | .local _ .vmem, ⟨8, _⟩ => ⟨S2x128x1536, .f32⟩
  | .local _ .vmem, ⟨9, _⟩ => ⟨S2x128x1536, .f32⟩
  | .local _ .vmem, ⟨10, _⟩ => ⟨S2x128x1536, .f32⟩
  | .local _ .vmem, ⟨11, _⟩ => ⟨S2x128x1536, .f32⟩
  | .local _ .vmem, ⟨12, _⟩ => ⟨S2x128x1536, .f32⟩
  | .local _ .vmem, ⟨13, _⟩ => ⟨S2x128x1536, .f32⟩
  | .local _ .vmem, ⟨14, _⟩ => ⟨S2x128x1536, .f32⟩
  | .local _ .vmem, ⟨15, _⟩ => ⟨S2x128x1536, .f32⟩
  | .local _ .vmem, ⟨16, _⟩ => ⟨S2x128x1536, .f32⟩
  | .local _ .vmem, ⟨17, _⟩ => ⟨S2x128x1536, .f32⟩
  | .local _ .vmem, ⟨18, _⟩ => ⟨S2x128x1536, .f32⟩
  | .local _ .vmem, ⟨19, _⟩ => ⟨S2x128x1536, .f32⟩
  | .local _ .vmem, ⟨20, _⟩ => ⟨S2x128x1536, .f32⟩
  | .local _ .vmem, ⟨21, _⟩ => ⟨S2x128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel24Ideal.lean ====
abbrev S1024x1536 : Shape := ⟨2, ![1024, 1536]⟩
abbrev S3x1024x1536 : Shape := ⟨3, ![3, 1024, 1536]⟩
abbrev S2x1024x1536 : Shape := ⟨3, ![2, 1024, 1536]⟩
abbrev S1x1024x1536 : Shape := ⟨3, ![1, 1024, 1536]⟩
abbrev S1x128x1536 : Shape := ⟨3, ![1, 128, 1536]⟩
abbrev S3x128x1536 : Shape := ⟨3, ![3, 128, 1536]⟩
abbrev S2x128x1536 : Shape := ⟨3, ![2, 128, 1536]⟩
abbrev S128x1536 : Shape := ⟨2, ![128, 1536]⟩

abbrev nBuf : Space → Nat
  | .hbm => 13
  | .vmem => 22
  | .smem => 0
  | _ => 0

abbrev bufTy : (tb : Table) → Fin (tcTables nBuf tb) → BufTy
  | .hbm, ⟨0, _⟩ => ⟨S1024x1536, .f32⟩
  | .hbm, ⟨1, _⟩ => ⟨S3x1024x1536, .bf16⟩
  | .hbm, ⟨2, _⟩ => ⟨S1024x1536, .f32⟩
  | .hbm, ⟨3, _⟩ => ⟨S3x1024x1536, .bf16⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S1x1024x1536, .f32⟩
  | .hbm, ⟨8, _⟩ => ⟨S1x1024x1536, .f32⟩
  | .hbm, ⟨9, _⟩ => ⟨S2x1024x1536, .f32⟩
  | .hbm, ⟨10, _⟩ => ⟨S2x1024x1536, .f32⟩
  | .hbm, ⟨11, _⟩ => ⟨S2x1024x1536, .f32⟩
  | .hbm, ⟨12, _⟩ => ⟨S2x1024x1536, .f32⟩
  | .local _ .vmem, ⟨0, _⟩ => ⟨S1x128x1536, .f32⟩
  | .local _ .vmem, ⟨1, _⟩ => ⟨S1x128x1536, .f32⟩
  | .local _ .vmem, ⟨2, _⟩ => ⟨S3x128x1536, .bf16⟩
  | .local _ .vmem, ⟨3, _⟩ => ⟨S3x128x1536, .bf16⟩
  | .local _ .vmem, ⟨4, _⟩ => ⟨S1x128x1536, .f32⟩
  | .local _ .vmem, ⟨5, _⟩ => ⟨S1x128x1536, .f32⟩
  | .local _ .vmem, ⟨6, _⟩ => ⟨S3x128x1536, .bf16⟩
  | .local _ .vmem, ⟨7, _⟩ => ⟨S3x128x1536, .bf16⟩
  | .local _ .vmem, ⟨8, _⟩ => ⟨S2x128x1536, .f32⟩
  | .local _ .vmem, ⟨9, _⟩ => ⟨S2x128x1536, .f32⟩
  | .local _ .vmem, ⟨10, _⟩ => ⟨S2x128x1536, .f32⟩
  | .local _ .vmem, ⟨11, _⟩ => ⟨S2x128x1536, .f32⟩
  | .local _ .vmem, ⟨12, _⟩ => ⟨S2x128x1536, .f32⟩
  | .local _ .vmem, ⟨13, _⟩ => ⟨S2x128x1536, .f32⟩
  | .local _ .vmem, ⟨14, _⟩ => ⟨S2x128x1536, .f32⟩
  | .local _ .vmem, ⟨15, _⟩ => ⟨S2x128x1536, .f32⟩
  | .local _ .vmem, ⟨16, _⟩ => ⟨S2x128x1536, .f32⟩
  | .local _ .vmem, ⟨17, _⟩ => ⟨S2x128x1536, .f32⟩
  | .local _ .vmem, ⟨18, _⟩ => ⟨S2x128x1536, .f32⟩
  | .local _ .vmem, ⟨19, _⟩ => ⟨S2x128x1536, .f32⟩
  | .local _ .vmem, ⟨20, _⟩ => ⟨S2x128x1536, .f32⟩
  | .local _ .vmem, ⟨21, _⟩ => ⟨S2x128x1536, .f32⟩
  | _, _ => ⟨S1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x128x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x128x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x128x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x128x1536 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x128x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x128x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x128x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x128x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x128x1536 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x128x1536 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x128x1536 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference24Ideal.lean ====
abbrev S1024x1536 : Shape := ⟨2, ![1024, 1536]⟩
abbrev S3x1024x1536 : Shape := ⟨3, ![3, 1024, 1536]⟩
abbrev S2x1024x1536 : Shape := ⟨3, ![2, 1024, 1536]⟩
abbrev S_ : Shape := ⟨0, ![]⟩
abbrev S1x1024x1536 : Shape := ⟨3, ![1, 1024, 1536]⟩

abbrev nBuf : Space → Nat
  | .hbm => 51
  | .vmem => 0
  | .smem => 0
  | _ => 0

abbrev bufTy : (tb : Table) → Fin (tcTables nBuf tb) → BufTy
  | .hbm, ⟨0, _⟩ => ⟨S1024x1536, .f32⟩
  | .hbm, ⟨1, _⟩ => ⟨S3x1024x1536, .bf16⟩
  | .hbm, ⟨2, _⟩ => ⟨S1024x1536, .f32⟩
  | .hbm, ⟨3, _⟩ => ⟨S3x1024x1536, .bf16⟩
  | .hbm, ⟨4, _⟩ => ⟨S2x1024x1536, .f32⟩
  | .hbm, ⟨5, _⟩ => ⟨S2x1024x1536, .f32⟩
  | .hbm, ⟨6, _⟩ => ⟨S2x1024x1536, .f32⟩
  | .hbm, ⟨7, _⟩ => ⟨S3x1024x1536, .f32⟩
  | .hbm, ⟨8, _⟩ => ⟨S_, .f32⟩
  | .hbm, ⟨9, _⟩ => ⟨S1024x1536, .f32⟩
  | .hbm, ⟨10, _⟩ => ⟨S1024x1536, .f32⟩
  | .hbm, ⟨11, _⟩ => ⟨S3x1024x1536, .f32⟩
  | .hbm, ⟨12, _⟩ => ⟨S_, .f32⟩
  | .hbm, ⟨13, _⟩ => ⟨S1024x1536, .f32⟩
  | .hbm, ⟨14, _⟩ => ⟨S1024x1536, .f32⟩
  | .hbm, ⟨15, _⟩ => ⟨S1x1024x1536, .f32⟩
  | .hbm, ⟨16, _⟩ => ⟨S1x1024x1536, .f32⟩
  | .hbm, ⟨17, _⟩ => ⟨S2x1024x1536, .f32⟩
  | .hbm, ⟨18, _⟩ => ⟨S_, .f32⟩
  | .hbm, ⟨19, _⟩ => ⟨S2x1024x1536, .f32⟩
  | .hbm, ⟨20, _⟩ => ⟨S2x1024x1536, .f32⟩
  | .hbm, ⟨21, _⟩ => ⟨S_, .f32⟩
  | .hbm, ⟨22, _⟩ => ⟨S2x1024x1536, .f32⟩
  | .hbm, ⟨23, _⟩ => ⟨S2x1024x1536, .f32⟩
  | .hbm, ⟨24, _⟩ => ⟨S2x1024x1536, .f32⟩
  | .hbm, ⟨25, _⟩ => ⟨S_, .f32⟩
  | .hbm, ⟨26, _⟩ => ⟨S2x1024x1536, .f32⟩
  | .hbm, ⟨27, _⟩ => ⟨S2x1024x1536, .f32⟩
  | .hbm, ⟨28, _⟩ => ⟨S2x1024x1536, .f32⟩
  | .hbm, ⟨29, _⟩ => ⟨S_, .f32⟩
  | .hbm, ⟨30, _⟩ => ⟨S2x1024x1536, .f32⟩
  | .hbm, ⟨31, _⟩ => ⟨S2x1024x1536, .f32⟩
  | .hbm, ⟨32, _⟩ => ⟨S2x1024x1536, .f32⟩
  | .hbm, ⟨33, _⟩ => ⟨S_, .f32⟩
  | .hbm, ⟨34, _⟩ => ⟨S2x1024x1536, .f32⟩
  | .hbm, ⟨35, _⟩ => ⟨S2x1024x1536, .f32⟩
  | .hbm, ⟨36, _⟩ => ⟨S_, .f32⟩
  | .hbm, ⟨37, _⟩ => ⟨S2x1024x1536, .f32⟩
  | .hbm, ⟨38, _⟩ => ⟨S2x1024x1536, .f32⟩
  | .hbm, ⟨39, _⟩ => ⟨S2x1024x1536, .f32⟩
  | .hbm, ⟨40, _⟩ => ⟨S_, .f32⟩
  | .hbm, ⟨41, _⟩ => ⟨S2x1024x1536, .f32⟩
  | .hbm, ⟨42, _⟩ => ⟨S2x1024x1536, .f32⟩
  | .hbm, ⟨43, _⟩ => ⟨S2x1024x1536, .f32⟩
  | .hbm, ⟨44, _⟩ => ⟨S_, .f32⟩
  | .hbm, ⟨45, _⟩ => ⟨S2x1024x1536, .f32⟩
  | .hbm, ⟨46, _⟩ => ⟨S2x1024x1536, .f32⟩
  | .hbm, ⟨47, _⟩ => ⟨S2x1024x1536, .f32⟩
  | .hbm, ⟨48, _⟩ => ⟨S_, .f32⟩
  | .hbm, ⟨49, _⟩ => ⟨S2x1024x1536, .f32⟩
  | .hbm, ⟨50, _⟩ => ⟨S2x1024x1536, .f32⟩
  | _, _ => ⟨S1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel25.lean ====
abbrev S128x1024 : Shape := ⟨2, ![128, 1024]⟩
abbrev S3x128x1024 : Shape := ⟨3, ![3, 128, 1024]⟩
abbrev S2x128x1024 : Shape := ⟨3, ![2, 128, 1024]⟩
abbrev S1x128x1024 : Shape := ⟨3, ![1, 128, 1024]⟩

abbrev nBuf : Space → Nat
  | .hbm => 13
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S3x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S1x128x1024, .f32⟩
  | .hbm, ⟨8, _⟩ => ⟨S1x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S1x128x1024, .f32⟩
  | .local _ .vmem, ⟨1, _⟩ => ⟨S3x128x1024, .bf16⟩
  | .local _ .vmem, ⟨2, _⟩ => ⟨S1x128x1024, .f32⟩
  | .local _ .vmem, ⟨3, _⟩ => ⟨S3x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Kernel25Ideal.lean ====
abbrev S128x1024 : Shape := ⟨2, ![128, 1024]⟩
abbrev S3x128x1024 : Shape := ⟨3, ![3, 128, 1024]⟩
abbrev S2x128x1024 : Shape := ⟨3, ![2, 128, 1024]⟩
abbrev S1x128x1024 : Shape := ⟨3, ![1, 128, 1024]⟩

abbrev nBuf : Space → Nat
  | .hbm => 13
  | .vmem => 11
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S3x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S1x128x1024, .f32⟩
  | .hbm, ⟨8, _⟩ => ⟨S1x128x1024, .f32⟩
  | .hbm, ⟨9, _⟩ => ⟨S2x128x1024, .f32⟩
  | .hbm, ⟨10, _⟩ => ⟨S2x128x1024, .f32⟩
  | .hbm, ⟨11, _⟩ => ⟨S2x128x1024, .f32⟩
  | .hbm, ⟨12, _⟩ => ⟨S2x128x1024, .f32⟩
  | .local _ .vmem, ⟨0, _⟩ => ⟨S1x128x1024, .f32⟩
  | .local _ .vmem, ⟨1, _⟩ => ⟨S3x128x1024, .bf16⟩
  | .local _ .vmem, ⟨2, _⟩ => ⟨S1x128x1024, .f32⟩
  | .local _ .vmem, ⟨3, _⟩ => ⟨S3x128x1024, .bf16⟩
  | .local _ .vmem, ⟨4, _⟩ => ⟨S2x128x1024, .f32⟩
  | .local _ .vmem, ⟨5, _⟩ => ⟨S2x128x1024, .f32⟩
  | .local _ .vmem, ⟨6, _⟩ => ⟨S2x128x1024, .f32⟩
  | .local _ .vmem, ⟨7, _⟩ => ⟨S2x128x1024, .f32⟩
  | .local _ .vmem, ⟨8, _⟩ => ⟨S2x128x1024, .f32⟩
  | .local _ .vmem, ⟨9, _⟩ => ⟨S2x128x1024, .f32⟩
  | .local _ .vmem, ⟨10, _⟩ => ⟨S2x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S3x128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S3x128x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S2x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S2x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S2x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S2x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S2x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S2x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S2x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]
-- ==== Reference25Ideal.lean ====
abbrev S128x1024 : Shape := ⟨2, ![128, 1024]⟩
abbrev S3x128x1024 : Shape := ⟨3, ![3, 128, 1024]⟩
abbrev S2x128x1024 : Shape := ⟨3, ![2, 128, 1024]⟩
abbrev S_ : Shape := ⟨0, ![]⟩
abbrev S1x128x1024 : Shape := ⟨3, ![1, 128, 1024]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S3x128x1024, .bf16⟩
  | .hbm, ⟨2, _⟩ => ⟨S128x1024, .f32⟩
  | .hbm, ⟨3, _⟩ => ⟨S3x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S3x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S3x128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S1x128x1024, .f32⟩
  | .hbm, ⟨16, _⟩ => ⟨S1x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel26.lean ====
abbrev S1024x512 : Shape := ⟨2, ![1024, 512]⟩
abbrev S3x1024x512 : Shape := ⟨3, ![3, 1024, 512]⟩
abbrev S2x1024x512 : Shape := ⟨3, ![2, 1024, 512]⟩
abbrev S1x1024x512 : Shape := ⟨3, ![1, 1024, 512]⟩
abbrev S1x256x512 : Shape := ⟨3, ![1, 256, 512]⟩
abbrev S3x256x512 : Shape := ⟨3, ![3, 256, 512]⟩
abbrev S2x256x512 : Shape := ⟨3, ![2, 256, 512]⟩
abbrev S256x512 : Shape := ⟨2, ![256, 512]⟩

abbrev nBuf : Space → Nat
  | .hbm => 13
  | .vmem => 22
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S3x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S1x1024x512, .f32⟩
  | .hbm, ⟨8, _⟩ => ⟨S1x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S3x256x512, .bf16⟩
  | .local _ .vmem, ⟨3, _⟩ => ⟨S3x256x512, .bf16⟩
  | .local _ .vmem, ⟨4, _⟩ => ⟨S1x256x512, .f32⟩
  | .local _ .vmem, ⟨5, _⟩ => ⟨S1x256x512, .f32⟩
  | .local _ .vmem, ⟨6, _⟩ => ⟨S3x256x512, .bf16⟩
  | .local _ .vmem, ⟨7, _⟩ => ⟨S3x256x512, .bf16⟩
  | .local _ .vmem, ⟨8, _⟩ => ⟨S2x256x512, .f32⟩
  | .local _ .vmem, ⟨9, _⟩ => ⟨S2x256x512, .f32⟩
  | .local _ .vmem, ⟨10, _⟩ => ⟨S2x256x512, .f32⟩
  | .local _ .vmem, ⟨11, _⟩ => ⟨S2x256x512, .f32⟩
  | .local _ .vmem, ⟨12, _⟩ => ⟨S2x256x512, .f32⟩
  | .local _ .vmem, ⟨13, _⟩ => ⟨S2x256x512, .f32⟩
  | .local _ .vmem, ⟨14, _⟩ => ⟨S2x256x512, .f32⟩
  | .local _ .vmem, ⟨15, _⟩ => ⟨S2x256x512, .f32⟩
  | .local _ .vmem, ⟨16, _⟩ => ⟨S2x256x512, .f32⟩
  | .local _ .vmem, ⟨17, _⟩ => ⟨S2x256x512, .f32⟩
  | .local _ .vmem, ⟨18, _⟩ => ⟨S2x256x512, .f32⟩
  | .local _ .vmem, ⟨19, _⟩ => ⟨S2x256x512, .f32⟩
  | .local _ .vmem, ⟨20, _⟩ => ⟨S2x256x512, .f32⟩
  | .local _ .vmem, ⟨21, _⟩ => ⟨S2x256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Kernel26Ideal.lean ====
abbrev S1024x512 : Shape := ⟨2, ![1024, 512]⟩
abbrev S3x1024x512 : Shape := ⟨3, ![3, 1024, 512]⟩
abbrev S2x1024x512 : Shape := ⟨3, ![2, 1024, 512]⟩
abbrev S1x1024x512 : Shape := ⟨3, ![1, 1024, 512]⟩
abbrev S1x256x512 : Shape := ⟨3, ![1, 256, 512]⟩
abbrev S3x256x512 : Shape := ⟨3, ![3, 256, 512]⟩
abbrev S2x256x512 : Shape := ⟨3, ![2, 256, 512]⟩
abbrev S256x512 : Shape := ⟨2, ![256, 512]⟩

abbrev nBuf : Space → Nat
  | .hbm => 13
  | .vmem => 22
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S3x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S1x1024x512, .f32⟩
  | .hbm, ⟨8, _⟩ => ⟨S1x1024x512, .f32⟩
  | .hbm, ⟨9, _⟩ => ⟨S2x1024x512, .f32⟩
  | .hbm, ⟨10, _⟩ => ⟨S2x1024x512, .f32⟩
  | .hbm, ⟨11, _⟩ => ⟨S2x1024x512, .f32⟩
  | .hbm, ⟨12, _⟩ => ⟨S2x1024x512, .f32⟩
  | .local _ .vmem, ⟨0, _⟩ => ⟨S1x256x512, .f32⟩
  | .local _ .vmem, ⟨1, _⟩ => ⟨S1x256x512, .f32⟩
  | .local _ .vmem, ⟨2, _⟩ => ⟨S3x256x512, .bf16⟩
  | .local _ .vmem, ⟨3, _⟩ => ⟨S3x256x512, .bf16⟩
  | .local _ .vmem, ⟨4, _⟩ => ⟨S1x256x512, .f32⟩
  | .local _ .vmem, ⟨5, _⟩ => ⟨S1x256x512, .f32⟩
  | .local _ .vmem, ⟨6, _⟩ => ⟨S3x256x512, .bf16⟩
  | .local _ .vmem, ⟨7, _⟩ => ⟨S3x256x512, .bf16⟩
  | .local _ .vmem, ⟨8, _⟩ => ⟨S2x256x512, .f32⟩
  | .local _ .vmem, ⟨9, _⟩ => ⟨S2x256x512, .f32⟩
  | .local _ .vmem, ⟨10, _⟩ => ⟨S2x256x512, .f32⟩
  | .local _ .vmem, ⟨11, _⟩ => ⟨S2x256x512, .f32⟩
  | .local _ .vmem, ⟨12, _⟩ => ⟨S2x256x512, .f32⟩
  | .local _ .vmem, ⟨13, _⟩ => ⟨S2x256x512, .f32⟩
  | .local _ .vmem, ⟨14, _⟩ => ⟨S2x256x512, .f32⟩
  | .local _ .vmem, ⟨15, _⟩ => ⟨S2x256x512, .f32⟩
  | .local _ .vmem, ⟨16, _⟩ => ⟨S2x256x512, .f32⟩
  | .local _ .vmem, ⟨17, _⟩ => ⟨S2x256x512, .f32⟩
  | .local _ .vmem, ⟨18, _⟩ => ⟨S2x256x512, .f32⟩
  | .local _ .vmem, ⟨19, _⟩ => ⟨S2x256x512, .f32⟩
  | .local _ .vmem, ⟨20, _⟩ => ⟨S2x256x512, .f32⟩
  | .local _ .vmem, ⟨21, _⟩ => ⟨S2x256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference26Ideal.lean ====
abbrev S1024x512 : Shape := ⟨2, ![1024, 512]⟩
abbrev S3x1024x512 : Shape := ⟨3, ![3, 1024, 512]⟩
abbrev S2x1024x512 : Shape := ⟨3, ![2, 1024, 512]⟩
abbrev S_ : Shape := ⟨0, ![]⟩
abbrev S1x1024x512 : Shape := ⟨3, ![1, 1024, 512]⟩

abbrev nBuf : Space → Nat
  | .hbm => 51
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S3x1024x512, .bf16⟩
  | .hbm, ⟨2, _⟩ => ⟨S1024x512, .f32⟩
  | .hbm, ⟨3, _⟩ => ⟨S3x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S3x1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S3x1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S2x1024x512, .f32⟩
  | .hbm, ⟨18, _⟩ => ⟨S_, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S2x1024x512, .f32⟩
  | .hbm, ⟨33, _⟩ => ⟨S_, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | .hbm, ⟨47, _⟩ => ⟨S2x1024x512, .f32⟩
  | .hbm, ⟨48, _⟩ => ⟨S_, .f32⟩
  | .hbm, ⟨49, _⟩ => ⟨S2x1024x512, .f32⟩
  | .hbm, ⟨50, _⟩ => ⟨S2x1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel27.lean ====
abbrev S512x1024 : Shape := ⟨2, ![512, 1024]⟩
abbrev S3x512x1024 : Shape := ⟨3, ![3, 512, 1024]⟩
abbrev S2x512x1024 : Shape := ⟨3, ![2, 512, 1024]⟩
abbrev S1x512x1024 : Shape := ⟨3, ![1, 512, 1024]⟩
abbrev S1x256x1024 : Shape := ⟨3, ![1, 256, 1024]⟩
abbrev S3x256x1024 : Shape := ⟨3, ![3, 256, 1024]⟩
abbrev S2x256x1024 : Shape := ⟨3, ![2, 256, 1024]⟩
abbrev S256x1024 : Shape := ⟨2, ![256, 1024]⟩

abbrev nBuf : Space → Nat
  | .hbm => 13
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S3x512x1024, .bf16⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S1x512x1024, .f32⟩
  | .hbm, ⟨8, _⟩ => ⟨S1x512x1024, .f32⟩
  | .hbm, ⟨9, _⟩ => ⟨S2x512x1024, .f32⟩
  | .hbm, ⟨10, _⟩ => ⟨S2x512x1024, .f32⟩
  | .hbm, ⟨11, _⟩ => ⟨S2x512x1024, .f32⟩
  | .hbm, ⟨12, _⟩ => ⟨S2x512x1024, .f32⟩
  | .local _ .vmem, ⟨0, _⟩ => ⟨S1x256x1024, .f32⟩
  | .local _ .vmem, ⟨1, _⟩ => ⟨S1x256x1024, .f32⟩
  | .local _ .vmem, ⟨2, _⟩ => ⟨S3x256x1024, .bf16⟩
  | .local _ .vmem, ⟨3, _⟩ => ⟨S3x256x1024, .bf16⟩
  | .local _ .vmem, ⟨4, _⟩ => ⟨S1x256x1024, .f32⟩
  | .local _ .vmem, ⟨5, _⟩ => ⟨S1x256x1024, .f32⟩
  | .local _ .vmem, ⟨6, _⟩ => ⟨S3x256x1024, .bf16⟩
  | .local _ .vmem, ⟨7, _⟩ => ⟨S3x256x1024, .bf16⟩
  | .local _ .vmem, ⟨8, _⟩ => ⟨S2x256x1024, .f32⟩
  | .local _ .vmem, ⟨9, _⟩ => ⟨S2x256x1024, .f32⟩
  | .local _ .vmem, ⟨10, _⟩ => ⟨S2x256x1024, .f32⟩
  | .local _ .vmem, ⟨11, _⟩ => ⟨S2x256x1024, .f32⟩
  | .local _ .vmem, ⟨12, _⟩ => ⟨S2x256x1024, .f32⟩
  | .local _ .vmem, ⟨13, _⟩ => ⟨S2x256x1024, .f32⟩
  | .local _ .vmem, ⟨14, _⟩ => ⟨S2x256x1024, .f32⟩
  | .local _ .vmem, ⟨15, _⟩ => ⟨S2x256x1024, .f32⟩
  | .local _ .vmem, ⟨16, _⟩ => ⟨S2x256x1024, .f32⟩
  | .local _ .vmem, ⟨17, _⟩ => ⟨S2x256x1024, .f32⟩
  | .local _ .vmem, ⟨18, _⟩ => ⟨S2x256x1024, .f32⟩
  | .local _ .vmem, ⟨19, _⟩ => ⟨S2x256x1024, .f32⟩
  | .local _ .vmem, ⟨20, _⟩ => ⟨S2x256x1024, .f32⟩
  | .local _ .vmem, ⟨21, _⟩ => ⟨S2x256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S3x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S2x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S2x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference27Ideal.lean ====
abbrev S512x1024 : Shape := ⟨2, ![512, 1024]⟩
abbrev S3x512x1024 : Shape := ⟨3, ![3, 512, 1024]⟩
abbrev S2x512x1024 : Shape := ⟨3, ![2, 512, 1024]⟩
abbrev S_ : Shape := ⟨0, ![]⟩
abbrev S1x512x1024 : Shape := ⟨3, ![1, 512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S3x512x1024, .bf16⟩
  | .hbm, ⟨2, _⟩ => ⟨S512x1024, .f32⟩
  | .hbm, ⟨3, _⟩ => ⟨S3x512x1024, .bf16⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S3x512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S3x512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S1x512x1024, .f32⟩
  | .hbm, ⟨16, _⟩ => ⟨S1x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | .hbm, ⟨47, _⟩ => ⟨S2x512x1024, .f32⟩
  | .hbm, ⟨48, _⟩ => ⟨S_, .f32⟩
  | .hbm, ⟨49, _⟩ => ⟨S2x512x1024, .f32⟩
  | .hbm, ⟨50, _⟩ => ⟨S2x512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.Core.lean ====
/-
  The mathematics of a windowed softmax attention with a sink, and of its gradient, over the extended reals: one query
  row's quantities over any finite family of keys, how they pass between the 384 keys a grid point reads and all the
  4224 keys, and how a key's column sum splits into the parts the grid points add.
-/
module

public import Idealize.ShloMosaic.Lib.Pointwise

@[expose] public section
noncomputable section
namespace Swa
open Idealize.ShloMosaic

/-! ## One query row -/

section Row
variable {κ : Type} [Fintype κ]

/-- The larger of the largest score and the sink. -/
def rMax (s : κ → EReal) (sk : EReal) : EReal := max (Finset.univ.sup s) sk
/-- A score's exponential. -/
def rExp (s : κ → EReal) (sk : EReal) (c : κ) : EReal := Ideal.exp (s c - rMax s sk)
/-- The sink's exponential. -/
def rSink (s : κ → EReal) (sk : EReal) : EReal := Ideal.exp (sk - rMax s sk)
/-- The softmax's denominator. -/
def rDen (s : κ → EReal) (sk : EReal) : EReal := ∑ c, rExp s sk c + rSink s sk
/-- A key's probability. -/
def rProb (s : κ → EReal) (sk : EReal) (c : κ) : EReal := Ideal.div (rExp s sk c) (rDen s sk)
/-- One over the square of the denominator. -/
def rSq (s : κ → EReal) (sk : EReal) : EReal := Ideal.div 1 (rDen s sk * rDen s sk)
/-- The gradient at the denominator, `dp` being the gradient at the probabilities. -/
def rC (s : κ → EReal) (sk : EReal) (dp : κ → EReal) : EReal := 0 - ∑ c, dp c * rSq s sk * rExp s sk c
/-- The gradient at a score. -/
def rDs (s : κ → EReal) (sk : EReal) (dp : κ → EReal) (c : κ) : EReal :=
  (Ideal.div (dp c) (rDen s sk) + rC s sk dp) * rExp s sk c

theorem rExp_off {ok : κ → Prop} {s : κ → EReal} (z : ∀ c, ¬ok c → s c = ⊥) (sk : EReal) (c : κ) (hc : ¬ok c) :
    rExp s sk c = 0 := by
  unfold rExp; rw [z c hc, EReal.bot_sub]; rfl

end Row

/-- `φ` carries the keys a point may see one to one onto the keys the row may see. -/
structure Match {κ κ' : Type} (ok : κ → Prop) (ok' : κ' → Prop) (φ : κ → κ') : Prop where
  map : ∀ c, ok c → ok' (φ c)
  inj : ∀ c c', ok c → ok c' → φ c = φ c' → c = c'
  surj : ∀ j, ok' j → ∃ c, ok c ∧ φ c = j

section Transfer
variable {κ κ' : Type} [Fintype κ] [Fintype κ'] {ok : κ → Prop} {ok' : κ' → Prop} {φ : κ → κ'}

theorem Match.sum (hm : Match ok ok' φ) {f : κ → EReal} {f' : κ' → EReal} (e : ∀ c, ok c → f c = f' (φ c))
    (z : ∀ c, ¬ok c → f c = 0) (z' : ∀ j, ¬ok' j → f' j = 0) : ∑ c, f c = ∑ j, f' j := by
  have hok : ∀ c, f c ≠ 0 → ok c := fun c h => by by_contra h'; exact h (z c h')
  refine Finset.sum_bij_ne_zero (fun c _ _ => φ c) (fun _ _ _ => Finset.mem_univ _) ?_ ?_ ?_
  · intro a _ ha b _ hb hab
    exact hm.inj a b (hok a ha) (hok b hb) hab
  · intro j _ hj
    have hj' : ok' j := by by_contra h'; exact hj (z' j h')
    obtain ⟨c, hc, rfl⟩ := hm.surj j hj'
    exact ⟨c, Finset.mem_univ _, by rw [e c hc]; exact hj, rfl⟩
  · intro a _ ha
    exact e a (hok a ha)

variable (hm : Match ok ok' φ) {s : κ → EReal} {s' : κ' → EReal} (e : ∀ c, ok c → s c = s' (φ c))
  (z : ∀ c, ¬ok c → s c = ⊥) (z' : ∀ j, ¬ok' j → s' j = ⊥)
include hm e z z'

theorem Match.rMax (sk : EReal) : rMax s sk = rMax s' sk := by
  unfold Swa.rMax
  congr 1
  apply le_antisymm
  · refine Finset.sup_le fun c _ => ?_
    by_cases h : ok c
    · rw [e c h]; exact Finset.le_sup (f := s') (Finset.mem_univ _)
    · rw [z c h]; exact bot_le
  · refine Finset.sup_le fun j _ => ?_
    by_cases h : ok' j
    · obtain ⟨c, hc, rfl⟩ := hm.surj j h
      rw [← e c hc]; exact Finset.le_sup (f := s) (Finset.mem_univ _)
    · rw [z' j h]; exact bot_le

theorem Match.rSink (sk : EReal) : rSink s sk = rSink s' sk := by
  unfold Swa.rSink; rw [hm.rMax e z z' sk]

theorem Match.rExp (sk : EReal) (c : κ) (hc : ok c) : rExp s sk c = rExp s' sk (φ c) := by
  unfold Swa.rExp; rw [hm.rMax e z z' sk, e c hc]

theorem Match.rDen (sk : EReal) : rDen s sk = rDen s' sk := by
  unfold Swa.rDen
  rw [hm.rSink e z z' sk, hm.sum (hm.rExp e z z' sk) (rExp_off z sk) (rExp_off z' sk)]

theorem Match.rSq (sk : EReal) : rSq s sk = rSq s' sk := by
  unfold Swa.rSq; rw [hm.rDen e z z' sk]

theorem Match.rProb (sk : EReal) (c : κ) (hc : ok c) : rProb s sk c = rProb s' sk (φ c) := by
  unfold Swa.rProb; rw [hm.rDen e z z' sk, hm.rExp e z z' sk c hc]

theorem Match.rC (sk : EReal) {dp : κ → EReal} {dp' : κ' → EReal} (ed : ∀ c, ok c → dp c = dp' (φ c)) :
    rC s sk dp = rC s' sk dp' := by
  unfold Swa.rC
  congr 1
  refine hm.sum (fun c hc => ?_) (fun c hc => ?_) (fun c hc => ?_)
  · rw [ed c hc, hm.rSq e z z' sk, hm.rExp e z z' sk c hc]
  · rw [rExp_off z sk c hc, mul_zero]
  · rw [rExp_off z' sk c hc, mul_zero]

theorem Match.rDs (sk : EReal) {dp : κ → EReal} {dp' : κ' → EReal} (ed : ∀ c, ok c → dp c = dp' (φ c)) (c : κ)
    (hc : ok c) : rDs s sk dp c = rDs s' sk dp' (φ c) := by
  unfold Swa.rDs
  rw [ed c hc, hm.rDen e z z' sk, hm.rExp e z z' sk c hc, hm.rC e z z' sk ed]

end Transfer

/-! ## The rows and the keys -/

/-- Row `r` of block `n`. -/
def row (n : Fin 33) (r : Fin 128) : Fin 4224 := ⟨128 * n.val + r.val, by omega⟩
/-- Row `r` of head `g` of a group's four, one after the other. -/
def row4 (g : Fin 4) (r : Fin 128) : Fin 512 := ⟨128 * g.val + r.val, by omega⟩
/-- A query's (and a result's) column. -/
def qcol (h g : Fin 4) (d : Fin 64) : Fin 1024 := ⟨256 * h.val + 64 * g.val + d.val, by omega⟩
/-- A key's column. -/
def kcol (h : Fin 4) (d : Fin 64) : Fin 512 := ⟨64 * h.val + d.val, by omega⟩
/-- A value's column. -/
def vcol (h : Fin 4) (d : Fin 64) : Fin 512 := ⟨256 + (64 * h.val + d.val), by omega⟩
/-- A head's place among the sixteen. -/
def head (h g : Fin 4) : Fin 16 := ⟨h.val * 4 + g.val, by omega⟩

/-- Row `i` attends to key `j`: past the padding, not after the row, and among the last 128 rows or the first block. -/
def seen (i j : Fin 4224) : Prop := 112 ≤ j.val ∧ j.val ≤ i.val ∧ (i.val < j.val + 128 ∨ j.val < 128)
instance (i j : Fin 4224) : Decidable (seen i j) := by unfold seen; infer_instance

/-- Row `r` of block `n` attends to column `c` of the three blocks the grid point reads. -/
def ok (n : Fin 33) (r : Fin 128) (c : Fin 384) : Prop :=
  (c.val < 128 ∧ 112 ≤ c.val ∧ (1 ≤ n.val ∨ c.val ≤ r.val)) ∨ (128 ≤ c.val ∧ c.val < 256 ∧ 2 ≤ n.val ∧ r.val < c.val - 128)
    ∨ (256 ≤ c.val ∧ 1 ≤ n.val ∧ c.val - 256 ≤ r.val)
instance (n : Fin 33) (r : Fin 128) (c : Fin 384) : Decidable (ok n r c) := by unfold ok; infer_instance

/-- The key column `c` of the three blocks holds. -/
def bkey (n : Fin 33) (c : Fin 384) : Fin 4224 :=
  ⟨if c.val < 128 then c.val else if c.val < 256 then 128 * (n.val - 1) + (c.val - 128) else 128 * n.val + (c.val - 256), by
    split_ifs <;> omega⟩

theorem match_row (n : Fin 33) (r : Fin 128) : Match (ok n r) (seen (row n r)) (bkey n) where
  map c h := by
    unfold ok at h; unfold seen bkey row
    dsimp only
    split_ifs <;> omega
  inj c c' h h' e := by
    have e' := congrArg Fin.val e
    unfold ok at h h'; unfold bkey at e'
    dsimp only at e'
    apply Fin.ext
    split_ifs at e' <;> omega
  surj j h := by
    unfold seen row at h
    dsimp only at h
    by_cases hj : j.val < 128
    · refine ⟨⟨j.val, by omega⟩, ?_, ?_⟩
      · unfold ok; dsimp only; omega
      · apply Fin.ext; unfold bkey; dsimp only; rw [if_pos hj]
    · refine ⟨⟨j.val + 256 - 128 * n.val, by omega⟩, ?_, ?_⟩
      · unfold ok; dsimp only; omega
      · apply Fin.ext; unfold bkey; dsimp only; split_ifs <;> omega

theorem sum_rows (f : Fin 4224 → EReal) : ∑ i, f i = ∑ n, ∑ r, f (row n r) := by
  rw [← Fintype.sum_prod_type' (f := fun n r => f (row n r))]
  refine (Fintype.sum_equiv (finProdFinEquiv (m := 33) (n := 128)) _ _ fun x => ?_).symm
  congr 1
  apply Fin.ext
  simp [row, finProdFinEquiv, add_comm]

theorem sum_row4 (f : Fin 512 → EReal) : ∑ i, f i = ∑ g, ∑ r, f (row4 g r) := by
  rw [← Fintype.sum_prod_type' (f := fun n r => f (row4 n r))]
  refine (Fintype.sum_equiv (finProdFinEquiv (m := 4) (n := 128)) _ _ fun x => ?_).symm
  congr 1
  apply Fin.ext
  simp [row4, finProdFinEquiv, add_comm]

/-! ## A key's column -/

section Column
variable (F : Fin 4224 → Fin 4224 → EReal)

/-- What the row's grid point holds of the column: its own sight of it, nothing elsewhere. -/
def cell (n : Fin 33) (r : Fin 128) (c : Fin 384) : EReal := if ok n r c then F (row n r) (bkey n c) else 0

/-- The meta column, the previous block's and the own block's. -/
def c0 (r : Fin 128) : Fin 384 := ⟨r.val, by omega⟩
@[inherit_doc c0] def c1 (r : Fin 128) : Fin 384 := ⟨128 + r.val, by omega⟩
@[inherit_doc c0] def c2 (r : Fin 128) : Fin 384 := ⟨256 + r.val, by omega⟩

theorem cell_split (hF : ∀ i j, ¬seen i j → F i j = 0) (n b : Fin 33) (r r' : Fin 128) :
    F (row n r) (row b r') = (if n = b then cell F n r (c2 r') else 0)
      + (if n.val = b.val + 1 then cell F n r (c1 r') else 0) + (if b.val = 0 then cell F n r (c0 r') else 0) := by
  have k2 : n = b → bkey n (c2 r') = row b r' := by
    rintro rfl; apply Fin.ext; unfold bkey c2 row; dsimp only; split_ifs <;> omega
  have k1 : n.val = b.val + 1 → bkey n (c1 r') = row b r' := by
    intro h; apply Fin.ext; unfold bkey c1 row; dsimp only; split_ifs <;> omega
  have k0 : b.val = 0 → bkey n (c0 r') = row b r' := by
    intro h; apply Fin.ext; unfold bkey c0 row; dsimp only; split_ifs <;> omega
  unfold cell
  by_cases hs : seen (row n r) (row b r')
  · have hs' := hs
    unfold seen row at hs'; dsimp only at hs'
    by_cases hb : b.val = 0
    · have o0 : ok n r (c0 r') := by unfold ok c0; dsimp only; omega
      have o1 : n.val = b.val + 1 → ¬ok n r (c1 r') := by unfold ok c1; dsimp only; omega
      have o2 : n = b → ¬ok n r (c2 r') := by rintro rfl; unfold ok c2; dsimp only; omega
      rw [if_pos hb, if_pos o0, k0 hb]
      have a1 : (if n = b then (if ok n r (c2 r') then F (row n r) (bkey n (c2 r')) else 0) else (0 : EReal)) = 0 := by
        split_ifs with h1 h2
        · exact absurd h2 (o2 h1)
        · rfl
        · rfl
      have a2 : (if n.val = b.val + 1 then (if ok n r (c1 r') then F (row n r) (bkey n (c1 r')) else 0) else (0 : EReal)) = 0 := by
        split_ifs with h1 h2
        · exact absurd h2 (o1 h1)
        · rfl
        · rfl
      rw [a1, a2, zero_add, zero_add]
    · by_cases hn : n = b
      · have o2 : ok n r (c2 r') := by subst hn; unfold ok c2; dsimp only; omega
        rw [if_pos hn, if_pos o2, k2 hn, if_neg hb, if_neg (by rw [hn]; omega), add_zero, add_zero]
      · have hv : n.val ≠ b.val := fun h => hn (Fin.ext h)
        have hn1 : n.val = b.val + 1 := by omega
        have o1 : ok n r (c1 r') := by unfold ok c1; dsimp only; omega
        rw [if_neg hn, if_pos hn1, if_pos o1, k1 hn1, if_neg hb, zero_add, add_zero]
  · rw [hF _ _ hs]
    have a0 : (if b.val = 0 then (if ok n r (c0 r') then F (row n r) (bkey n (c0 r')) else 0) else (0 : EReal)) = 0 := by
      split_ifs with h1 h2
      · rw [k0 h1, hF _ _ hs]
      · rfl
      · rfl
    have a1 : (if n = b then (if ok n r (c2 r') then F (row n r) (bkey n (c2 r')) else 0) else (0 : EReal)) = 0 := by
      split_ifs with h1 h2
      · rw [k2 h1, hF _ _ hs]
      · rfl
      · rfl
    have a2 : (if n.val = b.val + 1 then (if ok n r (c1 r') then F (row n r) (bkey n (c1 r')) else 0) else (0 : EReal)) = 0 := by
      split_ifs with h1 h2
      · rw [k1 h1, hF _ _ hs]
      · rfl
      · rfl
    rw [a0, a1, a2, zero_add, zero_add]

/-- A key's column over all rows: what its own block's point holds, what the next block's point holds and, for the
    first block, what every point holds of the meta columns. -/
theorem col_split (hF : ∀ i j, ¬seen i j → F i j = 0) (b : Fin 33) (r' : Fin 128) :
    ∑ i, F i (row b r') = ∑ r, cell F b r (c2 r')
      + (if h : b.val < 32 then ∑ r, cell F ⟨b.val + 1, by omega⟩ r (c1 r') else 0)
      + (if b.val = 0 then ∑ n, ∑ r, cell F n r (c0 r') else 0) := by
  rw [sum_rows]
  simp only [cell_split F hF, Finset.sum_add_distrib]
  congr 1
  · congr 1
    · rw [Finset.sum_comm]
      simp
    · by_cases h : b.val < 32
      · rw [dif_pos h, Finset.sum_comm]
        have e : ∀ n : Fin 33, (n.val = b.val + 1) = (n = ⟨b.val + 1, by omega⟩) := fun n => by rw [Fin.ext_iff]
        simp [e]
      · rw [dif_neg h]
        refine Finset.sum_eq_zero fun n _ => Finset.sum_eq_zero fun r _ => ?_
        rw [if_neg (by omega)]
  · split_ifs
    · rfl
    · simp

end Column
end Swa
end
end
-- ==== Proof.Spec.lean ====
/-
  The gradients of the windowed attention as functions of the four arguments.
-/
module

public import proofs.«01_k».proof.Proof.Core

@[expose] public section
noncomputable section
namespace Swa
open Idealize.ShloMosaic

/-- The scale of the queries. -/
def c8 : EReal := Ideal.ofBits FTy.f32 1040187392#32

variable (q : Fin 4224 → Fin 1024 → EReal) (kv : Fin 4224 → Fin 512 → EReal) (sk : Fin 16 → EReal)
  (dO : Fin 4224 → Fin 1024 → EReal)

/-- The masked scores. -/
def gS (h g : Fin 4) (i j : Fin 4224) : EReal :=
  if seen i j then ∑ d, q i (qcol h g d) * c8 * kv j (kcol h d) else ⊥
/-- The gradient at the probabilities. -/
def gDp (h g : Fin 4) (i j : Fin 4224) : EReal := ∑ d, dO i (qcol h g d) * kv j (vcol h d)
/-- The probabilities. -/
def gP (h g : Fin 4) (i j : Fin 4224) : EReal := rProb (gS q kv h g i) (sk (head h g)) j
/-- The gradient at the scores. -/
def gDs (h g : Fin 4) (i j : Fin 4224) : EReal :=
  if seen i j then rDs (gS q kv h g i) (sk (head h g)) (gDp kv dO h g i) j else 0
/-- A row's part of the sink's gradient. -/
def gSk (h g : Fin 4) (i : Fin 4224) : EReal :=
  rC (gS q kv h g i) (sk (head h g)) (gDp kv dO h g i) * rSink (gS q kv h g i) (sk (head h g))
/-- What row `i` adds to a key's gradient, and to a value's. -/
def gK (h g : Fin 4) (d : Fin 64) (i j : Fin 4224) : EReal := gDs q kv sk dO h g i j * (q i (qcol h g d) * c8)
@[inherit_doc gK] def gV (h g : Fin 4) (d : Fin 64) (i j : Fin 4224) : EReal := gP q kv sk h g i j * dO i (qcol h g d)

/-- The gradients: of the queries, of the keys, of the values and of the sinks. -/
def fq (h g : Fin 4) (i : Fin 4224) (d : Fin 64) : EReal := (∑ j, gDs q kv sk dO h g i j * kv j (kcol h d)) * c8
@[inherit_doc fq] def fk (h : Fin 4) (j : Fin 4224) (d : Fin 64) : EReal := ∑ g, ∑ i, gK q kv sk dO h g d i j
@[inherit_doc fq] def fv (h : Fin 4) (j : Fin 4224) (d : Fin 64) : EReal := ∑ g, ∑ i, gV q kv sk dO h g d i j
@[inherit_doc fq] def fs (h g : Fin 4) : EReal := ∑ i, gSk q kv sk dO h g i

/-- No denominator vanishes. -/
def DenOk : Prop := ∀ h g i, rDen (gS q kv h g i) (sk (head h g)) ≠ 0

theorem div_zero_left {y : EReal} (h : y ≠ 0) : Ideal.div 0 y = 0 := by
  unfold Ideal.div; rw [if_neg h, zero_mul]

theorem gS_off (h g : Fin 4) (i j : Fin 4224) (hj : ¬seen i j) : gS q kv h g i j = ⊥ := if_neg hj

variable {q kv sk dO}
theorem gP_off (hD : DenOk q kv sk) (h g : Fin 4) (i j : Fin 4224) (hj : ¬seen i j) : gP q kv sk h g i j = 0 := by
  unfold gP rProb
  rw [rExp_off (gS_off q kv h g i) _ j hj, div_zero_left (hD h g i)]

theorem gV_off (hD : DenOk q kv sk) (h g : Fin 4) (d : Fin 64) (i j : Fin 4224) (hj : ¬seen i j) :
    gV q kv sk dO h g d i j = 0 := by
  unfold gV; rw [gP_off hD h g i j hj, zero_mul]

variable (q kv sk dO)
theorem gDs_off (h g : Fin 4) (i j : Fin 4224) (hj : ¬seen i j) : gDs q kv sk dO h g i j = 0 := if_neg hj
theorem gK_off (h g : Fin 4) (d : Fin 64) (i j : Fin 4224) (hj : ¬seen i j) : gK q kv sk dO h g d i j = 0 := by
  unfold gK; rw [gDs_off _ _ _ _ h g i j hj, zero_mul]

/-! ## The same from the keys a grid point reads -/

/-- The masked scores of a grid point. -/
def bS (n : Fin 33) (h g : Fin 4) (r : Fin 128) (c : Fin 384) : EReal :=
  if ok n r c then ∑ d, q (row n r) (qcol h g d) * c8 * kv (bkey n c) (kcol h d) else ⊥

theorem bS_on (n : Fin 33) (h g : Fin 4) (r : Fin 128) (c : Fin 384) (hc : ok n r c) :
    bS q kv n h g r c = gS q kv h g (row n r) (bkey n c) := by
  unfold bS gS; rw [if_pos hc, if_pos ((match_row n r).map c hc)]
theorem bS_off (n : Fin 33) (h g : Fin 4) (r : Fin 128) (c : Fin 384) (hc : ¬ok n r c) : bS q kv n h g r c = ⊥ := if_neg hc

section
variable (n : Fin 33) (h g : Fin 4) (r : Fin 128)

theorem b_den : rDen (bS q kv n h g r) (sk (head h g)) = rDen (gS q kv h g (row n r)) (sk (head h g)) :=
  (match_row n r).rDen (bS_on q kv n h g r) (bS_off q kv n h g r) (gS_off q kv h g (row n r)) _

theorem b_prob (hD : DenOk q kv sk) (c : Fin 384) :
    rProb (bS q kv n h g r) (sk (head h g)) c = if ok n r c then gP q kv sk h g (row n r) (bkey n c) else 0 := by
  split_ifs with hc
  · exact (match_row n r).rProb (bS_on q kv n h g r) (bS_off q kv n h g r) (gS_off q kv h g (row n r)) _ c hc
  · unfold rProb
    rw [rExp_off (bS_off q kv n h g r) _ c hc, b_den, div_zero_left (hD h g (row n r))]

theorem b_ds (c : Fin 384) :
    (if ok n r c then rDs (bS q kv n h g r) (sk (head h g)) (fun c => gDp kv dO h g (row n r) (bkey n c)) c else 0)
      = if ok n r c then gDs q kv sk dO h g (row n r) (bkey n c) else 0 := by
  split_ifs with hc
  · unfold gDs
    rw [if_pos ((match_row n r).map c hc)]
    exact (match_row n r).rDs (bS_on q kv n h g r) (bS_off q kv n h g r) (gS_off q kv h g (row n r)) _
      (dp' := gDp kv dO h g (row n r)) (fun _ _ => rfl) c hc
  · rfl

theorem b_sk : rC (bS q kv n h g r) (sk (head h g)) (fun c => gDp kv dO h g (row n r) (bkey n c)) * rSink (bS q kv n h g r) (sk (head h g))
    = gSk q kv sk dO h g (row n r) := by
  unfold gSk
  rw [(match_row n r).rC (bS_on q kv n h g r) (bS_off q kv n h g r) (gS_off q kv h g (row n r)) _
      (dp' := gDp kv dO h g (row n r)) (fun _ _ => rfl),
    (match_row n r).rSink (bS_on q kv n h g r) (bS_off q kv n h g r) (gS_off q kv h g (row n r)) _]

theorem b_q (d : Fin 64) :
    (∑ c, (if ok n r c then gDs q kv sk dO h g (row n r) (bkey n c) else 0) * kv (bkey n c) (kcol h d)) * c8
      = fq q kv sk dO h g (row n r) d := by
  unfold fq
  congr 1
  refine (match_row n r).sum (fun c hc => ?_) (fun c hc => ?_) (fun j hj => ?_)
  · rw [if_pos hc]
  · rw [if_neg hc, zero_mul]
  · rw [gDs_off _ _ _ _ _ _ _ _ hj, zero_mul]

theorem b_k (d : Fin 64) (c : Fin 384) :
    (if ok n r c then gDs q kv sk dO h g (row n r) (bkey n c) else 0) * (q (row n r) (qcol h g d) * c8)
      = cell (gK q kv sk dO h g d) n r c := by
  unfold cell gK
  split_ifs
  · rfl
  · rw [zero_mul]

theorem b_v (d : Fin 64) (c : Fin 384) :
    (if ok n r c then gP q kv sk h g (row n r) (bkey n c) else 0) * dO (row n r) (qcol h g d)
      = cell (gV q kv sk dO h g d) n r c := by
  unfold cell gV
  split_ifs
  · rfl
  · rw [zero_mul]
end

/-- The gradient of a key of block `b`, by the grid points that hold parts of it. -/
theorem fk_split (h : Fin 4) (b : Fin 33) (r' : Fin 128) (d : Fin 64) :
    fk q kv sk dO h (row b r') d = ∑ g, ∑ r, cell (gK q kv sk dO h g d) b r (c2 r')
      + (if hb : b.val < 32 then ∑ g, ∑ r, cell (gK q kv sk dO h g d) ⟨b.val + 1, by omega⟩ r (c1 r') else 0)
      + (if b.val = 0 then ∑ n, ∑ g, ∑ r, cell (gK q kv sk dO h g d) n r (c0 r') else 0) := by
  unfold fk
  simp only [fun g => col_split (gK q kv sk dO h g d) (gK_off q kv sk dO h g d) b r', Finset.sum_add_distrib]
  congr 1
  · congr 1
    split_ifs
    · rfl
    · simp
  · split_ifs
    · rw [Finset.sum_comm]
    · simp

theorem fv_split (hD : DenOk q kv sk) (h : Fin 4) (b : Fin 33) (r' : Fin 128) (d : Fin 64) :
    fv q kv sk dO h (row b r') d = ∑ g, ∑ r, cell (gV q kv sk dO h g d) b r (c2 r')
      + (if hb : b.val < 32 then ∑ g, ∑ r, cell (gV q kv sk dO h g d) ⟨b.val + 1, by omega⟩ r (c1 r') else 0)
      + (if b.val = 0 then ∑ n, ∑ g, ∑ r, cell (gV q kv sk dO h g d) n r (c0 r') else 0) := by
  unfold fv
  simp only [fun g => col_split (gV q kv sk dO h g d) (gV_off hD h g d) b r', Finset.sum_add_distrib]
  congr 1
  · congr 1
    split_ifs
    · rfl
    · simp
  · split_ifs
    · rw [Finset.sum_comm]
    · simp

theorem fs_split (h g : Fin 4) : fs q kv sk dO h g = ∑ n, ∑ r, gSk q kv sk dO h g (row n r) := sum_rows _

end Swa
end
end
-- ==== Proof.Finite.lean ====
/-
  Real rows: the denominator is positive, and the gradient at the row's maximum vanishes.
-/
module

public import proofs.«01_k».proof.Proof.Spec

@[expose] public section
noncomputable section
namespace Swa
open Idealize.ShloMosaic

/-- A real number among the extended ones. -/
def IsR (x : EReal) : Prop := ∃ r : ℝ, x = (r : EReal)

theorem IsR.mul {x y : EReal} (hx : IsR x) (hy : IsR y) : IsR (x * y) := by
  obtain ⟨a, rfl⟩ := hx; obtain ⟨b, rfl⟩ := hy; exact ⟨a * b, (EReal.coe_mul a b).symm⟩
theorem coe_sum' {κ : Type} (t : Finset κ) (f : κ → ℝ) : ((∑ c ∈ t, f c : ℝ) : EReal) = ∑ c ∈ t, (f c : EReal) := by
  classical
  induction t using Finset.induction_on with
  | empty => rfl
  | insert a t ha ih => rw [Finset.sum_insert ha, Finset.sum_insert ha, EReal.coe_add, ih]
theorem IsR.sum {κ : Type} (t : Finset κ) {f : κ → EReal} (h : ∀ c, IsR (f c)) : IsR (∑ c ∈ t, f c) := by
  choose g hg using h
  exact ⟨∑ c ∈ t, g c, by rw [coe_sum']; exact Finset.sum_congr rfl fun c _ => hg c⟩

section
variable {κ : Type} [Fintype κ] {s : κ → EReal} {sk : EReal} {dp : κ → EReal}

theorem row_exp (hs : ∀ c, s c = ⊥ ∨ IsR (s c)) (hk : IsR sk) :
    ∃ (e : κ → ℝ) (x : ℝ), 0 < x ∧ (∀ c, 0 ≤ e c) ∧ (∀ c, rExp s sk c = (e c : EReal)) ∧ rSink s sk = (x : EReal) := by
  obtain ⟨k, rfl⟩ := hk
  have hM : rMax s k ≠ ⊤ := by
    apply ne_of_lt
    unfold rMax
    refine max_lt ?_ (EReal.coe_lt_top k)
    refine (Finset.sup_lt_iff (bot_lt_top)).mpr fun c _ => ?_
    rcases hs c with h | ⟨r, h⟩
    · rw [h]; exact bot_lt_top
    · rw [h]; exact EReal.coe_lt_top r
  have hM' : rMax s k ≠ ⊥ := by
    apply ne_of_gt
    exact lt_of_lt_of_le (EReal.bot_lt_coe k) (le_max_right _ _)
  obtain ⟨M, hMr⟩ : ∃ M : ℝ, rMax s k = M := ⟨(rMax s k).toReal, (EReal.coe_toReal hM hM').symm⟩
  have he : ∀ c, ∃ e : ℝ, 0 ≤ e ∧ rExp s k c = (e : EReal) := fun c => by
    unfold rExp
    rw [hMr]
    rcases hs c with h | ⟨r, h⟩
    · exact ⟨0, le_rfl, by rw [h, EReal.bot_sub]; rfl⟩
    · exact ⟨Real.exp (r - M), (Real.exp_pos _).le, by rw [h, ← EReal.coe_sub, Ideal.exp_coe]⟩
  choose e he0 he1 using he
  exact ⟨e, Real.exp (k - M), Real.exp_pos _, he0, he1, by unfold rSink; rw [hMr, ← EReal.coe_sub, Ideal.exp_coe]⟩

theorem row_den (hs : ∀ c, s c = ⊥ ∨ IsR (s c)) (hk : IsR sk) : rDen s sk ≠ 0 := by
  obtain ⟨e, x, hx, he, h1, h2⟩ := row_exp hs hk
  unfold rDen
  simp only [h1, h2]
  rw [← coe_sum', ← EReal.coe_add]
  have := Finset.sum_nonneg fun c (_ : c ∈ Finset.univ) => he c
  exact_mod_cast (by linarith : (0 : ℝ) < ∑ c, e c + x).ne'

/-- The gradient at the row's maximum: a softmax does not move with it. -/
theorem row_max (hs : ∀ c, s c = ⊥ ∨ IsR (s c)) (hk : IsR sk) (hd : ∀ c, IsR (dp c)) :
    -(rC s sk dp * rSink s sk) + ∑ c, -(rDs s sk dp c) = 0 := by
  obtain ⟨e, x, hx, he, h1, h2⟩ := row_exp hs hk
  choose p hp using hd
  have hsum := Finset.sum_nonneg fun c (_ : c ∈ Finset.univ) => he c
  have hD0 : (∑ c, e c + x : ℝ) ≠ 0 := (by linarith : (0 : ℝ) < ∑ c, e c + x).ne'
  have hD : rDen s sk = ((∑ c, e c + x : ℝ) : EReal) := by
    unfold rDen; simp only [h1, h2]; rw [← coe_sum', ← EReal.coe_add]
  generalize hDD : (∑ c, e c + x : ℝ) = D at hD hD0
  have hC : rC s sk dp = ((-∑ c, p c * (1 / (D * D)) * e c : ℝ) : EReal) := by
    unfold rC rSq
    rw [hD, ← EReal.coe_mul, Ideal.div_coe (mul_ne_zero hD0 hD0), one_mul]
    simp only [hp, h1, ← EReal.coe_mul]
    rw [← coe_sum', EReal.coe_neg, sub_eq_add_neg, zero_add]
  generalize hCC : (-∑ c, p c * (1 / (D * D)) * e c : ℝ) = C at hC
  have hDs : ∀ c, rDs s sk dp c = (((p c * (1 / D) + C) * e c : ℝ) : EReal) := fun c => by
    unfold rDs
    rw [hC, hD, h1, hp, Ideal.div_coe hD0, ← EReal.coe_mul, ← EReal.coe_add, ← EReal.coe_mul]
  simp only [hDs, hC, h2, ← EReal.coe_mul, ← EReal.coe_neg]
  rw [← coe_sum', ← EReal.coe_add, ← EReal.coe_zero]
  congr 1
  have e1 : ∑ c, -((p c * (1 / D) + C) * e c) = -(1 / D) * (∑ c, p c * e c) - C * ∑ c, e c := by
    rw [Finset.mul_sum, Finset.mul_sum, ← Finset.sum_sub_distrib]
    exact Finset.sum_congr rfl fun c _ => by ring
  have e2 : C = -(1 / (D * D)) * ∑ c, p c * e c := by
    rw [← hCC, Finset.mul_sum, ← Finset.sum_neg_distrib]
    exact Finset.sum_congr rfl fun c _ => by ring
  have e3 : ∑ c, e c = D - x := by linarith
  rw [e1, e3, e2]
  field_simp
  ring
end

/-! ## The attention's rows -/

variable {q : Fin 4224 → Fin 1024 → EReal} {kv : Fin 4224 → Fin 512 → EReal} {sk : Fin 16 → EReal}
  {dO : Fin 4224 → Fin 1024 → EReal}

theorem c8_real : IsR c8 := ⟨1 / 8, by unfold c8; simp [Ideal.ofBits, Ideal.ieee, -EReal.coe_mul]; norm_num⟩

theorem gS_real (hq : ∀ i k, IsR (q i k)) (hkv : ∀ i k, IsR (kv i k)) (h g : Fin 4) (i j : Fin 4224) :
    gS q kv h g i j = ⊥ ∨ IsR (gS q kv h g i j) := by
  unfold gS
  split_ifs
  · exact .inr (IsR.sum _ fun d => ((hq _ _).mul c8_real).mul (hkv _ _))
  · exact .inl rfl
theorem gDp_real (hd : ∀ i k, IsR (dO i k)) (hkv : ∀ i k, IsR (kv i k)) (h g : Fin 4) (i j : Fin 4224) :
    IsR (gDp kv dO h g i j) := IsR.sum _ fun d => (hd _ _).mul (hkv _ _)

theorem denOk (hq : ∀ i k, IsR (q i k)) (hkv : ∀ i k, IsR (kv i k)) (hs : ∀ a, IsR (sk a)) : DenOk q kv sk :=
  fun h g i => row_den (gS_real hq hkv h g i) (hs _)

theorem g_max (hq : ∀ i k, IsR (q i k)) (hkv : ∀ i k, IsR (kv i k)) (hs : ∀ a, IsR (sk a)) (hd : ∀ i k, IsR (dO i k))
    (h g : Fin 4) (i : Fin 4224) :
    -(rC (gS q kv h g i) (sk (head h g)) (gDp kv dO h g i) * rSink (gS q kv h g i) (sk (head h g)))
      + ∑ j, -(rDs (gS q kv h g i) (sk (head h g)) (gDp kv dO h g i) j) = 0 :=
  row_max (gS_real hq hkv h g i) (hs _) (gDp_real hd hkv h g i)

end Swa
end
end
-- ==== Proof.Precond.lean ====
/-
  What the precondition says: every entry of the four arguments is a real number.
-/
module

public import proofs.«01_k».proof.Pre_finite
public import proofs.«01_k».proof.Proof.Finite
public import Idealize.ShloMosaic.Lib.ReduceAll

@[expose] public section
noncomputable section
namespace Cert.Pre_finite
open Idealize.ShloMosaic _root_.Swa

/-- The shape relations that the precondition takes. -/
theorem facts : Facts where
  bcast_S_S4224x1024 := by decide
  reducesTo_S4224x1024_S_d0_1 := by decide
  h_S_ := by decide
  bcast_S_S4224x512 := by decide
  reducesTo_S4224x512_S_d0_1 := by decide
  bcast_S_S16x1x1 := by decide
  reducesTo_S16x1x1_S_d0_1_2 := by decide

theorem bits_inf : Ideal.ofBits FTy.f32 0x7F800000#32 = ⊤ := by
  simp [Ideal.ofBits, Ideal.ieee]

/-- A number whose absolute value is below +∞ is real. -/
theorem real_of_abs {x : EReal} (h : Ideal.cmp .olt (max x (-x)) ⊤ = 1#1) : IsR x := by
  have h' : max x (-x) < ⊤ := by
    by_contra hn
    unfold Ideal.cmp at h
    rw [decide_eq_false hn] at h
    exact absurd (show BitVec.ofBool false = 1#1 from h) (by decide)
  induction x using EReal.rec with
  | bot => simp at h'
  | top => simp at h'
  | coe r => exact ⟨r, rfl⟩

theorem andi_split {a b : BitVec 1} (h : IntOp.andi a b = 1#1) : a = 1#1 ∧ b = 1#1 := by
  revert h; unfold IntOp.andi; revert a b; decide

variable [Facts]
open Facts

instance : Subsingleton S_.Idx := ⟨fun a b => funext fun k => k.elim0⟩

theorem all_real {s : Shape} {axes : List (Fin s.rank)} (x : FVec Ideal s .f32) (hb : S_.BroadcastsInDim s (![] : Fin 0 → Fin s.rank))
    (hr : s.ReducesTo axes S_) (j : S_.Idx)
    (e : Host.reduce IntOp.andi (cmpf .olt (Host.absf x) (broadcastInDim s ![] hb (constant S_ .f32 0x7F800000#32)))
      (constantI S_ 1 1#1) hr h_S_ j = 1#1) (i : s.Idx) : IsR (x i) := by
  have h := Host.reduce_andi_all _ _ hr h_S_ j e i
  apply real_of_abs
  rw [← bits_inf]
  exact h

theorem real (x0 : FVec Ideal S4224x1024 .f32) (x1 : FVec Ideal S4224x512 .f32) (x2 : FVec Ideal S16x1x1 .f32)
    (x3 : FVec Ideal S4224x1024 .f32) (h : fn (F := Ideal) x0 x1 x2 x3 = fun _ => 1#1) :
    (∀ i, IsR (x0 i)) ∧ (∀ i, IsR (x1 i)) ∧ (∀ i, IsR (x2 i)) ∧ ∀ i, IsR (x3 i) := by
  have h0 := congrFun h (Shape.Idx.first h_S_)
  unfold fn fn_part1 at h0
  dsimp only at h0
  obtain ⟨h0, h3⟩ := andi_split h0
  obtain ⟨h0, h2⟩ := andi_split h0
  obtain ⟨h0, h1⟩ := andi_split h0
  exact ⟨all_real _ _ _ _ h0, all_real _ _ _ _ h1, all_real _ _ _ _ h2, all_real _ _ _ _ h3⟩

end Cert.Pre_finite
end
end
-- ==== Proof.Step.lean ====
/-
  One grid point of the attention backward kernel: what its stores leave, as the composition of the operations of
  its body over the blocks it reads.
-/
module

public import proofs.«01_k».proof.Proof.Gen.KernelIdeal.Value
public import Idealize.ShloMosaic.Lib.Pipeline.Value
public import Idealize.ShloMosaic.Lib.Tactic

@[expose] public section
noncomputable section
namespace Cert.KernelIdeal.Swa
open Cert.KernelIdeal Cert.KernelIdeal.Gen Idealize.ShloMosaic Idealize.ShloMosaic.TcCoe Idealize.SL.Sem
variable {F : FTy → Type} [FloatOps F] [Named F]
theorem hz2 : (![0, 0] : Fin 2 → Nat) = fun _ => 0 := funext fun a => by fin_cases a <;> rfl
theorem hz3 : (![0, 0, 0] : Fin 3 → Nat) = fun _ => 0 := funext fun a => by fin_cases a <;> rfl

/-- The keys of the three blocks, by head. -/
def keyB (x1 x2 x3 : Vec F S128x512 .f32) : FVec F S4x384x64 .f32 :=
  k0_pay19 (k0_pay5 x1) (k0_pay7 x2) (k0_pay14 x3)

/-- The values of the three blocks, by head. -/
def valB (x1 x2 x3 : Vec F S128x512 .f32) : FVec F S4x384x64 .f32 :=
  k0_pay29 (k0_pay6 x1) (k0_pay13 (k0_pay9 x2) (k0_pay10 x2) (k0_pay11 x2) (k0_pay12 x2)) (k0_pay15 x3)

/-- The masked scores. -/
def scoreB (n : BitVec 32) (x0 : Vec F S128x1024 .f32) (x1 x2 x3 : Vec F S128x512 .f32) : FVec F S4x512x384 .f32 :=
  k0_pay21 n (k0_pay5 x1) (k0_pay7 x2) (k0_pay14 x3) (k0_pay16 x0)

/-- The exponentials of the scores. -/
def expB (n : BitVec 32) (x0 : Vec F S128x1024 .f32) (x1 x2 x3 : Vec F S128x512 .f32) (x4 : Vec F S16x1x1 .f32) : FVec F S4x512x384 .f32 :=
  k0_pay24 (k0_pay17 x4) (scoreB n x0 x1 x2 x3)

/-- The exponentials of the sinks. -/
def sinkB (n : BitVec 32) (x0 : Vec F S128x1024 .f32) (x1 x2 x3 : Vec F S128x512 .f32) (x4 : Vec F S16x1x1 .f32) : FVec F S4x512x1 .f32 :=
  k0_pay25 (k0_pay17 x4) (scoreB n x0 x1 x2 x3)

/-- The softmax's denominators. -/
def denB (n : BitVec 32) (x0 : Vec F S128x1024 .f32) (x1 x2 x3 : Vec F S128x512 .f32) (x4 : Vec F S16x1x1 .f32) : FVec F S4x512x1 .f32 :=
  k0_pay26 (k0_pay17 x4) (scoreB n x0 x1 x2 x3)

/-- The probabilities. -/
def probB (n : BitVec 32) (x0 : Vec F S128x1024 .f32) (x1 x2 x3 : Vec F S128x512 .f32) (x4 : Vec F S16x1x1 .f32) : FVec F S4x512x384 .f32 :=
  k0_pay27 (k0_pay17 x4) (scoreB n x0 x1 x2 x3)

/-- One over the squares of the denominators. -/
def sqB (n : BitVec 32) (x0 : Vec F S128x1024 .f32) (x1 x2 x3 : Vec F S128x512 .f32) (x4 : Vec F S16x1x1 .f32) : FVec F S4x512x1 .f32 :=
  k0_pay28 (k0_pay17 x4) (scoreB n x0 x1 x2 x3)

/-- The gradient at the scores. -/
def dscB (n : BitVec 32) (x0 : Vec F S128x1024 .f32) (x1 x2 x3 : Vec F S128x512 .f32) (x4 : Vec F S16x1x1 .f32) (x5 : Vec F S128x1024 .f32) : FVec F S4x512x384 .f32 :=
  k0_pay54 (expB n x0 x1 x2 x3 x4) (denB n x0 x1 x2 x3 x4) (sqB n x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)

/-- The meta block's rows of the values' gradient. -/
def metaV (n : BitVec 32) (x0 : Vec F S128x1024 .f32) (x1 x2 x3 : Vec F S128x512 .f32) (x4 : Vec F S16x1x1 .f32) (x5 : Vec F S128x1024 .f32) : FVec F S4x128x64 .f32 :=
  k0_pay49 (probB n x0 x1 x2 x3 x4) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)

/-- The meta block's rows of the keys' gradient. -/
def metaK (n : BitVec 32) (x0 : Vec F S128x1024 .f32) (x1 x2 x3 : Vec F S128x512 .f32) (x4 : Vec F S16x1x1 .f32) (x5 : Vec F S128x1024 .f32) : FVec F S4x128x64 .f32 :=
  k0_pay62 (k0_pay18 (k0_pay16 x0)) (k0_pay20 n) (dscB n x0 x1 x2 x3 x4 x5)

/-- The prev block's rows of the values' gradient. -/
def prevV (n : BitVec 32) (x0 : Vec F S128x1024 .f32) (x1 x2 x3 : Vec F S128x512 .f32) (x4 : Vec F S16x1x1 .f32) (x5 : Vec F S128x1024 .f32) : FVec F S4x128x64 .f32 :=
  k0_pay50 (probB n x0 x1 x2 x3 x4) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)

/-- The prev block's rows of the keys' gradient. -/
def prevK (n : BitVec 32) (x0 : Vec F S128x1024 .f32) (x1 x2 x3 : Vec F S128x512 .f32) (x4 : Vec F S16x1x1 .f32) (x5 : Vec F S128x1024 .f32) : FVec F S4x128x64 .f32 :=
  k0_pay63 (k0_pay18 (k0_pay16 x0)) (k0_pay20 n) (dscB n x0 x1 x2 x3 x4 x5)

/-- The cur block's rows of the values' gradient. -/
def curV (n : BitVec 32) (x0 : Vec F S128x1024 .f32) (x1 x2 x3 : Vec F S128x512 .f32) (x4 : Vec F S16x1x1 .f32) (x5 : Vec F S128x1024 .f32) : FVec F S4x128x64 .f32 :=
  k0_pay51 (probB n x0 x1 x2 x3 x4) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)

/-- The cur block's rows of the keys' gradient. -/
def curK (n : BitVec 32) (x0 : Vec F S128x1024 .f32) (x1 x2 x3 : Vec F S128x512 .f32) (x4 : Vec F S16x1x1 .f32) (x5 : Vec F S128x1024 .f32) : FVec F S4x128x64 .f32 :=
  k0_pay64 (k0_pay18 (k0_pay16 x0)) (k0_pay20 n) (dscB n x0 x1 x2 x3 x4 x5)

/-- The block of the queries' gradient. -/
def dqB (n : BitVec 32) (x0 : Vec F S128x1024 .f32) (x1 x2 x3 : Vec F S128x512 .f32) (x4 : Vec F S16x1x1 .f32) (x5 : Vec F S128x1024 .f32) : FVec F S128x1024 .f32 :=
  k0_pay75 (k0_pay65 (keyB x1 x2 x3) (k0_pay20 n) (dscB n x0 x1 x2 x3 x4 x5)) (k0_pay66 (keyB x1 x2 x3) (k0_pay20 n) (dscB n x0 x1 x2 x3 x4 x5)) (k0_pay67 (keyB x1 x2 x3) (k0_pay20 n) (dscB n x0 x1 x2 x3 x4 x5)) (k0_pay68 (keyB x1 x2 x3) (k0_pay20 n) (dscB n x0 x1 x2 x3 x4 x5)) (k0_pay69 (keyB x1 x2 x3) (k0_pay20 n) (dscB n x0 x1 x2 x3 x4 x5)) (k0_pay70 (keyB x1 x2 x3) (k0_pay20 n) (dscB n x0 x1 x2 x3 x4 x5)) (k0_pay71 (keyB x1 x2 x3) (k0_pay20 n) (dscB n x0 x1 x2 x3 x4 x5)) (k0_pay72 (keyB x1 x2 x3) (k0_pay20 n) (dscB n x0 x1 x2 x3 x4 x5)) (k0_pay73 (keyB x1 x2 x3) (k0_pay20 n) (dscB n x0 x1 x2 x3 x4 x5)) (k0_pay74 (keyB x1 x2 x3) (k0_pay20 n) (dscB n x0 x1 x2 x3 x4 x5))

/-- The block's part of the sinks' gradient. -/
def dsinkB (n : BitVec 32) (x0 : Vec F S128x1024 .f32) (x1 x2 x3 : Vec F S128x512 .f32) (x4 : Vec F S16x1x1 .f32) (x5 : Vec F S128x1024 .f32) : FVec F S4x4x1x1 .f32 :=
  k0_pay59 (k0_pay55 (expB n x0 x1 x2 x3 x4) (sinkB n x0 x1 x2 x3 x4) (sqB n x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)) (k0_pay56 (expB n x0 x1 x2 x3 x4) (sinkB n x0 x1 x2 x3 x4) (sqB n x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)) (k0_pay57 (expB n x0 x1 x2 x3 x4) (sinkB n x0 x1 x2 x3 x4) (sqB n x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)) (k0_pay58 (expB n x0 x1 x2 x3 x4) (sinkB n x0 x1 x2 x3 x4) (sqB n x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5)) (FloatOps.ofBits FTy.f32 0#32)

/-- The grid point's block number, as the kernel computes it. -/
def blkW (i : grid0.Coords) : BitVec 32 := Scalar.subi (32#32) (BitVec.ofNat 32 (i 0).val)

theorem out0_A_6_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : cond0_0 i) (x0 : Vec F S128x1024 .f32) (x1 x2 x3 : Vec F S128x512 .f32) (x4 : Vec F S16x1x1 .f32) (x5 : Vec F S128x1024 .f32) :
    out0_A_6 c i a1 h1 a2 h2 a3 h3 a4 h4 a5 h5 a6 h6 a7 h7 a8 h8 a9 h9 a10 h10 a11 h11 hc x0 x1 x2 x3 x4 x5 = dqB (blkW i) x0 x1 x2 x3 x4 x5 := by
  unfold out0_A_6
  rw [View.read_writes_eq_canon _ _ _ (cover0_A_6 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem out0_A_7_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : cond0_0 i) (x0 : Vec F S128x1024 .f32) (x1 x2 x3 : Vec F S128x512 .f32) (x4 : Vec F S16x1x1 .f32) (x5 : Vec F S128x1024 .f32) :
    out0_A_7 c i a1 h1 a2 h2 a3 h3 a4 h4 a5 h5 a6 h6 a7 h7 a8 h8 a9 h9 a10 h10 a11 h11 hc x0 x1 x2 x3 x4 x5 = k0_pay78 (blkW i) (curV (blkW i) x0 x1 x2 x3 x4 x5) (curK (blkW i) x0 x1 x2 x3 x4 x5) k0_pay2 (k0_pay77 (metaV (blkW i) x0 x1 x2 x3 x4 x5) (metaK (blkW i) x0 x1 x2 x3 x4 x5) k0_pay3) := by
  unfold out0_A_7
  rw [View.read_writes_eq_canon _ _ _ (cover0_A_7 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem out0_A_8_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : cond0_0 i) (x0 : Vec F S128x1024 .f32) (x1 x2 x3 : Vec F S128x512 .f32) (x4 : Vec F S16x1x1 .f32) (x5 : Vec F S128x1024 .f32) :
    out0_A_8 c i a1 h1 a2 h2 a3 h3 a4 h4 a5 h5 a6 h6 a7 h7 a8 h8 a9 h9 a10 h10 a11 h11 hc x0 x1 x2 x3 x4 x5 = k0_pay76 (dsinkB (blkW i) x0 x1 x2 x3 x4 x5) k0_pay4 := by
  unfold out0_A_8
  rw [View.read_writes_eq_canon _ _ _ (cover0_A_8 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem sout0_A_0_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : cond0_0 i) (x0 : Vec F S128x1024 .f32) (x1 x2 x3 : Vec F S128x512 .f32) (x4 : Vec F S16x1x1 .f32) (x5 : Vec F S128x1024 .f32) :
    sout0_A_0 c i a1 h1 a2 h2 a3 h3 a4 h4 a5 h5 a6 h6 a7 h7 a8 h8 a9 h9 a10 h10 a11 h11 hc x0 x1 x2 x3 x4 x5 = k0_pay1 (k0_pay79 (prevV (blkW i) x0 x1 x2 x3 x4 x5) (prevK (blkW i) x0 x1 x2 x3 x4 x5)) := by
  unfold sout0_A_0
  rw [View.read_writes_eq_canon _ _ _ (scover0_A_0 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem sout0_A_1_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : cond0_0 i) (x0 : Vec F S128x1024 .f32) (x1 x2 x3 : Vec F S128x512 .f32) (x4 : Vec F S16x1x1 .f32) (x5 : Vec F S128x1024 .f32) :
    sout0_A_1 c i a1 h1 a2 h2 a3 h3 a4 h4 a5 h5 a6 h6 a7 h7 a8 h8 a9 h9 a10 h10 a11 h11 hc x0 x1 x2 x3 x4 x5 = k0_pay77 (metaV (blkW i) x0 x1 x2 x3 x4 x5) (metaK (blkW i) x0 x1 x2 x3 x4 x5) k0_pay3 := by
  unfold sout0_A_1
  rw [View.read_writes_eq_canon _ _ _ (scover0_A_1 c i a1 h1 a2 h2 a3 h3 a4 h4 a5 h5 a6 h6 a7 h7 a8 h8 a9 h9 a10 h10 a11 h11 hc x0 x1 x2 x3 x4 x5)]
  unfold kernelRun0_A
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem out0_B_6_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : ¬cond0_0 i) (x0 : Vec F S128x1024 .f32) (x1 x2 x3 : Vec F S128x512 .f32) (x4 : Vec F S16x1x1 .f32) (x5 : Vec F S128x1024 .f32) (xo8 : Vec F S16x1x1 .f32) (xs0 xs1 : Vec F S128x512 .f32) :
    out0_B_6 c i a1 h1 a2 h2 a3 h3 a4 h4 a5 h5 a6 h6 a7 h7 a8 h8 a9 h9 a10 h10 a11 h11 hc x0 x1 x2 x3 x4 x5 xo8 xs0 xs1 = dqB (blkW i) x0 x1 x2 x3 x4 x5 := by
  unfold out0_B_6
  rw [View.read_writes_eq_canon _ _ _ (cover0_B_6 c i a1 h1 a2 h2 a3 h3 a4 h4 a5 h5 a6 h6 a7 h7 a8 h8 a9 h9 a10 h10 a11 h11 hc x0 x1 x2 x3 x4 x5 xo8 xs0 xs1)]
  unfold kernelRun0_B
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem out0_B_7_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : ¬cond0_0 i) (x0 : Vec F S128x1024 .f32) (x1 x2 x3 : Vec F S128x512 .f32) (x4 : Vec F S16x1x1 .f32) (x5 : Vec F S128x1024 .f32) (xo8 : Vec F S16x1x1 .f32) (xs0 xs1 : Vec F S128x512 .f32) :
    out0_B_7 c i a1 h1 a2 h2 a3 h3 a4 h4 a5 h5 a6 h6 a7 h7 a8 h8 a9 h9 a10 h10 a11 h11 hc x0 x1 x2 x3 x4 x5 xo8 xs0 xs1 = k0_pay78 (blkW i) (curV (blkW i) x0 x1 x2 x3 x4 x5) (curK (blkW i) x0 x1 x2 x3 x4 x5) xs0 (k0_pay77 (metaV (blkW i) x0 x1 x2 x3 x4 x5) (metaK (blkW i) x0 x1 x2 x3 x4 x5) xs1) := by
  unfold out0_B_7
  rw [View.read_writes_eq_canon _ _ _ (cover0_B_7 c i a1 h1 a2 h2 a3 h3 a4 h4 a5 h5 a6 h6 a7 h7 a8 h8 a9 h9 a10 h10 a11 h11 hc x0 x1 x2 x3 x4 x5 xo8 xs0 xs1)]
  unfold kernelRun0_B
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem out0_B_8_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : ¬cond0_0 i) (x0 : Vec F S128x1024 .f32) (x1 x2 x3 : Vec F S128x512 .f32) (x4 : Vec F S16x1x1 .f32) (x5 : Vec F S128x1024 .f32) (xo8 : Vec F S16x1x1 .f32) (xs0 xs1 : Vec F S128x512 .f32) :
    out0_B_8 c i a1 h1 a2 h2 a3 h3 a4 h4 a5 h5 a6 h6 a7 h7 a8 h8 a9 h9 a10 h10 a11 h11 hc x0 x1 x2 x3 x4 x5 xo8 xs0 xs1 = k0_pay76 (dsinkB (blkW i) x0 x1 x2 x3 x4 x5) xo8 := by
  unfold out0_B_8
  rw [View.read_writes_eq_canon _ _ _ (cover0_B_8 c i a1 h1 a2 h2 a3 h3 a4 h4 a5 h5 a6 h6 a7 h7 a8 h8 a9 h9 a10 h10 a11 h11 hc x0 x1 x2 x3 x4 x5 xo8 xs0 xs1)]
  unfold kernelRun0_B
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem sout0_B_0_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : ¬cond0_0 i) (x0 : Vec F S128x1024 .f32) (x1 x2 x3 : Vec F S128x512 .f32) (x4 : Vec F S16x1x1 .f32) (x5 : Vec F S128x1024 .f32) (xo8 : Vec F S16x1x1 .f32) (xs0 xs1 : Vec F S128x512 .f32) :
    sout0_B_0 c i a1 h1 a2 h2 a3 h3 a4 h4 a5 h5 a6 h6 a7 h7 a8 h8 a9 h9 a10 h10 a11 h11 hc x0 x1 x2 x3 x4 x5 xo8 xs0 xs1 = k0_pay1 (k0_pay79 (prevV (blkW i) x0 x1 x2 x3 x4 x5) (prevK (blkW i) x0 x1 x2 x3 x4 x5)) := by
  unfold sout0_B_0
  rw [View.read_writes_eq_canon _ _ _ (scover0_B_0 c i a1 h1 a2 h2 a3 h3 a4 h4 a5 h5 a6 h6 a7 h7 a8 h8 a9 h9 a10 h10 a11 h11 hc x0 x1 x2 x3 x4 x5 xo8 xs0 xs1)]
  unfold kernelRun0_B
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

theorem sout0_B_1_eq (c : Dev nD) (i : grid0.Coords) (a1 : Memref sig .tc .vmem S128x1024 .f32) (h1 : a1.IsWhole) (a2 : Memref sig .tc .vmem S128x512 .f32) (h2 : a2.IsWhole) (a3 : Memref sig .tc .vmem S128x512 .f32) (h3 : a3.IsWhole) (a4 : Memref sig .tc .vmem S128x512 .f32) (h4 : a4.IsWhole) (a5 : Memref sig .tc .vmem S16x1x1 .f32) (h5 : a5.IsWhole) (a6 : Memref sig .tc .vmem S128x1024 .f32) (h6 : a6.IsWhole) (a7 : Memref sig .tc .vmem S128x1024 .f32) (h7 : a7.IsWhole) (a8 : Memref sig .tc .vmem S128x512 .f32) (h8 : a8.IsWhole) (a9 : Memref sig .tc .vmem S16x1x1 .f32) (h9 : a9.IsWhole) (a10 : Memref sig .tc .vmem S128x512 .f32) (h10 : a10.IsWhole) (a11 : Memref sig .tc .vmem S128x512 .f32) (h11 : a11.IsWhole) (hc : ¬cond0_0 i) (x0 : Vec F S128x1024 .f32) (x1 x2 x3 : Vec F S128x512 .f32) (x4 : Vec F S16x1x1 .f32) (x5 : Vec F S128x1024 .f32) (xo8 : Vec F S16x1x1 .f32) (xs0 xs1 : Vec F S128x512 .f32) :
    sout0_B_1 c i a1 h1 a2 h2 a3 h3 a4 h4 a5 h5 a6 h6 a7 h7 a8 h8 a9 h9 a10 h10 a11 h11 hc x0 x1 x2 x3 x4 x5 xo8 xs0 xs1 = k0_pay77 (metaV (blkW i) x0 x1 x2 x3 x4 x5) (metaK (blkW i) x0 x1 x2 x3 x4 x5) xs1 := by
  unfold sout0_B_1
  rw [View.read_writes_eq_canon _ _ _ (scover0_B_1 c i a1 h1 a2 h2 a3 h3 a4 h4 a5 h5 a6 h6 a7 h7 a8 h8 a9 h9 a10 h10 a11 h11 hc x0 x1 x2 x3 x4 x5 xo8 xs0 xs1)]
  unfold kernelRun0_B
  dsimp only
  sl_unfold_words
  simp only [View.canon_unit_zero (S := S128x1024) hz2, View.canon_unit_zero (S := S128x512) hz2, View.canon_cons_unit_zero (S := S128x512) hz2, View.canon_unit_zero (S := S16x1x1) hz3, View.canon_cons_unit_zero (S := S16x1x1) hz3, View.readCov_cons_toLoadRect, View.readCov_unit_zero (S := S128x512) _ hz2, View.readCov_unit_zero (S := S16x1x1) _ hz3, View.readAt_eq_ld, h1.read_unread, h2.read_unread, h3.read_unread, h4.read_unread, h5.read_unread, h6.read_unread, h7.read_unread, h8.read_unread, h9.read_unread, h10.read_unread, h11.read_unread, View.ld_unit_zero (S := S128x1024) hz2, View.ld_unit_zero (S := S128x512) hz2, View.ld_unit_zero (S := S16x1x1) hz3]
  rfl

end Cert.KernelIdeal.Swa
end
end
-- ==== Proof.Reads.lean ====
/-
  The body's operations that move or mask: what each holds at an index.
-/
module

public import proofs.«01_k».proof.Proof.Step
public import proofs.«01_k».proof.Proof.Core
public import Idealize.ShloMosaic.Lib.Pointwise

@[expose] public section
noncomputable section
namespace Cert.KernelIdeal.Swa
open Cert.KernelIdeal Cert.KernelIdeal.Gen Idealize.ShloMosaic
open _root_.Swa

theorem pay5_apply (v : Vec Ideal S128x512 .f32) (h : Fin 4) (r : Fin 128) (d : Fin 64) :
    k0_pay5 v (ix3 h r d) = v (ix2 r (kcol h d)) := by
  unfold kcol; fin_cases h <;> pointwise [k0_pay5]
theorem pay6_apply (v : Vec Ideal S128x512 .f32) (h : Fin 4) (r : Fin 128) (d : Fin 64) :
    k0_pay6 v (ix3 h r d) = v (ix2 r (vcol h d)) := by
  unfold vcol; fin_cases h <;> pointwise [k0_pay6]
theorem pay7_apply (v : Vec Ideal S128x512 .f32) (h : Fin 4) (r : Fin 128) (d : Fin 64) :
    k0_pay7 v (ix3 h r d) = v (ix2 r (kcol h d)) := by
  unfold kcol; fin_cases h <;> pointwise [k0_pay7]
theorem pay13_apply (v : Vec Ideal S128x512 .f32) (h : Fin 4) (r : Fin 128) (d : Fin 64) :
    k0_pay13 (k0_pay9 v) (k0_pay10 v) (k0_pay11 v) (k0_pay12 v) (ix3 h r d) = v (ix2 r (vcol h d)) := by
  unfold vcol; fin_cases h <;> pointwise [k0_pay13, k0_pay9, k0_pay10, k0_pay11, k0_pay12, k0_pay8]
theorem pay14_apply (v : Vec Ideal S128x512 .f32) (h : Fin 4) (r : Fin 128) (d : Fin 64) :
    k0_pay14 v (ix3 h r d) = v (ix2 r (kcol h d)) := by
  unfold kcol; fin_cases h <;> pointwise [k0_pay14]
theorem pay15_apply (v : Vec Ideal S128x512 .f32) (h : Fin 4) (r : Fin 128) (d : Fin 64) :
    k0_pay15 v (ix3 h r d) = v (ix2 r (vcol h d)) := by
  unfold vcol; fin_cases h <;> pointwise [k0_pay15]
theorem pay17_apply (v : Vec Ideal S16x1x1 .f32) (h g : Fin 4) :
    k0_pay17 v (ix4 h g (0 : Fin 1) (0 : Fin 1)) = v (ix3 (head h g) (0 : Fin 1) (0 : Fin 1)) := by
  unfold head; pointwise [k0_pay17]
theorem pay16_apply (v : Vec Ideal S128x1024 .f32) (h g : Fin 4) (r : Fin 128) (d : Fin 64) :
    k0_pay16 v (ix4 h g r d) = v (ix2 r (qcol h g d)) := by
  unfold qcol; fin_cases h <;> fin_cases g <;> pointwise [k0_pay16]
theorem pay18_apply (v : FVec Ideal S4x4x128x64 .f32) (h g : Fin 4) (r : Fin 128) (d : Fin 64) :
    k0_pay18 v (ix3 h (row4 g r) d) = v (ix4 h g r d) * Ideal.ofBits FTy.f32 1040187392#32 := by
  unfold row4; pointwise [k0_pay18]
theorem pay19_apply (v w x : FVec Ideal S4x128x64 .f32) (h : Fin 4) (c : Fin 384) (d : Fin 64) :
    k0_pay19 v w x (ix3 h c d) = if h1 : c.val < 128 then v (ix3 h (⟨c.val, h1⟩ : Fin 128) d)
      else if h2 : c.val - 128 < 128 then w (ix3 h (⟨c.val - 128, h2⟩ : Fin 128) d) else x (ix3 h (⟨c.val - 128 - 128, by omega⟩ : Fin 128) d) := by
  pointwise [k0_pay19]
theorem pay29_apply (v w x : FVec Ideal S4x128x64 .f32) (h : Fin 4) (c : Fin 384) (d : Fin 64) :
    k0_pay29 v w x (ix3 h c d) = if h1 : c.val < 128 then v (ix3 h (⟨c.val, h1⟩ : Fin 128) d)
      else if h2 : c.val - 128 < 128 then w (ix3 h (⟨c.val - 128, h2⟩ : Fin 128) d) else x (ix3 h (⟨c.val - 128 - 128, by omega⟩ : Fin 128) d) := by
  pointwise [k0_pay29]
theorem pay22_apply (v : FVec Ideal S4x4x1x1 .f32) (h g : Fin 4) (r : Fin 128) :
    k0_pay22 v (ix3 h (row4 g r) (0:Fin 1)) = v (ix4 h g (0:Fin 1) (0 : Fin 1)) := by
  unfold row4
  fin_cases g <;> pointwise [k0_pay22]
  · rw [dif_neg (by omega), dif_neg (by omega), dif_pos (by omega)]
  · rw [dif_neg (by omega), dif_neg (by omega), dif_neg (by omega)]
theorem pay21_apply (v0 : BitVec 32) (v18 v38 v58 : FVec Ideal S4x128x64 .f32) (v102 : FVec Ideal S4x4x128x64 .f32) (h g : Fin 4) (r : Fin 128) (c : Fin 384) :
    k0_pay21 v0 v18 v38 v58 v102 (ix3 h (row4 g r) c) = Scalar.select (k0_pay20 v0 (ix3 h (row4 g r) c))
      (∑ x, v102 (ix4 h g r x) * Ideal.ofBits FTy.f32 1040187392#32 * k0_pay19 v18 v38 v58 (ix3 h c x)) (⊥ : EReal) := by
  unfold row4
  pointwise [k0_pay21, k0_pay18, dot_S4x512x64_S4x384x64_S4x512x384_2_2_1_1_0_0]; rfl
theorem m1 : ∀ c : Fin 384, IntOp.shrsi ArithUnit.vector (BitVec.ofNat 32 c.val) 7#32 = BitVec.ofNat 32 (c.val / 128) := by decide +kernel
theorem m2 : ∀ c : Fin 384, IntOp.andi (BitVec.ofNat 32 c.val) 127#32 = BitVec.ofNat 32 (c.val % 128) := by decide +kernel
theorem m3 : ∀ g : Fin 4, ∀ r : Fin 128, IntOp.andi (BitVec.ofNat 32 (128 * g.val + r.val)) 127#32 = BitVec.ofNat 32 r.val := by decide +kernel
theorem m4 : ∀ a b : Fin 128, IntOp.cmpi CmpIPredicate.sle (BitVec.ofNat 32 a.val) (BitVec.ofNat 32 b.val) = BitVec.ofBool (decide (a.val ≤ b.val)) := by decide +kernel
theorem m5 : ∀ a b : Fin 128, IntOp.cmpi CmpIPredicate.sgt (BitVec.ofNat 32 a.val) (BitVec.ofNat 32 b.val) = BitVec.ofBool (decide (b.val < a.val)) := by decide +kernel
theorem m6 : ∀ a : Fin 128, IntOp.cmpi CmpIPredicate.sge (BitVec.ofNat 32 a.val) 112#32 = BitVec.ofBool (decide (112 ≤ a.val)) := by decide +kernel
theorem m7 : ∀ n : Fin 33, Scalar.cmpi CmpIPredicate.sge (BitVec.ofNat 32 n.val) 1#32 = BitVec.ofBool (decide (1 ≤ n.val)) := by decide +kernel
theorem m8 : ∀ n : Fin 33, Scalar.cmpi CmpIPredicate.sge (BitVec.ofNat 32 n.val) 2#32 = BitVec.ofBool (decide (2 ≤ n.val)) := by decide +kernel
theorem m9 : ∀ (k : Fin 3) (c : Fin 384), IntOp.cmpi CmpIPredicate.eq (BitVec.ofNat 32 (c.val / 128)) (BitVec.ofNat 32 k.val) = BitVec.ofBool (decide (c.val / 128 = k.val)) := by decide +kernel
theorem ori_ofBool (a b : Bool) : IntOp.ori (BitVec.ofBool a) (BitVec.ofBool b) = BitVec.ofBool (a || b) := by cases a <;> cases b <;> rfl
theorem andi_ofBool (a b : Bool) : IntOp.andi (BitVec.ofBool a) (BitVec.ofBool b) = BitVec.ofBool (a && b) := by cases a <;> cases b <;> rfl

theorem pay20_apply (n : Fin 33) (h g : Fin 4) (r : Fin 128) (c : Fin 384) :
    k0_pay20 (BitVec.ofNat 32 n.val) (ix3 h (row4 g r) c) = BitVec.ofBool (decide (ok n r c)) := by
  unfold row4
  pointwise [k0_pay20]
  have hc : c.val % 128 < 128 := Nat.mod_lt _ (by decide)
  have s := m4 ⟨c.val % 128, hc⟩ r
  have t := m5 ⟨c.val % 128, hc⟩ r
  have u := m6 ⟨c.val % 128, hc⟩
  have e0 := m9 0 c
  have e1 := m9 1 c
  have e2 := m9 2 c
  dsimp only at s t u
  rw [m1, m2, m3, s, t, u, m7, m8]
  erw [e0, e1, e2]
  simp only [ori_ofBool, andi_ofBool]
  congr 1
  rw [Bool.eq_iff_iff]
  simp only [Bool.or_eq_true, Bool.and_eq_true, decide_eq_true_eq]
  unfold ok
  have v0 : ((0 : Fin 3) : ℕ) = 0 := rfl
  have v1 : ((1 : Fin 3) : ℕ) = 1 := rfl
  have v2 : ((2 : Fin 3) : ℕ) = 2 := rfl
  rw [v0, v1, v2]
  omega

theorem bits_neg_inf : Ideal.ofBits FTy.f32 4286578688#32 = ⊥ := by
  simp [Ideal.ofBits, Ideal.ieee]
theorem pay23_apply (v103 : FVec Ideal S4x4x1x1 .f32) (v150 : FVec Ideal S4x512x384 .f32) (h g : Fin 4) (r : Fin 128) :
    k0_pay23 v103 v150 (ix3 h (row4 g r) (0:Fin 1)) = rMax (fun x => v150 (ix3 h (row4 g r) x)) (v103 (ix4 h g (0:Fin 1) (0 : Fin 1))) := by
  pointwise [k0_pay23]
  rw [pay22_apply, bits_neg_inf]; rfl
end Cert.KernelIdeal.Swa
end
end
-- ==== Proof.Ops.lean ====
module

public import proofs.«01_k».proof.Proof.Step
public import proofs.«01_k».proof.Proof.Reads
public import Idealize.ShloMosaic.Lib.Pointwise

@[expose] public section
noncomputable section
namespace Cert.KernelIdeal.Swa
open Cert.KernelIdeal Cert.KernelIdeal.Gen Idealize.ShloMosaic
open _root_.Swa

theorem pay24_apply (v103 : FVec Ideal S4x4x1x1 .f32) (v150 : FVec Ideal S4x512x384 .f32) (h g : Fin 4) (r : Fin 128) (c : Fin 384) :
    k0_pay24 v103 v150 (ix3 h (row4 g r) c) = rExp (fun x => v150 (ix3 h (row4 g r) x)) (v103 (ix4 h g (0:Fin 1) (0 : Fin 1))) c := by
  pointwise [k0_pay24]; rw [pay23_apply]; rfl
theorem pay25_apply (v103 : FVec Ideal S4x4x1x1 .f32) (v150 : FVec Ideal S4x512x384 .f32) (h g : Fin 4) (r : Fin 128) :
    k0_pay25 v103 v150 (ix3 h (row4 g r) (0 : Fin 1)) = rSink (fun x => v150 (ix3 h (row4 g r) x)) (v103 (ix4 h g (0:Fin 1) (0 : Fin 1))) := by
  pointwise [k0_pay25]; rw [pay22_apply, pay23_apply]; rfl
theorem pay26_apply (v103 : FVec Ideal S4x4x1x1 .f32) (v150 : FVec Ideal S4x512x384 .f32) (h g : Fin 4) (r : Fin 128) :
    k0_pay26 v103 v150 (ix3 h (row4 g r) (0 : Fin 1)) = rDen (fun x => v150 (ix3 h (row4 g r) x)) (v103 (ix4 h g (0:Fin 1) (0 : Fin 1))) := by
  pointwise [k0_pay26]; simp only [pay24_apply, pay25_apply]; rfl
theorem pay27_apply (v103 : FVec Ideal S4x4x1x1 .f32) (v150 : FVec Ideal S4x512x384 .f32) (h g : Fin 4) (r : Fin 128) (c : Fin 384) :
    k0_pay27 v103 v150 (ix3 h (row4 g r) c) = rProb (fun x => v150 (ix3 h (row4 g r) x)) (v103 (ix4 h g (0:Fin 1) (0 : Fin 1))) c := by
  pointwise [k0_pay27]; rw [pay24_apply, pay26_apply]; rfl
theorem bits_one : Ideal.ofBits FTy.f32 1065353216#32 = 1 := by
  simp [Ideal.ofBits, Ideal.ieee, -EReal.coe_mul]; norm_num
theorem pay28_apply (v103 : FVec Ideal S4x4x1x1 .f32) (v150 : FVec Ideal S4x512x384 .f32) (h g : Fin 4) (r : Fin 128) :
    k0_pay28 v103 v150 (ix3 h (row4 g r) (0 : Fin 1)) = rSq (fun x => v150 (ix3 h (row4 g r) x)) (v103 (ix4 h g (0:Fin 1) (0 : Fin 1))) := by
  pointwise [k0_pay28]; rw [pay26_apply]; rfl
theorem pay47_apply (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 512) (c : Fin 384) :
    k0_pay47 v184 v190 v191 v192 v193 v194 v195 v196 v197 v198 v199 v200 v201 v202 v203 v204 v205 (ix3 h r c) = ∑ x, k0_pay46 v190 v191 v192 v193 v194 v195 v196 v197 v198 v199 v200 v201 v202 v203 v204 v205 (ix3 h r x) * v184 (ix3 h c x) := by
  pointwise [k0_pay47, dot_S4x512x64_S4x384x64_S4x512x384_2_2_1_1_0_0]
theorem pay48_apply (v180 : FVec Ideal S4x512x384 .f32) (v190 v191 v192 v193 v194 v195 v196 v197 v198 v199 v200 v201 : FVec Ideal S128x64 .f32) (v202 v203 v204 v205 : FVec Ideal S1x128x64 .f32) (h : Fin 4) (c : Fin 384) (d : Fin 64) :
    k0_pay48 v180 v190 v191 v192 v193 v194 v195 v196 v197 v198 v199 v200 v201 v202 v203 v204 v205 (ix3 h c d) = ∑ x, v180 (ix3 h x c) * k0_pay46 v190 v191 v192 v193 v194 v195 v196 v197 v198 v199 v200 v201 v202 v203 v204 v205 (ix3 h x d) := by
  pointwise [k0_pay48, dot_S4x512x384_S4x512x64_S4x384x64_1_1_2_2_0_0]
theorem pay49_apply (v180 : FVec Ideal S4x512x384 .f32) (v190 v191 v192 v193 v194 v195 v196 v197 v198 v199 v200 v201 : FVec Ideal S128x64 .f32) (v202 v203 v204 v205 : FVec Ideal S1x128x64 .f32) (h : Fin 4) (r : Fin 128) (d : Fin 64) :
    k0_pay49 v180 v190 v191 v192 v193 v194 v195 v196 v197 v198 v199 v200 v201 v202 v203 v204 v205 (ix3 h r d) = k0_pay48 v180 v190 v191 v192 v193 v194 v195 v196 v197 v198 v199 v200 v201 v202 v203 v204 v205 (ix3 h (c0 r) d) := by
  unfold c0; pointwise [k0_pay49]
theorem pay50_apply (v180 : FVec Ideal S4x512x384 .f32) (v190 v191 v192 v193 v194 v195 v196 v197 v198 v199 v200 v201 : FVec Ideal S128x64 .f32) (v202 v203 v204 v205 : FVec Ideal S1x128x64 .f32) (h : Fin 4) (r : Fin 128) (d : Fin 64) :
    k0_pay50 v180 v190 v191 v192 v193 v194 v195 v196 v197 v198 v199 v200 v201 v202 v203 v204 v205 (ix3 h r d) = k0_pay48 v180 v190 v191 v192 v193 v194 v195 v196 v197 v198 v199 v200 v201 v202 v203 v204 v205 (ix3 h (c1 r) d) := by
  unfold c1; pointwise [k0_pay50]
theorem pay51_apply (v180 : FVec Ideal S4x512x384 .f32) (v190 v191 v192 v193 v194 v195 v196 v197 v198 v199 v200 v201 : FVec Ideal S128x64 .f32) (v202 v203 v204 v205 : FVec Ideal S1x128x64 .f32) (h : Fin 4) (r : Fin 128) (d : Fin 64) :
    k0_pay51 v180 v190 v191 v192 v193 v194 v195 v196 v197 v198 v199 v200 v201 v202 v203 v204 v205 (ix3 h r d) = k0_pay48 v180 v190 v191 v192 v193 v194 v195 v196 v197 v198 v199 v200 v201 v202 v203 v204 v205 (ix3 h (c2 r) d) := by
  unfold c2; pointwise [k0_pay51]
theorem pay52_apply (v173 : FVec Ideal S4x512x384 .f32) (v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 512) :
    k0_pay52 v173 v183 v184 v190 v191 v192 v193 v194 v195 v196 v197 v198 v199 v200 v201 v202 v203 v204 v205 (ix3 h r (0 : Fin 1)) = 0 - ∑ x, k0_pay47 v184 v190 v191 v192 v193 v194 v195 v196 v197 v198 v199 v200 v201 v202 v203 v204 v205 (ix3 h r x) * v183 (ix3 h r (0 : Fin 1)) * v173 (ix3 h r x) := by
  pointwise [k0_pay52]
theorem pay53_apply (v173 : FVec Ideal S4x512x384 .f32) (v177 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 512) :
    k0_pay53 v173 v177 v183 v184 v190 v191 v192 v193 v194 v195 v196 v197 v198 v199 v200 v201 v202 v203 v204 v205 (ix3 h r (0 : Fin 1)) = k0_pay52 v173 v183 v184 v190 v191 v192 v193 v194 v195 v196 v197 v198 v199 v200 v201 v202 v203 v204 v205 (ix3 h r (0 : Fin 1)) * v177 (ix3 h r (0 : Fin 1)) := by
  pointwise [k0_pay53]
theorem pay54_apply (v173 : FVec Ideal S4x512x384 .f32) (v178 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 512) (c : Fin 384) :
    k0_pay54 v173 v178 v183 v184 v190 v191 v192 v193 v194 v195 v196 v197 v198 v199 v200 v201 v202 v203 v204 v205 (ix3 h r c) = (Ideal.div (k0_pay47 v184 v190 v191 v192 v193 v194 v195 v196 v197 v198 v199 v200 v201 v202 v203 v204 v205 (ix3 h r c)) (v178 (ix3 h r (0 : Fin 1))) + k0_pay52 v173 v183 v184 v190 v191 v192 v193 v194 v195 v196 v197 v198 v199 v200 v201 v202 v203 v204 v205 (ix3 h r (0 : Fin 1))) * v173 (ix3 h r c) := by
  pointwise [k0_pay54]
  rw [Fin.sum_univ_one]
theorem pay55_apply (v173 : FVec Ideal S4x512x384 .f32) (v177 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 128) :
    k0_pay55 v173 v177 v183 v184 v190 v191 v192 v193 v194 v195 v196 v197 v198 v199 v200 v201 v202 v203 v204 v205 (ix3 h r (0 : Fin 1)) = k0_pay53 v173 v177 v183 v184 v190 v191 v192 v193 v194 v195 v196 v197 v198 v199 v200 v201 v202 v203 v204 v205 (ix3 h (row4 0 r) (0 : Fin 1)) := by
  unfold row4; pointwise [k0_pay55]
theorem pay56_apply (v173 : FVec Ideal S4x512x384 .f32) (v177 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) (r : Fin 128) :
    k0_pay56 v173 v177 v183 v184 v190 v191 v192 v193 v194 v195 v196 v197 v198 v199 v200 v201 v202 v203 v204 v205 (ix3 h r (0 : Fin 1)) = k0_pay53 v173 v177 v183 v184 v190 v191 v192 v193 v194 v195 v196 v197 v198 v199 v200 v201 v202 v203 v204 v205 (ix3 h (row4 1 r) (0 : Fin 1)) := by
  unfold row4; pointwise [k0_pay56]

theorem pay57_apply (v173 : FVec Ideal S4x512x384 .f32) (v177 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h g : Fin 4) :
    k0_pay57 v173 v177 v183 v184 v190 v191 v192 v193 v194 v195 v196 v197 v198 v199 v200 v201 v202 v203 v204 v205 (ix4 h g (0 : Fin 1) (0 : Fin 1)) = if g = 3 then ∑ r, k0_pay53 v173 v177 v183 v184 v190 v191 v192 v193 v194 v195 v196 v197 v198 v199 v200 v201 v202 v203 v204 v205 (ix3 h (row4 3 r) (0 : Fin 1)) else 0 := by
  unfold row4; fin_cases g <;> pointwise [k0_pay57]
  simp only [Fin.sum_univ_one]
theorem pay58_apply (v173 : FVec Ideal S4x512x384 .f32) (v177 v183 : FVec Ideal S4x512x1 .f32) (v184 : FVec Ideal S4x384x64 .f32) (v190 v191 v192 v193 v194 v195 v196 v197 v198 v199 v200 v201 : FVec Ideal S128x64 .f32) (v202 v203 v204 v205 : FVec Ideal S1x128x64 .f32) (h : Fin 4) :
    k0_pay58 v173 v177 v183 v184 v190 v191 v192 v193 v194 v195 v196 v197 v198 v199 v200 v201 v202 v203 v204 v205 (ix4 h (0 : Fin 1) (0 : Fin 1) (0 : Fin 1)) = ∑ r, k0_pay53 v173 v177 v183 v184 v190 v191 v192 v193 v194 v195 v196 v197 v198 v199 v200 v201 v202 v203 v204 v205 (ix3 h (row4 2 r) (0 : Fin 1)) := by
  unfold row4; pointwise [k0_pay58]; simp only [Fin.sum_univ_one]
theorem pay59_apply (v245 v246 : FVec Ideal S4x128x1 .f32) (v253 : FVec Ideal S4x4x1x1 .f32) (v256 : FVec Ideal S4x1x1x1 .f32) (h g : Fin 4) :
    k0_pay59 v245 v246 v253 v256 (Ideal.ofBits FTy.f32 0#32) (ix4 h g (0 : Fin 1) (0 : Fin 1)) =
      v253 (ix4 h g (0 : Fin 1) (0 : Fin 1)) + (if g = 2 then v256 (ix4 h (0 : Fin 1) (0 : Fin 1) (0 : Fin 1)) else 0)
        + (if g = 1 then ∑ r, v246 (ix3 h r (0 : Fin 1)) else 0) + (if g = 0 then ∑ r, v245 (ix3 h r (0 : Fin 1)) else 0) := by
  fin_cases g <;> pointwise [k0_pay59]
  · simp only [Fin.sum_univ_one]
  · simp only [Fin.sum_univ_one]
theorem pay60_apply (v147 : IVec S4x512x384 1) (v244 : FVec Ideal S4x512x384 .f32) (h : Fin 4) (r : Fin 512) (c : Fin 384) :
    k0_pay60 v147 v244 (ix3 h r c) = Scalar.select (v147 (ix3 h r c)) (v244 (ix3 h r c)) (0 : EReal) := by
  pointwise [k0_pay60]
theorem pay61_apply (v106 : FVec Ideal S4x512x64 .f32) (v147 : IVec S4x512x384 1) (v244 : FVec Ideal S4x512x384 .f32) (h : Fin 4) (c : Fin 384) (d : Fin 64) :
    k0_pay61 v106 v147 v244 (ix3 h c d) = ∑ x, k0_pay60 v147 v244 (ix3 h x c) * v106 (ix3 h x d) := by
  pointwise [k0_pay61, dot_S4x512x384_S4x512x64_S4x384x64_1_1_2_2_0_0]
theorem pay62_apply (v106 : FVec Ideal S4x512x64 .f32) (v147 : IVec S4x512x384 1) (v244 : FVec Ideal S4x512x384 .f32) (h : Fin 4) (r : Fin 128) (d : Fin 64) :
    k0_pay62 v106 v147 v244 (ix3 h r d) = k0_pay61 v106 v147 v244 (ix3 h (c0 r) d) := by
  unfold c0; pointwise [k0_pay62]
theorem pay63_apply (v106 : FVec Ideal S4x512x64 .f32) (v147 : IVec S4x512x384 1) (v244 : FVec Ideal S4x512x384 .f32) (h : Fin 4) (r : Fin 128) (d : Fin 64) :
    k0_pay63 v106 v147 v244 (ix3 h r d) = k0_pay61 v106 v147 v244 (ix3 h (c1 r) d) := by
  unfold c1; pointwise [k0_pay63]
theorem pay64_apply (v106 : FVec Ideal S4x512x64 .f32) (v147 : IVec S4x512x384 1) (v244 : FVec Ideal S4x512x384 .f32) (h : Fin 4) (r : Fin 128) (d : Fin 64) :
    k0_pay64 v106 v147 v244 (ix3 h r d) = k0_pay61 v106 v147 v244 (ix3 h (c2 r) d) := by
  unfold c2; pointwise [k0_pay64]

theorem pay65_apply (v107 : FVec Ideal S4x384x64 .f32) (v147 : IVec S4x512x384 1) (v244 : FVec Ideal S4x512x384 .f32) (h g : Fin 4) (r : Fin 128) (d : Fin 64) :
    k0_pay65 v107 v147 v244 (ix3 (head h g) r d) = (∑ x, k0_pay60 v147 v244 (ix3 h (row4 g r) x) * v107 (ix3 h x d)) * Ideal.ofBits FTy.f32 1040187392#32 := by
  unfold row4 head
  pointwise [k0_pay65, dot_S4x512x384_S4x384x64_S4x512x64_2_1_1_2_0_0]
  have e : (h.val * 4 + g.val) % 4 * 128 + r.val = 128 * g.val + r.val := by omega
  simp only [e]
theorem pay76_apply (v275 : FVec Ideal S4x4x1x1 .f32) (v325 : Vec Ideal S16x1x1 .f32) (h g : Fin 4) :
    k0_pay76 v275 v325 (ix3 (head h g) (0 : Fin 1) (0 : Fin 1)) = v325 (ix3 (head h g) (0 : Fin 1) (0 : Fin 1)) + v275 (ix4 h g (0 : Fin 1) (0 : Fin 1)) := by
  unfold head; pointwise [k0_pay76]

theorem pay79_K (V K : FVec Ideal S4x128x64 .f32) (h : Fin 4) (r : Fin 128) (d : Fin 64) :
    k0_pay79 V K (ix2 r (kcol h d)) = K (ix3 h r d) := by
  unfold kcol; fin_cases h <;> pointwise [k0_pay79]
  · rw [dif_pos (by omega)]
  · rw [dif_pos (by omega)]
  · rw [dif_pos (by omega), dif_neg (by omega), dif_neg (by omega), dif_pos (by omega)]
    exact congrArg K (congrArg (fun a => ix3 (2 : Fin 4) r a) (Fin.ext (by dsimp only; omega)))
  · rw [dif_pos (by omega), dif_neg (by omega), dif_neg (by omega), dif_neg (by omega)]
    exact congrArg K (congrArg (fun a => ix3 (3 : Fin 4) r a) (Fin.ext (by dsimp only; omega)))
theorem pay79_V (V K : FVec Ideal S4x128x64 .f32) (h : Fin 4) (r : Fin 128) (d : Fin 64) :
    k0_pay79 V K (ix2 r (vcol h d)) = V (ix3 h r d) := by
  unfold vcol; fin_cases h <;> pointwise [k0_pay79]
  · rw [dif_neg (by omega), dif_neg (by omega), dif_pos (by omega)]
    exact congrArg V (congrArg (fun a => ix3 (2 : Fin 4) r a) (Fin.ext (by dsimp only; omega)))
  · rw [dif_neg (by omega), dif_neg (by omega), dif_neg (by omega)]
    exact congrArg V (congrArg (fun a => ix3 (3 : Fin 4) r a) (Fin.ext (by dsimp only; omega)))
theorem pay1_eq (v : FVec Ideal S128x512 .f32) : k0_pay1 v = v := by
  unfold k0_pay1; exact shapeCast_self ..
theorem pay77_eq (V K : FVec Ideal S4x128x64 .f32) (a : Vec Ideal S128x512 .f32) (i : S128x512.Idx) :
    k0_pay77 V K a i = a i + k0_pay79 V K i := by
  unfold k0_pay77; rw [shapeCast_self]; rfl
theorem first_weight : ∀ n : Fin 33, (Scalar.extui (Scalar.cmpi CmpIPredicate.eq (BitVec.ofNat 32 n.val) 0#32) : BitVec 32).toInt = if n.val = 0 then 1 else 0 := by
  decide +kernel
theorem pay78_eq (n : Fin 33) (V K : FVec Ideal S4x128x64 .f32) (a b : Vec Ideal S128x512 .f32) (i : S128x512.Idx) :
    k0_pay78 (BitVec.ofNat 32 n.val) V K a b i = k0_pay79 V K i + a i + (if n.val = 0 then b i else 0) := by
  have e : k0_pay78 (BitVec.ofNat 32 n.val) V K a b i = k0_pay79 V K i + a i
      + ((((Scalar.extui (Scalar.cmpi CmpIPredicate.eq (BitVec.ofNat 32 n.val) 0#32) : BitVec 32).toInt : ℤ) : ℝ) : EReal) * b i := rfl
  rw [e, first_weight n]
  split_ifs <;> simp

theorem pay2_apply (i : S128x512.Idx) : k0_pay2 (F := Ideal) i = 0 := by
  pointwise [k0_pay2]
theorem pay3_apply (i : S128x512.Idx) : k0_pay3 (F := Ideal) i = 0 := by
  pointwise [k0_pay3]
theorem pay4_apply (i : S16x1x1.Idx) : k0_pay4 (F := Ideal) i = 0 := by
  pointwise [k0_pay4]

end Cert.KernelIdeal.Swa
end
end
-- ==== Proof.Heads.lean ====
/-
  The sixteen heads' columns: the output gradients read by head, and the heads of the queries' gradient set side by side.
-/
module

public import proofs.«01_k».proof.Proof.Step
public import proofs.«01_k».proof.Proof.Core
public import Idealize.ShloMosaic.Lib.Pointwise

@[expose] public section
noncomputable section
namespace Cert.KernelIdeal.Swa
open Cert.KernelIdeal Cert.KernelIdeal.Gen Idealize.ShloMosaic
open _root_.Swa

theorem casts_apply (w : FVec Ideal S16x128x64 .f32) (h g : Fin 4) (r : Fin 128) (d : Fin 64) :
    shapeCast S4x512x64 (shapeCast S4x4x128x64 w shapeCasts_S16x128x64_S4x4x128x64) shapeCasts_S4x4x128x64_S4x512x64 (ix3 h (row4 g r) d)
      = w (ix3 (head h g) r d) := by
  unfold row4 head; pointwise
  refine congrArg w (congrArg (fun a => ix3 a r d) (Fin.ext ?_)); dsimp only; omega
theorem pay46_apply (x5 : Vec Ideal S128x1024 .f32) (h g : Fin 4) (r : Fin 128) (d : Fin 64) :
    k0_pay46 (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5) (ix3 h (row4 g r) d) = x5 (ix2 r (qcol h g d)) := by
  unfold k0_pay46
  rw [casts_apply]
  unfold qcol head; fin_cases h <;> fin_cases g
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]
  · pointwise [k0_pay30, k0_pay31, k0_pay32, k0_pay33, k0_pay34, k0_pay35, k0_pay36, k0_pay37, k0_pay38, k0_pay39, k0_pay40, k0_pay41, k0_pay42, k0_pay43, k0_pay44, k0_pay45]

theorem cat16 (f : Fin 16 → FVec Ideal S128x64 .f32) (h g : Fin 4) (r : Fin 128) (d : Fin 64) :
    concatenate S128x1024 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩, ⟨S128x64, f 8⟩, ⟨S128x64, f 9⟩, ⟨S128x64, f 10⟩, ⟨S128x64, f 11⟩, ⟨S128x64, f 12⟩, ⟨S128x64, f 13⟩, ⟨S128x64, f 14⟩, ⟨S128x64, f 15⟩] concatenates_S128x64_S128x64_S128x64_S128x64_S128x64_S128x64_S128x64_S128x64_S128x64_S128x64_S128x64_S128x64_S128x64_S128x64_S128x64_S128x64_S128x1024_d1 (ix2 r (qcol h g d)) = f (head h g) (ix2 r d) := by
  refine concatenate_ofFn_apply (t := S128x1024) (s₁ := S128x64) 1 f concatenates_S128x64_S128x64_S128x64_S128x64_S128x64_S128x64_S128x64_S128x64_S128x64_S128x64_S128x64_S128x64_S128x64_S128x64_S128x64_S128x64_S128x1024_d1 rfl 64 rfl (ix2 r (qcol h g d)) (head h g) ?_ (ix2 r d) ?_ ?_
  · show (256 * h.val + 64 * g.val + d.val) / 64 = h.val * 4 + g.val
    omega
  · show d.val = (256 * h.val + 64 * g.val + d.val) % 64
    omega
  · intro b hb
    fin_cases b
    · rfl
    · exact absurd rfl hb

theorem pay75_of (v290 : FVec Ideal S16x128x64 .f32) (v292 v294 v296 v298 v300 v302 v304 v306 v308 : FVec Ideal S128x64 .f32) (f : Fin 16 → FVec Ideal S128x64 .f32)
    (e0 : v292 = f 0) (e1 : v294 = f 1) (e2 : v296 = f 2) (e3 : v298 = f 3) (e4 : v300 = f 4) (e5 : v302 = f 5) (e6 : v304 = f 6) (e7 : v306 = f 7) (e8 : v308 = f 8) (e9 : shapeCast S128x64 (extractStridedSlice S1x128x64 ![9, 0, 0] v290 slices_S16x128x64_o9_0_0_S1x128x64) shapeCasts_S1x128x64_S128x64 = f 9) (e10 : shapeCast S128x64 (extractStridedSlice S1x128x64 ![10, 0, 0] v290 slices_S16x128x64_o10_0_0_S1x128x64) shapeCasts_S1x128x64_S128x64 = f 10) (e11 : shapeCast S128x64 (extractStridedSlice S1x128x64 ![11, 0, 0] v290 slices_S16x128x64_o11_0_0_S1x128x64) shapeCasts_S1x128x64_S128x64 = f 11) (e12 : shapeCast S128x64 (extractStridedSlice S1x128x64 ![12, 0, 0] v290 slices_S16x128x64_o12_0_0_S1x128x64) shapeCasts_S1x128x64_S128x64 = f 12) (e13 : shapeCast S128x64 (extractStridedSlice S1x128x64 ![13, 0, 0] v290 slices_S16x128x64_o13_0_0_S1x128x64) shapeCasts_S1x128x64_S128x64 = f 13) (e14 : shapeCast S128x64 (extractStridedSlice S1x128x64 ![14, 0, 0] v290 slices_S16x128x64_o14_0_0_S1x128x64) shapeCasts_S1x128x64_S128x64 = f 14) (e15 : shapeCast S128x64 (extractStridedSlice S1x128x64 ![15, 0, 0] v290 slices_S16x128x64_o15_0_0_S1x128x64) shapeCasts_S1x128x64_S128x64 = f 15) (h g : Fin 4) (r : Fin 128) (d : Fin 64) :
    k0_pay75 v290 v292 v294 v296 v298 v300 v302 v304 v306 v308 (ix2 r (qcol h g d)) = f (head h g) (ix2 r d) := by
  unfold k0_pay75
  rw [e0, e1, e2, e3, e4, e5, e6, e7, e8, e9, e10, e11, e12, e13, e14, e15]
  exact cat16 f h g r d

theorem piece0 (v107 : FVec Ideal S4x384x64 .f32) (v147 : IVec S4x512x384 1) (v244 : FVec Ideal S4x512x384 .f32) : k0_pay66 v107 v147 v244 = fun i => k0_pay65 v107 v147 v244 (ix3 (0 : Fin 16) (i 0) (i 1)) := by
  funext i; idx_vars i; pointwise [k0_pay66]
theorem piece1 (v107 : FVec Ideal S4x384x64 .f32) (v147 : IVec S4x512x384 1) (v244 : FVec Ideal S4x512x384 .f32) : k0_pay67 v107 v147 v244 = fun i => k0_pay65 v107 v147 v244 (ix3 (1 : Fin 16) (i 0) (i 1)) := by
  funext i; idx_vars i; pointwise [k0_pay67]
theorem piece2 (v107 : FVec Ideal S4x384x64 .f32) (v147 : IVec S4x512x384 1) (v244 : FVec Ideal S4x512x384 .f32) : k0_pay68 v107 v147 v244 = fun i => k0_pay65 v107 v147 v244 (ix3 (2 : Fin 16) (i 0) (i 1)) := by
  funext i; idx_vars i; pointwise [k0_pay68]
theorem piece3 (v107 : FVec Ideal S4x384x64 .f32) (v147 : IVec S4x512x384 1) (v244 : FVec Ideal S4x512x384 .f32) : k0_pay69 v107 v147 v244 = fun i => k0_pay65 v107 v147 v244 (ix3 (3 : Fin 16) (i 0) (i 1)) := by
  funext i; idx_vars i; pointwise [k0_pay69]
theorem piece4 (v107 : FVec Ideal S4x384x64 .f32) (v147 : IVec S4x512x384 1) (v244 : FVec Ideal S4x512x384 .f32) : k0_pay70 v107 v147 v244 = fun i => k0_pay65 v107 v147 v244 (ix3 (4 : Fin 16) (i 0) (i 1)) := by
  funext i; idx_vars i; pointwise [k0_pay70]
theorem piece5 (v107 : FVec Ideal S4x384x64 .f32) (v147 : IVec S4x512x384 1) (v244 : FVec Ideal S4x512x384 .f32) : k0_pay71 v107 v147 v244 = fun i => k0_pay65 v107 v147 v244 (ix3 (5 : Fin 16) (i 0) (i 1)) := by
  funext i; idx_vars i; pointwise [k0_pay71]
theorem piece6 (v107 : FVec Ideal S4x384x64 .f32) (v147 : IVec S4x512x384 1) (v244 : FVec Ideal S4x512x384 .f32) : k0_pay72 v107 v147 v244 = fun i => k0_pay65 v107 v147 v244 (ix3 (6 : Fin 16) (i 0) (i 1)) := by
  funext i; idx_vars i; pointwise [k0_pay72]
theorem piece7 (v107 : FVec Ideal S4x384x64 .f32) (v147 : IVec S4x512x384 1) (v244 : FVec Ideal S4x512x384 .f32) : k0_pay73 v107 v147 v244 = fun i => k0_pay65 v107 v147 v244 (ix3 (7 : Fin 16) (i 0) (i 1)) := by
  funext i; idx_vars i; pointwise [k0_pay73]
theorem piece8 (v107 : FVec Ideal S4x384x64 .f32) (v147 : IVec S4x512x384 1) (v244 : FVec Ideal S4x512x384 .f32) : k0_pay74 v107 v147 v244 = fun i => k0_pay65 v107 v147 v244 (ix3 (8 : Fin 16) (i 0) (i 1)) := by
  funext i; idx_vars i; pointwise [k0_pay74]
theorem piece9 (v290 : FVec Ideal S16x128x64 .f32) : shapeCast S128x64 (extractStridedSlice S1x128x64 ![9, 0, 0] v290 slices_S16x128x64_o9_0_0_S1x128x64) shapeCasts_S1x128x64_S128x64 = fun i => v290 (ix3 (9 : Fin 16) (i 0) (i 1)) := by
  funext i; idx_vars i; pointwise
theorem piece10 (v290 : FVec Ideal S16x128x64 .f32) : shapeCast S128x64 (extractStridedSlice S1x128x64 ![10, 0, 0] v290 slices_S16x128x64_o10_0_0_S1x128x64) shapeCasts_S1x128x64_S128x64 = fun i => v290 (ix3 (10 : Fin 16) (i 0) (i 1)) := by
  funext i; idx_vars i; pointwise
theorem piece11 (v290 : FVec Ideal S16x128x64 .f32) : shapeCast S128x64 (extractStridedSlice S1x128x64 ![11, 0, 0] v290 slices_S16x128x64_o11_0_0_S1x128x64) shapeCasts_S1x128x64_S128x64 = fun i => v290 (ix3 (11 : Fin 16) (i 0) (i 1)) := by
  funext i; idx_vars i; pointwise
theorem piece12 (v290 : FVec Ideal S16x128x64 .f32) : shapeCast S128x64 (extractStridedSlice S1x128x64 ![12, 0, 0] v290 slices_S16x128x64_o12_0_0_S1x128x64) shapeCasts_S1x128x64_S128x64 = fun i => v290 (ix3 (12 : Fin 16) (i 0) (i 1)) := by
  funext i; idx_vars i; pointwise
theorem piece13 (v290 : FVec Ideal S16x128x64 .f32) : shapeCast S128x64 (extractStridedSlice S1x128x64 ![13, 0, 0] v290 slices_S16x128x64_o13_0_0_S1x128x64) shapeCasts_S1x128x64_S128x64 = fun i => v290 (ix3 (13 : Fin 16) (i 0) (i 1)) := by
  funext i; idx_vars i; pointwise
theorem piece14 (v290 : FVec Ideal S16x128x64 .f32) : shapeCast S128x64 (extractStridedSlice S1x128x64 ![14, 0, 0] v290 slices_S16x128x64_o14_0_0_S1x128x64) shapeCasts_S1x128x64_S128x64 = fun i => v290 (ix3 (14 : Fin 16) (i 0) (i 1)) := by
  funext i; idx_vars i; pointwise
theorem piece15 (v290 : FVec Ideal S16x128x64 .f32) : shapeCast S128x64 (extractStridedSlice S1x128x64 ![15, 0, 0] v290 slices_S16x128x64_o15_0_0_S1x128x64) shapeCasts_S1x128x64_S128x64 = fun i => v290 (ix3 (15 : Fin 16) (i 0) (i 1)) := by
  funext i; idx_vars i; pointwise

theorem pay75_apply (v107 : FVec Ideal S4x384x64 .f32) (v147 : IVec S4x512x384 1) (v244 : FVec Ideal S4x512x384 .f32) (h g : Fin 4) (r : Fin 128) (d : Fin 64) :
    k0_pay75 (k0_pay65 v107 v147 v244) (k0_pay66 v107 v147 v244) (k0_pay67 v107 v147 v244) (k0_pay68 v107 v147 v244) (k0_pay69 v107 v147 v244) (k0_pay70 v107 v147 v244) (k0_pay71 v107 v147 v244) (k0_pay72 v107 v147 v244) (k0_pay73 v107 v147 v244) (k0_pay74 v107 v147 v244) (ix2 r (qcol h g d)) = k0_pay65 v107 v147 v244 (ix3 (head h g) r d) :=
  pay75_of _ _ _ _ _ _ _ _ _ _ (fun j i => k0_pay65 v107 v147 v244 (ix3 j (i 0) (i 1))) (piece0 _ _ _) (piece1 _ _ _) (piece2 _ _ _) (piece3 _ _ _) (piece4 _ _ _) (piece5 _ _ _) (piece6 _ _ _) (piece7 _ _ _) (piece8 _ _ _) (piece9 _) (piece10 _) (piece11 _) (piece12 _) (piece13 _) (piece14 _) (piece15 _) h g r d

end Cert.KernelIdeal.Swa
end
end
-- ==== Proof.Block.lean ====
/-
  One grid point's stores, as the gradients' parts.
-/
module

public import proofs.«01_k».proof.Proof.Ops
public import proofs.«01_k».proof.Proof.Heads
public import proofs.«01_k».proof.Proof.Spec
public import Idealize.ShloMosaic.Lib.Pointwise

@[expose] public section
noncomputable section
namespace Cert.KernelIdeal.Swa
open Cert.KernelIdeal Cert.KernelIdeal.Gen Idealize.ShloMosaic
open _root_.Swa

/-- The six blocks grid point `n` reads are those of the four arguments. -/
structure Blk (q : Fin 4224 → Fin 1024 → EReal) (kv : Fin 4224 → Fin 512 → EReal) (sk : Fin 16 → EReal)
    (dO : Fin 4224 → Fin 1024 → EReal) (n : Fin 33) (x0 : Vec Ideal S128x1024 .f32) (x1 x2 x3 : Vec Ideal S128x512 .f32)
    (x4 : Vec Ideal S16x1x1 .f32) (x5 : Vec Ideal S128x1024 .f32) : Prop where
  h0 : ∀ r k, x0 (ix2 r k) = q (row n r) k
  h1 : ∀ r k, x1 (ix2 r k) = kv (row 0 r) k
  h2 : ∀ (r : Fin 128) k, x2 (ix2 r k) = kv (⟨128 * (n.val - 1) + r.val, by omega⟩ : Fin 4224) k
  h3 : ∀ r k, x3 (ix2 r k) = kv (row n r) k
  h4 : ∀ a, x4 (ix3 a (0 : Fin 1) (0 : Fin 1)) = sk a
  h5 : ∀ r k, x5 (ix2 r k) = dO (row n r) k

variable {q : Fin 4224 → Fin 1024 → EReal} {kv : Fin 4224 → Fin 512 → EReal} {sk : Fin 16 → EReal}
    {dO : Fin 4224 → Fin 1024 → EReal} {n : Fin 33} {x0 : Vec Ideal S128x1024 .f32} {x1 x2 x3 : Vec Ideal S128x512 .f32}
    {x4 : Vec Ideal S16x1x1 .f32} {x5 : Vec Ideal S128x1024 .f32}
variable (B : Blk q kv sk dO n x0 x1 x2 x3 x4 x5)
include B

theorem Blk.key (h : Fin 4) (c : Fin 384) (d : Fin 64) : keyB x1 x2 x3 (ix3 h c d) = kv (bkey n c) (kcol h d) := by
  unfold keyB
  rw [pay19_apply]
  split_ifs with e1 e2
  · rw [pay5_apply, B.h1]
    exact congrArg (fun j => kv j (kcol h d)) (Fin.ext (by unfold row bkey; dsimp only; rw [if_pos e1]; simp))
  · rw [pay7_apply, B.h2]
    exact congrArg (fun j => kv j (kcol h d)) (Fin.ext (by unfold bkey; dsimp only; rw [if_neg e1, if_pos (by omega)]))
  · rw [pay14_apply, B.h3]
    exact congrArg (fun j => kv j (kcol h d)) (Fin.ext (by unfold row bkey; dsimp only; rw [if_neg e1, if_neg (by omega)]; omega))

theorem Blk.val (h : Fin 4) (c : Fin 384) (d : Fin 64) : valB x1 x2 x3 (ix3 h c d) = kv (bkey n c) (vcol h d) := by
  unfold valB
  rw [pay29_apply]
  split_ifs with e1 e2
  · rw [pay6_apply, B.h1]
    exact congrArg (fun j => kv j (vcol h d)) (Fin.ext (by unfold row bkey; dsimp only; rw [if_pos e1]; simp))
  · rw [pay13_apply, B.h2]
    exact congrArg (fun j => kv j (vcol h d)) (Fin.ext (by unfold bkey; dsimp only; rw [if_neg e1, if_pos (by omega)]))
  · rw [pay15_apply, B.h3]
    exact congrArg (fun j => kv j (vcol h d)) (Fin.ext (by unfold row bkey; dsimp only; rw [if_neg e1, if_neg (by omega)]; omega))

omit B in
theorem select_ofBool {α : Type} (p : Prop) [Decidable p] (a b : α) :
    Scalar.select (BitVec.ofBool (decide p)) a b = if p then a else b := by
  by_cases hp : p
  · rw [if_pos hp, decide_eq_true hp]; rfl
  · rw [if_neg hp, decide_eq_false hp]; rfl

theorem Blk.score (h g : Fin 4) (r : Fin 128) (c : Fin 384) :
    scoreB (BitVec.ofNat 32 n.val) x0 x1 x2 x3 (ix3 h (row4 g r) c) = bS q kv n h g r c := by
  unfold scoreB bS
  rw [pay21_apply, pay20_apply, select_ofBool]
  refine if_congr Iff.rfl (Finset.sum_congr rfl fun d _ => ?_) rfl
  rw [pay16_apply, B.h0]
  have := B.key h c d
  unfold keyB at this
  rw [this]; rfl

theorem Blk.row (h g : Fin 4) (r : Fin 128) : (fun c => scoreB (BitVec.ofNat 32 n.val) x0 x1 x2 x3 (ix3 h (row4 g r) c)) = bS q kv n h g r :=
  funext (B.score h g r)
theorem Blk.sink (h g : Fin 4) : k0_pay17 x4 (ix4 h g (0 : Fin 1) (0 : Fin 1)) = sk (head h g) := by
  rw [pay17_apply, B.h4]

theorem Blk.exp (h g : Fin 4) (r : Fin 128) (c : Fin 384) :
    expB (BitVec.ofNat 32 n.val) x0 x1 x2 x3 x4 (ix3 h (row4 g r) c) = rExp (bS q kv n h g r) (sk (head h g)) c := by
  unfold expB; rw [pay24_apply, B.row, B.sink]
theorem Blk.sinkE (h g : Fin 4) (r : Fin 128) :
    sinkB (BitVec.ofNat 32 n.val) x0 x1 x2 x3 x4 (ix3 h (row4 g r) (0 : Fin 1)) = rSink (bS q kv n h g r) (sk (head h g)) := by
  unfold sinkB; rw [pay25_apply, B.row, B.sink]
theorem Blk.den (h g : Fin 4) (r : Fin 128) :
    denB (BitVec.ofNat 32 n.val) x0 x1 x2 x3 x4 (ix3 h (row4 g r) (0 : Fin 1)) = rDen (bS q kv n h g r) (sk (head h g)) := by
  unfold denB; rw [pay26_apply, B.row, B.sink]
theorem Blk.prob (h g : Fin 4) (r : Fin 128) (c : Fin 384) :
    probB (BitVec.ofNat 32 n.val) x0 x1 x2 x3 x4 (ix3 h (row4 g r) c) = rProb (bS q kv n h g r) (sk (head h g)) c := by
  unfold probB; rw [pay27_apply, B.row, B.sink]
theorem Blk.sq (h g : Fin 4) (r : Fin 128) :
    sqB (BitVec.ofNat 32 n.val) x0 x1 x2 x3 x4 (ix3 h (row4 g r) (0 : Fin 1)) = rSq (bS q kv n h g r) (sk (head h g)) := by
  unfold sqB; rw [pay28_apply, B.row, B.sink]

theorem Blk.dp (h g : Fin 4) (r : Fin 128) (c : Fin 384) :
    k0_pay47 (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5) (ix3 h (row4 g r) c) = gDp kv dO h g (_root_.Swa.row n r) (bkey n c) := by
  rw [pay47_apply]
  refine Finset.sum_congr rfl fun d _ => ?_
  rw [pay46_apply, B.h5, B.val]

theorem Blk.c (h g : Fin 4) (r : Fin 128) :
    k0_pay52 (expB (BitVec.ofNat 32 n.val) x0 x1 x2 x3 x4) (sqB (BitVec.ofNat 32 n.val) x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5) (ix3 h (row4 g r) (0 : Fin 1))
      = rC (bS q kv n h g r) (sk (head h g)) (fun c => gDp kv dO h g (_root_.Swa.row n r) (bkey n c)) := by
  rw [pay52_apply]
  simp only [B.dp, B.sq, B.exp]
  rfl

theorem Blk.dsc (h g : Fin 4) (r : Fin 128) (c : Fin 384) :
    dscB (BitVec.ofNat 32 n.val) x0 x1 x2 x3 x4 x5 (ix3 h (row4 g r) c)
      = rDs (bS q kv n h g r) (sk (head h g)) (fun c => gDp kv dO h g (_root_.Swa.row n r) (bkey n c)) c := by
  unfold dscB
  rw [pay54_apply, B.dp, B.c, B.den, B.exp]
  rfl

theorem Blk.ds (h g : Fin 4) (r : Fin 128) (c : Fin 384) :
    k0_pay60 (k0_pay20 (BitVec.ofNat 32 n.val)) (dscB (BitVec.ofNat 32 n.val) x0 x1 x2 x3 x4 x5) (ix3 h (row4 g r) c)
      = if ok n r c then gDs q kv sk dO h g (_root_.Swa.row n r) (bkey n c) else 0 := by
  rw [pay60_apply, pay20_apply, select_ofBool, B.dsc, b_ds]

theorem Blk.dq (h g : Fin 4) (r : Fin 128) (d : Fin 64) :
    dqB (BitVec.ofNat 32 n.val) x0 x1 x2 x3 x4 x5 (ix2 r (qcol h g d)) = fq q kv sk dO h g (_root_.Swa.row n r) d := by
  unfold dqB
  rw [pay75_apply, pay65_apply]
  simp only [B.ds, B.key]
  exact b_q q kv sk dO n h g r d

theorem Blk.colK (h : Fin 4) (c : Fin 384) (d : Fin 64) :
    k0_pay61 (k0_pay18 (k0_pay16 x0)) (k0_pay20 (BitVec.ofNat 32 n.val)) (dscB (BitVec.ofNat 32 n.val) x0 x1 x2 x3 x4 x5) (ix3 h c d)
      = ∑ g, ∑ r, cell (gK q kv sk dO h g d) n r c := by
  rw [pay61_apply, sum_row4]
  refine Finset.sum_congr rfl fun g _ => Finset.sum_congr rfl fun r _ => ?_
  rw [B.ds, pay18_apply, pay16_apply, B.h0]
  exact b_k q kv sk dO n h g r d c

theorem Blk.colV (hD : DenOk q kv sk) (h : Fin 4) (c : Fin 384) (d : Fin 64) :
    k0_pay48 (probB (BitVec.ofNat 32 n.val) x0 x1 x2 x3 x4) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5) (ix3 h c d) = ∑ g, ∑ r, cell (gV q kv sk dO h g d) n r c := by
  rw [pay48_apply, sum_row4]
  refine Finset.sum_congr rfl fun g _ => Finset.sum_congr rfl fun r _ => ?_
  rw [B.prob, b_prob _ _ _ _ _ _ _ hD, pay46_apply, B.h5]
  exact b_v q kv sk dO n h g r d c

theorem Blk.metaK (h : Fin 4) (r' : Fin 128) (d : Fin 64) :
    metaK (BitVec.ofNat 32 n.val) x0 x1 x2 x3 x4 x5 (ix3 h r' d) = ∑ g, ∑ r, cell (gK q kv sk dO h g d) n r (c0 r') := by
  unfold Swa.metaK; rw [pay62_apply, B.colK]
theorem Blk.metaV (hD : DenOk q kv sk) (h : Fin 4) (r' : Fin 128) (d : Fin 64) :
    metaV (BitVec.ofNat 32 n.val) x0 x1 x2 x3 x4 x5 (ix3 h r' d) = ∑ g, ∑ r, cell (gV q kv sk dO h g d) n r (c0 r') := by
  unfold Swa.metaV; rw [pay49_apply, B.colV hD]
theorem Blk.prevK (h : Fin 4) (r' : Fin 128) (d : Fin 64) :
    prevK (BitVec.ofNat 32 n.val) x0 x1 x2 x3 x4 x5 (ix3 h r' d) = ∑ g, ∑ r, cell (gK q kv sk dO h g d) n r (c1 r') := by
  unfold Swa.prevK; rw [pay63_apply, B.colK]
theorem Blk.prevV (hD : DenOk q kv sk) (h : Fin 4) (r' : Fin 128) (d : Fin 64) :
    prevV (BitVec.ofNat 32 n.val) x0 x1 x2 x3 x4 x5 (ix3 h r' d) = ∑ g, ∑ r, cell (gV q kv sk dO h g d) n r (c1 r') := by
  unfold Swa.prevV; rw [pay50_apply, B.colV hD]
theorem Blk.curK (h : Fin 4) (r' : Fin 128) (d : Fin 64) :
    curK (BitVec.ofNat 32 n.val) x0 x1 x2 x3 x4 x5 (ix3 h r' d) = ∑ g, ∑ r, cell (gK q kv sk dO h g d) n r (c2 r') := by
  unfold Swa.curK; rw [pay64_apply, B.colK]
theorem Blk.curV (hD : DenOk q kv sk) (h : Fin 4) (r' : Fin 128) (d : Fin 64) :
    curV (BitVec.ofNat 32 n.val) x0 x1 x2 x3 x4 x5 (ix3 h r' d) = ∑ g, ∑ r, cell (gV q kv sk dO h g d) n r (c2 r') := by
  unfold Swa.curV; rw [pay51_apply, B.colV hD]

theorem Blk.skRow (h g : Fin 4) (r : Fin 128) :
    k0_pay53 (expB (BitVec.ofNat 32 n.val) x0 x1 x2 x3 x4) (sinkB (BitVec.ofNat 32 n.val) x0 x1 x2 x3 x4) (sqB (BitVec.ofNat 32 n.val) x0 x1 x2 x3 x4) (valB x1 x2 x3) (k0_pay30 x5) (k0_pay31 x5) (k0_pay32 x5) (k0_pay33 x5) (k0_pay34 x5) (k0_pay35 x5) (k0_pay36 x5) (k0_pay37 x5) (k0_pay38 x5) (k0_pay39 x5) (k0_pay40 x5) (k0_pay41 x5) (k0_pay42 x5) (k0_pay43 x5) (k0_pay44 x5) (k0_pay45 x5) (ix3 h (row4 g r) (0 : Fin 1))
      = gSk q kv sk dO h g (_root_.Swa.row n r) := by
  rw [pay53_apply, B.c, B.sinkE, b_sk]

theorem Blk.dsink (h g : Fin 4) :
    dsinkB (BitVec.ofNat 32 n.val) x0 x1 x2 x3 x4 x5 (ix4 h g (0 : Fin 1) (0 : Fin 1)) = ∑ r, gSk q kv sk dO h g (_root_.Swa.row n r) := by
  unfold dsinkB
  refine (pay59_apply _ _ _ _ h g).trans ?_
  rw [pay57_apply, pay58_apply]
  simp only [pay55_apply, pay56_apply, B.skRow]
  fin_cases g <;> simp

end Cert.KernelIdeal.Swa
end
end
-- ==== Proof.Result.lean ====
/-
  The three results by row and column.
-/
module

public import proofs.«01_k».proof.Proof.Spec

@[expose] public section
noncomputable section
namespace Swa

theorem qcol_cases (k : Fin 1024) : ∃ h g d, k = qcol h g d :=
  ⟨⟨k.val / 256, by omega⟩, ⟨k.val / 64 % 4, by omega⟩, ⟨k.val % 64, by omega⟩, Fin.ext (by unfold qcol; dsimp only; omega)⟩
theorem kvcol_cases (k : Fin 512) : (∃ h d, k = kcol h d) ∨ ∃ h d, k = vcol h d := by
  by_cases e : k.val < 256
  · exact .inl ⟨⟨k.val / 64, by omega⟩, ⟨k.val % 64, by omega⟩, Fin.ext (by unfold kcol; dsimp only; omega)⟩
  · exact .inr ⟨⟨(k.val - 256) / 64, by omega⟩, ⟨k.val % 64, by omega⟩, Fin.ext (by unfold vcol; dsimp only; omega)⟩
theorem head_cases (a : Fin 16) : ∃ h g, a = head h g :=
  ⟨⟨a.val / 4, by omega⟩, ⟨a.val % 4, by omega⟩, Fin.ext (by unfold head; dsimp only; omega)⟩

variable (q : Fin 4224 → Fin 1024 → EReal) (kv : Fin 4224 → Fin 512 → EReal) (sk : Fin 16 → EReal)
  (dO : Fin 4224 → Fin 1024 → EReal)

/-- The gradient of the queries. -/
def rq (i : Fin 4224) (k : Fin 1024) : EReal :=
  fq q kv sk dO ⟨k.val / 256, by omega⟩ ⟨k.val / 64 % 4, by omega⟩ i ⟨k.val % 64, by omega⟩
/-- The gradient of the keys and values. -/
def rkv (j : Fin 4224) (k : Fin 512) : EReal :=
  if e : k.val < 256 then fk q kv sk dO ⟨k.val / 64, by omega⟩ j ⟨k.val % 64, by omega⟩
  else fv q kv sk dO ⟨(k.val - 256) / 64, by omega⟩ j ⟨k.val % 64, by omega⟩
/-- The gradient of the sinks. -/
def rs (a : Fin 16) : EReal := fs q kv sk dO ⟨a.val / 4, by omega⟩ ⟨a.val % 4, by omega⟩

theorem rq_col (i : Fin 4224) (h g : Fin 4) (d : Fin 64) : rq q kv sk dO i (qcol h g d) = fq q kv sk dO h g i d := by
  unfold rq qcol
  congr 1 <;> exact Fin.ext (by dsimp only; omega)
theorem rkv_k (j : Fin 4224) (h : Fin 4) (d : Fin 64) : rkv q kv sk dO j (kcol h d) = fk q kv sk dO h j d := by
  unfold rkv kcol
  rw [dif_pos (by dsimp only; omega)]
  congr 1 <;> exact Fin.ext (by dsimp only; omega)
theorem rkv_v (j : Fin 4224) (h : Fin 4) (d : Fin 64) : rkv q kv sk dO j (vcol h d) = fv q kv sk dO h j d := by
  unfold rkv vcol
  rw [dif_neg (by dsimp only; omega)]
  congr 1 <;> exact Fin.ext (by dsimp only; omega)
theorem rs_head (h g : Fin 4) : rs q kv sk dO (head h g) = fs q kv sk dO h g := by
  unfold rs head
  congr 1 <;> exact Fin.ext (by dsimp only; omega)

end Swa
end
end
-- ==== Proof.Arrays.lean ====
/-
  What the grid leaves in the three result arrays: the gradients of the windowed attention.
-/
module

public import proofs.«01_k».proof.Proof.Block
public import proofs.«01_k».proof.Proof.Result
public import proofs.«01_k».proof.Proof.Gen.KernelIdeal.Value
public import Idealize.ShloMosaic.Lib.Pointwise

@[expose] public section
noncomputable section
namespace Cert.KernelIdeal.Swa
open Cert.KernelIdeal Cert.KernelIdeal.Gen Idealize.ShloMosaic Idealize.ShloMosaic.TcCoe
open Idealize.ShloMosaic.Pipeline (Dat)
open _root_.Swa

variable (m : (ℓ : Loc nD τ sig) → Buf (Elt Ideal) ℓ) (c : Dev nD)

/-- The block a grid point handles: the grid runs from the last to the first. -/
def nn (t : Fin cfg0.N) : Fin 33 := ⟨32 - t.val, by omega⟩

/-- The four arguments by row and column. -/
def aq (i : Fin 4224) (k : Fin 1024) : EReal := m (c.tc.loc main_arg0) (ix2 i k)
@[inherit_doc aq] def akv (i : Fin 4224) (k : Fin 512) : EReal := m (c.tc.loc main_arg1) (ix2 i k)
@[inherit_doc aq] def ask (a : Fin 16) : EReal := m (c.tc.loc main_arg2) (ix3 a (0 : Fin 1) (0 : Fin 1))
@[inherit_doc aq] def ado (i : Fin 4224) (k : Fin 1024) : EReal := m (c.tc.loc main_arg3) (ix2 i k)

theorem word : ∀ t : Fin cfg0.N, blkW (grid0.coords t) = BitVec.ofNat 32 (nn t).val :=
  (by decide +kernel : ∀ t : Fin grid0.N, Scalar.subi 32#32 (BitVec.ofNat 32 (grid0.coords t 0).val) = BitVec.ofNat 32 (32 - t.val))

theorem at0 : ∀ t : Fin cfg0.N, win0_0.index t 0 = 32 - t.val ∧ win0_0.index t 1 = 0 :=
  (by decide +kernel : ∀ t : Fin grid0.N, win0_0.index t 0 = 32 - t.val ∧ win0_0.index t 1 = 0)
theorem at1 : ∀ t : Fin cfg0.N, win0_1.index t 0 = 0 ∧ win0_1.index t 1 = 0 :=
  (by decide +kernel : ∀ t : Fin grid0.N, win0_1.index t 0 = 0 ∧ win0_1.index t 1 = 0)
theorem at2 : ∀ t : Fin cfg0.N, win0_2.index t 0 = 32 - t.val - 1 ∧ win0_2.index t 1 = 0 :=
  (by decide +kernel : ∀ t : Fin grid0.N, win0_2.index t 0 = 32 - t.val - 1 ∧ win0_2.index t 1 = 0)
theorem at3 : ∀ t : Fin cfg0.N, win0_3.index t 0 = 32 - t.val ∧ win0_3.index t 1 = 0 :=
  (by decide +kernel : ∀ t : Fin grid0.N, win0_3.index t 0 = 32 - t.val ∧ win0_3.index t 1 = 0)
theorem at4 : ∀ t : Fin cfg0.N, ∀ a : Fin 3, win0_4.index t a = 0 :=
  (by decide +kernel : ∀ t : Fin grid0.N, ∀ a : Fin 3, win0_4.index t a = 0)
theorem at5 : ∀ t : Fin cfg0.N, win0_5.index t 0 = 32 - t.val ∧ win0_5.index t 1 = 0 :=
  (by decide +kernel : ∀ t : Fin grid0.N, win0_5.index t 0 = 32 - t.val ∧ win0_5.index t 1 = 0)
theorem at6 : ∀ t : Fin cfg0.N, win0_6.index t 0 = 32 - t.val ∧ win0_6.index t 1 = 0 :=
  (by decide +kernel : ∀ t : Fin grid0.N, win0_6.index t 0 = 32 - t.val ∧ win0_6.index t 1 = 0)
theorem at7 : ∀ t : Fin cfg0.N, win0_7.index t 0 = 32 - t.val ∧ win0_7.index t 1 = 0 :=
  (by decide +kernel : ∀ t : Fin grid0.N, win0_7.index t 0 = 32 - t.val ∧ win0_7.index t 1 = 0)
theorem at8 : ∀ t : Fin cfg0.N, ∀ a : Fin 3, win0_8.index t a = 0 :=
  (by decide +kernel : ∀ t : Fin grid0.N, ∀ a : Fin 3, win0_8.index t a = 0)

theorem read0 (t : Fin cfg0.N) (r : Fin 128) (k : Fin 1024) (i : Fin 4224) (hi : i.val = 128 * (32 - t.val) + r.val) :
    (iblk m c 0 t : Vec Ideal S128x1024 .f32) (ix2 r k) = aq m c i k := by
  unfold iblk aq
  rw [View.read_apply]
  show V m c main_arg0 _ = m (c.tc.loc main_arg0) _
  unfold V
  congr 1
  funext a
  apply Fin.ext
  match a with
  | ⟨0, _⟩ => show win0_0.index t 0 * 128 + 1 * r.val = i.val; rw [(at0 t).1, hi]; omega
  | ⟨1, _⟩ => show win0_0.index t 1 * 1024 + 1 * k.val = k.val; rw [(at0 t).2]; omega

theorem read1 (t : Fin cfg0.N) (r : Fin 128) (k : Fin 512) (i : Fin 4224) (hi : i.val = 128 * 0 + r.val) :
    (iblk m c 1 t : Vec Ideal S128x512 .f32) (ix2 r k) = akv m c i k := by
  unfold iblk akv
  rw [View.read_apply]
  show V m c main_arg1 _ = m (c.tc.loc main_arg1) _
  unfold V
  congr 1
  funext a
  apply Fin.ext
  match a with
  | ⟨0, _⟩ => show win0_1.index t 0 * 128 + 1 * r.val = i.val; rw [(at1 t).1, hi]; omega
  | ⟨1, _⟩ => show win0_1.index t 1 * 512 + 1 * k.val = k.val; rw [(at1 t).2]; omega

theorem read2 (t : Fin cfg0.N) (r : Fin 128) (k : Fin 512) (i : Fin 4224) (hi : i.val = 128 * (32 - t.val - 1) + r.val) :
    (iblk m c 2 t : Vec Ideal S128x512 .f32) (ix2 r k) = akv m c i k := by
  unfold iblk akv
  rw [View.read_apply]
  show V m c main_arg1 _ = m (c.tc.loc main_arg1) _
  unfold V
  congr 1
  funext a
  apply Fin.ext
  match a with
  | ⟨0, _⟩ => show win0_2.index t 0 * 128 + 1 * r.val = i.val; rw [(at2 t).1, hi]; omega
  | ⟨1, _⟩ => show win0_2.index t 1 * 512 + 1 * k.val = k.val; rw [(at2 t).2]; omega

theorem read3 (t : Fin cfg0.N) (r : Fin 128) (k : Fin 512) (i : Fin 4224) (hi : i.val = 128 * (32 - t.val) + r.val) :
    (iblk m c 3 t : Vec Ideal S128x512 .f32) (ix2 r k) = akv m c i k := by
  unfold iblk akv
  rw [View.read_apply]
  show V m c main_arg1 _ = m (c.tc.loc main_arg1) _
  unfold V
  congr 1
  funext a
  apply Fin.ext
  match a with
  | ⟨0, _⟩ => show win0_3.index t 0 * 128 + 1 * r.val = i.val; rw [(at3 t).1, hi]; omega
  | ⟨1, _⟩ => show win0_3.index t 1 * 512 + 1 * k.val = k.val; rw [(at3 t).2]; omega

theorem read5 (t : Fin cfg0.N) (r : Fin 128) (k : Fin 1024) (i : Fin 4224) (hi : i.val = 128 * (32 - t.val) + r.val) :
    (iblk m c 5 t : Vec Ideal S128x1024 .f32) (ix2 r k) = ado m c i k := by
  unfold iblk ado
  rw [View.read_apply]
  show V m c main_arg3 _ = m (c.tc.loc main_arg3) _
  unfold V
  congr 1
  funext a
  apply Fin.ext
  match a with
  | ⟨0, _⟩ => show win0_5.index t 0 * 128 + 1 * r.val = i.val; rw [(at5 t).1, hi]; omega
  | ⟨1, _⟩ => show win0_5.index t 1 * 1024 + 1 * k.val = k.val; rw [(at5 t).2]; omega

theorem read4 (t : Fin cfg0.N) (a : Fin 16) :
    (iblk m c 4 t : Vec Ideal S16x1x1 .f32) (ix3 a (0 : Fin 1) (0 : Fin 1)) = ask m c a := by
  unfold iblk ask
  rw [View.read_apply]
  show V m c main_arg2 _ = m (c.tc.loc main_arg2) _
  unfold V
  congr 1
  funext b
  apply Fin.ext
  match b with
  | ⟨0, _⟩ => show win0_4.index t 0 * 16 + 1 * a.val = a.val; rw [at4 t 0]; omega
  | ⟨1, _⟩ => show win0_4.index t 1 * 1 + 1 * 0 = 0; rw [at4 t 1]
  | ⟨2, _⟩ => show win0_4.index t 2 * 1 + 1 * 0 = 0; rw [at4 t 2]

theorem blk (t : Fin cfg0.N) : Blk (aq m c) (akv m c) (ask m c) (ado m c) (nn t) (iblk m c 0 t) (iblk m c 1 t) (iblk m c 2 t) (iblk m c 3 t) (iblk m c 4 t) (iblk m c 5 t) where
  h0 r k := read0 m c t r k _ (by unfold row nn; rfl)
  h1 r k := read1 m c t r k _ (by unfold row; rfl)
  h2 r k := read2 m c t r k _ (by unfold nn; rfl)
  h3 r k := read3 m c t r k _ (by unfold row nn; rfl)
  h4 a := read4 m c t a
  h5 r k := read5 m c t r k _ (by unfold row nn; rfl)

theorem w6_A (t : Fin cfg0.N) (h0 : t.val % 33 = 0) : (outsAt0 m c t.val t.isLt).1 = dqB (blkW (grid0.coords t)) (iblk m c 0 t) (iblk m c 1 t) (iblk m c 2 t) (iblk m c 3 t) (iblk m c 4 t) (iblk m c 5 t) := by
  rw [outsAt0_A m c t h0]; dsimp only; rw [out0_A_6_eq]

theorem w6_B (t : Fin cfg0.N) (h0 : ¬t.val % 33 = 0) : (outsAt0 m c t.val t.isLt).1 = dqB (blkW (grid0.coords t)) (iblk m c 0 t) (iblk m c 1 t) (iblk m c 2 t) (iblk m c 3 t) (iblk m c 4 t) (iblk m c 5 t) := by
  rw [outsAt0_B m c t h0]; dsimp only; rw [out0_B_6_eq]

theorem w7_A (t : Fin cfg0.N) (h0 : t.val % 33 = 0) : (outsAt0 m c t.val t.isLt).2.1 = k0_pay78 (blkW (grid0.coords t)) (curV (blkW (grid0.coords t)) (iblk m c 0 t) (iblk m c 1 t) (iblk m c 2 t) (iblk m c 3 t) (iblk m c 4 t) (iblk m c 5 t)) (curK (blkW (grid0.coords t)) (iblk m c 0 t) (iblk m c 1 t) (iblk m c 2 t) (iblk m c 3 t) (iblk m c 4 t) (iblk m c 5 t)) (k0_pay2 (F := Ideal)) (k0_pay77 (metaV (blkW (grid0.coords t)) (iblk m c 0 t) (iblk m c 1 t) (iblk m c 2 t) (iblk m c 3 t) (iblk m c 4 t) (iblk m c 5 t)) (metaK (blkW (grid0.coords t)) (iblk m c 0 t) (iblk m c 1 t) (iblk m c 2 t) (iblk m c 3 t) (iblk m c 4 t) (iblk m c 5 t)) (k0_pay3 (F := Ideal))) := by
  rw [outsAt0_A m c t h0]; dsimp only; rw [out0_A_7_eq]

theorem w7_B (t : Fin cfg0.N) (h0 : ¬t.val % 33 = 0) : (outsAt0 m c t.val t.isLt).2.1 = k0_pay78 (blkW (grid0.coords t)) (curV (blkW (grid0.coords t)) (iblk m c 0 t) (iblk m c 1 t) (iblk m c 2 t) (iblk m c 3 t) (iblk m c 4 t) (iblk m c 5 t)) (curK (blkW (grid0.coords t)) (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.1 (k0_pay77 (metaV (blkW (grid0.coords t)) (iblk m c 0 t) (iblk m c 1 t) (iblk m c 2 t) (iblk m c 3 t) (iblk m c 4 t) (iblk m c 5 t)) (metaK (blkW (grid0.coords t)) (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.2) := by
  rw [outsAt0_B m c t h0]; dsimp only; rw [out0_B_7_eq]

theorem w8_A (t : Fin cfg0.N) (h0 : t.val % 33 = 0) : (outsAt0 m c t.val t.isLt).2.2.1 = k0_pay76 (dsinkB (blkW (grid0.coords t)) (iblk m c 0 t) (iblk m c 1 t) (iblk m c 2 t) (iblk m c 3 t) (iblk m c 4 t) (iblk m c 5 t)) (k0_pay4 (F := Ideal)) := by
  rw [outsAt0_A m c t h0]; dsimp only; rw [out0_A_8_eq]

theorem w8_B (t : Fin cfg0.N) (h0 : ¬t.val % 33 = 0) : (outsAt0 m c t.val t.isLt).2.2.1 = k0_pay76 (dsinkB (blkW (grid0.coords t)) (iblk m c 0 t) (iblk m c 1 t) (iblk m c 2 t) (iblk m c 3 t) (iblk m c 4 t) (iblk m c 5 t)) (outsAt0 m c (t.val - 1) (Nat.lt_of_le_of_lt (Nat.sub_le _ _) t.isLt)).2.2.1 := by
  rw [outsAt0_B m c t h0]; dsimp only; rw [out0_B_8_eq]

theorem ws0_A (t : Fin cfg0.N) (h0 : t.val % 33 = 0) : (outsAt0 m c t.val t.isLt).2.2.2.1 = k0_pay1 (k0_pay79 (prevV (blkW (grid0.coords t)) (iblk m c 0 t) (iblk m c 1 t) (iblk m c 2 t) (iblk m c 3 t) (iblk m c 4 t) (iblk m c 5 t)) (prevK (blkW (grid0.coords t)) (iblk m c 0 t) (iblk m c 1 t) (iblk m c 2 t) (iblk m c 3 t) (iblk m c 4 t) (iblk m c 5 t))) := by
  rw [outsAt0_A m c t h0]; dsimp only; rw [sout0_A_0_eq]

theorem ws0_B (t : Fin cfg0.N) (h0 : ¬t.val % 33 = 0) : (outsAt0 m c t.val t.isLt).2.2.2.1 = k0_pay1 (k0_pay79 (prevV (blkW (grid0.coords t)) (iblk m c 0 t) (iblk m c 1 t) (iblk m c 2 t) (iblk m c 3 t) (iblk m c 4 t) (iblk m c 5 t)) (prevK (blkW (grid0.coords t)) (iblk m c 0 t) (iblk m c 1 t) (iblk m c 2 t) (iblk m c 3 t) (iblk m c 4 t) (iblk m c 5 t))) := by
  rw [outsAt0_B m c t h0]; dsimp only; rw [sout0_B_0_eq]

theorem ws1_A (t : Fin cfg0.N) (h0 : t.val % 33 = 0) : (outsAt0 m c t.val t.isLt).2.2.2.2 = k0_pay77 (metaV (blkW (grid0.coords t)) (iblk m c 0 t) (iblk m c 1 t) (iblk m c 2 t) (iblk m c 3 t) (iblk m c 4 t) (iblk m c 5 t)) (metaK (blkW (grid0.coords t)) (iblk m c 0 t) (iblk m c 1 t) (iblk m c 2 t) (iblk m c 3 t) (iblk m c 4 t) (iblk m c 5 t)) (k0_pay3 (F := Ideal)) := by
  rw [outsAt0_A m c t h0]; dsimp only; rw [sout0_A_1_eq]

theorem ws1_B (t : Fin cfg0.N) (h0 : ¬t.val % 33 = 0) : (outsAt0 m c t.val t.isLt).2.2.2.2 = k0_pay77 (metaV (blkW (grid0.coords t)) (iblk m c 0 t) (iblk m c 1 t) (iblk m c 2 t) (iblk m c 3 t) (iblk m c 4 t) (iblk m c 5 t)) (metaK (blkW (grid0.coords t)) (iblk m c 0 t) (iblk m c 1 t) (iblk m c 2 t) (iblk m c 3 t) (iblk m c 4 t) (iblk m c 5 t)) (outsAt0 m c (t.val - 1) (Nat.lt_of_le_of_lt (Nat.sub_le _ _) t.isLt)).2.2.2.2 := by
  rw [outsAt0_B m c t h0]; dsimp only; rw [sout0_B_1_eq]

/-! ## Running sums -/

variable (hD : DenOk (aq m c) (akv m c) (ask m c))

/-- A block's part of the gradients of the first block's keys and values. -/
def mK (n : Fin 33) (h : Fin 4) (r' : Fin 128) (d : Fin 64) : EReal :=
  ∑ g, ∑ r, cell (gK (aq m c) (akv m c) (ask m c) (ado m c) h g d) n r (c0 r')
@[inherit_doc mK] def mV (n : Fin 33) (h : Fin 4) (r' : Fin 128) (d : Fin 64) : EReal :=
  ∑ g, ∑ r, cell (gV (aq m c) (akv m c) (ask m c) (ado m c) h g d) n r (c0 r')
/-- A block's part of the sinks' gradient. -/
def mS (n : Fin 33) (h g : Fin 4) : EReal := ∑ r, gSk (aq m c) (akv m c) (ask m c) (ado m c) h g (row n r)

/-- The sum over the blocks handled up to a point. -/
def upTo (f : Fin 33 → EReal) (t : ℕ) : EReal := ∑ s ∈ Finset.range (t + 1), f ⟨32 - s, by omega⟩

theorem upTo_zero (f : Fin 33 → EReal) : upTo f 0 = f ⟨32, by omega⟩ := by
  unfold upTo; rw [Finset.sum_range_one]
theorem upTo_pred (f : Fin 33 → EReal) (t : ℕ) (ht : 0 < t) : upTo f t = upTo f (t - 1) + f ⟨32 - t, by omega⟩ := by
  obtain ⟨s, rfl⟩ : ∃ s, t = s + 1 := ⟨t - 1, by omega⟩
  unfold upTo; rw [Finset.sum_range_succ]; rfl
theorem upTo_all (f : Fin 33 → EReal) : upTo f 32 = ∑ n, f n := by
  unfold upTo
  rw [Finset.sum_range]
  refine Fintype.sum_equiv Fin.revPerm _ _ fun i => congrArg f (Fin.ext ?_)
  simp [Fin.revPerm, Fin.rev]

theorem lt33 (t : Fin cfg0.N) : t.val < 33 := lt_of_lt_of_eq t.isLt (show cfg0.N = 33 from N_0)

theorem first {t : Fin cfg0.N} (h0 : t.val % 33 = 0) : t.val = 0 := by have := lt33 t; omega
theorem later {t : Fin cfg0.N} (h0 : ¬t.val % 33 = 0) : 0 < t.val := by omega

theorem s0K (t : Fin cfg0.N) (h : Fin 4) (r' : Fin 128) (d : Fin 64) : (outsAt0 m c t.val t.isLt).2.2.2.1 (ix2 r' (kcol h d))
    = ∑ g, ∑ r, cell (gK (aq m c) (akv m c) (ask m c) (ado m c) h g d) (nn t) r (c1 r') := by
  by_cases h0 : t.val % 33 = 0
  · rw [ws0_A m c t h0, pay1_eq, pay79_K, word, (blk m c t).prevK]
  · rw [ws0_B m c t h0, pay1_eq, pay79_K, word, (blk m c t).prevK]

include hD in
theorem s0V (t : Fin cfg0.N) (h : Fin 4) (r' : Fin 128) (d : Fin 64) : (outsAt0 m c t.val t.isLt).2.2.2.1 (ix2 r' (vcol h d))
    = ∑ g, ∑ r, cell (gV (aq m c) (akv m c) (ask m c) (ado m c) h g d) (nn t) r (c1 r') := by
  by_cases h0 : t.val % 33 = 0
  · rw [ws0_A m c t h0, pay1_eq, pay79_V, word, (blk m c t).prevV hD]
  · rw [ws0_B m c t h0, pay1_eq, pay79_V, word, (blk m c t).prevV hD]

theorem s1K (h : Fin 4) (r' : Fin 128) (d : Fin 64) : ∀ (n : ℕ) (hn : n < cfg0.N), (outsAt0 m c n hn).2.2.2.2 (ix2 r' (kcol h d))
    = upTo (fun n => mK m c n h r' d) n
  | 0, hn => by
    have e := ws1_A m c ⟨0, hn⟩ rfl
    dsimp only at e
    rw [e, pay77_eq, pay79_K, word, (blk m c _).metaK, pay3_apply, zero_add, upTo_zero]; rfl
  | n + 1, hn => by
    have hN : n + 1 < 33 := lt33 ⟨n + 1, hn⟩
    have e := ws1_B m c ⟨n + 1, hn⟩ (by dsimp only; omega)
    dsimp only at e
    rw [e, pay77_eq, pay79_K, word, (blk m c _).metaK, upTo_pred _ _ (Nat.succ_pos n)]
    exact congrArg (· + _) (s1K h r' d n _)

include hD in
theorem s1V (h : Fin 4) (r' : Fin 128) (d : Fin 64) : ∀ (n : ℕ) (hn : n < cfg0.N), (outsAt0 m c n hn).2.2.2.2 (ix2 r' (vcol h d))
    = upTo (fun n => mV m c n h r' d) n
  | 0, hn => by
    have e := ws1_A m c ⟨0, hn⟩ rfl
    dsimp only at e
    rw [e, pay77_eq, pay79_V, word, (blk m c _).metaV hD, pay3_apply, zero_add, upTo_zero]; rfl
  | n + 1, hn => by
    have hN : n + 1 < 33 := lt33 ⟨n + 1, hn⟩
    have e := ws1_B m c ⟨n + 1, hn⟩ (by dsimp only; omega)
    dsimp only at e
    rw [e, pay77_eq, pay79_V, word, (blk m c _).metaV hD, upTo_pred _ _ (Nat.succ_pos n)]
    exact congrArg (· + _) (s1V h r' d n _)

theorem sk8 (h g : Fin 4) : ∀ (n : ℕ) (hn : n < cfg0.N), (outsAt0 m c n hn).2.2.1 (ix3 (head h g) (0 : Fin 1) (0 : Fin 1))
    = upTo (fun n => mS m c n h g) n
  | 0, hn => by
    have e := w8_A m c ⟨0, hn⟩ rfl
    dsimp only at e
    rw [e, pay76_apply, word, (blk m c _).dsink, pay4_apply, zero_add, upTo_zero]; rfl
  | n + 1, hn => by
    have hN : n + 1 < 33 := lt33 ⟨n + 1, hn⟩
    have e := w8_B m c ⟨n + 1, hn⟩ (by dsimp only; omega)
    dsimp only at e
    rw [e, pay76_apply, word, (blk m c _).dsink, upTo_pred _ _ (Nat.succ_pos n)]
    exact congrArg (· + _) (sk8 h g n _)

/-! ## What a point writes back -/

theorem out6 (t : Fin cfg0.N) (h g : Fin 4) (r : Fin 128) (d : Fin 64) : (outsAt0 m c t.val t.isLt).1 (ix2 r (qcol h g d))
    = fq (aq m c) (akv m c) (ask m c) (ado m c) h g (row (nn t) r) d := by
  by_cases h0 : t.val % 33 = 0
  · rw [w6_A m c t h0, word, (blk m c t).dq]
  · rw [w6_B m c t h0, word, (blk m c t).dq]

theorem out7K (t : Fin cfg0.N) (h : Fin 4) (r : Fin 128) (d : Fin 64) : (outsAt0 m c t.val t.isLt).2.1 (ix2 r (kcol h d))
    = fk (aq m c) (akv m c) (ask m c) (ado m c) h (row (nn t) r) d := by
  have hN := lt33 t
  have e1 := s1K m c h r d t.val t.isLt
  rw [fk_split]
  by_cases h0 : t.val % 33 = 0
  · have ht := first h0
    rw [w7_A m c t h0, word, pay78_eq, pay79_K, (blk m c t).curK, pay2_apply, ← word, ← ws1_A m c t h0, e1,
      dif_neg (by unfold nn; dsimp only; omega), if_neg (by unfold nn; dsimp only; omega), if_neg (by unfold nn; dsimp only; omega)]
  · have ht := later h0
    have e0 := s0K m c ⟨t.val - 1, by omega⟩ h r d
    dsimp only at e0
    rw [w7_B m c t h0, word, pay78_eq, pay79_K, (blk m c t).curK, e0, ← word, ← ws1_B m c t h0, e1,
      dif_pos (by unfold nn; dsimp only; omega)]
    have en : (nn ⟨t.val - 1, by omega⟩ : Fin 33) = ⟨(nn t).val + 1, by unfold nn; dsimp only; omega⟩ := Fin.ext (by unfold nn; dsimp only; omega)
    rw [en]
    congr 1
    by_cases h3 : (nn t).val = 0
    · rw [if_pos h3, if_pos h3, show t.val = 32 from by unfold nn at h3; dsimp only at h3; omega, upTo_all]; rfl
    · rw [if_neg h3, if_neg h3]

include hD in
theorem out7V (t : Fin cfg0.N) (h : Fin 4) (r : Fin 128) (d : Fin 64) : (outsAt0 m c t.val t.isLt).2.1 (ix2 r (vcol h d))
    = fv (aq m c) (akv m c) (ask m c) (ado m c) h (row (nn t) r) d := by
  have hN := lt33 t
  have e1 := s1V m c hD h r d t.val t.isLt
  rw [fv_split _ _ _ _ hD]
  by_cases h0 : t.val % 33 = 0
  · have ht := first h0
    rw [w7_A m c t h0, word, pay78_eq, pay79_V, (blk m c t).curV hD, pay2_apply, ← word, ← ws1_A m c t h0, e1,
      dif_neg (by unfold nn; dsimp only; omega), if_neg (by unfold nn; dsimp only; omega), if_neg (by unfold nn; dsimp only; omega)]
  · have ht := later h0
    have e0 := s0V m c hD ⟨t.val - 1, by omega⟩ h r d
    dsimp only at e0
    rw [w7_B m c t h0, word, pay78_eq, pay79_V, (blk m c t).curV hD, e0, ← word, ← ws1_B m c t h0, e1,
      dif_pos (by unfold nn; dsimp only; omega)]
    have en : (nn ⟨t.val - 1, by omega⟩ : Fin 33) = ⟨(nn t).val + 1, by unfold nn; dsimp only; omega⟩ := Fin.ext (by unfold nn; dsimp only; omega)
    rw [en]
    congr 1
    by_cases h3 : (nn t).val = 0
    · rw [if_pos h3, if_pos h3, show t.val = 32 from by unfold nn at h3; dsimp only at h3; omega, upTo_all]; rfl
    · rw [if_neg h3, if_neg h3]

/-! ## The arrays -/

/-- Row `r` of a point's block. -/
theorem emb6 (t : Fin cfg0.N) (x : S128x1024.Idx) : ((cfg0.win 6).blk t).view.emb x = ix2 (row (nn t) (x 0)) (x 1) := by
  funext a
  apply Fin.ext
  match a with
  | ⟨0, _⟩ => show win0_6.index t 0 * 128 + 1 * (x 0).val = 128 * (32 - t.val) + (x 0).val; rw [(at6 t).1]; omega
  | ⟨1, _⟩ => show win0_6.index t 1 * 1024 + 1 * (x 1).val = (x 1).val; rw [(at6 t).2]; omega
theorem emb7 (t : Fin cfg0.N) (x : S128x512.Idx) : ((cfg0.win 7).blk t).view.emb x = ix2 (row (nn t) (x 0)) (x 1) := by
  funext a
  apply Fin.ext
  match a with
  | ⟨0, _⟩ => show win0_7.index t 0 * 128 + 1 * (x 0).val = 128 * (32 - t.val) + (x 0).val; rw [(at7 t).1]; omega
  | ⟨1, _⟩ => show win0_7.index t 1 * 512 + 1 * (x 1).val = (x 1).val; rw [(at7 t).2]; omega
theorem emb8 (t : Fin cfg0.N) (x : S16x1x1.Idx) : ((cfg0.win 8).blk t).view.emb x = x := by
  funext a
  apply Fin.ext
  match a with
  | ⟨0, _⟩ => show win0_8.index t 0 * 16 + 1 * (x 0).val = (x 0).val; rw [at8 t 0]; omega
  | ⟨1, _⟩ => show win0_8.index t 1 * 1 + 1 * (x 1).val = (x 1).val; rw [at8 t 1]; omega
  | ⟨2, _⟩ => show win0_8.index t 2 * 1 + 1 * (x 2).val = (x 2).val; rw [at8 t 2]; omega

/-- The point that writes a row. -/
theorem row_nn (i : Fin 4224) : ∃ (t : Fin cfg0.N) (r : Fin 128), row (nn t) r = i :=
  ⟨⟨32 - i.val / 128, by rw [show cfg0.N = 33 from N_0]; omega⟩, ⟨i.val % 128, by omega⟩, Fin.ext (by unfold row nn; dsimp only; omega)⟩

theorem all6 (t : Fin cfg0.N) (r : Fin 128) (k : Fin 1024) : (outsAt0 m c t.val t.isLt).1 (ix2 r k)
    = rq (aq m c) (akv m c) (ask m c) (ado m c) (row (nn t) r) k := by
  obtain ⟨h, g, d, rfl⟩ := qcol_cases k
  rw [rq_col, out6]
include hD in
theorem all7 (t : Fin cfg0.N) (r : Fin 128) (k : Fin 512) : (outsAt0 m c t.val t.isLt).2.1 (ix2 r k)
    = rkv (aq m c) (akv m c) (ask m c) (ado m c) (row (nn t) r) k := by
  rcases kvcol_cases k with ⟨h, d, rfl⟩ | ⟨h, d, rfl⟩
  · rw [rkv_k, out7K]
  · rw [rkv_v, out7V m c hD]
theorem all8 (t : Fin cfg0.N) (ht : t.val = 32) (a : Fin 16) (x y : Fin 1) : (outsAt0 m c t.val t.isLt).2.2.1 (ix3 a x y)
    = rs (aq m c) (akv m c) (ask m c) (ado m c) a := by
  obtain ⟨h, g, rfl⟩ := head_cases a
  obtain rfl : x = 0 := Subsingleton.elim _ _
  obtain rfl : y = 0 := Subsingleton.elim _ _
  rw [rs_head, fs_split, ← upTo_all, sk8, ht]; rfl

theorem eta2 {a b : ℕ} (x : (⟨2, ![a, b]⟩ : Shape).Idx) : x = ix2 (x 0) (x 1) := by
  funext i; fin_cases i <;> rfl
theorem eta3 {a b e : ℕ} (x : (⟨3, ![a, b, e]⟩ : Shape).Idx) : x = ix3 (x 0) (x 1) (x 2) := by
  funext i; fin_cases i <;> rfl

theorem final6 : (Gen.dats m 0 c).arrAt 6 cfg0.N = fun i => rq (aq m c) (akv m c) (ask m c) (ado m c) (i 0) (i 1) := by
  refine (Gen.dats m 0 c).arrAt_eq_of_cover 6 _ (fun t hf => ?_) (fun i => ?_)
  · rw [Value.flushed6]
    funext x
    rw [View.read_apply, emb6]
    exact (congrArg (outsAt0 m c t.val t.isLt).1 (eta2 x)).trans (all6 m c t (x 0) (x 1))
  · obtain ⟨t, r, e⟩ := row_nn (i 0)
    refine ⟨t, flush0_6 t, ?_⟩
    have hx : i = ((cfg0.win 6).blk t).view.emb (ix2 r (i 1)) := by
      rw [emb6]; funext a; match a with
      | ⟨0, _⟩ => exact e.symm
      | ⟨1, _⟩ => rfl
    exact hx ▸ View.emb_mem_set _ _
include hD in
theorem final7 : (Gen.dats m 0 c).arrAt 7 cfg0.N = fun i => rkv (aq m c) (akv m c) (ask m c) (ado m c) (i 0) (i 1) := by
  refine (Gen.dats m 0 c).arrAt_eq_of_cover 7 _ (fun t hf => ?_) (fun i => ?_)
  · rw [Value.flushed7]
    funext x
    rw [View.read_apply, emb7]
    exact (congrArg (outsAt0 m c t.val t.isLt).2.1 (eta2 x)).trans (all7 m c hD t (x 0) (x 1))
  · obtain ⟨t, r, e⟩ := row_nn (i 0)
    refine ⟨t, flush0_7 t, ?_⟩
    have hx : i = ((cfg0.win 7).blk t).view.emb (ix2 r (i 1)) := by
      rw [emb7]; funext a; match a with
      | ⟨0, _⟩ => exact e.symm
      | ⟨1, _⟩ => rfl
    exact hx ▸ View.emb_mem_set _ _

theorem final8 : (Gen.dats m 0 c).arrAt 8 cfg0.N = fun i => rs (aq m c) (akv m c) (ask m c) (ado m c) (i 0) := by
  refine (Gen.dats m 0 c).arrAt_eq_of_cover 8 _ (fun t hf => ?_) (fun i => ?_)
  · have h3 : t.val = 32 := by have := (flush0_8 t).mp hf; have := lt33 t; omega
    rw [Value.flushed8]
    funext x
    rw [View.read_apply, emb8]
    exact (congrArg (outsAt0 m c t.val t.isLt).2.2.1 (eta3 x)).trans (all8 m c t h3 (x 0) (x 1) (x 2))
  · have hlast : 32 < cfg0.N := by rw [show cfg0.N = 33 from N_0]; omega
    refine ⟨⟨32, hlast⟩, (flush0_8 _).mpr rfl, ?_⟩
    have hx := emb8 ⟨32, hlast⟩ i
    exact hx ▸ View.emb_mem_set _ _

end Cert.KernelIdeal.Swa
end
end
-- ==== Proof.RefScore.lean ====
/-
  The reference's scores, read at an index.
-/
module

public import proofs.«01_k».proof.Proof.Gen.ReferenceIdeal.Read
public import proofs.«01_k».proof.Proof.Finite
public import proofs.«01_k».proof.Proof.Result
public import Idealize.ShloMosaic.Lib.Pointwise

@[expose] public section
noncomputable section
namespace Cert.ReferenceIdeal.Swa
open Cert.ReferenceIdeal Cert.ReferenceIdeal.Gen Cert.ReferenceIdeal.Read Idealize.ShloMosaic
open _root_.Swa

variable (x0 : (⟨S4224x1024, .f32⟩ : BufTy).Contents (Elt Ideal)) (x1 : (⟨S4224x512, .f32⟩ : BufTy).Contents (Elt Ideal))
  (x2 : (⟨S16x1x1, .f32⟩ : BufTy).Contents (Elt Ideal)) (x3 : (⟨S4224x1024, .f32⟩ : BufTy).Contents (Elt Ideal))

/-- The four arguments by row and column. -/
def aq (i : Fin 4224) (k : Fin 1024) : EReal := x0 (ix2 i k)
@[inherit_doc aq] def akv (i : Fin 4224) (k : Fin 512) : EReal := x1 (ix2 i k)
@[inherit_doc aq] def ask (a : Fin 16) : EReal := x2 (ix3 a (0 : Fin 1) (0 : Fin 1))

theorem toInt_small (n : ℕ) (h : n < 4224) : (BitVec.ofNat 32 n).toInt = n := by
  rw [BitVec.toInt_ofNat', Int.bmod_def]; omega
theorem toInt_less (n : ℕ) (h : n < 4224) : (IntOp.subi (BitVec.ofNat 32 n) 128#32).toInt = n - 128 := by
  unfold IntOp.subi
  rw [BitVec.toInt_sub, toInt_small n h, Int.bmod_def, show (128#32 : BitVec 32).toInt = 128 from by decide]; omega
theorem v27_apply (i j : Fin 4224) :
    val_main_v27 (F := Ideal) (ix2 i j) = BitVec.ofBool (decide (seen i j)) := by
  pointwise [val_main_v27, val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_c, val_main_c_0, val_main_c_1]
  have hi := toInt_small i.val i.isLt
  have hj := toInt_small j.val j.isLt
  have hl := toInt_less i.val i.isLt
  have e1 : IntOp.cmpi CmpIPredicate.sge (BitVec.ofNat 32 j.val) 112#32 = BitVec.ofBool (decide (112 ≤ j.val)) := by
    unfold IntOp.cmpi
    congr 1
    simp only [BitVec.sle, BitVec.slt, hj, hi, hl, show (112#32 : BitVec 32).toInt = 112 from by decide]
    exact decide_eq_decide.mpr (by omega)
  have e2 : IntOp.cmpi CmpIPredicate.sle (BitVec.ofNat 32 j.val) (BitVec.ofNat 32 i.val) = BitVec.ofBool (decide (j.val ≤ i.val)) := by
    unfold IntOp.cmpi
    congr 1
    simp only [BitVec.sle, BitVec.slt, hj, hi, hl]
    exact decide_eq_decide.mpr (by omega)
  have e3 : IntOp.cmpi CmpIPredicate.sgt (BitVec.ofNat 32 j.val) (IntOp.subi (BitVec.ofNat 32 i.val) 128#32) = BitVec.ofBool (decide (i.val < j.val + 128)) := by
    unfold IntOp.cmpi
    congr 1
    simp only [BitVec.sle, BitVec.slt, hj, hi, hl]
    exact decide_eq_decide.mpr (by omega)
  have e4 : IntOp.cmpi CmpIPredicate.slt (BitVec.ofNat 32 j.val) 128#32 = BitVec.ofBool (decide (j.val < 128)) := by
    unfold IntOp.cmpi
    congr 1
    simp only [BitVec.sle, BitVec.slt, hj, hi, hl, show (128#32 : BitVec 32).toInt = 128 from by decide]
    exact decide_eq_decide.mpr (by omega)
  rw [e1, e2, e3, e4]
  unfold seen
  by_cases a : 112 ≤ j.val <;> by_cases b : j.val ≤ i.val <;> by_cases d : i.val < j.val + 128 <;> by_cases e : j.val < 128 <;>
    simp [a, b, d, e, IntOp.andi, IntOp.ori]
theorem v2_apply (i : Fin 4224) (h g : Fin 4) (d : Fin 64) :
    val_main_v2 (F := Ideal) x0 (ix4 i h g d) = aq x0 i (qcol h g d) * c8 := by
  unfold aq c8 qcol
  pointwise [val_main_v2, val_main_v0, val_main_v1, val_main_cst]
  exact congrArg (fun k => x0 (ix2 i k) * _) (Fin.ext (by dsimp only; omega))
theorem v4_apply (j : Fin 4224) (h : Fin 4) (d : Fin 64) :
    val_main_v4 (F := Ideal) x1 (ix3 j h d) = akv x1 j (kcol h d) := by
  unfold akv kcol
  pointwise [val_main_v4, val_main_v3]
  exact congrArg (fun k => x1 (ix2 j k)) (Fin.ext (by dsimp only; omega))
theorem v6_apply (j : Fin 4224) (h : Fin 4) (d : Fin 64) :
    val_main_v6 (F := Ideal) x1 (ix3 j h d) = akv x1 j (vcol h d) := by
  unfold akv vcol
  pointwise [val_main_v6, val_main_v5]
  exact congrArg (fun k => x1 (ix2 j k)) (Fin.ext (by dsimp only; omega))
theorem v31_apply (h g : Fin 4) :
    val_main_v31 (F := Ideal) x2 (ix4 h g (0 : Fin 1) (0 : Fin 1)) = ask x2 (head h g) := by
  unfold ask head
  pointwise [val_main_v31]
theorem v29_apply (h g : Fin 4) (i j : Fin 4224) :
    val_main_v29 (F := Ideal) x0 x1 (ix4 h g i j) = ∑ d, aq x0 i (qcol h g d) * c8 * akv x1 j (kcol h d) := by
  rw [val_main_v29_apply, val_main_v28_apply]
  refine Finset.sum_congr rfl fun d _ => ?_
  rw [mul_comm]
  exact congrArg₂ (· * ·) (v2_apply x0 i h g d) (v4_apply x1 j h d)
theorem select_ofBool {α : Type} (p : Prop) [Decidable p] (a b : α) :
    Scalar.select (BitVec.ofBool (decide p)) a b = if p then a else b := by
  by_cases hp : p
  · rw [if_pos hp, decide_eq_true hp]; rfl
  · rw [if_neg hp, decide_eq_false hp]; rfl
theorem bits_bot : Ideal.ofBits FTy.f32 4286578688#32 = ⊥ := by
  simp [Ideal.ofBits, Ideal.ieee]
theorem v30_apply (h g : Fin 4) (i j : Fin 4224) :
    val_main_v30_0 (F := Ideal) x0 x1 (ix4 h g i j) = gS (aq x0) (akv x1) h g i j := by
  pointwise [val_main_v30_0, val_main_v30_1, val_main_call0_v2, val_main_call0_v0, val_main_cst_2]
  rw [v27_apply, select_ofBool, v29_apply]
  unfold gS
  exact if_congr Iff.rfl rfl bits_bot
theorem v32_apply (h g : Fin 4) (i : Fin 4224) :
    val_main_v32 (F := Ideal) x0 x1 (ix3 h g i) = Finset.univ.sup (gS (aq x0) (akv x1) h g i) := by
  unfold val_main_v32
  rw [show gS (aq x0) (akv x1) h g i = fun j => val_main_v30_0 (F := Ideal) x0 x1 (ix4 h g i j) from funext fun j => (v30_apply x0 x1 h g i j).symm]
  generalize val_main_v30_0 (F := Ideal) x0 x1 = y
  pointwise [val_main_cst_3]
  rw [bits_bot]; rfl

end Cert.ReferenceIdeal.Swa
end
end
-- ==== Proof.RefSoft.lean ====
/-
  The reference's softmax and its gradient, read at an index.
-/
module

public import proofs.«01_k».proof.Proof.RefScore

@[expose] public section
noncomputable section
namespace Cert.ReferenceIdeal.Swa
open Cert.ReferenceIdeal Cert.ReferenceIdeal.Gen Cert.ReferenceIdeal.Read Idealize.ShloMosaic
open _root_.Swa

variable (x0 : (⟨S4224x1024, .f32⟩ : BufTy).Contents (Elt Ideal)) (x1 : (⟨S4224x512, .f32⟩ : BufTy).Contents (Elt Ideal))
  (x2 : (⟨S16x1x1, .f32⟩ : BufTy).Contents (Elt Ideal)) (x3 : (⟨S4224x1024, .f32⟩ : BufTy).Contents (Elt Ideal))

/-- The gradient at the output, by row and column. -/
def ado (i : Fin 4224) (k : Fin 1024) : EReal := x3 (ix2 i k)

theorem v40_apply (h g : Fin 4) (i : Fin 4224) :
    val_main_v40 (F := Ideal) x0 x1 x2 (ix4 h g i (0 : Fin 1)) = rMax (gS (aq x0) (akv x1) h g i) (ask x2 (head h g)) := by
  unfold rMax
  rw [← v32_apply, ← v31_apply, val_main_v40_apply, val_main_v39_apply, val_main_v38_apply, Ideal.maximumf_def]
  congr 2
  · funext a; match a with | ⟨0, _⟩ => rfl | ⟨1, _⟩ => rfl | ⟨2, _⟩ => rfl
  · funext a; match a with | ⟨0, _⟩ => rfl | ⟨1, _⟩ => rfl | ⟨2, _⟩ => rfl | ⟨3, _⟩ => rfl
theorem v61_apply (h g : Fin 4) (i j : Fin 4224) :
    val_main_v61 (F := Ideal) x0 x1 x2 (ix4 h g i j) = rExp (gS (aq x0) (akv x1) h g i) (ask x2 (head h g)) j := by
  pointwise [val_main_v61, val_main_v60, val_main_v59]
  rw [v30_apply, v40_apply]; rfl
theorem v66_apply (h g : Fin 4) (i : Fin 4224) :
    val_main_v66 (F := Ideal) x0 x1 x2 (ix4 h g i (0 : Fin 1)) = rSink (gS (aq x0) (akv x1) h g i) (ask x2 (head h g)) := by
  pointwise [val_main_v66, val_main_v65, val_main_v64]
  rw [v31_apply, v40_apply]; rfl
theorem bits_zero : Ideal.ofBits FTy.f32 0#32 = 0 := by
  simp [Ideal.ofBits, Ideal.ieee]
theorem bits_one : Ideal.ofBits FTy.f32 1065353216#32 = 1 := by
  simp [Ideal.ofBits, Ideal.ieee, -EReal.coe_mul]; norm_num
theorem v67_apply (h g : Fin 4) (i : Fin 4224) :
    val_main_v67 (F := Ideal) x0 x1 x2 (ix4 h g i (0 : Fin 1)) = rDen (gS (aq x0) (akv x1) h g i) (ask x2 (head h g)) := by
  unfold rDen
  rw [← v66_apply x0 x1 x2 h g i]
  simp only [← v61_apply x0 x1 x2 h g i]
  unfold val_main_v67 val_main_v63 val_main_v62
  generalize val_main_v61 (F := Ideal) x0 x1 x2 = y
  pointwise [val_main_cst_11]
theorem v69_apply (h g : Fin 4) (i j : Fin 4224) :
    val_main_v69 (F := Ideal) x0 x1 x2 (ix4 h g i j) = gP (aq x0) (akv x1) (ask x2) h g i j := by
  pointwise [val_main_v69, val_main_v68]
  rw [v61_apply, v67_apply]; rfl
theorem v72_apply (h g : Fin 4) (i : Fin 4224) :
    val_main_v72 (F := Ideal) x0 x1 x2 (ix4 h g i (0 : Fin 1)) = rSq (gS (aq x0) (akv x1) h g i) (ask x2 (head h g)) := by
  pointwise [val_main_v72, val_main_v71, val_main_v70, val_main_cst_12]
  rw [v67_apply]; unfold rSq; first | rfl | rw [bits_one]
theorem v77_apply (h : Fin 4) (d : Fin 64) (g : Fin 4) (i : Fin 4224) :
    val_main_v77 (F := Ideal) x3 (ix4 h d g i) = ado x3 i (qcol h g d) := by
  unfold ado qcol
  pointwise [val_main_v77, val_main_v76]
  exact congrArg (fun k => x3 (ix2 i k)) (Fin.ext (by dsimp only; omega))
theorem v78_apply (h g : Fin 4) (i j : Fin 4224) :
    val_main_v78 (F := Ideal) x1 x3 (ix4 h g i j) = gDp (akv x1) (ado x3) h g i j := by
  rw [val_main_v78_apply]
  exact Finset.sum_congr rfl fun d _ => congrArg₂ (· * ·) (v77_apply x3 h d g i) (v6_apply x1 j h d)
theorem v83_apply (h g : Fin 4) (i j : Fin 4224) :
    val_main_v83 (F := Ideal) x0 x1 x2 x3 (ix4 h g i j) = gDp (akv x1) (ado x3) h g i j
      * rSq (gS (aq x0) (akv x1) h g i) (ask x2 (head h g)) * rExp (gS (aq x0) (akv x1) h g i) (ask x2 (head h g)) j := by
  pointwise [val_main_v83, val_main_v82, val_main_v81]
  rw [v78_apply, v72_apply, v61_apply]
theorem v86_apply (h g : Fin 4) (i : Fin 4224) :
    val_main_v86 (F := Ideal) x0 x1 x2 x3 (ix4 h g i (0 : Fin 1))
      = rC (gS (aq x0) (akv x1) h g i) (ask x2 (head h g)) (gDp (akv x1) (ado x3) h g i) := by
  unfold rC
  simp only [← v83_apply x0 x1 x2 x3 h g i]
  unfold val_main_v86 val_main_v85 val_main_v84
  generalize val_main_v83 (F := Ideal) x0 x1 x2 x3 = y
  rw [sub_eq_add_neg, zero_add]
  pointwise [val_main_cst_13]
theorem v89_apply (h g : Fin 4) (i : Fin 4224) :
    val_main_v89 (F := Ideal) x0 x1 x2 x3 (ix4 h g i (0 : Fin 1)) = gSk (aq x0) (akv x1) (ask x2) (ado x3) h g i := by
  pointwise [val_main_v89]
  rw [v86_apply, v66_apply]; rfl
theorem v91_apply (h g : Fin 4) :
    val_main_v91 (F := Ideal) x0 x1 x2 x3 (ix4 h g (0 : Fin 1) (0 : Fin 1)) = fs (aq x0) (akv x1) (ask x2) (ado x3) h g := by
  unfold fs
  simp only [← v89_apply x0 x1 x2 x3 h g]
  unfold val_main_v91 val_main_v90
  generalize val_main_v89 (F := Ideal) x0 x1 x2 x3 = y
  pointwise [val_main_cst_14]
theorem v96_apply (h g : Fin 4) (i j : Fin 4224) :
    val_main_v96 (F := Ideal) x0 x1 x2 x3 (ix4 h g i j)
      = rDs (gS (aq x0) (akv x1) h g i) (ask x2 (head h g)) (gDp (akv x1) (ado x3) h g i) j := by
  unfold rDs
  rw [← v86_apply, ← v61_apply, ← v67_apply, ← v78_apply]
  unfold val_main_v96 val_main_v95 val_main_v94 val_main_v93 val_main_v88 val_main_v87
  generalize val_main_v86 (F := Ideal) x0 x1 x2 x3 = y
  pointwise [val_main_cst_15]
  rw [Fin.sum_univ_one]
theorem v100_apply (h g : Fin 4) (i : Fin 4224) :
    val_main_v100 (F := Ideal) x0 x1 x2 x3 (ix4 h g i (0 : Fin 1))
      = -(gSk (aq x0) (akv x1) (ask x2) (ado x3) h g i)
        + ∑ j, -(rDs (gS (aq x0) (akv x1) h g i) (ask x2 (head h g)) (gDp (akv x1) (ado x3) h g i) j) := by
  rw [← v89_apply]
  simp only [← v96_apply]
  unfold val_main_v100 val_main_v99 val_main_v98 val_main_v97 val_main_v92
  generalize val_main_v96 (F := Ideal) x0 x1 x2 x3 = y
  pointwise [val_main_cst_16]

/-- Finite arguments. -/
structure Fin' : Prop where
  hq : ∀ i k, IsR (aq x0 i k)
  hkv : ∀ i k, IsR (akv x1 i k)
  hs : ∀ a, IsR (ask x2 a)
  hd : ∀ i k, IsR (ado x3 i k)
variable {x0 x1 x2 x3}
variable (H : Fin' x0 x1 x2 x3)
include H

theorem Fin'.v100 (h g : Fin 4) (i : Fin 4224) : val_main_v100 (F := Ideal) x0 x1 x2 x3 (ix4 h g i (0 : Fin 1)) = 0 := by
  rw [v100_apply]; exact g_max H.hq H.hkv H.hs H.hd h g i

theorem Fin'.v111 (h g : Fin 4) :
    val_main_v111 (F := Ideal) x0 x1 x2 x3 (ix3 (head h g) (0 : Fin 1) (0 : Fin 1)) = fs (aq x0) (akv x1) (ask x2) (ado x3) h g := by
  rw [← v91_apply]
  have e : ∀ i, val_main_v101 (F := Ideal) x0 x1 x2 x3 (ix4 h g i (0 : Fin 1)) = 0 := fun i => by
    pointwise [val_main_v101]
    rw [H.v100, zero_mul]
  unfold val_main_v111 val_main_v104 val_main_v103 val_main_v102
  generalize val_main_v101 (F := Ideal) x0 x1 x2 x3 = y at e
  generalize val_main_v91 (F := Ideal) x0 x1 x2 x3 = z
  unfold head
  pointwise [val_main_cst_17]
  simp only [e, Finset.sum_const_zero, add_zero]

end Cert.ReferenceIdeal.Swa
end
end
-- ==== Proof.RefGrad.lean ====
/-
  The reference's three gradients, read at an index.
-/
module

public import proofs.«01_k».proof.Proof.RefSoft

@[expose] public section
noncomputable section
namespace Cert.ReferenceIdeal.Swa
open Cert.ReferenceIdeal Cert.ReferenceIdeal.Gen Cert.ReferenceIdeal.Read Idealize.ShloMosaic
open _root_.Swa

variable (x0 : (⟨S4224x1024, .f32⟩ : BufTy).Contents (Elt Ideal)) (x1 : (⟨S4224x512, .f32⟩ : BufTy).Contents (Elt Ideal))
  (x2 : (⟨S16x1x1, .f32⟩ : BufTy).Contents (Elt Ideal)) (x3 : (⟨S4224x1024, .f32⟩ : BufTy).Contents (Elt Ideal))

theorem v36_apply (h g : Fin 4) (i j : Fin 4224) :
    val_main_v36 (F := Ideal) x0 x1 (ix4 h g i j)
      = if gS (aq x0) (akv x1) h g i j = Finset.univ.sup (gS (aq x0) (akv x1) h g i) then 1 else 0 := by
  rw [← v30_apply, ← v32_apply, val_main_v36_apply, val_main_v35_apply, val_main_v34_apply, val_main_v33_apply]
  have e : idx_main_v33 (idx_main_v34 (ix4 h g i j)) = ix3 h g i := by
    funext a
    match a with
    | ⟨0, _⟩ => exact Fin.ext (by show (((h.val * 4 + g.val) * 4224 + i.val) * 1 + 0) / 16896 = h.val; omega)
    | ⟨1, _⟩ => exact Fin.ext (by show (((h.val * 4 + g.val) * 4224 + i.val) * 1 + 0) / 4224 % 4 = g.val; omega)
    | ⟨2, _⟩ => exact Fin.ext (by show (((h.val * 4 + g.val) * 4224 + i.val) * 1 + 0) % 4224 = i.val; omega)
  rw [e]
  generalize val_main_v30_0 (F := Ideal) x0 x1 _ = a
  generalize val_main_v32 (F := Ideal) x0 x1 _ = b
  show (((BitVec.ofBool (decide (a = b))).toNat : ℝ) : EReal) = _
  by_cases ha : a = b
  · rw [if_pos ha, decide_eq_true ha]; simp
  · rw [if_neg ha, decide_eq_false ha]; simp
theorem count_ne_zero (s : Fin 4224 → EReal) : (∑ j, if s j = Finset.univ.sup s then (1 : EReal) else 0) ≠ 0 := by
  obtain ⟨j, _, hj⟩ := Finset.exists_mem_eq_sup Finset.univ ⟨(0 : Fin 4224), Finset.mem_univ _⟩ s
  have h1 : (1 : EReal) ≤ ∑ j, if s j = Finset.univ.sup s then (1 : EReal) else 0 := by
    refine le_trans (le_of_eq (if_pos hj.symm).symm)
      (Finset.single_le_sum (f := fun j => if s j = Finset.univ.sup s then (1 : EReal) else 0) (fun c _ => ?_) (Finset.mem_univ j))
    split_ifs
    · exact zero_le_one
    · exact le_rfl
  exact (lt_of_lt_of_le zero_lt_one h1).ne'
theorem v37_ne (h g : Fin 4) (i : Fin 4224) : val_main_v37 (F := Ideal) x0 x1 (ix3 h g i) ≠ 0 := by
  have e : val_main_v37 (F := Ideal) x0 x1 (ix3 h g i) = ∑ j, val_main_v36 (F := Ideal) x0 x1 (ix4 h g i j) := by
    unfold val_main_v37
    generalize val_main_v36 (F := Ideal) x0 x1 = y
    pointwise [val_main_cst_4]
  rw [e]
  simp only [v36_apply]
  exact count_ne_zero _

variable {x0 x1 x2 x3}
variable (H : Fin' x0 x1 x2 x3)
include H

theorem Fin'.v107 (h g : Fin 4) (i : Fin 4224) : val_main_v107 (F := Ideal) x0 x1 x2 x3 (ix3 h g i) = 0 := by
  have e5 : ∀ i, val_main_v105 (F := Ideal) x0 x1 x2 x3 (ix4 h g i (0 : Fin 1)) = 0 := fun i => by
    rw [val_main_v105_apply, H.v100, Ideal.mulf_def, zero_mul]
  have e6 : val_main_v106 (F := Ideal) x0 x1 x2 x3 (ix3 h g i) = 0 := by
    unfold val_main_v106
    generalize val_main_v105 (F := Ideal) x0 x1 x2 x3 = y at e5
    pointwise [val_main_cst_18]
    simp only [Fin.sum_univ_one, e5]
  rw [val_main_v107_apply, e6]
  exact div_zero_left (v37_ne x0 x1 h g i)
theorem Fin'.v110 (h g : Fin 4) (i j : Fin 4224) : val_main_v110 (F := Ideal) x0 x1 x2 x3 (ix4 h g i j)
      = rDs (gS (aq x0) (akv x1) h g i) (ask x2 (head h g)) (gDp (akv x1) (ado x3) h g i) j := by
  have e : val_main_v108 (F := Ideal) x0 x1 x2 x3 (ix4 h g i j) = 0 := by
    rw [val_main_v108_apply, ← H.v107 h g i]
    congr 1
    funext a; match a with | ⟨0, _⟩ => rfl | ⟨1, _⟩ => rfl | ⟨2, _⟩ => rfl
  rw [val_main_v110_apply, val_main_v109_apply, e, v96_apply, Ideal.mulf_def, zero_mul, Ideal.addf_def, add_zero]
theorem Fin'.v112 (h g : Fin 4) (i j : Fin 4224) : val_main_v112 (F := Ideal) x0 x1 x2 x3 (ix4 h g i j)
      = gDs (aq x0) (akv x1) (ask x2) (ado x3) h g i j := by
  have e1 : val_main_v30_1 (F := Ideal) (ix4 h g i j) = BitVec.ofBool (decide (seen i j)) := by
    rw [← v27_apply]
    unfold val_main_v30_1
    generalize val_main_v27 (F := Ideal) = y
    pointwise []
  have e2 : val_main_call1_v0 (F := Ideal) (ix4 h g i j) = 0 := by
    pointwise [val_main_call1_v0, val_main_call1_cst]
  rw [val_main_v112_apply, e1, select_ofBool, H.v110, e2]; rfl
theorem Fin'.v113 (h g : Fin 4) (i j : Fin 4224) : val_main_v113 (F := Ideal) x0 x1 x2 x3 (ix4 h j i g)
      = gDs (aq x0) (akv x1) (ask x2) (ado x3) h g i j := by
  rw [val_main_v113_apply, ← H.v112]
  congr 1
  funext a; match a with | ⟨0, _⟩ => rfl | ⟨1, _⟩ => rfl | ⟨2, _⟩ => rfl | ⟨3, _⟩ => rfl

theorem Fin'.v125 (i : Fin 4224) (h g : Fin 4) (d : Fin 64) : val_main_v125 (F := Ideal) x0 x1 x2 x3 (ix2 i (qcol h g d))
      = fq (aq x0) (akv x1) (ask x2) (ado x3) h g i d := by
  have e1 : val_main_v125 (F := Ideal) x0 x1 x2 x3 (ix2 i (qcol h g d))
      = val_main_v114 (F := Ideal) x0 x1 x2 x3 (ix4 h i g d) * c8 := by
    unfold val_main_v125 val_main_v124 val_main_v123 val_main_v115
    generalize val_main_v114 (F := Ideal) x0 x1 x2 x3 = y
    unfold qcol c8
    pointwise [val_main_cst_21]
  rw [e1, val_main_v114_apply]
  unfold fq
  congr 1
  refine Finset.sum_congr rfl fun j _ => ?_
  rw [← H.v113, ← v4_apply]
  congr 2 <;> funext a
  · match a with | ⟨0, _⟩ => rfl | ⟨1, _⟩ => rfl | ⟨2, _⟩ => rfl | ⟨3, _⟩ => rfl
  · match a with | ⟨0, _⟩ => rfl | ⟨1, _⟩ => rfl | ⟨2, _⟩ => rfl
theorem v80_apply (j : Fin 4224) (h : Fin 4) (d : Fin 64) : val_main_v80 (F := Ideal) x0 x1 x2 x3 (ix3 j h d)
      = fv (aq x0) (akv x1) (ask x2) (ado x3) h j d := by
  unfold fv gV
  simp only [← v69_apply, ← v77_apply]
  unfold val_main_v80 val_main_v79
  generalize val_main_v69 (F := Ideal) x0 x1 x2 = y
  generalize val_main_v77 (F := Ideal) x3 = z
  pointwise [dot_S4x64x4x4224_S4x4x4224x4224_S4x64x4224_23_12_1_3_0_0]
  exact Finset.sum_congr rfl fun _ _ => Finset.sum_congr rfl fun _ _ => mul_comm _ _
theorem Fin'.v117 (j : Fin 4224) (h : Fin 4) (d : Fin 64) : val_main_v117 (F := Ideal) x0 x1 x2 x3 (ix3 j h d)
      = fk (aq x0) (akv x1) (ask x2) (ado x3) h j d := by
  unfold fk gK
  simp only [← H.v113, ← v2_apply]
  unfold val_main_v117 val_main_v116
  generalize val_main_v113 (F := Ideal) x0 x1 x2 x3 = y
  generalize val_main_v2 (F := Ideal) x0 = z
  pointwise [dot_S4x4224x4224x4_S4224x4x4x64_S4x4224x64_23_02_1_3_0_1]
  exact Finset.sum_comm
theorem Fin'.v122k (j : Fin 4224) (h : Fin 4) (d : Fin 64) : val_main_v122 (F := Ideal) x0 x1 x2 x3 (ix2 j (kcol h d))
      = fk (aq x0) (akv x1) (ask x2) (ado x3) h j d := by
  rw [← H.v117]
  unfold val_main_v122 val_main_v121 val_main_v120 val_main_v119 val_main_v118
  generalize val_main_v117 (F := Ideal) x0 x1 x2 x3 = y
  generalize val_main_v80 (F := Ideal) x0 x1 x2 x3 = z
  unfold kcol
  pointwise [val_main_cst_19, val_main_cst_20]
  rw [dif_neg (by omega), dif_pos (by omega), zero_add]
theorem Fin'.v122v (j : Fin 4224) (h : Fin 4) (d : Fin 64) : val_main_v122 (F := Ideal) x0 x1 x2 x3 (ix2 j (vcol h d))
      = fv (aq x0) (akv x1) (ask x2) (ado x3) h j d := by
  rw [← v80_apply H]
  unfold val_main_v122 val_main_v121 val_main_v120 val_main_v119 val_main_v118
  generalize val_main_v117 (F := Ideal) x0 x1 x2 x3 = y
  generalize val_main_v80 (F := Ideal) x0 x1 x2 x3 = z
  unfold vcol
  pointwise [val_main_cst_19, val_main_cst_20]
  rw [dif_pos (by omega)]

/-- The three gradients as whole arrays. -/
theorem Fin'.queries : val_main_v125 (F := Ideal) x0 x1 x2 x3
    = fun i => rq (aq x0) (akv x1) (ask x2) (ado x3) (i 0) (i 1) := by
  funext i
  obtain ⟨a, k, rfl⟩ : ∃ a k, i = ix2 a k := ⟨i 0, i 1, by funext b; match b with | ⟨0, _⟩ => rfl | ⟨1, _⟩ => rfl⟩
  obtain ⟨h, g, d, rfl⟩ := qcol_cases k
  exact (H.v125 a h g d).trans (rq_col _ _ _ _ a h g d).symm
@[inherit_doc Fin'.queries] theorem Fin'.keys : val_main_v122 (F := Ideal) x0 x1 x2 x3
    = fun i => rkv (aq x0) (akv x1) (ask x2) (ado x3) (i 0) (i 1) := by
  funext i
  obtain ⟨a, k, rfl⟩ : ∃ a k, i = ix2 a k := ⟨i 0, i 1, by funext b; match b with | ⟨0, _⟩ => rfl | ⟨1, _⟩ => rfl⟩
  rcases kvcol_cases k with ⟨h, d, rfl⟩ | ⟨h, d, rfl⟩
  · exact (H.v122k a h d).trans (rkv_k _ _ _ _ a h d).symm
  · exact (H.v122v a h d).trans (rkv_v _ _ _ _ a h d).symm
@[inherit_doc Fin'.queries] theorem Fin'.sinks : val_main_v111 (F := Ideal) x0 x1 x2 x3
    = fun i => rs (aq x0) (akv x1) (ask x2) (ado x3) (i 0) := by
  funext i
  obtain ⟨a, rfl⟩ : ∃ a, i = ix3 a (0 : Fin 1) (0 : Fin 1) := ⟨i 0, by
    funext b
    match b with
    | ⟨0, _⟩ => rfl
    | ⟨1, _⟩ => exact Subsingleton.elim (α := Fin 1) _ _
    | ⟨2, _⟩ => exact Subsingleton.elim (α := Fin 1) _ _⟩
  obtain ⟨h, g, rfl⟩ := head_cases a
  exact (H.v111 h g).trans (rs_head _ _ _ _ h g).symm

end Cert.ReferenceIdeal.Swa
end
end
-- ==== Proof.Tiles.lean ====
/-
  The product of two matrices over the extended reals, tile by tile: a tile of the product is the product of a band of
  rows by a band of columns, and a sum over a long axis is the running sum of its parts.
-/
module

public import Idealize.ShloMosaic.Lib.Pointwise

@[expose] public section
noncomputable section
namespace Mm
open Idealize.ShloMosaic

variable {M K N tm tn : ℕ}

/-- The product of two matrices. -/
def prod (A : (⟨2, ![M, K]⟩ : Shape).Idx → EReal) (B : (⟨2, ![K, N]⟩ : Shape).Idx → EReal) : (⟨2, ![M, N]⟩ : Shape).Idx → EReal :=
  fun i => ∑ k : Fin K, A (ix2 (i 0) k) * B (ix2 k (i 1))

theorem eta2 {a b : ℕ} (x : (⟨2, ![a, b]⟩ : Shape).Idx) : x = ix2 (x 0) (x 1) := by
  funext i; fin_cases i <;> rfl

/-- Two indices are equal when their coordinates are. -/
theorem ext2 {a b : ℕ} {x y : (⟨2, ![a, b]⟩ : Shape).Idx} (h0 : (x 0).val = (y 0).val) (h1 : (x 1).val = (y 1).val) : x = y := by
  funext i; fin_cases i
  · exact Fin.ext h0
  · exact Fin.ext h1

/-- A tile of the product, at an index of the tile that the array holds at `e`: the rows' band is read at `ea` and the
    columns' band at `eb`. -/
theorem tile {A : (⟨2, ![M, K]⟩ : Shape).Idx → EReal} {B : (⟨2, ![K, N]⟩ : Shape).Idx → EReal}
    {x0 : (⟨2, ![tm, K]⟩ : Shape).Idx → EReal} {x1 : (⟨2, ![K, tn]⟩ : Shape).Idx → EReal}
    {ea : (⟨2, ![tm, K]⟩ : Shape).Idx → (⟨2, ![M, K]⟩ : Shape).Idx} {eb : (⟨2, ![K, tn]⟩ : Shape).Idx → (⟨2, ![K, N]⟩ : Shape).Idx}
    (h0 : ∀ i, x0 i = A (ea i)) (h1 : ∀ i, x1 i = B (eb i)) (j : (⟨2, ![tm, tn]⟩ : Shape).Idx) (e : (⟨2, ![M, N]⟩ : Shape).Idx)
    (a0 : ∀ k, (ea (ix2 (j 0) k) 0).val = (e 0).val) (a1 : ∀ k, (ea (ix2 (j 0) k) 1).val = k.val)
    (b0 : ∀ k, (eb (ix2 k (j 1)) 0).val = k.val) (b1 : ∀ k, (eb (ix2 k (j 1)) 1).val = (e 1).val) :
    prod x0 x1 j = prod A B e := by
  unfold prod
  refine Finset.sum_congr rfl fun k _ => ?_
  rw [h0, h1]
  congr 2
  · exact ext2 (a0 k) (a1 k)
  · exact ext2 (b0 k) (b1 k)

/-- A part of a tile of the product: the sum over the columns of the rows' band that start at `o`. -/
theorem part {tk o : ℕ} {A : (⟨2, ![M, K]⟩ : Shape).Idx → EReal} {B : (⟨2, ![K, N]⟩ : Shape).Idx → EReal}
    {x0 : (⟨2, ![tm, tk]⟩ : Shape).Idx → EReal} {x1 : (⟨2, ![tk, tn]⟩ : Shape).Idx → EReal}
    {ea : (⟨2, ![tm, tk]⟩ : Shape).Idx → (⟨2, ![M, K]⟩ : Shape).Idx} {eb : (⟨2, ![tk, tn]⟩ : Shape).Idx → (⟨2, ![K, N]⟩ : Shape).Idx}
    (h0 : ∀ i, x0 i = A (ea i)) (h1 : ∀ i, x1 i = B (eb i)) (j : (⟨2, ![tm, tn]⟩ : Shape).Idx) (e : (⟨2, ![M, N]⟩ : Shape).Idx)
    (s : Fin tk → Fin K) (hs : ∀ k, (s k).val = o + k.val)
    (a0 : ∀ k, (ea (ix2 (j 0) k) 0).val = (e 0).val) (a1 : ∀ k, (ea (ix2 (j 0) k) 1).val = o + k.val)
    (b0 : ∀ k, (eb (ix2 k (j 1)) 0).val = o + k.val) (b1 : ∀ k, (eb (ix2 k (j 1)) 1).val = (e 1).val) :
    prod x0 x1 j = ∑ k : Fin tk, A (ix2 (e 0) (s k)) * B (ix2 (s k) (e 1)) := by
  unfold prod
  refine Finset.sum_congr rfl fun k _ => ?_
  rw [h0, h1]
  congr 2
  · exact ext2 (a0 k) ((a1 k).trans (hs k).symm)
  · exact ext2 ((b0 k).trans (hs k).symm) (b1 k)

/-- A sum over a long axis is the running sum of its three parts. -/
theorem thirds {n : ℕ} (h : K = n + n + n) (f : Fin K → EReal) : ∃ s0 s1 s2 : Fin n → Fin K,
    (∀ k, (s0 k).val = 0 * n + k.val) ∧ (∀ k, (s1 k).val = 1 * n + k.val) ∧ (∀ k, (s2 k).val = 2 * n + k.val) ∧
    (∑ k, f (s0 k)) + (∑ k, f (s1 k)) + (∑ k, f (s2 k)) = ∑ k, f k := by
  subst h
  refine ⟨fun k => Fin.castAdd n (Fin.castAdd n k), fun k => Fin.castAdd n (Fin.natAdd n k), fun k => Fin.natAdd (n + n) k, fun k => ?_, fun k => ?_, fun k => ?_, ?_⟩
  · show k.val = _; omega
  · show n + k.val = _; omega
  · show n + n + k.val = _; omega
  · rw [Fin.sum_univ_add, Fin.sum_univ_add]

/-- The offsets of a whole block. -/
theorem zero2 : (![0, 0] : Fin 2 → ℕ) = fun _ => 0 := by funext a; fin_cases a <;> rfl

/-- An index of an array is an index of a tile, moved by the tile's place. -/
theorem split2 (tm tn : ℕ) (hm : 0 < tm) (hn : 0 < tn) (i : (⟨2, ![M, N]⟩ : Shape).Idx) : ∃ j : (⟨2, ![tm, tn]⟩ : Shape).Idx,
    (i 0).val = (i 0).val / tm * tm + 1 * (j 0).val ∧ (i 1).val = (i 1).val / tn * tn + 1 * (j 1).val :=
  ⟨ix2 ⟨(i 0).val % tm, Nat.mod_lt _ hm⟩ ⟨(i 1).val % tn, Nat.mod_lt _ hn⟩,
    by show _ = _ + 1 * ((i 0).val % tm); rw [Nat.one_mul, Nat.div_add_mod'], by show _ = _ + 1 * ((i 1).val % tn); rw [Nat.one_mul, Nat.div_add_mod']⟩

/-- The transposed matrix. -/
def swap (A : (⟨2, ![M, K]⟩ : Shape).Idx → EReal) : (⟨2, ![K, M]⟩ : Shape).Idx → EReal := fun i => A (ix2 (i 1) (i 0))

end Mm
end
end
-- ==== Proof.RowsInput.lean ====
/-
  The gradient of the rows of the input projection: the pipelined product, summed over three bands of columns in a
  scratch, and the reference's product are one sum.
-/
module

public import proofs.«01_k».proof.Defs
public import proofs.«01_k».proof.Proof.Tiles
public import proofs.«01_k».proof.Proof.Gen.Kernel2Ideal.Value
public import proofs.«01_k».proof.Proof.Gen.Reference2Ideal.Read
public import Idealize.ShloMosaic.Lib.Pointwise
public import Idealize.ShloMosaic.Lib.Pipeline.Value
public import Idealize.ShloMosaic.Lib.Tactic
public import Idealize.ShloMosaic.Adequacy
public import Idealize.ShloMosaic.Init

@[expose] public section
noncomputable section
namespace Cert.Kernel2Ideal.Mm
open Cert.Kernel2Ideal Cert.Kernel2Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, each at the third of the sum the point is for. -/
theorem bands : ∀ t : Fin cfg0.N, win0_0.index t 0 = win0_2.index t 0 ∧ win0_0.index t 1 = t.val % 3 ∧ win0_1.index t 0 = t.val % 3 ∧ win0_1.index t 1 = win0_2.index t 1 :=
  (by decide +kernel : ∀ t : Fin grid0.N, win0_0.index t 0 = win0_2.index t 0 ∧ win0_0.index t 1 = t.val % 3 ∧ win0_1.index t 0 = t.val % 3 ∧ win0_1.index t 1 = win0_2.index t 1)
/-- The points of one tile follow one another. -/
theorem same : ∀ t u : Fin cfg0.N, t.val / 3 = u.val / 3 → win0_2.index t 0 = win0_2.index u 0 ∧ win0_2.index t 1 = win0_2.index u 1 :=
  (by decide +kernel : ∀ t u : Fin grid0.N, t.val / 3 = u.val / 3 → win0_2.index t 0 = win0_2.index u 0 ∧ win0_2.index t 1 = win0_2.index u 1)
/-- Each tile has a last point. -/
theorem points : ∀ (p : Fin 3) (q : Fin 2), ∃ t : Fin cfg0.N, t.val % 3 = 2 ∧ win0_2.index t 0 = p.val ∧ win0_2.index t 1 = q.val :=
  (by decide +kernel : ∀ (p : Fin 3) (q : Fin 2), ∃ t : Fin grid0.N, t.val % 3 = 2 ∧ win0_2.index t 0 = p.val ∧ win0_2.index t 1 = q.val)

theorem pay (x0 : Vec Ideal S1408x4096 .bf16) (x1 : Vec Ideal S4096x512 .bf16) : k0_pay1 x0 x1 = prod x0 x1 := by
  funext j
  rw [eta2 j]
  unfold prod
  pointwise [k0_pay1, dot_S1408x4096_S4096x512_S1408x512_1_0_0_1_n_n]

theorem pay_first (x0 : Vec Ideal S1408x4096 .bf16) (x1 : Vec Ideal S4096x512 .bf16) : k0_pay2 x0 x1 = prod x0 x1 := by
  unfold k0_pay2
  rw [shapeCast_self, pay]

theorem pay_next (x0 : Vec Ideal S1408x4096 .bf16) (x1 : Vec Ideal S4096x512 .bf16) (xs : Vec Ideal S1408x512 .f32) (j : S1408x512.Idx) :
    k0_pay3 x0 x1 xs j = (xs j : EReal) + prod (M := 1408) (K := 4096) (N := 512) x0 x1 j := by
  unfold k0_pay3
  rw [shapeCast_self, pay]
  rfl

/-- The first point of a tile leaves its product in the scratch. -/
theorem scratch_first (c : Dev nD) (i : grid0.Coords) (a1 : Memref sig .tc .vmem S1408x4096 .bf16) (h1 : a1.IsWhole) (a2 : Memref sig .tc .vmem S4096x512 .bf16) (h2 : a2.IsWhole) (a3 : Memref sig .tc .vmem S1408x512 .f32) (h3 : a3.IsWhole) (a4 : Memref sig .tc .vmem S1408x512 .f32) (h4 : a4.IsWhole) (hc0 : cond0_0 i) (hc1 : ¬cond0_1 i) (hc2 : ¬cond0_2 i) (x0 : Vec Ideal S1408x4096 .bf16) (x1 : Vec Ideal S4096x512 .bf16) :
    sout0_A_0 c i a1 h1 a2 h2 a3 h3 a4 h4 hc0 hc1 hc2 x0 x1 = k0_pay2 x0 x1 := by
  unfold sout0_A_0
  rw [View.read_writes_eq_canon _ _ _ (scover0_A_0 c i a1 h1 a2 h2 a3 h3 a4 h4 hc0 hc1 hc2 x0 x1)]
  unfold kernelRun0_A
  dsimp only
  sl_unfold_words
  simp only [View.canon_unit_zero (S := S1408x512) zero2, View.canon_cons_unit_zero (S := S1408x512) zero2, View.readCov_cons_toLoadRect, View.readCov_unit_zero (S := S1408x512) _ zero2, View.readAt_eq_ld, h1.read_unread, h2.read_unread, h4.read_unread, View.ld_unit_zero (S := S1408x4096) zero2, View.ld_unit_zero (S := S4096x512) zero2, View.ld_unit_zero (S := S1408x512) zero2]

/-- The second adds its own. -/
theorem scratch_next (c : Dev nD) (i : grid0.Coords) (a1 : Memref sig .tc .vmem S1408x4096 .bf16) (h1 : a1.IsWhole) (a2 : Memref sig .tc .vmem S4096x512 .bf16) (h2 : a2.IsWhole) (a3 : Memref sig .tc .vmem S1408x512 .f32) (h3 : a3.IsWhole) (a4 : Memref sig .tc .vmem S1408x512 .f32) (h4 : a4.IsWhole) (hc0 : ¬cond0_0 i) (hc1 : cond0_1 i) (hc2 : ¬cond0_2 i) (x0 : Vec Ideal S1408x4096 .bf16) (x1 : Vec Ideal S4096x512 .bf16) (xs : Vec Ideal S1408x512 .f32) :
    sout0_B_0 c i a1 h1 a2 h2 a3 h3 a4 h4 hc0 hc1 hc2 x0 x1 xs = k0_pay3 x0 x1 xs := by
  unfold sout0_B_0
  rw [View.read_writes_eq_canon _ _ _ (scover0_B_0 c i a1 h1 a2 h2 a3 h3 a4 h4 hc0 hc1 hc2 x0 x1 xs)]
  unfold kernelRun0_B
  dsimp only
  sl_unfold_words
  simp only [View.canon_unit_zero (S := S1408x512) zero2, View.canon_cons_unit_zero (S := S1408x512) zero2, View.readCov_cons_toLoadRect, View.readCov_unit_zero (S := S1408x512) _ zero2, View.readAt_eq_ld, h1.read_unread, h2.read_unread, h4.read_unread, View.ld_unit_zero (S := S1408x4096) zero2, View.ld_unit_zero (S := S4096x512) zero2, View.ld_unit_zero (S := S1408x512) zero2]

/-- The last writes out the scratch it leaves. -/
theorem tile_last (c : Dev nD) (i : grid0.Coords) (a1 : Memref sig .tc .vmem S1408x4096 .bf16) (h1 : a1.IsWhole) (a2 : Memref sig .tc .vmem S4096x512 .bf16) (h2 : a2.IsWhole) (a3 : Memref sig .tc .vmem S1408x512 .f32) (h3 : a3.IsWhole) (a4 : Memref sig .tc .vmem S1408x512 .f32) (h4 : a4.IsWhole) (hc0 : ¬cond0_0 i) (hc1 : cond0_1 i) (hc2 : cond0_2 i) (x0 : Vec Ideal S1408x4096 .bf16) (x1 : Vec Ideal S4096x512 .bf16) (xs : Vec Ideal S1408x512 .f32) :
    out0_C_2 c i a1 h1 a2 h2 a3 h3 a4 h4 hc0 hc1 hc2 x0 x1 xs = k0_pay3 x0 x1 xs := by
  unfold out0_C_2
  rw [View.read_writes_eq_canon _ _ _ (cover0_C_2 c i a1 h1 a2 h2 a3 h3 a4 h4 hc0 hc1 hc2 x0 x1 xs)]
  unfold kernelRun0_C
  dsimp only
  sl_unfold_words
  simp only [View.canon_unit_zero (S := S1408x512) zero2, View.canon_cons_unit_zero (S := S1408x512) zero2, View.readCov_cons_toLoadRect, View.readCov_unit_zero (S := S1408x512) _ zero2, View.readAt_eq_ld, h1.read_unread, h2.read_unread, h4.read_unread, View.ld_unit_zero (S := S1408x4096) zero2, View.ld_unit_zero (S := S4096x512) zero2, View.ld_unit_zero (S := S1408x512) zero2]

theorem rows (t : Fin cfg0.N) (x : S1408x4096.Idx) : (iblk m c 0 t : Vec Ideal S1408x4096 .bf16) x = V m c main_v0 (((cfg0.win 0).blk t).view.emb x) := by
  unfold iblk; rw [View.read_apply]; rfl
theorem cols (t : Fin cfg0.N) (x : S4096x512.Idx) : (iblk m c 1 t : Vec Ideal S4096x512 .bf16) x = V m c main_v2 (((cfg0.win 1).blk t).view.emb x) := by
  unfold iblk; rw [View.read_apply]; rfl

/-- The two arrays the call reads. -/
def lhs : S4224x12288.Idx → EReal := V m c main_v0
def rhs : S12288x1024.Idx → EReal := V m c main_v2

/-- The product of the blocks a point reads. -/
def step (t : Fin cfg0.N) : S1408x512.Idx → EReal := prod (iblk m c 0 t : S1408x4096.Idx → EReal) (iblk m c 1 t : S4096x512.Idx → EReal)

theorem before {n k : ℕ} (hn : n < cfg0.N) (hk : k < cfg0.N) (e : n = k) : outsAt0 m c n hn = outsAt0 m c k hk := by
  subst e; rfl

/-- What the last point of a tile writes: the three points' products, added up. -/
theorem summed (t a b : Fin cfg0.N) (ht : t.val % 3 = 2) (ha : a.val = t.val - 2) (hb : b.val = t.val - 1) (j : S1408x512.Idx) :
    (outsAt0 m c t.val t.isLt).1 j = step m c a j + step m c b j + step m c t j := by
  have e0 : (outsAt0 m c a.val a.isLt).2 = step m c a := by
    have h := congrArg Prod.snd (outsAt0_A m c a (by omega) (by omega) (by omega))
    rw [scratch_first, pay_first] at h
    exact h
  have e1 : ∀ i, (outsAt0 m c b.val b.isLt).2 i = step m c a i + step m c b i := fun i => by
    have h := congrArg Prod.snd (outsAt0_B m c b (by omega) (by omega) (by omega))
    rw [scratch_next] at h
    dsimp only at h
    rw [h, pay_next, before m c _ a.isLt (by omega : b.val - 1 = a.val), e0]
    rfl
  have h := congrArg Prod.fst (outsAt0_C m c t (by omega) (by omega) ht)
  rw [tile_last] at h
  dsimp only at h
  rw [h, pay_next, before m c _ b.isLt (by omega : t.val - 1 = b.val), e1]
  rfl

/-- A point's product is its third of the sum. -/
theorem third (t u : Fin cfg0.N) (hu : t.val / 3 = u.val / 3) (o : ℕ) (ho : t.val % 3 = o) (j : S1408x512.Idx) (s : Fin 4096 → Fin 12288) (hs : ∀ k, (s k).val = o * 4096 + k.val) (e : S4224x1024.Idx) (he : e = ((cfg0.win 2).blk u).view.emb j) :
    step m c t j = ∑ k : Fin 4096, lhs m c (ix2 (e 0) (s k)) * rhs m c (ix2 (s k) (e 1)) := by
  obtain ⟨h00, h01, h10, h11⟩ := bands t
  obtain ⟨g0, g1⟩ := same t u hu
  rw [ho] at h01 h10
  subst he
  unfold step
  refine part (rows m c t) (cols m c t) j _ s hs (fun k => ?_) (fun k => ?_) (fun k => ?_) (fun k => ?_)
  · show win0_0.index t 0 * 1408 + 1 * (j 0).val = win0_2.index u 0 * 1408 + 1 * (j 0).val; rw [h00, g0]
  · show win0_0.index t 1 * 4096 + 1 * k.val = o * 4096 + k.val; rw [h01]; omega
  · show win0_1.index t 0 * 4096 + 1 * k.val = o * 4096 + k.val; rw [h10]; omega
  · show win0_1.index t 1 * 512 + 1 * (j 1).val = win0_2.index u 1 * 512 + 1 * (j 1).val; rw [h11, g1]

/-- The last point of a tile writes the tile of the product. -/
theorem joined (t : Fin cfg0.N) (ht : t.val % 3 = 2) (j : S1408x512.Idx) (e : S4224x1024.Idx) (he : e = ((cfg0.win 2).blk t).view.emb j) :
    (outsAt0 m c t.val t.isLt).1 j = prod (lhs m c) (rhs m c) e := by
  obtain ⟨s0, s1, s2, q0, q1, q2, hsum⟩ := thirds (K := 12288) (n := 4096) (by norm_num) (fun k => lhs m c (ix2 (e 0) k) * rhs m c (ix2 k (e 1)))
  rw [summed m c t ⟨t.val - 2, lt_of_le_of_lt (Nat.sub_le _ _) t.isLt⟩ ⟨t.val - 1, lt_of_le_of_lt (Nat.sub_le _ _) t.isLt⟩ ht rfl rfl j,
    third m c _ t (by show (t.val - 2) / 3 = _; omega) 0 (by show (t.val - 2) % 3 = _; omega) j s0 q0 e he,
    third m c _ t (by show (t.val - 1) / 3 = _; omega) 1 (by show (t.val - 1) % 3 = _; omega) j s1 q1 e he,
    third m c t t rfl 2 ht j s2 q2 e he, hsum]
  unfold prod
  rfl

theorem final : (Gen.dats m 0 c).arrAt 2 cfg0.N = prod (lhs m c) (rhs m c) := by
  refine (Gen.dats m 0 c).arrAt_eq_of_cover 2 _ (fun t hf => ?_) (fun i => ?_)
  · have ht : t.val % 3 = 2 := (flush0_2 t).mp hf
    rw [Value.flushed2]
    funext j
    rw [View.read_apply]
    have h := joined m c t ht j _ rfl
    generalize (outsAt0 m c t.val t.isLt).1 = y at h ⊢
    generalize prod (lhs m c) (rhs m c) = z at h ⊢
    exact h
  · have b0 : (i 0).val < 4224 := (i 0).isLt
    have b1 : (i 1).val < 1024 := (i 1).isLt
    obtain ⟨t, ht, e0, e1⟩ := points ⟨(i 0).val / 1408, by omega⟩ ⟨(i 1).val / 512, by omega⟩
    obtain ⟨j, j0, j1⟩ := split2 1408 512 (by decide) (by decide) i
    refine ⟨t, (flush0_2 t).mpr ht, ?_⟩
    have hx : i = ((cfg0.win 2).blk t).view.emb j := by
      refine ext2 ?_ ?_
      · show _ = win0_2.index t 0 * 1408 + 1 * (j 0).val; rw [e0]; exact j0
      · show _ = win0_2.index t 1 * 512 + 1 * (j 1).val; rw [e1]; exact j1
    exact hx ▸ View.emb_mem_set _ _

theorem left : lhs m c = m (c.tc.loc main_arg2) := by
  have e : V m c main_v0 = truncf (F := Ideal) (s := S4224x12288) (φ := .f32) .bf16 (m (c.tc.loc main_arg2)) bitsLt_bf16_f32 := by
    unfold V; after_results
  exact e.trans rfl
theorem right : rhs m c = swap (m (c.tc.loc main_arg1) : S1024x12288.Idx → EReal) := by
  have e : V m c main_v2 = transpose S12288x1024 [1, 0] (truncf (F := Ideal) (s := S1024x12288) (φ := .f32) .bf16 (m (c.tc.loc main_arg1)) bitsLt_bf16_f32) transposes_S1024x12288_S12288x1024_1_0 := by
    unfold V; after_results
  unfold rhs
  rw [e]
  funext i
  rw [eta2 i]
  generalize m (c.tc.loc main_arg1) = y
  pointwise
  rfl

theorem value : (Gen.dats m 0 c).arrAt 2 cfg0.N = Cert.Reference2Ideal.Read.val_main_v3 (F := Ideal) (m (c.tc.loc main_arg1)) (m (c.tc.loc main_arg2)) := by
  rw [final, left, right]
  funext i
  rw [Reference2Ideal.Read.val_main_v3_apply]
  unfold prod swap
  refine Finset.sum_congr rfl fun k _ => ?_
  exact congr (congrArg _ (congrArg _ (ext2 rfl rfl))) (congrArg _ (ext2 rfl rfl))

/-- Kernel and reference return the same product. -/
theorem algebraic : @Cert.algebraic_Kernel2Ideal_Reference2Ideal Cert.Kernel2Ideal.Gen.facts Cert.Reference2Ideal.Gen.facts := by
  intro m ρ m' ρ' _ hagree
  refine ⟨_, Cert.Kernel2Ideal.Value.run_blocks m ρ, ?_⟩
  refine (θ_run _ _ _).mono (fun r h c => ?_) (Cert.Reference2Ideal.Value.run (F := Ideal) m' ρ')
  obtain ⟨h0, hk⟩ := h c
  obtain ⟨e0, e1, e2⟩ := hagree c
  refine ⟨h0.trans ?_, hk⟩
  rw [value m c]
  refine (Cert.Reference2Ideal.Read.val_main_v3_eq _ _).trans ?_
  rw [e1, e2]

/-- The reference runs and keeps its arguments; it has no semaphores. -/
theorem frame_reference : @Cert.quiescent_Reference2Ideal Cert.Reference2Ideal.Gen.facts := fun m ρ _ =>
  (θ_run Cert.Reference2Ideal.defs _ _).mono (fun r h => ⟨fun c => (h c).2, sem_eq_zero_of_no_sems (by decide) r.2⟩)
    (Cert.Reference2Ideal.Value.run (F := Ideal) m ρ)

end Cert.Kernel2Ideal.Mm
end
end
-- ==== Proof.WeightInput.lean ====
/-
  The gradient of the input projection's weight: the pipelined product and the reference's product are one sum.
-/
module

public import proofs.«01_k».proof.Defs
public import proofs.«01_k».proof.Proof.Tiles
public import proofs.«01_k».proof.Proof.Gen.Kernel3Ideal.Value
public import proofs.«01_k».proof.Proof.Gen.Reference3Ideal.Read
public import Idealize.ShloMosaic.Lib.Pointwise
public import Idealize.ShloMosaic.Adequacy
public import Idealize.ShloMosaic.Init

@[expose] public section
noncomputable section
namespace Cert.Kernel3Ideal.Mm
open Cert.Kernel3Ideal Cert.Kernel3Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 1) (q : Fin 12), ∃ t : Fin cfg0.N, win0_2.index t 0 = p.val ∧ win0_2.index t 1 = q.val :=
  (by decide +kernel : ∀ (p : Fin 1) (q : Fin 12), ∃ t : Fin grid0.N, win0_2.index t 0 = p.val ∧ win0_2.index t 1 = q.val)

theorem pay (x0 : Vec Ideal S1024x4224 .bf16) (x1 : Vec Ideal S4224x1024 .bf16) : k0_pay1 x0 x1 = prod x0 x1 := by
  funext j
  rw [eta2 j]
  unfold prod
  pointwise [k0_pay1, dot_S1024x4224_S4224x1024_S1024x1024_1_0_0_1_n_n]

theorem rows (t : Fin cfg0.N) (x : S1024x4224.Idx) : (iblk m c 0 t : Vec Ideal S1024x4224 .bf16) x = V m c main_v2 (((cfg0.win 0).blk t).view.emb x) := by
  unfold iblk; rw [View.read_apply]; rfl
theorem cols (t : Fin cfg0.N) (x : S4224x1024.Idx) : (iblk m c 1 t : Vec Ideal S4224x1024 .bf16) x = V m c main_v0 (((cfg0.win 1).blk t).view.emb x) := by
  unfold iblk; rw [View.read_apply]; rfl

theorem final : (Gen.dats m 0 c).arrAt 2 cfg0.N = prod (V m c main_v2 : S1024x4224.Idx → EReal) (V m c main_v0 : S4224x12288.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1024x1024) zero2, View.ld_unit_zero (S := S1024x4224) zero2, View.ld_unit_zero (S := S4224x1024) zero2, pay]
    refine tile (rows m c t) (cols m c t) j _ (fun k => ?_) (fun k => ?_) (fun k => ?_) (fun k => ?_)
    · show win0_0.index t 0 * 1024 + 1 * (j 0).val = win0_2.index t 0 * 1024 + 1 * (j 0).val; rw [h00]
    · show win0_0.index t 1 * 4224 + 1 * k.val = k.val; rw [h01]; omega
    · show win0_1.index t 0 * 4224 + 1 * k.val = k.val; rw [h10]; omega
    · show win0_1.index t 1 * 1024 + 1 * (j 1).val = win0_2.index t 1 * 1024 + 1 * (j 1).val; rw [h11]
  · have b0 : (i 0).val < 1024 := (i 0).isLt
    have b1 : (i 1).val < 12288 := (i 1).isLt
    obtain ⟨t, e0, e1⟩ := points ⟨(i 0).val / 1024, by omega⟩ ⟨(i 1).val / 1024, by omega⟩
    obtain ⟨j, j0, j1⟩ := split2 1024 1024 (by decide) (by decide) i
    refine ⟨t, flush0_2 t, ?_⟩
    have hx : i = ((cfg0.win 2).blk t).view.emb j := by
      refine ext2 ?_ ?_
      · show _ = win0_2.index t 0 * 1024 + 1 * (j 0).val; rw [e0]; exact j0
      · show _ = win0_2.index t 1 * 1024 + 1 * (j 1).val; rw [e1]; exact j1
    exact hx ▸ View.emb_mem_set _ _

theorem left : (V m c main_v2 : S1024x4224.Idx → EReal) = swap (m (c.tc.loc main_arg0) : S4224x1024.Idx → EReal) := by
  have e : V m c main_v2 = transpose S1024x4224 [1, 0] (truncf (F := Ideal) (s := S4224x1024) (φ := .f32) .bf16 (m (c.tc.loc main_arg0)) bitsLt_bf16_f32) transposes_S4224x1024_S1024x4224_1_0 := by
    unfold V; after_results
  rw [e]
  funext i
  rw [eta2 i]
  generalize m (c.tc.loc main_arg0) = y
  pointwise
  rfl
theorem right : (V m c main_v0 : S4224x12288.Idx → EReal) = m (c.tc.loc main_arg2) := by
  have e : V m c main_v0 = truncf (F := Ideal) (s := S4224x12288) (φ := .f32) .bf16 (m (c.tc.loc main_arg2)) bitsLt_bf16_f32 := by
    unfold V; after_results
  rw [e]; rfl

theorem value : (Gen.dats m 0 c).arrAt 2 cfg0.N = Cert.Reference3Ideal.Read.val_main_v2 (F := Ideal) (m (c.tc.loc main_arg0)) (m (c.tc.loc main_arg2)) := by
  rw [final, left, right]
  funext i
  rw [Reference3Ideal.Read.val_main_v2_apply, Reference3Ideal.Read.val_main_v1_apply]
  unfold prod swap
  refine Finset.sum_congr rfl fun k _ => ?_
  rw [mul_comm]
  exact congr (congrArg _ (congrArg _ (ext2 rfl rfl))) (congrArg _ (ext2 rfl rfl))

/-- Kernel and reference return the same product. -/
theorem algebraic : @Cert.algebraic_Kernel3Ideal_Reference3Ideal Cert.Kernel3Ideal.Gen.facts Cert.Reference3Ideal.Gen.facts := by
  intro m ρ m' ρ' _ hagree
  refine ⟨_, Cert.Kernel3Ideal.Value.run_blocks m ρ, ?_⟩
  refine (θ_run _ _ _).mono (fun r h c => ?_) (Cert.Reference3Ideal.Value.run (F := Ideal) m' ρ')
  obtain ⟨h0, hk⟩ := h c
  obtain ⟨e0, e1, e2⟩ := hagree c
  refine ⟨h0.trans ?_, hk⟩
  rw [value m c]
  refine (Cert.Reference3Ideal.Read.val_main_v2_eq _ _).trans ?_
  rw [e0, e2]

/-- The reference runs and keeps its arguments; it has no semaphores. -/
theorem frame_reference : @Cert.quiescent_Reference3Ideal Cert.Reference3Ideal.Gen.facts := fun m ρ _ =>
  (θ_run Cert.Reference3Ideal.defs _ _).mono (fun r h => ⟨fun c => (h c).2, sem_eq_zero_of_no_sems (by decide) r.2⟩)
    (Cert.Reference3Ideal.Value.run (F := Ideal) m ρ)

end Cert.Kernel3Ideal.Mm
end
end
-- ==== Proof.RowsSquare.lean ====
/-
  The gradient of the rows of a square projection: the pipelined product and the reference's product are one sum.
-/
module

public import proofs.«01_k».proof.Defs
public import proofs.«01_k».proof.Proof.Tiles
public import proofs.«01_k».proof.Proof.Gen.Kernel4Ideal.Value
public import proofs.«01_k».proof.Proof.Gen.Reference4Ideal.Read
public import Idealize.ShloMosaic.Lib.Pointwise
public import Idealize.ShloMosaic.Adequacy
public import Idealize.ShloMosaic.Init

@[expose] public section
noncomputable section
namespace Cert.Kernel4Ideal.Mm
open Cert.Kernel4Ideal Cert.Kernel4Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 3) (q : Fin 1), ∃ t : Fin cfg0.N, win0_2.index t 0 = p.val ∧ win0_2.index t 1 = q.val :=
  (by decide +kernel : ∀ (p : Fin 3) (q : Fin 1), ∃ t : Fin grid0.N, win0_2.index t 0 = p.val ∧ win0_2.index t 1 = q.val)

theorem pay (x0 : Vec Ideal S1408x1024 .f32) (x1 : Vec Ideal S1024x1024 .bf16) : k0_pay1 x0 x1 = prod x0 x1 := by
  funext j
  rw [eta2 j]
  unfold prod
  pointwise [k0_pay1, dot_S1408x1024_S1024x1024_S1408x1024_1_0_0_1_n_n]

theorem rows (t : Fin cfg0.N) (x : S1408x1024.Idx) : (iblk m c 0 t : Vec Ideal S1408x1024 .f32) x = V m c main_arg2 (((cfg0.win 0).blk t).view.emb x) := by
  unfold iblk; rw [View.read_apply]; rfl
theorem cols (t : Fin cfg0.N) (x : S1024x1024.Idx) : (iblk m c 1 t : Vec Ideal S1024x1024 .bf16) x = V m c main_v1 (((cfg0.win 1).blk t).view.emb x) := by
  unfold iblk; rw [View.read_apply]; rfl

theorem final : (Gen.dats m 0 c).arrAt 2 cfg0.N = prod (V m c main_arg2 : S4224x1024.Idx → EReal) (V m c main_v1 : S1024x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1408x1024) zero2, View.ld_unit_zero (S := S1408x1024) zero2, View.ld_unit_zero (S := S1024x1024) zero2, pay]
    refine tile (rows m c t) (cols m c t) j _ (fun k => ?_) (fun k => ?_) (fun k => ?_) (fun k => ?_)
    · show win0_0.index t 0 * 1408 + 1 * (j 0).val = win0_2.index t 0 * 1408 + 1 * (j 0).val; rw [h00]
    · show win0_0.index t 1 * 1024 + 1 * k.val = k.val; rw [h01]; omega
    · show win0_1.index t 0 * 1024 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 1024 := (i 1).isLt
    obtain ⟨t, e0, e1⟩ := points ⟨(i 0).val / 1408, by omega⟩ ⟨(i 1).val / 1024, by omega⟩
    obtain ⟨j, j0, j1⟩ := split2 1408 1024 (by decide) (by decide) i
    refine ⟨t, flush0_2 t, ?_⟩
    have hx : i = ((cfg0.win 2).blk t).view.emb j := by
      refine ext2 ?_ ?_
      · show _ = win0_2.index t 0 * 1408 + 1 * (j 0).val; rw [e0]; exact j0
      · show _ = win0_2.index t 1 * 1024 + 1 * (j 1).val; rw [e1]; exact j1
    exact hx ▸ View.emb_mem_set _ _

theorem left : (V m c main_arg2 : S4224x1024.Idx → EReal) = m (c.tc.loc main_arg2) := V_main_arg2 m c
theorem right : (V m c main_v1 : S1024x1024.Idx → EReal) = swap (m (c.tc.loc main_arg1) : S1024x1024.Idx → EReal) := by
  have e : V m c main_v1 = transpose S1024x1024 [1, 0] (truncf (F := Ideal) (s := S1024x1024) (φ := .f32) .bf16 (m (c.tc.loc main_arg1)) bitsLt_bf16_f32) transposes_S1024x1024_S1024x1024_1_0 := by
    unfold V; after_results
  rw [e]
  funext i
  rw [eta2 i]
  generalize m (c.tc.loc main_arg1) = y
  pointwise
  rfl

theorem value : (Gen.dats m 0 c).arrAt 2 cfg0.N = Cert.Reference4Ideal.Read.val_main_v3 (F := Ideal) (m (c.tc.loc main_arg1)) (m (c.tc.loc main_arg2)) := by
  rw [final, left, right]
  funext i
  rw [Reference4Ideal.Read.val_main_v3_apply]
  unfold prod swap
  refine Finset.sum_congr rfl fun k _ => ?_
  exact congr (congrArg _ (congrArg _ (ext2 rfl rfl))) (congrArg _ (ext2 rfl rfl))

/-- Kernel and reference return the same product. -/
theorem algebraic : @Cert.algebraic_Kernel4Ideal_Reference4Ideal Cert.Kernel4Ideal.Gen.facts Cert.Reference4Ideal.Gen.facts := by
  intro m ρ m' ρ' _ hagree
  refine ⟨_, Cert.Kernel4Ideal.Value.run_blocks m ρ, ?_⟩
  refine (θ_run _ _ _).mono (fun r h c => ?_) (Cert.Reference4Ideal.Value.run (F := Ideal) m' ρ')
  obtain ⟨h0, hk⟩ := h c
  obtain ⟨e0, e1, e2⟩ := hagree c
  refine ⟨h0.trans ?_, hk⟩
  rw [value m c]
  refine (Cert.Reference4Ideal.Read.val_main_v3_eq _ _).trans ?_
  rw [e1, e2]

/-- The reference runs and keeps its arguments; it has no semaphores. -/
theorem frame_reference : @Cert.quiescent_Reference4Ideal Cert.Reference4Ideal.Gen.facts := fun m ρ _ =>
  (θ_run Cert.Reference4Ideal.defs _ _).mono (fun r h => ⟨fun c => (h c).2, sem_eq_zero_of_no_sems (by decide) r.2⟩)
    (Cert.Reference4Ideal.Value.run (F := Ideal) m ρ)

end Cert.Kernel4Ideal.Mm
end
end
-- ==== Proof.WeightSquare.lean ====
/-
  The gradient of a square projection's weight: the pipelined product and the reference's product are one sum.
-/
module

public import proofs.«01_k».proof.Defs
public import proofs.«01_k».proof.Proof.Tiles
public import proofs.«01_k».proof.Proof.Gen.Kernel5Ideal.Value
public import proofs.«01_k».proof.Proof.Gen.Reference5Ideal.Read
public import Idealize.ShloMosaic.Lib.Pointwise
public import Idealize.ShloMosaic.Adequacy
public import Idealize.ShloMosaic.Init

@[expose] public section
noncomputable section
namespace Cert.Kernel5Ideal.Mm
open Cert.Kernel5Ideal Cert.Kernel5Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 1) (q : Fin 2), ∃ t : Fin cfg0.N, win0_2.index t 0 = p.val ∧ win0_2.index t 1 = q.val :=
  (by decide +kernel : ∀ (p : Fin 1) (q : Fin 2), ∃ t : Fin grid0.N, win0_2.index t 0 = p.val ∧ win0_2.index t 1 = q.val)

theorem pay (x0 : Vec Ideal S1024x4224 .bf16) (x1 : Vec Ideal S4224x512 .f32) : k0_pay1 x0 x1 = prod x0 x1 := by
  funext j
  rw [eta2 j]
  unfold prod
  pointwise [k0_pay1, dot_S1024x4224_S4224x512_S1024x512_1_0_0_1_n_n]

theorem rows (t : Fin cfg0.N) (x : S1024x4224.Idx) : (iblk m c 0 t : Vec Ideal S1024x4224 .bf16) x = V m c main_v1 (((cfg0.win 0).blk t).view.emb x) := by
  unfold iblk; rw [View.read_apply]; rfl
theorem cols (t : Fin cfg0.N) (x : S4224x512.Idx) : (iblk m c 1 t : Vec Ideal S4224x512 .f32) x = V m c main_arg2 (((cfg0.win 1).blk t).view.emb x) := by
  unfold iblk; rw [View.read_apply]; rfl

theorem final : (Gen.dats m 0 c).arrAt 2 cfg0.N = prod (V m c main_v1 : S1024x4224.Idx → EReal) (V m c main_arg2 : S4224x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1024x512) zero2, View.ld_unit_zero (S := S1024x4224) zero2, View.ld_unit_zero (S := S4224x512) zero2, pay]
    refine tile (rows m c t) (cols m c t) j _ (fun k => ?_) (fun k => ?_) (fun k => ?_) (fun k => ?_)
    · show win0_0.index t 0 * 1024 + 1 * (j 0).val = win0_2.index t 0 * 1024 + 1 * (j 0).val; rw [h00]
    · show win0_0.index t 1 * 4224 + 1 * k.val = k.val; rw [h01]; omega
    · show win0_1.index t 0 * 4224 + 1 * k.val = k.val; rw [h10]; omega
    · show win0_1.index t 1 * 512 + 1 * (j 1).val = win0_2.index t 1 * 512 + 1 * (j 1).val; rw [h11]
  · have b0 : (i 0).val < 1024 := (i 0).isLt
    have b1 : (i 1).val < 1024 := (i 1).isLt
    obtain ⟨t, e0, e1⟩ := points ⟨(i 0).val / 1024, by omega⟩ ⟨(i 1).val / 512, by omega⟩
    obtain ⟨j, j0, j1⟩ := split2 1024 512 (by decide) (by decide) i
    refine ⟨t, flush0_2 t, ?_⟩
    have hx : i = ((cfg0.win 2).blk t).view.emb j := by
      refine ext2 ?_ ?_
      · show _ = win0_2.index t 0 * 1024 + 1 * (j 0).val; rw [e0]; exact j0
      · show _ = win0_2.index t 1 * 512 + 1 * (j 1).val; rw [e1]; exact j1
    exact hx ▸ View.emb_mem_set _ _

theorem left : (V m c main_v1 : S1024x4224.Idx → EReal) = swap (m (c.tc.loc main_arg0) : S4224x1024.Idx → EReal) := by
  have e : V m c main_v1 = transpose S1024x4224 [1, 0] (truncf (F := Ideal) (s := S4224x1024) (φ := .f32) .bf16 (m (c.tc.loc main_arg0)) bitsLt_bf16_f32) transposes_S4224x1024_S1024x4224_1_0 := by
    unfold V; after_results
  rw [e]
  funext i
  rw [eta2 i]
  generalize m (c.tc.loc main_arg0) = y
  pointwise
  rfl
theorem right : (V m c main_arg2 : S4224x1024.Idx → EReal) = m (c.tc.loc main_arg2) := V_main_arg2 m c

theorem value : (Gen.dats m 0 c).arrAt 2 cfg0.N = Cert.Reference5Ideal.Read.val_main_v2 (F := Ideal) (m (c.tc.loc main_arg0)) (m (c.tc.loc main_arg2)) := by
  rw [final, left, right]
  funext i
  rw [Reference5Ideal.Read.val_main_v2_apply, Reference5Ideal.Read.val_main_v1_apply]
  unfold prod swap
  refine Finset.sum_congr rfl fun k _ => ?_
  rw [mul_comm]
  exact congr (congrArg _ (congrArg _ (ext2 rfl rfl))) (congrArg _ (ext2 rfl rfl))

/-- Kernel and reference return the same product. -/
theorem algebraic : @Cert.algebraic_Kernel5Ideal_Reference5Ideal Cert.Kernel5Ideal.Gen.facts Cert.Reference5Ideal.Gen.facts := by
  intro m ρ m' ρ' _ hagree
  refine ⟨_, Cert.Kernel5Ideal.Value.run_blocks m ρ, ?_⟩
  refine (θ_run _ _ _).mono (fun r h c => ?_) (Cert.Reference5Ideal.Value.run (F := Ideal) m' ρ')
  obtain ⟨h0, hk⟩ := h c
  obtain ⟨e0, e1, e2⟩ := hagree c
  refine ⟨h0.trans ?_, hk⟩
  rw [value m c]
  refine (Cert.Reference5Ideal.Read.val_main_v2_eq _ _).trans ?_
  rw [e0, e2]

/-- The reference runs and keeps its arguments; it has no semaphores. -/
theorem frame_reference : @Cert.quiescent_Reference5Ideal Cert.Reference5Ideal.Gen.facts := fun m ρ _ =>
  (θ_run Cert.Reference5Ideal.defs _ _).mono (fun r h => ⟨fun c => (h c).2, sem_eq_zero_of_no_sems (by decide) r.2⟩)
    (Cert.Reference5Ideal.Value.run (F := Ideal) m ρ)

end Cert.Kernel5Ideal.Mm
end
end
-- ==== Proof.RowsUp.lean ====
/-
  The gradient of the rows of the first layer of the feed-forward part: the pipelined product and the reference's product are one sum.
-/
module

public import proofs.«01_k».proof.Defs
public import proofs.«01_k».proof.Proof.Tiles
public import proofs.«01_k».proof.Proof.Gen.Kernel6Ideal.Value
public import proofs.«01_k».proof.Proof.Gen.Reference6Ideal.Read
public import Idealize.ShloMosaic.Lib.Pointwise
public import Idealize.ShloMosaic.Adequacy
public import Idealize.ShloMosaic.Init

@[expose] public section
noncomputable section
namespace Cert.Kernel6Ideal.Mm
open Cert.Kernel6Ideal Cert.Kernel6Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 11) (q : Fin 1), ∃ t : Fin cfg0.N, win0_2.index t 0 = p.val ∧ win0_2.index t 1 = q.val :=
  (by decide +kernel : ∀ (p : Fin 11) (q : Fin 1), ∃ t : Fin grid0.N, win0_2.index t 0 = p.val ∧ win0_2.index t 1 = q.val)

theorem pay (x0 : Vec Ideal S384x4096 .f32) (x1 : Vec Ideal S4096x1024 .bf16) : k0_pay1 x0 x1 = prod x0 x1 := by
  funext j
  rw [eta2 j]
  unfold prod
  pointwise [k0_pay1, dot_S384x4096_S4096x1024_S384x1024_1_0_0_1_n_n]

theorem rows (t : Fin cfg0.N) (x : S384x4096.Idx) : (iblk m c 0 t : Vec Ideal S384x4096 .f32) x = V m c main_arg2 (((cfg0.win 0).blk t).view.emb x) := by
  unfold iblk; rw [View.read_apply]; rfl
theorem cols (t : Fin cfg0.N) (x : S4096x1024.Idx) : (iblk m c 1 t : Vec Ideal S4096x1024 .bf16) x = V m c main_v1 (((cfg0.win 1).blk t).view.emb x) := by
  unfold iblk; rw [View.read_apply]; rfl

theorem final : (Gen.dats m 0 c).arrAt 2 cfg0.N = prod (V m c main_arg2 : S4224x4096.Idx → EReal) (V m c main_v1 : S4096x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S384x1024) zero2, View.ld_unit_zero (S := S384x4096) zero2, View.ld_unit_zero (S := S4096x1024) zero2, pay]
    refine tile (rows m c t) (cols m c t) j _ (fun k => ?_) (fun k => ?_) (fun k => ?_) (fun k => ?_)
    · show win0_0.index t 0 * 384 + 1 * (j 0).val = win0_2.index t 0 * 384 + 1 * (j 0).val; rw [h00]
    · show win0_0.index t 1 * 4096 + 1 * k.val = k.val; rw [h01]; omega
    · show win0_1.index t 0 * 4096 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 1024 := (i 1).isLt
    obtain ⟨t, e0, e1⟩ := points ⟨(i 0).val / 384, by omega⟩ ⟨(i 1).val / 1024, by omega⟩
    obtain ⟨j, j0, j1⟩ := split2 384 1024 (by decide) (by decide) i
    refine ⟨t, flush0_2 t, ?_⟩
    have hx : i = ((cfg0.win 2).blk t).view.emb j := by
      refine ext2 ?_ ?_
      · show _ = win0_2.index t 0 * 384 + 1 * (j 0).val; rw [e0]; exact j0
      · show _ = win0_2.index t 1 * 1024 + 1 * (j 1).val; rw [e1]; exact j1
    exact hx ▸ View.emb_mem_set _ _

theorem left : (V m c main_arg2 : S4224x4096.Idx → EReal) = m (c.tc.loc main_arg2) := V_main_arg2 m c
theorem right : (V m c main_v1 : S4096x1024.Idx → EReal) = swap (m (c.tc.loc main_arg1) : S1024x4096.Idx → EReal) := by
  have e : V m c main_v1 = transpose S4096x1024 [1, 0] (truncf (F := Ideal) (s := S1024x4096) (φ := .f32) .bf16 (m (c.tc.loc main_arg1)) bitsLt_bf16_f32) transposes_S1024x4096_S4096x1024_1_0 := by
    unfold V; after_results
  rw [e]
  funext i
  rw [eta2 i]
  generalize m (c.tc.loc main_arg1) = y
  pointwise
  rfl

theorem value : (Gen.dats m 0 c).arrAt 2 cfg0.N = Cert.Reference6Ideal.Read.val_main_v3 (F := Ideal) (m (c.tc.loc main_arg1)) (m (c.tc.loc main_arg2)) := by
  rw [final, left, right]
  funext i
  rw [Reference6Ideal.Read.val_main_v3_apply]
  unfold prod swap
  refine Finset.sum_congr rfl fun k _ => ?_
  exact congr (congrArg _ (congrArg _ (ext2 rfl rfl))) (congrArg _ (ext2 rfl rfl))

/-- Kernel and reference return the same product. -/
theorem algebraic : @Cert.algebraic_Kernel6Ideal_Reference6Ideal Cert.Kernel6Ideal.Gen.facts Cert.Reference6Ideal.Gen.facts := by
  intro m ρ m' ρ' _ hagree
  refine ⟨_, Cert.Kernel6Ideal.Value.run_blocks m ρ, ?_⟩
  refine (θ_run _ _ _).mono (fun r h c => ?_) (Cert.Reference6Ideal.Value.run (F := Ideal) m' ρ')
  obtain ⟨h0, hk⟩ := h c
  obtain ⟨e0, e1, e2⟩ := hagree c
  refine ⟨h0.trans ?_, hk⟩
  rw [value m c]
  refine (Cert.Reference6Ideal.Read.val_main_v3_eq _ _).trans ?_
  rw [e1, e2]

/-- The reference runs and keeps its arguments; it has no semaphores. -/
theorem frame_reference : @Cert.quiescent_Reference6Ideal Cert.Reference6Ideal.Gen.facts := fun m ρ _ =>
  (θ_run Cert.Reference6Ideal.defs _ _).mono (fun r h => ⟨fun c => (h c).2, sem_eq_zero_of_no_sems (by decide) r.2⟩)
    (Cert.Reference6Ideal.Value.run (F := Ideal) m ρ)

end Cert.Kernel6Ideal.Mm
end
end
-- ==== Proof.WeightUp.lean ====
/-
  The gradient of the first weight of the feed-forward part: the pipelined product and the reference's product are one sum.
-/
module

public import proofs.«01_k».proof.Defs
public import proofs.«01_k».proof.Proof.Tiles
public import proofs.«01_k».proof.Proof.Gen.Kernel7Ideal.Value
public import proofs.«01_k».proof.Proof.Gen.Reference7Ideal.Read
public import Idealize.ShloMosaic.Lib.Pointwise
public import Idealize.ShloMosaic.Adequacy
public import Idealize.ShloMosaic.Init

@[expose] public section
noncomputable section
namespace Cert.Kernel7Ideal.Mm
open Cert.Kernel7Ideal Cert.Kernel7Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 1) (q : Fin 8), ∃ t : Fin cfg0.N, win0_2.index t 0 = p.val ∧ win0_2.index t 1 = q.val :=
  (by decide +kernel : ∀ (p : Fin 1) (q : Fin 8), ∃ t : Fin grid0.N, win0_2.index t 0 = p.val ∧ win0_2.index t 1 = q.val)

theorem pay (x0 : Vec Ideal S1024x4224 .bf16) (x1 : Vec Ideal S4224x512 .f32) : k0_pay1 x0 x1 = prod x0 x1 := by
  funext j
  rw [eta2 j]
  unfold prod
  pointwise [k0_pay1, dot_S1024x4224_S4224x512_S1024x512_1_0_0_1_n_n]

theorem rows (t : Fin cfg0.N) (x : S1024x4224.Idx) : (iblk m c 0 t : Vec Ideal S1024x4224 .bf16) x = V m c main_v1 (((cfg0.win 0).blk t).view.emb x) := by
  unfold iblk; rw [View.read_apply]; rfl
theorem cols (t : Fin cfg0.N) (x : S4224x512.Idx) : (iblk m c 1 t : Vec Ideal S4224x512 .f32) x = V m c main_arg2 (((cfg0.win 1).blk t).view.emb x) := by
  unfold iblk; rw [View.read_apply]; rfl

theorem final : (Gen.dats m 0 c).arrAt 2 cfg0.N = prod (V m c main_v1 : S1024x4224.Idx → EReal) (V m c main_arg2 : S4224x4096.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1024x512) zero2, View.ld_unit_zero (S := S1024x4224) zero2, View.ld_unit_zero (S := S4224x512) zero2, pay]
    refine tile (rows m c t) (cols m c t) j _ (fun k => ?_) (fun k => ?_) (fun k => ?_) (fun k => ?_)
    · show win0_0.index t 0 * 1024 + 1 * (j 0).val = win0_2.index t 0 * 1024 + 1 * (j 0).val; rw [h00]
    · show win0_0.index t 1 * 4224 + 1 * k.val = k.val; rw [h01]; omega
    · show win0_1.index t 0 * 4224 + 1 * k.val = k.val; rw [h10]; omega
    · show win0_1.index t 1 * 512 + 1 * (j 1).val = win0_2.index t 1 * 512 + 1 * (j 1).val; rw [h11]
  · have b0 : (i 0).val < 1024 := (i 0).isLt
    have b1 : (i 1).val < 4096 := (i 1).isLt
    obtain ⟨t, e0, e1⟩ := points ⟨(i 0).val / 1024, by omega⟩ ⟨(i 1).val / 512, by omega⟩
    obtain ⟨j, j0, j1⟩ := split2 1024 512 (by decide) (by decide) i
    refine ⟨t, flush0_2 t, ?_⟩
    have hx : i = ((cfg0.win 2).blk t).view.emb j := by
      refine ext2 ?_ ?_
      · show _ = win0_2.index t 0 * 1024 + 1 * (j 0).val; rw [e0]; exact j0
      · show _ = win0_2.index t 1 * 512 + 1 * (j 1).val; rw [e1]; exact j1
    exact hx ▸ View.emb_mem_set _ _

theorem left : (V m c main_v1 : S1024x4224.Idx → EReal) = swap (m (c.tc.loc main_arg0) : S4224x1024.Idx → EReal) := by
  have e : V m c main_v1 = transpose S1024x4224 [1, 0] (truncf (F := Ideal) (s := S4224x1024) (φ := .f32) .bf16 (m (c.tc.loc main_arg0)) bitsLt_bf16_f32) transposes_S4224x1024_S1024x4224_1_0 := by
    unfold V; after_results
  rw [e]
  funext i
  rw [eta2 i]
  generalize m (c.tc.loc main_arg0) = y
  pointwise
  rfl
theorem right : (V m c main_arg2 : S4224x4096.Idx → EReal) = m (c.tc.loc main_arg2) := V_main_arg2 m c

theorem value : (Gen.dats m 0 c).arrAt 2 cfg0.N = Cert.Reference7Ideal.Read.val_main_v2 (F := Ideal) (m (c.tc.loc main_arg0)) (m (c.tc.loc main_arg2)) := by
  rw [final, left, right]
  funext i
  rw [Reference7Ideal.Read.val_main_v2_apply, Reference7Ideal.Read.val_main_v1_apply]
  unfold prod swap
  refine Finset.sum_congr rfl fun k _ => ?_
  rw [mul_comm]
  exact congr (congrArg _ (congrArg _ (ext2 rfl rfl))) (congrArg _ (ext2 rfl rfl))

/-- Kernel and reference return the same product. -/
theorem algebraic : @Cert.algebraic_Kernel7Ideal_Reference7Ideal Cert.Kernel7Ideal.Gen.facts Cert.Reference7Ideal.Gen.facts := by
  intro m ρ m' ρ' _ hagree
  refine ⟨_, Cert.Kernel7Ideal.Value.run_blocks m ρ, ?_⟩
  refine (θ_run _ _ _).mono (fun r h c => ?_) (Cert.Reference7Ideal.Value.run (F := Ideal) m' ρ')
  obtain ⟨h0, hk⟩ := h c
  obtain ⟨e0, e1, e2⟩ := hagree c
  refine ⟨h0.trans ?_, hk⟩
  rw [value m c]
  refine (Cert.Reference7Ideal.Read.val_main_v2_eq _ _).trans ?_
  rw [e0, e2]

/-- The reference runs and keeps its arguments; it has no semaphores. -/
theorem frame_reference : @Cert.quiescent_Reference7Ideal Cert.Reference7Ideal.Gen.facts := fun m ρ _ =>
  (θ_run Cert.Reference7Ideal.defs _ _).mono (fun r h => ⟨fun c => (h c).2, sem_eq_zero_of_no_sems (by decide) r.2⟩)
    (Cert.Reference7Ideal.Value.run (F := Ideal) m ρ)

end Cert.Kernel7Ideal.Mm
end
end
-- ==== Proof.RowsDown.lean ====
/-
  The gradient of the rows of the second layer of the feed-forward part: the pipelined product and the reference's product are one sum.
-/
module

public import proofs.«01_k».proof.Defs
public import proofs.«01_k».proof.Proof.Tiles
public import proofs.«01_k».proof.Proof.Gen.Kernel8Ideal.Value
public import proofs.«01_k».proof.Proof.Gen.Reference8Ideal.Read
public import Idealize.ShloMosaic.Lib.Pointwise
public import Idealize.ShloMosaic.Adequacy
public import Idealize.ShloMosaic.Init

@[expose] public section
noncomputable section
namespace Cert.Kernel8Ideal.Mm
open Cert.Kernel8Ideal Cert.Kernel8Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 3) (q : Fin 4), ∃ t : Fin cfg0.N, win0_2.index t 0 = p.val ∧ win0_2.index t 1 = q.val :=
  (by decide +kernel : ∀ (p : Fin 3) (q : Fin 4), ∃ t : Fin grid0.N, win0_2.index t 0 = p.val ∧ win0_2.index t 1 = q.val)

theorem pay (x0 : Vec Ideal S1408x1024 .f32) (x1 : Vec Ideal S1024x1024 .bf16) : k0_pay1 x0 x1 = prod x0 x1 := by
  funext j
  rw [eta2 j]
  unfold prod
  pointwise [k0_pay1, dot_S1408x1024_S1024x1024_S1408x1024_1_0_0_1_n_n]

theorem rows (t : Fin cfg0.N) (x : S1408x1024.Idx) : (iblk m c 0 t : Vec Ideal S1408x1024 .f32) x = V m c main_arg2 (((cfg0.win 0).blk t).view.emb x) := by
  unfold iblk; rw [View.read_apply]; rfl
theorem cols (t : Fin cfg0.N) (x : S1024x1024.Idx) : (iblk m c 1 t : Vec Ideal S1024x1024 .bf16) x = V m c main_v1 (((cfg0.win 1).blk t).view.emb x) := by
  unfold iblk; rw [View.read_apply]; rfl

theorem final : (Gen.dats m 0 c).arrAt 2 cfg0.N = prod (V m c main_arg2 : S4224x1024.Idx → EReal) (V m c main_v1 : S1024x4096.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1408x1024) zero2, View.ld_unit_zero (S := S1408x1024) zero2, View.ld_unit_zero (S := S1024x1024) zero2, pay]
    refine tile (rows m c t) (cols m c t) j _ (fun k => ?_) (fun k => ?_) (fun k => ?_) (fun k => ?_)
    · show win0_0.index t 0 * 1408 + 1 * (j 0).val = win0_2.index t 0 * 1408 + 1 * (j 0).val; rw [h00]
    · show win0_0.index t 1 * 1024 + 1 * k.val = k.val; rw [h01]; omega
    · show win0_1.index t 0 * 1024 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 4096 := (i 1).isLt
    obtain ⟨t, e0, e1⟩ := points ⟨(i 0).val / 1408, by omega⟩ ⟨(i 1).val / 1024, by omega⟩
    obtain ⟨j, j0, j1⟩ := split2 1408 1024 (by decide) (by decide) i
    refine ⟨t, flush0_2 t, ?_⟩
    have hx : i = ((cfg0.win 2).blk t).view.emb j := by
      refine ext2 ?_ ?_
      · show _ = win0_2.index t 0 * 1408 + 1 * (j 0).val; rw [e0]; exact j0
      · show _ = win0_2.index t 1 * 1024 + 1 * (j 1).val; rw [e1]; exact j1
    exact hx ▸ View.emb_mem_set _ _

theorem left : (V m c main_arg2 : S4224x1024.Idx → EReal) = m (c.tc.loc main_arg2) := V_main_arg2 m c
theorem right : (V m c main_v1 : S1024x4096.Idx → EReal) = swap (m (c.tc.loc main_arg1) : S4096x1024.Idx → EReal) := by
  have e : V m c main_v1 = transpose S1024x4096 [1, 0] (truncf (F := Ideal) (s := S4096x1024) (φ := .f32) .bf16 (m (c.tc.loc main_arg1)) bitsLt_bf16_f32) transposes_S4096x1024_S1024x4096_1_0 := by
    unfold V; after_results
  rw [e]
  funext i
  rw [eta2 i]
  generalize m (c.tc.loc main_arg1) = y
  pointwise
  rfl

theorem value : (Gen.dats m 0 c).arrAt 2 cfg0.N = Cert.Reference8Ideal.Read.val_main_v3 (F := Ideal) (m (c.tc.loc main_arg1)) (m (c.tc.loc main_arg2)) := by
  rw [final, left, right]
  funext i
  rw [Reference8Ideal.Read.val_main_v3_apply]
  unfold prod swap
  refine Finset.sum_congr rfl fun k _ => ?_
  exact congr (congrArg _ (congrArg _ (ext2 rfl rfl))) (congrArg _ (ext2 rfl rfl))

/-- Kernel and reference return the same product. -/
theorem algebraic : @Cert.algebraic_Kernel8Ideal_Reference8Ideal Cert.Kernel8Ideal.Gen.facts Cert.Reference8Ideal.Gen.facts := by
  intro m ρ m' ρ' _ hagree
  refine ⟨_, Cert.Kernel8Ideal.Value.run_blocks m ρ, ?_⟩
  refine (θ_run _ _ _).mono (fun r h c => ?_) (Cert.Reference8Ideal.Value.run (F := Ideal) m' ρ')
  obtain ⟨h0, hk⟩ := h c
  obtain ⟨e0, e1, e2⟩ := hagree c
  refine ⟨h0.trans ?_, hk⟩
  rw [value m c]
  refine (Cert.Reference8Ideal.Read.val_main_v3_eq _ _).trans ?_
  rw [e1, e2]

/-- The reference runs and keeps its arguments; it has no semaphores. -/
theorem frame_reference : @Cert.quiescent_Reference8Ideal Cert.Reference8Ideal.Gen.facts := fun m ρ _ =>
  (θ_run Cert.Reference8Ideal.defs _ _).mono (fun r h => ⟨fun c => (h c).2, sem_eq_zero_of_no_sems (by decide) r.2⟩)
    (Cert.Reference8Ideal.Value.run (F := Ideal) m ρ)

end Cert.Kernel8Ideal.Mm
end
end
-- ==== Proof.WeightDown.lean ====
/-
  The gradient of the second weight of the feed-forward part: the pipelined product and the reference's product are one sum.
-/
module

public import proofs.«01_k».proof.Defs
public import proofs.«01_k».proof.Proof.Tiles
public import proofs.«01_k».proof.Proof.Gen.Kernel9Ideal.Value
public import proofs.«01_k».proof.Proof.Gen.Reference9Ideal.Read
public import Idealize.ShloMosaic.Lib.Pointwise
public import Idealize.ShloMosaic.Adequacy
public import Idealize.ShloMosaic.Init

@[expose] public section
noncomputable section
namespace Cert.Kernel9Ideal.Mm
open Cert.Kernel9Ideal Cert.Kernel9Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 4) (q : Fin 2), ∃ t : Fin cfg0.N, win0_2.index t 0 = p.val ∧ win0_2.index t 1 = q.val :=
  (by decide +kernel : ∀ (p : Fin 4) (q : Fin 2), ∃ t : Fin grid0.N, win0_2.index t 0 = p.val ∧ win0_2.index t 1 = q.val)

theorem pay (x0 : Vec Ideal S1024x4224 .bf16) (x1 : Vec Ideal S4224x512 .f32) : k0_pay1 x0 x1 = prod x0 x1 := by
  funext j
  rw [eta2 j]
  unfold prod
  pointwise [k0_pay1, dot_S1024x4224_S4224x512_S1024x512_1_0_0_1_n_n]

theorem rows (t : Fin cfg0.N) (x : S1024x4224.Idx) : (iblk m c 0 t : Vec Ideal S1024x4224 .bf16) x = V m c main_v1 (((cfg0.win 0).blk t).view.emb x) := by
  unfold iblk; rw [View.read_apply]; rfl
theorem cols (t : Fin cfg0.N) (x : S4224x512.Idx) : (iblk m c 1 t : Vec Ideal S4224x512 .f32) x = V m c main_arg2 (((cfg0.win 1).blk t).view.emb x) := by
  unfold iblk; rw [View.read_apply]; rfl

theorem final : (Gen.dats m 0 c).arrAt 2 cfg0.N = prod (V m c main_v1 : S4096x4224.Idx → EReal) (V m c main_arg2 : S4224x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1024x512) zero2, View.ld_unit_zero (S := S1024x4224) zero2, View.ld_unit_zero (S := S4224x512) zero2, pay]
    refine tile (rows m c t) (cols m c t) j _ (fun k => ?_) (fun k => ?_) (fun k => ?_) (fun k => ?_)
    · show win0_0.index t 0 * 1024 + 1 * (j 0).val = win0_2.index t 0 * 1024 + 1 * (j 0).val; rw [h00]
    · show win0_0.index t 1 * 4224 + 1 * k.val = k.val; rw [h01]; omega
    · show win0_1.index t 0 * 4224 + 1 * k.val = k.val; rw [h10]; omega
    · show win0_1.index t 1 * 512 + 1 * (j 1).val = win0_2.index t 1 * 512 + 1 * (j 1).val; rw [h11]
  · have b0 : (i 0).val < 4096 := (i 0).isLt
    have b1 : (i 1).val < 1024 := (i 1).isLt
    obtain ⟨t, e0, e1⟩ := points ⟨(i 0).val / 1024, by omega⟩ ⟨(i 1).val / 512, by omega⟩
    obtain ⟨j, j0, j1⟩ := split2 1024 512 (by decide) (by decide) i
    refine ⟨t, flush0_2 t, ?_⟩
    have hx : i = ((cfg0.win 2).blk t).view.emb j := by
      refine ext2 ?_ ?_
      · show _ = win0_2.index t 0 * 1024 + 1 * (j 0).val; rw [e0]; exact j0
      · show _ = win0_2.index t 1 * 512 + 1 * (j 1).val; rw [e1]; exact j1
    exact hx ▸ View.emb_mem_set _ _

theorem left : (V m c main_v1 : S4096x4224.Idx → EReal) = swap (m (c.tc.loc main_arg0) : S4224x4096.Idx → EReal) := by
  have e : V m c main_v1 = transpose S4096x4224 [1, 0] (truncf (F := Ideal) (s := S4224x4096) (φ := .f32) .bf16 (m (c.tc.loc main_arg0)) bitsLt_bf16_f32) transposes_S4224x4096_S4096x4224_1_0 := by
    unfold V; after_results
  rw [e]
  funext i
  rw [eta2 i]
  generalize m (c.tc.loc main_arg0) = y
  pointwise
  rfl
theorem right : (V m c main_arg2 : S4224x1024.Idx → EReal) = m (c.tc.loc main_arg2) := V_main_arg2 m c

theorem value : (Gen.dats m 0 c).arrAt 2 cfg0.N = Cert.Reference9Ideal.Read.val_main_v2 (F := Ideal) (m (c.tc.loc main_arg0)) (m (c.tc.loc main_arg2)) := by
  rw [final, left, right]
  funext i
  rw [Reference9Ideal.Read.val_main_v2_apply, Reference9Ideal.Read.val_main_v1_apply]
  unfold prod swap
  refine Finset.sum_congr rfl fun k _ => ?_
  rw [mul_comm]
  exact congr (congrArg _ (congrArg _ (ext2 rfl rfl))) (congrArg _ (ext2 rfl rfl))

/-- Kernel and reference return the same product. -/
theorem algebraic : @Cert.algebraic_Kernel9Ideal_Reference9Ideal Cert.Kernel9Ideal.Gen.facts Cert.Reference9Ideal.Gen.facts := by
  intro m ρ m' ρ' _ hagree
  refine ⟨_, Cert.Kernel9Ideal.Value.run_blocks m ρ, ?_⟩
  refine (θ_run _ _ _).mono (fun r h c => ?_) (Cert.Reference9Ideal.Value.run (F := Ideal) m' ρ')
  obtain ⟨h0, hk⟩ := h c
  obtain ⟨e0, e1, e2⟩ := hagree c
  refine ⟨h0.trans ?_, hk⟩
  rw [value m c]
  refine (Cert.Reference9Ideal.Read.val_main_v2_eq _ _).trans ?_
  rw [e0, e2]

/-- The reference runs and keeps its arguments; it has no semaphores. -/
theorem frame_reference : @Cert.quiescent_Reference9Ideal Cert.Reference9Ideal.Gen.facts := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Kernel9Ideal.Mm
end
end
-- ==== Proof.ForwardInput.lean ====
/-
  The input projection: the pipelined product and the reference's product are one sum.
-/
module

public import proofs.«01_k».proof.Defs
public import proofs.«01_k».proof.Proof.Tiles
public import proofs.«01_k».proof.Proof.Gen.Kernel10Ideal.Value
public import proofs.«01_k».proof.Proof.Gen.Reference10Ideal.Read
public import Idealize.ShloMosaic.Lib.Pointwise
public import Idealize.ShloMosaic.Adequacy
public import Idealize.ShloMosaic.Init

@[expose] public section
noncomputable section
namespace Cert.Kernel10Ideal.Mm
open Cert.Kernel10Ideal Cert.Kernel10Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 3) (q : Fin 12), ∃ t : Fin cfg0.N, win0_2.index t 0 = p.val ∧ win0_2.index t 1 = q.val :=
  (by decide +kernel : ∀ (p : Fin 3) (q : Fin 12), ∃ t : Fin grid0.N, win0_2.index t 0 = p.val ∧ win0_2.index t 1 = q.val)

theorem pay (x0 : Vec Ideal S1408x1024 .f32) (x1 : Vec Ideal S1024x1024 .bf16) : k0_pay1 x0 x1 = prod x0 x1 := by
  funext j
  rw [eta2 j]
  unfold prod
  pointwise [k0_pay1, dot_S1408x1024_S1024x1024_S1408x1024_1_0_0_1_n_n]

theorem rows (t : Fin cfg0.N) (x : S1408x1024.Idx) : (iblk m c 0 t : Vec Ideal S1408x1024 .f32) x = V m c main_arg0 (((cfg0.win 0).blk t).view.emb x) := by
  unfold iblk; rw [View.read_apply]; rfl
theorem cols (t : Fin cfg0.N) (x : S1024x1024.Idx) : (iblk m c 1 t : Vec Ideal S1024x1024 .bf16) x = V m c main_v0 (((cfg0.win 1).blk t).view.emb x) := by
  unfold iblk; rw [View.read_apply]; rfl

theorem final : (Gen.dats m 0 c).arrAt 2 cfg0.N = prod (V m c main_arg0 : S4224x1024.Idx → EReal) (V m c main_v0 : S1024x12288.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1408x1024) zero2, View.ld_unit_zero (S := S1408x1024) zero2, View.ld_unit_zero (S := S1024x1024) zero2, pay]
    refine tile (rows m c t) (cols m c t) j _ (fun k => ?_) (fun k => ?_) (fun k => ?_) (fun k => ?_)
    · show win0_0.index t 0 * 1408 + 1 * (j 0).val = win0_2.index t 0 * 1408 + 1 * (j 0).val; rw [h00]
    · show win0_0.index t 1 * 1024 + 1 * k.val = k.val; rw [h01]; omega
    · show win0_1.index t 0 * 1024 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 12288 := (i 1).isLt
    obtain ⟨t, e0, e1⟩ := points ⟨(i 0).val / 1408, by omega⟩ ⟨(i 1).val / 1024, by omega⟩
    obtain ⟨j, j0, j1⟩ := split2 1408 1024 (by decide) (by decide) i
    refine ⟨t, flush0_2 t, ?_⟩
    have hx : i = ((cfg0.win 2).blk t).view.emb j := by
      refine ext2 ?_ ?_
      · show _ = win0_2.index t 0 * 1408 + 1 * (j 0).val; rw [e0]; exact j0
      · show _ = win0_2.index t 1 * 1024 + 1 * (j 1).val; rw [e1]; exact j1
    exact hx ▸ View.emb_mem_set _ _

theorem left : (V m c main_arg0 : S4224x1024.Idx → EReal) = m (c.tc.loc main_arg0) := V_main_arg0 m c
theorem right : (V m c main_v0 : S1024x12288.Idx → EReal) = m (c.tc.loc main_arg1) := by
  have e : V m c main_v0 = truncf (F := Ideal) (s := S1024x12288) (φ := .f32) .bf16 (m (c.tc.loc main_arg1)) bitsLt_bf16_f32 := by
    unfold V; after_results
  rw [e]; rfl

theorem value : (Gen.dats m 0 c).arrAt 2 cfg0.N = Cert.Reference10Ideal.Read.val_main_v0 (F := Ideal) (m (c.tc.loc main_arg0)) (m (c.tc.loc main_arg1)) := by
  rw [final, left, right]
  funext i
  rw [Reference10Ideal.Read.val_main_v0_apply]
  unfold prod
  refine Finset.sum_congr rfl fun k _ => ?_
  exact congr (congrArg _ (congrArg _ (ext2 rfl rfl))) (congrArg _ (ext2 rfl rfl))

/-- Kernel and reference return the same product. -/
theorem algebraic : @Cert.algebraic_Kernel10Ideal_Reference10Ideal Cert.Kernel10Ideal.Gen.facts Cert.Reference10Ideal.Gen.facts := by
  intro m ρ m' ρ' _ hagree
  refine ⟨_, Cert.Kernel10Ideal.Value.run_blocks m ρ, ?_⟩
  refine (θ_run _ _ _).mono (fun r h c => ?_) (Cert.Reference10Ideal.Value.run (F := Ideal) m' ρ')
  obtain ⟨h0, hk⟩ := h c
  obtain ⟨e0, e1, e2⟩ := hagree c
  refine ⟨h0.trans ?_, hk⟩
  rw [value m c]
  refine (Cert.Reference10Ideal.Read.val_main_v0_eq _ _).trans ?_
  rw [e0, e1]

/-- The reference runs and keeps its arguments; it has no semaphores. -/
theorem frame_reference : @Cert.quiescent_Reference10Ideal Cert.Reference10Ideal.Gen.facts := fun m ρ _ =>
  (θ_run Cert.Reference10Ideal.defs _ _).mono (fun r h => ⟨fun c => (h c).2, sem_eq_zero_of_no_sems (by decide) r.2⟩)
    (Cert.Reference10Ideal.Value.run (F := Ideal) m ρ)

end Cert.Kernel10Ideal.Mm
end
end
-- ==== Proof.ForwardSquare.lean ====
/-
  The square projection: the pipelined product and the reference's product are one sum.
-/
module

public import proofs.«01_k».proof.Defs
public import proofs.«01_k».proof.Proof.Tiles
public import proofs.«01_k».proof.Proof.Gen.Kernel11Ideal.Value
public import proofs.«01_k».proof.Proof.Gen.Reference11Ideal.Read
public import Idealize.ShloMosaic.Lib.Pointwise
public import Idealize.ShloMosaic.Adequacy
public import Idealize.ShloMosaic.Init

@[expose] public section
noncomputable section
namespace Cert.Kernel11Ideal.Mm
open Cert.Kernel11Ideal Cert.Kernel11Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 3) (q : Fin 1), ∃ t : Fin cfg0.N, win0_2.index t 0 = p.val ∧ win0_2.index t 1 = q.val :=
  (by decide +kernel : ∀ (p : Fin 3) (q : Fin 1), ∃ t : Fin grid0.N, win0_2.index t 0 = p.val ∧ win0_2.index t 1 = q.val)

theorem pay (x0 : Vec Ideal S1408x1024 .f32) (x1 : Vec Ideal S1024x1024 .bf16) : k0_pay1 x0 x1 = prod x0 x1 := by
  funext j
  rw [eta2 j]
  unfold prod
  pointwise [k0_pay1, dot_S1408x1024_S1024x1024_S1408x1024_1_0_0_1_n_n]

theorem rows (t : Fin cfg0.N) (x : S1408x1024.Idx) : (iblk m c 0 t : Vec Ideal S1408x1024 .f32) x = V m c main_arg0 (((cfg0.win 0).blk t).view.emb x) := by
  unfold iblk; rw [View.read_apply]; rfl
theorem cols (t : Fin cfg0.N) (x : S1024x1024.Idx) : (iblk m c 1 t : Vec Ideal S1024x1024 .bf16) x = V m c main_v0 (((cfg0.win 1).blk t).view.emb x) := by
  unfold iblk; rw [View.read_apply]; rfl

theorem final : (Gen.dats m 0 c).arrAt 2 cfg0.N = prod (V m c main_arg0 : S4224x1024.Idx → EReal) (V m c main_v0 : S1024x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1408x1024) zero2, View.ld_unit_zero (S := S1408x1024) zero2, View.ld_unit_zero (S := S1024x1024) zero2, pay]
    refine tile (rows m c t) (cols m c t) j _ (fun k => ?_) (fun k => ?_) (fun k => ?_) (fun k => ?_)
    · show win0_0.index t 0 * 1408 + 1 * (j 0).val = win0_2.index t 0 * 1408 + 1 * (j 0).val; rw [h00]
    · show win0_0.index t 1 * 1024 + 1 * k.val = k.val; rw [h01]; omega
    · show win0_1.index t 0 * 1024 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 1024 := (i 1).isLt
    obtain ⟨t, e0, e1⟩ := points ⟨(i 0).val / 1408, by omega⟩ ⟨(i 1).val / 1024, by omega⟩
    obtain ⟨j, j0, j1⟩ := split2 1408 1024 (by decide) (by decide) i
    refine ⟨t, flush0_2 t, ?_⟩
    have hx : i = ((cfg0.win 2).blk t).view.emb j := by
      refine ext2 ?_ ?_
      · show _ = win0_2.index t 0 * 1408 + 1 * (j 0).val; rw [e0]; exact j0
      · show _ = win0_2.index t 1 * 1024 + 1 * (j 1).val; rw [e1]; exact j1
    exact hx ▸ View.emb_mem_set _ _

theorem left : (V m c main_arg0 : S4224x1024.Idx → EReal) = m (c.tc.loc main_arg0) := V_main_arg0 m c
theorem right : (V m c main_v0 : S1024x1024.Idx → EReal) = m (c.tc.loc main_arg1) := by
  have e : V m c main_v0 = truncf (F := Ideal) (s := S1024x1024) (φ := .f32) .bf16 (m (c.tc.loc main_arg1)) bitsLt_bf16_f32 := by
    unfold V; after_results
  rw [e]; rfl

theorem value : (Gen.dats m 0 c).arrAt 2 cfg0.N = Cert.Reference11Ideal.Read.val_main_v0 (F := Ideal) (m (c.tc.loc main_arg0)) (m (c.tc.loc main_arg1)) := by
  rw [final, left, right]
  funext i
  rw [Reference11Ideal.Read.val_main_v0_apply]
  unfold prod
  refine Finset.sum_congr rfl fun k _ => ?_
  exact congr (congrArg _ (congrArg _ (ext2 rfl rfl))) (congrArg _ (ext2 rfl rfl))

/-- Kernel and reference return the same product. -/
theorem algebraic : @Cert.algebraic_Kernel11Ideal_Reference11Ideal Cert.Kernel11Ideal.Gen.facts Cert.Reference11Ideal.Gen.facts := by
  intro m ρ m' ρ' _ hagree
  refine ⟨_, Cert.Kernel11Ideal.Value.run_blocks m ρ, ?_⟩
  refine (θ_run _ _ _).mono (fun r h c => ?_) (Cert.Reference11Ideal.Value.run (F := Ideal) m' ρ')
  obtain ⟨h0, hk⟩ := h c
  obtain ⟨e0, e1, e2⟩ := hagree c
  refine ⟨h0.trans ?_, hk⟩
  rw [value m c]
  refine (Cert.Reference11Ideal.Read.val_main_v0_eq _ _).trans ?_
  rw [e0, e1]

/-- The reference runs and keeps its arguments; it has no semaphores. -/
theorem frame_reference : @Cert.quiescent_Reference11Ideal Cert.Reference11Ideal.Gen.facts := fun m ρ _ =>
  (θ_run Cert.Reference11Ideal.defs _ _).mono (fun r h => ⟨fun c => (h c).2, sem_eq_zero_of_no_sems (by decide) r.2⟩)
    (Cert.Reference11Ideal.Value.run (F := Ideal) m ρ)

end Cert.Kernel11Ideal.Mm
end
end
-- ==== Proof.ForwardUp.lean ====
/-
  The first layer of the feed-forward part: the pipelined product and the reference's product are one sum.
-/
module

public import proofs.«01_k».proof.Defs
public import proofs.«01_k».proof.Proof.Tiles
public import proofs.«01_k».proof.Proof.Gen.Kernel12Ideal.Value
public import proofs.«01_k».proof.Proof.Gen.Reference12Ideal.Read
public import Idealize.ShloMosaic.Lib.Pointwise
public import Idealize.ShloMosaic.Adequacy
public import Idealize.ShloMosaic.Init

@[expose] public section
noncomputable section
namespace Cert.Kernel12Ideal.Mm
open Cert.Kernel12Ideal Cert.Kernel12Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 3) (q : Fin 4), ∃ t : Fin cfg0.N, win0_2.index t 0 = p.val ∧ win0_2.index t 1 = q.val :=
  (by decide +kernel : ∀ (p : Fin 3) (q : Fin 4), ∃ t : Fin grid0.N, win0_2.index t 0 = p.val ∧ win0_2.index t 1 = q.val)

theorem pay (x0 : Vec Ideal S1408x1024 .f32) (x1 : Vec Ideal S1024x1024 .bf16) : k0_pay1 x0 x1 = prod x0 x1 := by
  funext j
  rw [eta2 j]
  unfold prod
  pointwise [k0_pay1, dot_S1408x1024_S1024x1024_S1408x1024_1_0_0_1_n_n]

theorem rows (t : Fin cfg0.N) (x : S1408x1024.Idx) : (iblk m c 0 t : Vec Ideal S1408x1024 .f32) x = V m c main_arg0 (((cfg0.win 0).blk t).view.emb x) := by
  unfold iblk; rw [View.read_apply]; rfl
theorem cols (t : Fin cfg0.N) (x : S1024x1024.Idx) : (iblk m c 1 t : Vec Ideal S1024x1024 .bf16) x = V m c main_v0 (((cfg0.win 1).blk t).view.emb x) := by
  unfold iblk; rw [View.read_apply]; rfl

theorem final : (Gen.dats m 0 c).arrAt 2 cfg0.N = prod (V m c main_arg0 : S4224x1024.Idx → EReal) (V m c main_v0 : S1024x4096.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S1408x1024) zero2, View.ld_unit_zero (S := S1408x1024) zero2, View.ld_unit_zero (S := S1024x1024) zero2, pay]
    refine tile (rows m c t) (cols m c t) j _ (fun k => ?_) (fun k => ?_) (fun k => ?_) (fun k => ?_)
    · show win0_0.index t 0 * 1408 + 1 * (j 0).val = win0_2.index t 0 * 1408 + 1 * (j 0).val; rw [h00]
    · show win0_0.index t 1 * 1024 + 1 * k.val = k.val; rw [h01]; omega
    · show win0_1.index t 0 * 1024 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 4096 := (i 1).isLt
    obtain ⟨t, e0, e1⟩ := points ⟨(i 0).val / 1408, by omega⟩ ⟨(i 1).val / 1024, by omega⟩
    obtain ⟨j, j0, j1⟩ := split2 1408 1024 (by decide) (by decide) i
    refine ⟨t, flush0_2 t, ?_⟩
    have hx : i = ((cfg0.win 2).blk t).view.emb j := by
      refine ext2 ?_ ?_
      · show _ = win0_2.index t 0 * 1408 + 1 * (j 0).val; rw [e0]; exact j0
      · show _ = win0_2.index t 1 * 1024 + 1 * (j 1).val; rw [e1]; exact j1
    exact hx ▸ View.emb_mem_set _ _

theorem left : (V m c main_arg0 : S4224x1024.Idx → EReal) = m (c.tc.loc main_arg0) := V_main_arg0 m c
theorem right : (V m c main_v0 : S1024x4096.Idx → EReal) = m (c.tc.loc main_arg1) := by
  have e : V m c main_v0 = truncf (F := Ideal) (s := S1024x4096) (φ := .f32) .bf16 (m (c.tc.loc main_arg1)) bitsLt_bf16_f32 := by
    unfold V; after_results
  rw [e]; rfl

theorem value : (Gen.dats m 0 c).arrAt 2 cfg0.N = Cert.Reference12Ideal.Read.val_main_v0 (F := Ideal) (m (c.tc.loc main_arg0)) (m (c.tc.loc main_arg1)) := by
  rw [final, left, right]
  funext i
  rw [Reference12Ideal.Read.val_main_v0_apply]
  unfold prod
  refine Finset.sum_congr rfl fun k _ => ?_
  exact congr (congrArg _ (congrArg _ (ext2 rfl rfl))) (congrArg _ (ext2 rfl rfl))

/-- Kernel and reference return the same product. -/
theorem algebraic : @Cert.algebraic_Kernel12Ideal_Reference12Ideal Cert.Kernel12Ideal.Gen.facts Cert.Reference12Ideal.Gen.facts := by
  intro m ρ m' ρ' _ hagree
  refine ⟨_, Cert.Kernel12Ideal.Value.run_blocks m ρ, ?_⟩
  refine (θ_run _ _ _).mono (fun r h c => ?_) (Cert.Reference12Ideal.Value.run (F := Ideal) m' ρ')
  obtain ⟨h0, hk⟩ := h c
  obtain ⟨e0, e1, e2⟩ := hagree c
  refine ⟨h0.trans ?_, hk⟩
  rw [value m c]
  refine (Cert.Reference12Ideal.Read.val_main_v0_eq _ _).trans ?_
  rw [e0, e1]

/-- The reference runs and keeps its arguments; it has no semaphores. -/
theorem frame_reference : @Cert.quiescent_Reference12Ideal Cert.Reference12Ideal.Gen.facts := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Kernel12Ideal.Mm
end
end
-- ==== Proof.ForwardDown.lean ====
/-
  The second layer of the feed-forward part: the pipelined product and the reference's product are one sum.
-/
module

public import proofs.«01_k».proof.Defs
public import proofs.«01_k».proof.Proof.Tiles
public import proofs.«01_k».proof.Proof.Gen.Kernel13Ideal.Value
public import proofs.«01_k».proof.Proof.Gen.Reference13Ideal.Read
public import Idealize.ShloMosaic.Lib.Pointwise
public import Idealize.ShloMosaic.Adequacy
public import Idealize.ShloMosaic.Init

@[expose] public section
noncomputable section
namespace Cert.Kernel13Ideal.Mm
open Cert.Kernel13Ideal Cert.Kernel13Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- A point reads the band of rows and the band of columns of the tile it writes, both whole. -/
theorem bands : ∀ t : Fin cfg0.N, win0_0.index t 0 = win0_2.index t 0 ∧ win0_0.index t 1 = 0 ∧ win0_1.index t 0 = 0 ∧ win0_1.index t 1 = win0_2.index t 1 :=
  (by decide +kernel : ∀ t : Fin grid0.N, win0_0.index t 0 = win0_2.index t 0 ∧ win0_0.index t 1 = 0 ∧ win0_1.index t 0 = 0 ∧ win0_1.index t 1 = win0_2.index t 1)
/-- Each tile has a point. -/
theorem points : ∀ (p : Fin 11) (q : Fin 1), ∃ t : Fin cfg0.N, win0_2.index t 0 = p.val ∧ win0_2.index t 1 = q.val :=
  (by decide +kernel : ∀ (p : Fin 11) (q : Fin 1), ∃ t : Fin grid0.N, win0_2.index t 0 = p.val ∧ win0_2.index t 1 = q.val)

theorem pay (x0 : Vec Ideal S384x4096 .f32) (x1 : Vec Ideal S4096x1024 .bf16) : k0_pay1 x0 x1 = prod x0 x1 := by
  funext j
  rw [eta2 j]
  unfold prod
  pointwise [k0_pay1, dot_S384x4096_S4096x1024_S384x1024_1_0_0_1_n_n]

theorem rows (t : Fin cfg0.N) (x : S384x4096.Idx) : (iblk m c 0 t : Vec Ideal S384x4096 .f32) x = V m c main_arg0 (((cfg0.win 0).blk t).view.emb x) := by
  unfold iblk; rw [View.read_apply]; rfl
theorem cols (t : Fin cfg0.N) (x : S4096x1024.Idx) : (iblk m c 1 t : Vec Ideal S4096x1024 .bf16) x = V m c main_v0 (((cfg0.win 1).blk t).view.emb x) := by
  unfold iblk; rw [View.read_apply]; rfl

theorem final : (Gen.dats m 0 c).arrAt 2 cfg0.N = prod (V m c main_arg0 : S4224x4096.Idx → EReal) (V m c main_v0 : S4096x1024.Idx → EReal) := by
  refine (Gen.dats m 0 c).arrAt_eq_of_cover 2 _ (fun t hf => ?_) (fun i => ?_)
  · obtain ⟨h00, h01, h10, h11⟩ := bands t
    rw [Value.flushed2]
    funext j
    rw [View.read_apply]
    unfold out0_2
    rw [View.canon_unit_zero (S := S384x1024) zero2, View.ld_unit_zero (S := S384x4096) zero2, View.ld_unit_zero (S := S4096x1024) zero2, pay]
    refine tile (rows m c t) (cols m c t) j _ (fun k => ?_) (fun k => ?_) (fun k => ?_) (fun k => ?_)
    · show win0_0.index t 0 * 384 + 1 * (j 0).val = win0_2.index t 0 * 384 + 1 * (j 0).val; rw [h00]
    · show win0_0.index t 1 * 4096 + 1 * k.val = k.val; rw [h01]; omega
    · show win0_1.index t 0 * 4096 + 1 * k.val = k.val; rw [h10]; omega
    · show win0_1.index t 1 * 1024 + 1 * (j 1).val = win0_2.index t 1 * 1024 + 1 * (j 1).val; rw [h11]
  · have b0 : (i 0).val < 4224 := (i 0).isLt
    have b1 : (i 1).val < 1024 := (i 1).isLt
    obtain ⟨t, e0, e1⟩ := points ⟨(i 0).val / 384, by omega⟩ ⟨(i 1).val / 1024, by omega⟩
    obtain ⟨j, j0, j1⟩ := split2 384 1024 (by decide) (by decide) i
    refine ⟨t, flush0_2 t, ?_⟩
    have hx : i = ((cfg0.win 2).blk t).view.emb j := by
      refine ext2 ?_ ?_
      · show _ = win0_2.index t 0 * 384 + 1 * (j 0).val; rw [e0]; exact j0
      · show _ = win0_2.index t 1 * 1024 + 1 * (j 1).val; rw [e1]; exact j1
    exact hx ▸ View.emb_mem_set _ _

theorem left : (V m c main_arg0 : S4224x4096.Idx → EReal) = m (c.tc.loc main_arg0) := V_main_arg0 m c
theorem right : (V m c main_v0 : S4096x1024.Idx → EReal) = m (c.tc.loc main_arg1) := by
  have e : V m c main_v0 = truncf (F := Ideal) (s := S4096x1024) (φ := .f32) .bf16 (m (c.tc.loc main_arg1)) bitsLt_bf16_f32 := by
    unfold V; after_results
  rw [e]; rfl

theorem value : (Gen.dats m 0 c).arrAt 2 cfg0.N = Cert.Reference13Ideal.Read.val_main_v0 (F := Ideal) (m (c.tc.loc main_arg0)) (m (c.tc.loc main_arg1)) := by
  rw [final, left, right]
  funext i
  rw [Reference13Ideal.Read.val_main_v0_apply]
  unfold prod
  refine Finset.sum_congr rfl fun k _ => ?_
  exact congr (congrArg _ (congrArg _ (ext2 rfl rfl))) (congrArg _ (ext2 rfl rfl))

/-- Kernel and reference return the same product. -/
theorem algebraic : @Cert.algebraic_Kernel13Ideal_Reference13Ideal Cert.Kernel13Ideal.Gen.facts Cert.Reference13Ideal.Gen.facts := by
  intro m ρ m' ρ' _ hagree
  refine ⟨_, Cert.Kernel13Ideal.Value.run_blocks m ρ, ?_⟩
  refine (θ_run _ _ _).mono (fun r h c => ?_) (Cert.Reference13Ideal.Value.run (F := Ideal) m' ρ')
  obtain ⟨h0, hk⟩ := h c
  obtain ⟨e0, e1, e2⟩ := hagree c
  refine ⟨h0.trans ?_, hk⟩
  rw [value m c]
  refine (Cert.Reference13Ideal.Read.val_main_v0_eq _ _).trans ?_
  rw [e0, e1]

/-- The reference runs and keeps its arguments; it has no semaphores. -/
theorem frame_reference : @Cert.quiescent_Reference13Ideal Cert.Reference13Ideal.Gen.facts := fun m ρ _ =>
  (θ_run Cert.Reference13Ideal.defs _ _).mono (fun r h => ⟨fun c => (h c).2, sem_eq_zero_of_no_sems (by decide) r.2⟩)
    (Cert.Reference13Ideal.Value.run (F := Ideal) m ρ)

end Cert.Kernel13Ideal.Mm
end
end
-- ==== Proof.Rows.lean ====
/-
  Arrays cut into bands of whole rows: where a row of a band lies in the array, and the sum of a band's rows.
-/
module

public import proofs.«01_k».proof.Proof.Tiles

@[expose] public section
noncomputable section
namespace Rows
open Idealize.ShloMosaic

variable {N C : ℕ}

/-- The index, in an array of `N` rows, of an index of the band of `R` rows that starts at row `t * R`. -/
def up (R t : ℕ) (h : t * R + R ≤ N) (j : (⟨2, ![R, C]⟩ : Shape).Idx) : (⟨2, ![N, C]⟩ : Shape).Idx :=
  ix2 ⟨t * R + (j 0).val, by have := (j 0).isLt; change (j 0).val < R at this; omega⟩ (j 1)

theorem eq_up {R t : ℕ} {h : t * R + R ≤ N} {j : (⟨2, ![R, C]⟩ : Shape).Idx} {x : (⟨2, ![N, C]⟩ : Shape).Idx} {p q : ℕ}
    (e0 : (x 0).val = p * R + 1 * (j 0).val) (e1 : (x 1).val = q * C + 1 * (j 1).val) (hp : p = t) (hq : q = 0) : x = up R t h j := by
  subst hp hq
  refine Mm.ext2 (e0.trans ?_) (e1.trans ?_)
  · show _ = p * R + (j 0).val; omega
  · show _ = (j 1).val; omega

/-- Each index lies in the band of its row. -/
theorem split {R t : ℕ} (hR : 0 < R) (h : t * R + R ≤ N) (i : (⟨2, ![N, C]⟩ : Shape).Idx) (ht : t = (i 0).val / R) :
    ∃ j : (⟨2, ![R, C]⟩ : Shape).Idx, i = up R t h j := by
  subst ht
  exact ⟨ix2 ⟨(i 0).val % R, Nat.mod_lt _ hR⟩ (i 1), Mm.ext2 (Nat.div_add_mod' _ _).symm rfl⟩

end Rows
end
end
-- ==== Proof.RmsRows.lean ====
/-
  The normalisation of rows by the root of their mean square, on a band of rows and on the whole array.
-/
module

public import proofs.«01_k».proof.Proof.Rows

@[expose] public section
noncomputable section
namespace Rms
open Idealize.ShloMosaic

variable {N : ℕ}

/-- The mean of the squares of row `p`, and the small constant added to it. -/
def meanSq (x : (⟨2, ![N, 1024]⟩ : Shape).Idx → EReal) (p : Fin N) : EReal :=
  Ideal.div (∑ k : Fin 1024, x (ix2 p k) * x (ix2 p k)) (Ideal.ofBits .f32 0x44800000#32) + Ideal.ofBits .f32 0x358637BD#32

/-- Row `p` times its factor times the weights. -/
def scaled (x : (⟨2, ![N, 1024]⟩ : Shape).Idx → EReal) (w : Fin 1024 → EReal) (i : (⟨2, ![N, 1024]⟩ : Shape).Idx) : EReal :=
  x i * Ideal.rsqrt (meanSq x (i 0)) * w (i 1)

/-- The slope of row `p`'s factor, times the sum that multiplies it. -/
def slope (x d : (⟨2, ![N, 1024]⟩ : Shape).Idx → EReal) (w : Fin 1024 → EReal) (p : Fin N) : EReal :=
  Ideal.div ((∑ k : Fin 1024, x (ix2 p k) * (d (ix2 p k) * w k))
    * (Ideal.ofBits .f32 0xBF000000#32 * Ideal.div (Ideal.rsqrt (meanSq x p)) (meanSq x p))) (Ideal.ofBits .f32 0x44800000#32)

/-- The gradient of the row. -/
def grad (x d : (⟨2, ![N, 1024]⟩ : Shape).Idx → EReal) (w : Fin 1024 → EReal) (i : (⟨2, ![N, 1024]⟩ : Shape).Idx) : EReal :=
  d i * w (i 1) * Ideal.rsqrt (meanSq x (i 0)) + x i * slope x d w (i 0) + slope x d w (i 0) * x i

/-- What row `p` adds to the gradient of weight `q`. -/
def share (x d : (⟨2, ![N, 1024]⟩ : Shape).Idx → EReal) (q : Fin 1024) (p : Fin N) : EReal :=
  x (ix2 p q) * Ideal.rsqrt (meanSq x p) * d (ix2 p q)

variable {R t : ℕ} (h : t * R + R ≤ N)

/-- The band's row has the array's mean square. -/
theorem meanSq_up {x : (⟨2, ![N, 1024]⟩ : Shape).Idx → EReal} {y : (⟨2, ![R, 1024]⟩ : Shape).Idx → EReal}
    (e : ∀ j, y j = x (Rows.up R t h j)) (j : (⟨2, ![R, 1024]⟩ : Shape).Idx) : meanSq y (j 0) = meanSq x (Rows.up R t h j 0) := by
  unfold meanSq
  congr 2
  refine Finset.sum_congr rfl fun k _ => ?_
  rw [e]
  rfl

theorem scaled_up {x : (⟨2, ![N, 1024]⟩ : Shape).Idx → EReal} {y : (⟨2, ![R, 1024]⟩ : Shape).Idx → EReal} {w v : Fin 1024 → EReal}
    (e : ∀ j, y j = x (Rows.up R t h j)) (ew : ∀ k, v k = w k) (j : (⟨2, ![R, 1024]⟩ : Shape).Idx) :
    scaled y v j = scaled x w (Rows.up R t h j) := by
  unfold scaled
  rw [meanSq_up h e j, e]
  exact congrArg _ (ew (j 1))

theorem grad_up {x d : (⟨2, ![N, 1024]⟩ : Shape).Idx → EReal} {y f : (⟨2, ![R, 1024]⟩ : Shape).Idx → EReal} {w v : Fin 1024 → EReal}
    (e : ∀ j, y j = x (Rows.up R t h j)) (ed : ∀ j, f j = d (Rows.up R t h j)) (ew : ∀ k, v k = w k) (j : (⟨2, ![R, 1024]⟩ : Shape).Idx) :
    grad y f v j = grad x d w (Rows.up R t h j) := by
  obtain rfl : v = w := funext ew
  have hs : slope y f v (j 0) = slope x d v (Rows.up R t h j 0) := by
    unfold slope
    rw [meanSq_up h e j]
    congr 2
    refine Finset.sum_congr rfl fun k _ => ?_
    rw [e, ed]
    rfl
  unfold grad
  rw [hs, meanSq_up h e j, e, ed]
  rfl

theorem share_up {x d : (⟨2, ![N, 1024]⟩ : Shape).Idx → EReal} {y f : (⟨2, ![R, 1024]⟩ : Shape).Idx → EReal}
    (e : ∀ j, y j = x (Rows.up R t h j)) (ed : ∀ j, f j = d (Rows.up R t h j)) (q : Fin 1024) (p : Fin R) :
    share y f q p = share x d q (Rows.up R t h (ix2 p q) 0) := by
  unfold share
  have hm := meanSq_up h e (ix2 p q)
  rw [e, ed]
  exact congrArg (fun z => _ * Ideal.rsqrt z * _) hm

/-- The sum over the rows before row `n`. -/
def upto (g : Fin N → EReal) (n : ℕ) : EReal := ∑ r ∈ Finset.range n, if hr : r < N then g ⟨r, hr⟩ else 0

theorem upto_all (g : Fin N → EReal) : upto g N = ∑ r, g r := by
  unfold upto
  rw [Finset.sum_range]
  exact Finset.sum_congr rfl fun r _ => dif_pos r.isLt

/-- The rows before a band and the band's rows are the rows before the next band. -/
theorem upto_next (g : Fin N → EReal) (b : Fin R → EReal) (hb : ∀ p : Fin R, b p = g ⟨t * R + p.val, by omega⟩) :
    upto g (t * R) + ∑ p, b p = upto g (t * R + R) := by
  unfold upto
  rw [Finset.sum_range_add, Finset.sum_range (n := R)]
  congr 1
  refine Finset.sum_congr rfl fun p _ => ?_
  rw [dif_pos (by omega), hb p]

theorem upto_zero (g : Fin N → EReal) : upto g 0 = 0 := rfl

end Rms
end
end
-- ==== Proof.RmsBackward.lean ====
/-
  The gradients of the norm of rows by the root of their mean square: the rows' gradient agrees entry by entry, and the weights'
  gradient, added up block after block, is the sum over all rows.
-/
module

public import proofs.«01_k».proof.Defs
public import proofs.«01_k».proof.Proof.RmsRows
public import proofs.«01_k».proof.Proof.Gen.Kernel14Ideal.Value
public import proofs.«01_k».proof.Proof.Gen.Reference14Ideal.Read
public import Idealize.ShloMosaic.Lib.Pointwise
public import Idealize.ShloMosaic.Adequacy
public import Idealize.ShloMosaic.Init

@[expose] public section
noncomputable section
namespace Cert.Kernel14Ideal.Mm
open Cert.Kernel14Ideal Cert.Kernel14Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

theorem place : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ t.val * 384 + 384 ≤ 4224 :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0)
    ∧ (win0_4.index t 0 = 0 ∧ win0_4.index t 1 = 0) ∧ t.val * 384 + 384 ≤ 4224)
theorem points : ∀ p : Fin 11, ∃ t : Fin cfg0.N, t.val = p.val := (by decide +kernel : ∀ p : Fin 11, ∃ t : Fin grid0.N, t.val = p.val)
theorem count : ∀ t : Fin cfg0.N, t.val < 11 := (by decide +kernel : ∀ t : Fin grid0.N, t.val < 11)
abbrev fit (t : Fin cfg0.N) : t.val * 384 + 384 ≤ 4224 := (place t).2.2.2.2.2

theorem blk0 (t : Fin cfg0.N) (x : S384x1024.Idx) : (iblk m c 0 t : Vec Ideal S384x1024 .f32) x = m (c.tc.loc main_arg0) (Rows.up 384 t.val (fit t) x) := by
  unfold iblk; rw [View.read_apply, ← V_main_arg0 m c]
  exact congrArg (V m c main_arg0) (Rows.eq_up rfl rfl (place t).1.1 (place t).1.2)

abbrev col (k : Fin 1024) : S1024.Idx := fun a => match a with | ⟨0, _⟩ => k

theorem weights (x : S1x1024.Idx) : (V m c main_v0 : Vec Ideal S1x1024 .f32) x = m (c.tc.loc main_arg1) (col (x 1)) := by
  have e : V m c main_v0 = shapeCast S1x1024 (m (c.tc.loc main_arg1)) shapeCasts_S1024_S1x1024 := by
    unfold V; after_results; rfl
  rw [e, eta2 x]
  generalize m (c.tc.loc main_arg1) = y
  pointwise
  exact congrArg y (funext fun a => by fin_cases a; rfl)

theorem blk1 (t : Fin cfg0.N) (x : S1x1024.Idx) : (iblk m c 1 t : Vec Ideal S1x1024 .f32) x = m (c.tc.loc main_arg1) (col (x 1)) := by
  rw [← weights m c x]
  unfold iblk; rw [View.read_apply]
  refine congrArg (V m c main_v0) (ext2 ?_ ?_)
  · show win0_1.index t 0 * 1 + 1 * (x 0).val = (x 0).val; rw [(place t).2.1.1]; omega
  · show win0_1.index t 1 * 1024 + 1 * (x 1).val = (x 1).val; rw [(place t).2.1.2]; omega

theorem blk2 (t : Fin cfg0.N) (x : S384x1024.Idx) : (iblk m c 2 t : Vec Ideal S384x1024 .f32) x = m (c.tc.loc main_arg2) (Rows.up 384 t.val (fit t) x) := by
  unfold iblk; rw [View.read_apply, ← V_main_arg2 m c]
  exact congrArg (V m c main_arg2) (Rows.eq_up rfl rfl (place t).2.2.1.1 (place t).2.2.1.2)

theorem pay_rows (x0 : Vec Ideal S384x1024 .f32) (x1 : Vec Ideal S1x1024 .f32) (x2 : Vec Ideal S384x1024 .f32) (j : S384x1024.Idx) :
    k0_pay6 x0 x1 x2 j = Rms.grad (N := 384) x0 x2 (fun k => x1 (ix2 0 k)) j := by
  rw [eta2 j]
  unfold Rms.grad Rms.slope Rms.meanSq
  pointwise [k0_pay6, k0_pay4, k0_pay3]
  simp only [Fin.sum_univ_one]

theorem pay_weights (x0 x2 : Vec Ideal S384x1024 .f32) (j : S1x1024.Idx) : k0_pay5 x0 x2 j = ∑ p : Fin 384, Rms.share (N := 384) x0 x2 (j 1) p := by
  rw [eta2 j]
  unfold Rms.share Rms.meanSq
  pointwise [k0_pay5, k0_pay4, k0_pay3]

theorem pay_zero (j : S1x1024.Idx) : k0_pay1 (F := Ideal) j = (0 : EReal) := by
  rw [eta2 j]
  pointwise [k0_pay1]

theorem pay_add (v w : Vec Ideal S1x1024 .f32) (j : S1x1024.Idx) : k0_pay2 v w j = (w j : EReal) + v j := by
  rw [eta2 j]
  pointwise [k0_pay2]

/-- The first point writes the gradient of its rows. -/
theorem rows_first (c : Dev nD) (i : grid0.Coords) (a1 : Memref sig .tc .vmem S384x1024 .f32) (h1 : a1.IsWhole) (a2 : Memref sig .tc .vmem S1x1024 .f32) (h2 : a2.IsWhole) (a3 : Memref sig .tc .vmem S384x1024 .f32) (h3 : a3.IsWhole) (a4 : Memref sig .tc .vmem S384x1024 .f32) (h4 : a4.IsWhole) (a5 : Memref sig .tc .vmem S1x1024 .f32) (h5 : a5.IsWhole) (hc0 : cond0_0 i) (x0 : Vec Ideal S384x1024 .f32) (x1 : Vec Ideal S1x1024 .f32) (x2 : Vec Ideal S384x1024 .f32) :
    out0_A_3 c i a1 h1 a2 h2 a3 h3 a4 h4 a5 h5 hc0 x0 x1 x2 = k0_pay6 x0 x1 x2 := by
  unfold out0_A_3
  rw [View.read_writes_eq_canon _ _ _ (cover0_A_3 c i a1 h1 a2 h2 a3 h3 a4 h4 a5 h5 hc0 x0 x1 x2)]
  unfold kernelRun0_A
  dsimp only
  sl_unfold_words
  simp only [View.canon_unit_zero (S := S384x1024) zero2, View.canon_cons_unit_zero (S := S384x1024) zero2, View.readCov_cons_toLoadRect, View.readCov_unit_zero (S := S1x1024) _ zero2, View.readAt_eq_ld, h1.read_unread, h2.read_unread, h3.read_unread, h5.read_unread, View.ld_unit_zero (S := S384x1024) zero2, View.ld_unit_zero (S := S1x1024) zero2]

/-- So does each other point. -/
theorem rows_next (c : Dev nD) (i : grid0.Coords) (a1 : Memref sig .tc .vmem S384x1024 .f32) (h1 : a1.IsWhole) (a2 : Memref sig .tc .vmem S1x1024 .f32) (h2 : a2.IsWhole) (a3 : Memref sig .tc .vmem S384x1024 .f32) (h3 : a3.IsWhole) (a4 : Memref sig .tc .vmem S384x1024 .f32) (h4 : a4.IsWhole) (a5 : Memref sig .tc .vmem S1x1024 .f32) (h5 : a5.IsWhole) (hc0 : ¬cond0_0 i) (x0 : Vec Ideal S384x1024 .f32) (x1 : Vec Ideal S1x1024 .f32) (x2 : Vec Ideal S384x1024 .f32) (xs : Vec Ideal S1x1024 .f32) :
    out0_B_3 c i a1 h1 a2 h2 a3 h3 a4 h4 a5 h5 hc0 x0 x1 x2 xs = k0_pay6 x0 x1 x2 := by
  unfold out0_B_3
  rw [View.read_writes_eq_canon _ _ _ (cover0_B_3 c i a1 h1 a2 h2 a3 h3 a4 h4 a5 h5 hc0 x0 x1 x2 xs)]
  unfold kernelRun0_B
  dsimp only
  sl_unfold_words
  simp only [View.canon_unit_zero (S := S384x1024) zero2, View.canon_cons_unit_zero (S := S384x1024) zero2, View.readCov_cons_toLoadRect, View.readCov_unit_zero (S := S1x1024) _ zero2, View.readAt_eq_ld, h1.read_unread, h2.read_unread, h3.read_unread, h5.read_unread, View.ld_unit_zero (S := S384x1024) zero2, View.ld_unit_zero (S := S1x1024) zero2]

/-- The first point starts the weights' gradient from zero. -/
theorem weights_first (c : Dev nD) (i : grid0.Coords) (a1 : Memref sig .tc .vmem S384x1024 .f32) (h1 : a1.IsWhole) (a2 : Memref sig .tc .vmem S1x1024 .f32) (h2 : a2.IsWhole) (a3 : Memref sig .tc .vmem S384x1024 .f32) (h3 : a3.IsWhole) (a4 : Memref sig .tc .vmem S384x1024 .f32) (h4 : a4.IsWhole) (a5 : Memref sig .tc .vmem S1x1024 .f32) (h5 : a5.IsWhole) (hc0 : cond0_0 i) (x0 : Vec Ideal S384x1024 .f32) (x1 : Vec Ideal S1x1024 .f32) (x2 : Vec Ideal S384x1024 .f32) :
    out0_A_4 c i a1 h1 a2 h2 a3 h3 a4 h4 a5 h5 hc0 x0 x1 x2 = k0_pay2 (k0_pay5 x0 x2) (k0_pay1 (F := Ideal)) := by
  unfold out0_A_4
  rw [View.read_writes_eq_canon _ _ _ (cover0_A_4 c i a1 h1 a2 h2 a3 h3 a4 h4 a5 h5 hc0 x0 x1 x2)]
  unfold kernelRun0_A
  dsimp only
  sl_unfold_words
  simp only [View.canon_unit_zero (S := S1x1024) zero2, View.canon_cons_unit_zero (S := S1x1024) zero2, View.readCov_cons_toLoadRect, View.readCov_unit_zero (S := S1x1024) _ zero2, View.readAt_eq_ld, h1.read_unread, h2.read_unread, h3.read_unread, h5.read_unread, View.ld_unit_zero (S := S384x1024) zero2, View.ld_unit_zero (S := S1x1024) zero2]

/-- Each other point adds to what the point before left. -/
theorem weights_next (c : Dev nD) (i : grid0.Coords) (a1 : Memref sig .tc .vmem S384x1024 .f32) (h1 : a1.IsWhole) (a2 : Memref sig .tc .vmem S1x1024 .f32) (h2 : a2.IsWhole) (a3 : Memref sig .tc .vmem S384x1024 .f32) (h3 : a3.IsWhole) (a4 : Memref sig .tc .vmem S384x1024 .f32) (h4 : a4.IsWhole) (a5 : Memref sig .tc .vmem S1x1024 .f32) (h5 : a5.IsWhole) (hc0 : ¬cond0_0 i) (x0 : Vec Ideal S384x1024 .f32) (x1 : Vec Ideal S1x1024 .f32) (x2 : Vec Ideal S384x1024 .f32) (xs : Vec Ideal S1x1024 .f32) :
    out0_B_4 c i a1 h1 a2 h2 a3 h3 a4 h4 a5 h5 hc0 x0 x1 x2 xs = k0_pay2 (k0_pay5 x0 x2) xs := by
  unfold out0_B_4
  rw [View.read_writes_eq_canon _ _ _ (cover0_B_4 c i a1 h1 a2 h2 a3 h3 a4 h4 a5 h5 hc0 x0 x1 x2 xs)]
  unfold kernelRun0_B
  dsimp only
  sl_unfold_words
  simp only [View.canon_unit_zero (S := S1x1024) zero2, View.canon_cons_unit_zero (S := S1x1024) zero2, View.readCov_cons_toLoadRect, View.readCov_unit_zero (S := S1x1024) _ zero2, View.readAt_eq_ld, h1.read_unread, h2.read_unread, h3.read_unread, h5.read_unread, View.ld_unit_zero (S := S384x1024) zero2, View.ld_unit_zero (S := S1x1024) zero2]

theorem left (t : Fin cfg0.N) : (outsAt0 m c t.val t.isLt).1 = k0_pay6 (iblk m c 0 t) (iblk m c 1 t) (iblk m c 2 t) := by
  by_cases h0 : t.val % 11 = 0
  · have h := congrArg Prod.fst (outsAt0_A m c t h0)
    rw [rows_first] at h
    exact h
  · have h := congrArg Prod.fst (outsAt0_B m c t h0)
    rw [rows_next] at h
    exact h

theorem before {n k : ℕ} (hn : n < cfg0.N) (hk : k < cfg0.N) (e : n = k) : outsAt0 m c n hn = outsAt0 m c k hk := by
  subst e; rfl

/-- What each row adds to the gradient of weight `q`. -/
def term (q : Fin 1024) : Fin 4224 → EReal := Rms.share (N := 4224) (m (c.tc.loc main_arg0)) (m (c.tc.loc main_arg2)) q

theorem band (t : Fin cfg0.N) (q : Fin 1024) (p : Fin 384) :
    Rms.share (N := 384) (iblk m c 0 t) (iblk m c 2 t) q p = term m c q ⟨t.val * 384 + p.val, by have := fit t; omega⟩ :=
  Rms.share_up (fit t) (blk0 m c t) (blk2 m c t) q p

/-- After point `n` the weights' gradient is the sum over the rows up to its block's last. -/
theorem added : ∀ (n : ℕ) (hn : n < cfg0.N) (j : S1x1024.Idx), (outsAt0 m c n hn).2 j = Rms.upto (term m c (j 1)) (n * 384 + 384)
  | 0, hn, j => by
    have h := congrArg Prod.snd (outsAt0_A m c ⟨0, hn⟩ rfl)
    rw [weights_first] at h
    dsimp only at h
    rw [h, pay_add, pay_zero, pay_weights, ← Rms.upto_next (fit ⟨0, hn⟩) (term m c (j 1)) _ (band m c ⟨0, hn⟩ (j 1))]
    rfl
  | n + 1, hn, j => by
    have hc := count ⟨n + 1, hn⟩
    have h := congrArg Prod.snd (outsAt0_B m c ⟨n + 1, hn⟩ (by dsimp only at hc ⊢; omega))
    rw [weights_next] at h
    dsimp only at h
    rw [h, pay_add, pay_weights, ← Rms.upto_next (fit ⟨n + 1, hn⟩) (term m c (j 1)) _ (band m c ⟨n + 1, hn⟩ (j 1)),
      before m c _ (Nat.lt_of_succ_lt hn) (Nat.add_sub_cancel n 1), added n (Nat.lt_of_succ_lt hn) j]
    congr 2
    show n * 384 + 384 = (n + 1) * 384
    omega

open Cert.Reference14Ideal.Read in
theorem ms_line (y0 : S4224x1024.Idx → Elt Ideal .f32) (p : Reference14Ideal.S4224x1.Idx) : val_main_v6 (F := Ideal) y0 p = Rms.meanSq (N := 4224) y0 (p 0) := by
  rw [val_main_v6_apply, val_main_v5_apply, val_main_v4_apply, val_main_v3_apply, val_main_v2_apply, val_main_v1_apply, val_main_cst_apply, Ideal.ofBits_def, Ideal.ofBits_zero_f32, zero_add]
  unfold Rms.meanSq
  simp only [val_main_v0_apply, val_main_cst_0_apply, val_main_cst_1_apply]
  have e : ∀ k, idx_main_v1 (idx_main_v2 p) k = ix2 (p 0) k := fun k => ext2 rfl rfl
  simp only [e]
  rfl

open Cert.Reference14Ideal.Read in
theorem weighted (y1 : S1024.Idx → Elt Ideal .f32) (y2 : S4224x1024.Idx → Elt Ideal .f32) (i : S4224x1024.Idx) :
    val_main_v20 (F := Ideal) y1 y2 i = (y2 i : EReal) * y1 (col (i 1)) := by
  rw [val_main_v20_apply, val_main_v19_apply, val_main_v13_apply]
  rfl

open Cert.Reference14Ideal.Read in
theorem slope_line (y0 : S4224x1024.Idx → Elt Ideal .f32) (y1 : S1024.Idx → Elt Ideal .f32) (y2 : S4224x1024.Idx → Elt Ideal .f32) (i : S4224x1024.Idx) :
    val_main_v31 (F := Ideal) y0 y1 y2 i = Rms.slope (N := 4224) y0 y2 (fun k => y1 (col k)) (i 0) := by
  rw [val_main_v31_apply, val_main_v30_apply, val_main_cst_7_apply, Ideal.ofBits_def, Ideal.ofBits_zero_f32, zero_add, Fin.sum_univ_one,
    val_main_v29_apply, val_main_v28_apply, val_main_cst_6_apply, val_main_v27_apply, val_main_v24_apply, val_main_v23_apply, val_main_cst_5_apply,
    Ideal.ofBits_def, Ideal.ofBits_zero_f32, zero_add, val_main_v10_apply, val_main_v9_apply, val_main_cst_2_apply, val_main_v8_apply, val_main_v7_apply, ms_line]
  unfold Rms.slope
  have e : ∀ k, idx_main_v23 (idx_main_v24 (idx_main_v30 (idx_main_v31 i) 0)) k = ix2 (i 0) k := fun k => ext2 (by show (i 0).val * 1 + 0 = (i 0).val; omega) rfl
  have s : ∀ k, val_main_v22 (F := Ideal) y0 y1 y2 (idx_main_v23 (idx_main_v24 (idx_main_v30 (idx_main_v31 i) 0)) k) = (y0 (ix2 (i 0) k) : EReal) * (y2 (ix2 (i 0) k) * y1 (col k)) := fun k => by
    rw [val_main_v22_apply, weighted, e]
    rfl
  rw [Finset.sum_congr rfl fun k _ => s k]
  rfl

open Cert.Reference14Ideal.Read in
theorem line_rows (y0 : S4224x1024.Idx → Elt Ideal .f32) (y1 : S1024.Idx → Elt Ideal .f32) (y2 : S4224x1024.Idx → Elt Ideal .f32) (i : S4224x1024.Idx) :
    val_main_v35 (F := Ideal) y0 y1 y2 i = Rms.grad (N := 4224) y0 y2 (fun k => y1 (col k)) i := by
  rw [val_main_v35_apply, val_main_v34_apply, val_main_v33_apply, val_main_v32_apply, val_main_v26_apply, val_main_v25_apply, val_main_v7_apply, ms_line, weighted, slope_line]
  unfold Rms.grad
  rfl

open Cert.Reference14Ideal.Read in
theorem line_weights (y0 y2 : S4224x1024.Idx → Elt Ideal .f32) (i : S1x1024.Idx) :
    val_main_v36 (F := Ideal) y0 y2 i = ∑ p : Fin 4224, Rms.share (N := 4224) y0 y2 (i 1) p := by
  have z : (i 0).val = 0 := by have := (i 0).isLt; change (i 0).val < 1 at this; omega
  rw [val_main_v36_apply, val_main_v21_apply, val_main_cst_4_apply, Ideal.ofBits_def, Ideal.ofBits_zero_f32, zero_add, Fin.sum_univ_one,
    val_main_v18_apply, val_main_v17_apply, val_main_cst_3_apply, Ideal.ofBits_def, Ideal.ofBits_zero_f32, zero_add]
  refine Finset.sum_congr rfl fun p _ => ?_
  have e : idx_main_v17 (idx_main_v18 (idx_main_v21 (idx_main_v36 i) 0)) p = ix2 p (i 1) :=
    ext2 rfl (by show 0 * 1024 + ((i 0).val * 1024 + (i 1).val) = (i 1).val; omega)
  rw [val_main_v16_apply, val_main_v12_apply, val_main_v11_apply, val_main_v7_apply, ms_line, e]
  unfold Rms.share
  rfl

theorem value_rows : (Gen.dats m 0 c).arrAt 3 cfg0.N = Cert.Reference14Ideal.Read.val_main_v35 (F := Ideal) (m (c.tc.loc main_arg0)) (m (c.tc.loc main_arg1)) (m (c.tc.loc main_arg2)) := by
  have he : ∀ (t : Fin cfg0.N) (j : S384x1024.Idx), ((cfg0.win 3).blk t).view.emb j = Rows.up 384 t.val (fit t) j := fun t j =>
    Rows.eq_up rfl rfl (place t).2.2.2.1.1 (place t).2.2.2.1.2
  refine (Gen.dats m 0 c).arrAt_eq_of_cover 3 _ (fun t hf => ?_) (fun i => ?_)
  · rw [Value.flushed3, left]
    funext j
    rw [View.read_apply]
    show k0_pay6 _ _ _ j = _
    rw [pay_rows, he t j, line_rows, Rms.grad_up (fit t) (blk0 m c t) (blk2 m c t) (fun k => blk1 m c t (ix2 0 k))]
    rfl
  · have b0 : (i 0).val < 4224 := (i 0).isLt
    obtain ⟨t, ht⟩ := points ⟨(i 0).val / 384, by omega⟩
    obtain ⟨j, hj⟩ := Rows.split (R := 384) (by decide) (fit t) i ht
    refine ⟨t, flush0_3 t, ?_⟩
    have hx : i = ((cfg0.win 3).blk t).view.emb j := by rw [he]; exact hj
    exact hx ▸ View.emb_mem_set _ _

theorem value_weights : (Gen.dats m 0 c).arrAt 4 cfg0.N = Cert.Reference14Ideal.Read.val_main_v36 (F := Ideal) (m (c.tc.loc main_arg0)) (m (c.tc.loc main_arg2)) := by
  have he : ∀ (t : Fin cfg0.N) (j : S1x1024.Idx), ((cfg0.win 4).blk t).view.emb j = j := fun t j => by
    refine ext2 ?_ ?_
    · show win0_4.index t 0 * 1 + 1 * (j 0).val = (j 0).val; rw [(place t).2.2.2.2.1.1]; omega
    · show win0_4.index t 1 * 1024 + 1 * (j 1).val = (j 1).val; rw [(place t).2.2.2.2.1.2]; omega
  refine (Gen.dats m 0 c).arrAt_eq_of_cover 4 _ (fun t hf => ?_) (fun i => ?_)
  · have ht : t.val = 10 := by have := (flush0_4 t).mp hf; have := count t; omega
    rw [Value.flushed4]
    funext j
    rw [View.read_apply, he t j, line_weights]
    have h := added m c t.val t.isLt j
    have h' := (h.trans (congrArg (Rms.upto (term m c (j 1))) (by omega : t.val * 384 + 384 = 4224))).trans (Rms.upto_all (term m c (j 1)))
    generalize (outsAt0 m c t.val t.isLt).2 = y at h' ⊢
    exact h'
  · obtain ⟨t, ht⟩ := points 10
    refine ⟨t, (flush0_4 t).mpr (by rw [ht]; rfl), ?_⟩
    have hx : i = ((cfg0.win 4).blk t).view.emb i := (he t i).symm
    exact hx ▸ View.emb_mem_set _ _

/-- Kernel and reference return the same gradients. -/
theorem algebraic : @Cert.algebraic_Kernel14Ideal_Reference14Ideal Cert.Kernel14Ideal.Gen.facts Cert.Reference14Ideal.Gen.facts := by
  intro m ρ m' ρ' _ hagree
  refine ⟨_, _, Cert.Kernel14Ideal.Value.run_blocks m ρ, ?_⟩
  refine (θ_run _ _ _).mono (fun r h c => ?_) (Cert.Reference14Ideal.Value.run (F := Ideal) m' ρ')
  obtain ⟨h0, h1, hk⟩ := h c
  obtain ⟨e0, e1, e2⟩ := hagree c
  refine ⟨h0.trans ?_, h1.trans ?_, hk⟩
  · rw [value_rows m c]
    refine (Cert.Reference14Ideal.Read.val_main_v35_eq _ _ _).trans ?_
    rw [e0, e1, e2]
  · rw [value_weights m c]
    refine (Cert.Reference14Ideal.Read.val_main_v36_eq _ _).trans ?_
    rw [e0, e2]

/-- The reference runs and keeps its arguments; it has no semaphores. -/
theorem frame_reference : @Cert.quiescent_Reference14Ideal Cert.Reference14Ideal.Gen.facts := fun m ρ _ =>
  (θ_run Cert.Reference14Ideal.defs _ _).mono (fun r h => ⟨fun c => (h c).2.2, sem_eq_zero_of_no_sems (by decide) r.2⟩)
    (Cert.Reference14Ideal.Value.run (F := Ideal) m ρ)

end Cert.Kernel14Ideal.Mm
end
end
-- ==== Proof.RmsForward.lean ====
/-
  The norm of rows by the root of their mean square: the blocks of rows and the reference's line agree entry by entry.
-/
module

public import proofs.«01_k».proof.Defs
public import proofs.«01_k».proof.Proof.RmsRows
public import proofs.«01_k».proof.Proof.Gen.Kernel15Ideal.Value
public import proofs.«01_k».proof.Proof.Gen.Reference15Ideal.Read
public import Idealize.ShloMosaic.Lib.Pointwise
public import Idealize.ShloMosaic.Adequacy
public import Idealize.ShloMosaic.Init

@[expose] public section
noncomputable section
namespace Cert.Kernel15Ideal.Mm
open Cert.Kernel15Ideal Cert.Kernel15Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

theorem place : ∀ t : Fin cfg0.N, (win0_0.index t 0 = t.val ∧ win0_0.index t 1 = 0) ∧ (win0_1.index t 0 = 0 ∧ win0_1.index t 1 = 0)
    ∧ (win0_2.index t 0 = t.val ∧ win0_2.index t 1 = 0) ∧ t.val * 384 + 384 ≤ 4224 :=
  (by decide +kernel : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ t.val * 384 + 384 ≤ 4224)
theorem points : ∀ p : Fin 11, ∃ t : Fin cfg0.N, t.val = p.val := (by decide +kernel : ∀ p : Fin 11, ∃ t : Fin grid0.N, t.val = p.val)
abbrev fit (t : Fin cfg0.N) : t.val * 384 + 384 ≤ 4224 := (place t).2.2.2

theorem blk0 (t : Fin cfg0.N) (x : S384x1024.Idx) : (iblk m c 0 t : Vec Ideal S384x1024 .f32) x = m (c.tc.loc main_arg0) (Rows.up 384 t.val (fit t) x) := by
  unfold iblk; rw [View.read_apply, ← V_main_arg0 m c]
  exact congrArg (V m c main_arg0) (Rows.eq_up rfl rfl (place t).1.1 (place t).1.2)

abbrev col (k : Fin 1024) : S1024.Idx := fun a => match a with | ⟨0, _⟩ => k

theorem weights (x : S1x1024.Idx) : (V m c main_v0 : Vec Ideal S1x1024 .f32) x = m (c.tc.loc main_arg1) (col (x 1)) := by
  have e : V m c main_v0 = shapeCast S1x1024 (m (c.tc.loc main_arg1)) shapeCasts_S1024_S1x1024 := by
    unfold V; after_results; rfl
  rw [e, eta2 x]
  generalize m (c.tc.loc main_arg1) = y
  pointwise
  exact congrArg y (funext fun a => by fin_cases a; rfl)

theorem blk1 (t : Fin cfg0.N) (x : S1x1024.Idx) : (iblk m c 1 t : Vec Ideal S1x1024 .f32) x = m (c.tc.loc main_arg1) (col (x 1)) := by
  rw [← weights m c x]
  unfold iblk; rw [View.read_apply]
  refine congrArg (V m c main_v0) (ext2 ?_ ?_)
  · show win0_1.index t 0 * 1 + 1 * (x 0).val = (x 0).val; rw [(place t).2.1.1]; omega
  · show win0_1.index t 1 * 1024 + 1 * (x 1).val = (x 1).val; rw [(place t).2.1.2]; omega

theorem pay (x0 : Vec Ideal S384x1024 .f32) (x1 : Vec Ideal S1x1024 .f32) (j : S384x1024.Idx) :
    k0_pay1 x0 x1 j = Rms.scaled (N := 384) x0 (fun k => x1 (ix2 0 k)) j := by
  rw [eta2 j]
  unfold Rms.scaled Rms.meanSq
  pointwise [k0_pay1]

open Cert.Reference15Ideal.Read in
theorem line (y0 : S4224x1024.Idx → Elt Ideal .f32) (y1 : S1024.Idx → Elt Ideal .f32) (i : S4224x1024.Idx) :
    val_main_v12 (F := Ideal) y0 y1 i = Rms.scaled (N := 4224) y0 (fun k => y1 (col k)) i := by
  rw [val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_cst_apply, Ideal.ofBits_def, Ideal.ofBits_zero_f32, zero_add]
  unfold Rms.scaled Rms.meanSq
  simp only [val_main_v0_apply, val_main_cst_0_apply, val_main_cst_1_apply]
  have e : ∀ k, idx_main_v1 (idx_main_v2 (idx_main_v8 i)) k = ix2 (i 0) k := fun k => ext2 rfl rfl
  simp only [e]
  rfl

theorem value : (Gen.dats m 0 c).arrAt 2 cfg0.N = Cert.Reference15Ideal.Read.val_main_v12 (F := Ideal) (m (c.tc.loc main_arg0)) (m (c.tc.loc main_arg1)) := by
  have he : ∀ (t : Fin cfg0.N) (j : S384x1024.Idx), ((cfg0.win 2).blk t).view.emb j = Rows.up 384 t.val (fit t) j := fun t j =>
    Rows.eq_up rfl rfl (place t).2.2.1.1 (place t).2.2.1.2
  refine (Gen.dats m 0 c).arrAt_eq_of_cover 2 _ (fun t hf => ?_) (fun i => ?_)
  · rw [Value.flushed2]
    funext j
    rw [View.read_apply]
    unfold out0_2
    rw [View.canon_unit_zero (S := S384x1024) zero2]
    simp only [View.ld_unit_zero (S := S384x1024) zero2, View.ld_unit_zero (S := S1x1024) zero2]
    show k0_pay1 _ _ j = _
    rw [pay, he t j, line, Rms.scaled_up (fit t) (blk0 m c t) (fun k => blk1 m c t (ix2 0 k))]
    rfl
  · have b0 : (i 0).val < 4224 := (i 0).isLt
    obtain ⟨t, ht⟩ := points ⟨(i 0).val / 384, by omega⟩
    obtain ⟨j, hj⟩ := Rows.split (R := 384) (by decide) (fit t) i ht
    refine ⟨t, flush0_2 t, ?_⟩
    have hx : i = ((cfg0.win 2).blk t).view.emb j := by rw [he]; exact hj
    exact hx ▸ View.emb_mem_set _ _

/-- Kernel and reference return the same normalised rows. -/
theorem algebraic : @Cert.algebraic_Kernel15Ideal_Reference15Ideal Cert.Kernel15Ideal.Gen.facts Cert.Reference15Ideal.Gen.facts := by
  intro m ρ m' ρ' _ hagree
  refine ⟨_, Cert.Kernel15Ideal.Value.run_blocks m ρ, ?_⟩
  refine (θ_run _ _ _).mono (fun r h c => ?_) (Cert.Reference15Ideal.Value.run (F := Ideal) m' ρ')
  obtain ⟨h0, hk⟩ := h c
  obtain ⟨e0, e1⟩ := hagree c
  refine ⟨h0.trans ?_, hk⟩
  rw [value m c]
  refine (Cert.Reference15Ideal.Read.val_main_v12_eq _ _).trans ?_
  rw [e0, e1]

/-- The reference runs and keeps its arguments; it has no semaphores. -/
theorem frame_reference : @Cert.quiescent_Reference15Ideal Cert.Reference15Ideal.Gen.facts := fun m ρ _ =>
  (θ_run Cert.Reference15Ideal.defs _ _).mono (fun r h => ⟨fun c => (h c).2, sem_eq_zero_of_no_sems (by decide) r.2⟩)
    (Cert.Reference15Ideal.Value.run (F := Ideal) m ρ)

end Cert.Kernel15Ideal.Mm
end
end
-- ==== Proof.MergeBackward.lean ====
/-
  The derivative of the gates that merge the three mixers: the blocks of rows and the reference's line agree entry by entry.
-/
module

public import proofs.«01_k».proof.Defs
public import proofs.«01_k».proof.Proof.Rows
public import proofs.«01_k».proof.Proof.Gen.Kernel16Ideal.Value
public import proofs.«01_k».proof.Proof.Gen.Reference16Ideal.Read
public import Idealize.ShloMosaic.Lib.Pointwise
public import Idealize.ShloMosaic.Adequacy
public import Idealize.ShloMosaic.Init

@[expose] public section
noncomputable section
namespace Cert.Kernel16Ideal.Mm
open Cert.Kernel16Ideal Cert.Kernel16Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

theorem place : ∀ t : Fin cfg0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ t.val * 192 + 192 ≤ 4224 :=
  (by decide +kernel : ∀ t : Fin grid0.N, (win0_0.index t 0 = t.val ∧ win0_0.index t 1 = 0) ∧ (win0_1.index t 0 = t.val ∧ win0_1.index t 1 = 0) ∧ (win0_2.index t 0 = t.val ∧ win0_2.index t 1 = 0) ∧ (win0_3.index t 0 = t.val ∧ win0_3.index t 1 = 0) ∧ (win0_4.index t 0 = t.val ∧ win0_4.index t 1 = 0) ∧ (win0_5.index t 0 = t.val ∧ win0_5.index t 1 = 0) ∧ (win0_6.index t 0 = t.val ∧ win0_6.index t 1 = 0) ∧ (win0_7.index t 0 = t.val ∧ win0_7.index t 1 = 0) ∧ (win0_8.index t 0 = t.val ∧ win0_8.index t 1 = 0) ∧ t.val * 192 + 192 ≤ 4224)
theorem points : ∀ p : Fin 22, ∃ t : Fin cfg0.N, t.val = p.val := (by decide +kernel : ∀ p : Fin 22, ∃ t : Fin grid0.N, t.val = p.val)
abbrev fit (t : Fin cfg0.N) : t.val * 192 + 192 ≤ 4224 := (place t).2.2.2.2.2.2.2.2.2

theorem blk0 (t : Fin cfg0.N) (x : S192x1024.Idx) : (iblk m c 0 t : Vec Ideal S192x1024 .f32) x = m (c.tc.loc main_arg0) (Rows.up 192 t.val (fit t) x) := by
  unfold iblk; rw [View.read_apply, ← V_main_arg0 m c]
  exact congrArg (V m c main_arg0) (Rows.eq_up rfl rfl (place t).1.1 (place t).1.2)
theorem blk1 (t : Fin cfg0.N) (x : S192x1024.Idx) : (iblk m c 1 t : Vec Ideal S192x1024 .f32) x = m (c.tc.loc main_arg1) (Rows.up 192 t.val (fit t) x) := by
  unfold iblk; rw [View.read_apply, ← V_main_arg1 m c]
  exact congrArg (V m c main_arg1) (Rows.eq_up rfl rfl (place t).2.1.1 (place t).2.1.2)
theorem blk2 (t : Fin cfg0.N) (x : S192x1024.Idx) : (iblk m c 2 t : Vec Ideal S192x1024 .f32) x = m (c.tc.loc main_arg2) (Rows.up 192 t.val (fit t) x) := by
  unfold iblk; rw [View.read_apply, ← V_main_arg2 m c]
  exact congrArg (V m c main_arg2) (Rows.eq_up rfl rfl (place t).2.2.1.1 (place t).2.2.1.2)
theorem blk3 (t : Fin cfg0.N) (x : S192x3072.Idx) : (iblk m c 3 t : Vec Ideal S192x3072 .f32) x = m (c.tc.loc main_arg3) (Rows.up 192 t.val (fit t) x) := by
  unfold iblk; rw [View.read_apply, ← V_main_arg3 m c]
  exact congrArg (V m c main_arg3) (Rows.eq_up rfl rfl (place t).2.2.2.1.1 (place t).2.2.2.1.2)
theorem blk4 (t : Fin cfg0.N) (x : S192x1024.Idx) : (iblk m c 4 t : Vec Ideal S192x1024 .f32) x = m (c.tc.loc main_arg4) (Rows.up 192 t.val (fit t) x) := by
  unfold iblk; rw [View.read_apply, ← V_main_arg4 m c]
  exact congrArg (V m c main_arg4) (Rows.eq_up rfl rfl (place t).2.2.2.2.1.1 (place t).2.2.2.2.1.2)

/-- Column `l` of the first third of the gates, and of the third that starts at column `o`. -/
abbrev first (l : Fin 1024) : Fin 3072 := ⟨l.val, by omega⟩
abbrev after (o : ℕ) (ho : o ≤ 2048) (l : Fin 1024) : Fin 3072 := ⟨o + l.val, by omega⟩

theorem pay8 (x3 : Vec Ideal S192x3072 .f32) (x4 : Vec Ideal S192x1024 .f32) (j : S192x1024.Idx) :
    k0_pay8 x3 x4 j = Ideal.logistic (x3 (ix2 (j 0) (first (j 1)))) * x4 j := by
  rw [eta2 j]; pointwise [k0_pay8, k0_pay1, k0_pay4]
theorem pay7 (x3 : Vec Ideal S192x3072 .f32) (x4 : Vec Ideal S192x1024 .f32) (j : S192x1024.Idx) :
    k0_pay7 x3 x4 j = Ideal.logistic (x3 (ix2 (j 0) (after 1024 (by decide) (j 1)))) * x4 j := by
  rw [eta2 j]; pointwise [k0_pay7, k0_pay2, k0_pay4]
theorem pay6 (x3 : Vec Ideal S192x3072 .f32) (x4 : Vec Ideal S192x1024 .f32) (j : S192x1024.Idx) :
    k0_pay6 x3 x4 j = Ideal.logistic (x3 (ix2 (j 0) (after 2048 (by decide) (j 1)))) * x4 j := by
  rw [eta2 j]; pointwise [k0_pay6, k0_pay3, k0_pay5]

abbrev last (l : Fin 3072) : Fin 1024 := ⟨l.val - 1024 - 1024, by omega⟩

/-- The derivative of the gates: the rows' derivative by the mixer of the gate's third, and by the gate's slope. -/
def slope {n : ℕ} (y0 y1 y2 y4 : (⟨2, ![n, 1024]⟩ : Shape).Idx → EReal) (y3 : (⟨2, ![n, 3072]⟩ : Shape).Idx → EReal) (i : (⟨2, ![n, 3072]⟩ : Shape).Idx) : EReal :=
  (if h : (i 1).val < 1024 then y4 (ix2 (i 0) ⟨(i 1).val, h⟩) * y0 (ix2 (i 0) ⟨(i 1).val, h⟩)
    else if h : (i 1).val - 1024 < 1024 then y4 (ix2 (i 0) ⟨(i 1).val - 1024, h⟩) * y1 (ix2 (i 0) ⟨(i 1).val - 1024, h⟩)
    else y4 (ix2 (i 0) (last (i 1))) * y2 (ix2 (i 0) (last (i 1))))
  * (Ideal.logistic (y3 i) * (1 - Ideal.logistic (y3 i)))

theorem pay9 (x0 x1 x2 x4 : Vec Ideal S192x1024 .f32) (x3 : Vec Ideal S192x3072 .f32) (j : S192x3072.Idx) :
    k0_pay9 x0 x1 x2 x3 x4 j = slope x0 x1 x2 x4 x3 j := by
  rw [eta2 j]
  pointwise [k0_pay9, k0_pay1, k0_pay2, k0_pay3, k0_pay4, k0_pay5]
  unfold slope
  have b : (j 1).val < 3072 := (j 1).isLt
  have back : ∀ (o : ℕ) (h : o + ((j 1).val - o) < 3072), o ≤ (j 1).val → (ix2 (j 0) ⟨o + ((j 1).val - o), h⟩ : S192x3072.Idx) = j := fun o h ho =>
    ext2 rfl (by show o + ((j 1).val - o) = _; omega)
  by_cases h0 : (j 1).val < 1024
  · rw [dif_pos (show (j 1).val < 2048 by omega), dif_pos (show (j 1).val < 2048 by omega), dif_pos h0, dif_pos h0, dif_pos h0, add_zero, zero_add]
  · by_cases h1 : (j 1).val < 2048
    · rw [dif_pos h1, dif_pos h1, dif_neg h0, dif_neg h0, dif_neg h0, dif_pos (show (j 1).val - 1024 < 1024 by omega), back 1024 _ (by omega), add_zero, zero_add]
    · rw [dif_neg h1, dif_neg h1, dif_neg h0, dif_neg h0, dif_neg (show ¬ (j 1).val - 1024 < 1024 by omega), back 2048 _ (by omega), add_zero, add_zero]
      have e : (⟨(j 1).val - 2048, by omega⟩ : Fin 1024) = last (j 1) := Fin.ext (by show (j 1).val - 2048 = (j 1).val - 1024 - 1024; omega)
      rw [e]

section
open Cert.Reference16Ideal.Read Cert.Reference16Ideal

theorem gate (y : S4224x3072.Idx → Elt Ideal .f32) (i : S4224x3072.Idx) : val_main_v5 (F := Ideal) y i = Ideal.logistic (y i) := by
  rw [val_main_v5_apply, val_main_v4_apply, val_main_cst_0_apply, val_main_v3_apply, val_main_v2_apply, val_main_cst_apply, val_main_v1_apply, val_main_v0_apply]
  unfold Ideal.logistic
  rw [← Ideal.ofBits_one_f32]
  rfl
theorem same17 (y : S4224x1024.Idx → Elt Ideal .f32) (i : S4224x1024.Idx) : val_main_v17 (F := Ideal) y i = y i := by
  rw [val_main_v17_apply]
  have b : (i 1).val < 1024 := (i 1).isLt
  exact congrArg y (ext2 (by show ((i 0).val * 1024 + (i 1).val) / 1024 = _; omega) (by show ((i 0).val * 1024 + (i 1).val) % 1024 = _; omega))
theorem same18 (y : S4224x1024.Idx → Elt Ideal .f32) (i : S4224x1024.Idx) : val_main_v18 (F := Ideal) y i = y i := same17 y i

theorem line0 (y3 : S4224x3072.Idx → Elt Ideal .f32) (y4 : S4224x1024.Idx → Elt Ideal .f32) (i : S4224x1024.Idx) :
    val_main_v23 (F := Ideal) y3 y4 i = Ideal.logistic (y3 (ix2 (i 0) (first (i 1)))) * y4 i := by
  rw [val_main_v23_apply, val_main_v9_apply, gate, same17]
  exact congrArg (fun k => Ideal.logistic (y3 k) * y4 i) (ext2 rfl rfl)
theorem line1 (y3 : S4224x3072.Idx → Elt Ideal .f32) (y4 : S4224x1024.Idx → Elt Ideal .f32) (i : S4224x1024.Idx) :
    val_main_v21 (F := Ideal) y3 y4 i = Ideal.logistic (y3 (ix2 (i 0) (after 1024 (by decide) (i 1)))) * y4 i := by
  rw [val_main_v21_apply, val_main_v10_apply, gate, same17]
  exact congrArg (fun k => Ideal.logistic (y3 k) * y4 i) (ext2 rfl rfl)
theorem line2 (y3 : S4224x3072.Idx → Elt Ideal .f32) (y4 : S4224x1024.Idx → Elt Ideal .f32) (i : S4224x1024.Idx) :
    val_main_v19 (F := Ideal) y3 y4 i = Ideal.logistic (y3 (ix2 (i 0) (after 2048 (by decide) (i 1)))) * y4 i := by
  rw [val_main_v19_apply, val_main_v11_apply, gate, same18]
  exact congrArg (fun k => Ideal.logistic (y3 k) * y4 i) (ext2 rfl rfl)

theorem cat (y0 y1 y2 y4 : S4224x1024.Idx → Elt Ideal .f32) (i : S4224x3072.Idx) : val_main_v25 (F := Ideal) y0 y1 y2 y4 i =
    (if h : (i 1).val < 1024 then y4 (ix2 (i 0) ⟨(i 1).val, h⟩) * y0 (ix2 (i 0) ⟨(i 1).val, h⟩)
      else if h : (i 1).val - 1024 < 1024 then y4 (ix2 (i 0) ⟨(i 1).val - 1024, h⟩) * y1 (ix2 (i 0) ⟨(i 1).val - 1024, h⟩)
      else y4 (ix2 (i 0) (last (i 1))) * y2 (ix2 (i 0) (last (i 1))) : EReal) := by
  rw [eta2 i]
  pointwise [val_main_v25]
  simp only [val_main_v24_apply, val_main_v22_apply, val_main_v20_apply, same17, same18]
  rfl

theorem line3 (y0 y1 y2 y4 : S4224x1024.Idx → Elt Ideal .f32) (y3 : S4224x3072.Idx → Elt Ideal .f32) (i : S4224x3072.Idx) :
    val_main_v26 (F := Ideal) y0 y1 y2 y3 y4 i = slope y0 y1 y2 y4 y3 i := by
  rw [val_main_v26_apply, cat, val_main_v8_apply, val_main_v7_apply, val_main_v6_apply, val_main_cst_1_apply, gate, Ideal.ofBits_def, Ideal.ofBits_one_f32]
  rfl
end

theorem slope_up {t : ℕ} {h : t * 192 + 192 ≤ 4224} {x0 x1 x2 x4 : S192x1024.Idx → EReal} {x3 : S192x3072.Idx → EReal}
    {y0 y1 y2 y4 : S4224x1024.Idx → EReal} {y3 : S4224x3072.Idx → EReal} (h0 : ∀ j, x0 j = y0 (Rows.up 192 t h j)) (h1 : ∀ j, x1 j = y1 (Rows.up 192 t h j))
    (h2 : ∀ j, x2 j = y2 (Rows.up 192 t h j)) (h4 : ∀ j, x4 j = y4 (Rows.up 192 t h j)) (h3 : ∀ j, x3 j = y3 (Rows.up 192 t h j)) (j : S192x3072.Idx) :
    slope x0 x1 x2 x4 x3 j = slope y0 y1 y2 y4 y3 (Rows.up 192 t h j) := by
  unfold slope
  simp only [h0, h1, h2, h3, h4]
  rfl

theorem value5 : (Gen.dats m 0 c).arrAt 5 cfg0.N = Cert.Reference16Ideal.Read.val_main_v23 (F := Ideal) (m (c.tc.loc main_arg3)) (m (c.tc.loc main_arg4)) := by
  have he : ∀ (t : Fin cfg0.N) (j : S192x1024.Idx), ((cfg0.win 5).blk t).view.emb j = Rows.up 192 t.val (fit t) j := fun t j =>
    Rows.eq_up rfl rfl (place t).2.2.2.2.2.1.1 (place t).2.2.2.2.2.1.2
  refine (Gen.dats m 0 c).arrAt_eq_of_cover 5 _ (fun t hf => ?_) (fun i => ?_)
  · rw [Value.flushed5]
    funext j
    rw [View.read_apply]
    unfold out0_5
    rw [View.canon_unit_zero (S := S192x1024) zero2]
    simp only [View.ld_unit_zero (S := S192x1024) zero2, View.ld_unit_zero (S := S192x3072) zero2]
    show k0_pay8 _ _ j = _
    rw [pay8, he t j, line0, blk3, blk4]
    rfl
  · have b0 : (i 0).val < 4224 := (i 0).isLt
    obtain ⟨t, ht⟩ := points ⟨(i 0).val / 192, by omega⟩
    obtain ⟨j, hj⟩ := Rows.split (R := 192) (by decide) (fit t) i ht
    refine ⟨t, flush0_5 t, ?_⟩
    have hx : i = ((cfg0.win 5).blk t).view.emb j := by rw [he]; exact hj
    exact hx ▸ View.emb_mem_set _ _

theorem value6 : (Gen.dats m 0 c).arrAt 6 cfg0.N = Cert.Reference16Ideal.Read.val_main_v21 (F := Ideal) (m (c.tc.loc main_arg3)) (m (c.tc.loc main_arg4)) := by
  have he : ∀ (t : Fin cfg0.N) (j : S192x1024.Idx), ((cfg0.win 6).blk t).view.emb j = Rows.up 192 t.val (fit t) j := fun t j =>
    Rows.eq_up rfl rfl (place t).2.2.2.2.2.2.1.1 (place t).2.2.2.2.2.2.1.2
  refine (Gen.dats m 0 c).arrAt_eq_of_cover 6 _ (fun t hf => ?_) (fun i => ?_)
  · rw [Value.flushed6]
    funext j
    rw [View.read_apply]
    unfold out0_6
    rw [View.canon_unit_zero (S := S192x1024) zero2]
    simp only [View.ld_unit_zero (S := S192x1024) zero2, View.ld_unit_zero (S := S192x3072) zero2]
    show k0_pay7 _ _ j = _
    rw [pay7, he t j, line1, blk3, blk4]
    rfl
  · have b0 : (i 0).val < 4224 := (i 0).isLt
    obtain ⟨t, ht⟩ := points ⟨(i 0).val / 192, by omega⟩
    obtain ⟨j, hj⟩ := Rows.split (R := 192) (by decide) (fit t) i ht
    refine ⟨t, flush0_6 t, ?_⟩
    have hx : i = ((cfg0.win 6).blk t).view.emb j := by rw [he]; exact hj
    exact hx ▸ View.emb_mem_set _ _

theorem value7 : (Gen.dats m 0 c).arrAt 7 cfg0.N = Cert.Reference16Ideal.Read.val_main_v19 (F := Ideal) (m (c.tc.loc main_arg3)) (m (c.tc.loc main_arg4)) := by
  have he : ∀ (t : Fin cfg0.N) (j : S192x1024.Idx), ((cfg0.win 7).blk t).view.emb j = Rows.up 192 t.val (fit t) j := fun t j =>
    Rows.eq_up rfl rfl (place t).2.2.2.2.2.2.2.1.1 (place t).2.2.2.2.2.2.2.1.2
  refine (Gen.dats m 0 c).arrAt_eq_of_cover 7 _ (fun t hf => ?_) (fun i => ?_)
  · rw [Value.flushed7]
    funext j
    rw [View.read_apply]
    unfold out0_7
    rw [View.canon_unit_zero (S := S192x1024) zero2]
    simp only [View.ld_unit_zero (S := S192x1024) zero2, View.ld_unit_zero (S := S192x3072) zero2]
    show k0_pay6 _ _ j = _
    rw [pay6, he t j, line2, blk3, blk4]
    rfl
  · have b0 : (i 0).val < 4224 := (i 0).isLt
    obtain ⟨t, ht⟩ := points ⟨(i 0).val / 192, by omega⟩
    obtain ⟨j, hj⟩ := Rows.split (R := 192) (by decide) (fit t) i ht
    refine ⟨t, flush0_7 t, ?_⟩
    have hx : i = ((cfg0.win 7).blk t).view.emb j := by rw [he]; exact hj
    exact hx ▸ View.emb_mem_set _ _

theorem value8 : (Gen.dats m 0 c).arrAt 8 cfg0.N = Cert.Reference16Ideal.Read.val_main_v26 (F := Ideal) (m (c.tc.loc main_arg0)) (m (c.tc.loc main_arg1)) (m (c.tc.loc main_arg2)) (m (c.tc.loc main_arg3)) (m (c.tc.loc main_arg4)) := by
  have he : ∀ (t : Fin cfg0.N) (j : S192x3072.Idx), ((cfg0.win 8).blk t).view.emb j = Rows.up 192 t.val (fit t) j := fun t j =>
    Rows.eq_up rfl rfl (place t).2.2.2.2.2.2.2.2.1.1 (place t).2.2.2.2.2.2.2.2.1.2
  refine (Gen.dats m 0 c).arrAt_eq_of_cover 8 _ (fun t hf => ?_) (fun i => ?_)
  · rw [Value.flushed8]
    funext j
    rw [View.read_apply]
    unfold out0_8
    rw [View.canon_unit_zero (S := S192x3072) zero2]
    simp only [View.ld_unit_zero (S := S192x1024) zero2, View.ld_unit_zero (S := S192x3072) zero2]
    show k0_pay9 _ _ _ _ _ j = _
    rw [pay9, he t j, line3, slope_up (blk0 m c t) (blk1 m c t) (blk2 m c t) (blk4 m c t) (blk3 m c t)]
    rfl
  · have b0 : (i 0).val < 4224 := (i 0).isLt
    obtain ⟨t, ht⟩ := points ⟨(i 0).val / 192, by omega⟩
    obtain ⟨j, hj⟩ := Rows.split (R := 192) (by decide) (fit t) i ht
    refine ⟨t, flush0_8 t, ?_⟩
    have hx : i = ((cfg0.win 8).blk t).view.emb j := by rw [he]; exact hj
    exact hx ▸ View.emb_mem_set _ _

/-- Kernel and reference return the same four derivatives. -/
theorem algebraic : @Cert.algebraic_Kernel16Ideal_Reference16Ideal Cert.Kernel16Ideal.Gen.facts Cert.Reference16Ideal.Gen.facts := by
  intro m ρ m' ρ' _ hagree
  refine ⟨_, _, _, _, Cert.Kernel16Ideal.Value.run_blocks m ρ, ?_⟩
  refine (θ_run _ _ _).mono (fun r h c => ?_) (Cert.Reference16Ideal.Value.run (F := Ideal) m' ρ')
  obtain ⟨h0, h1, h2, h3, hk⟩ := h c
  obtain ⟨e0, e1, e2, e3, e4⟩ := hagree c
  refine ⟨h0.trans ?_, h1.trans ?_, h2.trans ?_, h3.trans ?_, hk⟩
  · rw [value5 m c]
    refine (Cert.Reference16Ideal.Read.val_main_v23_eq _ _).trans ?_
    rw [e3, e4]
  · rw [value6 m c]
    refine (Cert.Reference16Ideal.Read.val_main_v21_eq _ _).trans ?_
    rw [e3, e4]
  · rw [value7 m c]
    refine (Cert.Reference16Ideal.Read.val_main_v19_eq _ _).trans ?_
    rw [e3, e4]
  · rw [value8 m c]
    refine (Cert.Reference16Ideal.Read.val_main_v26_eq _ _ _ _ _).trans ?_
    rw [e0, e1, e2, e3, e4]

/-- The reference runs and keeps its arguments; it has no semaphores. -/
theorem frame_reference : @Cert.quiescent_Reference16Ideal Cert.Reference16Ideal.Gen.facts := fun m ρ _ =>
  (θ_run Cert.Reference16Ideal.defs _ _).mono (fun r h => ⟨fun c => (h c).2.2.2.2, sem_eq_zero_of_no_sems (by decide) r.2⟩)
    (Cert.Reference16Ideal.Value.run (F := Ideal) m ρ)

end Cert.Kernel16Ideal.Mm
end
end
-- ==== Proof.MergeForward.lean ====
/-
  The gates that merge the three mixers: the blocks of rows and the reference's line agree entry by entry.
-/
module

public import proofs.«01_k».proof.Defs
public import proofs.«01_k».proof.Proof.Rows
public import proofs.«01_k».proof.Proof.Gen.Kernel17Ideal.Value
public import proofs.«01_k».proof.Proof.Gen.Reference17Ideal.Read
public import Idealize.ShloMosaic.Lib.Pointwise
public import Idealize.ShloMosaic.Adequacy
public import Idealize.ShloMosaic.Init

@[expose] public section
noncomputable section
namespace Cert.Kernel17Ideal.Mm
open Cert.Kernel17Ideal Cert.Kernel17Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

theorem place : ∀ t : Fin cfg0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ t.val * 192 + 192 ≤ 4224 :=
  (by decide +kernel : ∀ t : Fin grid0.N, (win0_0.index t 0 = t.val ∧ win0_0.index t 1 = 0) ∧ (win0_1.index t 0 = t.val ∧ win0_1.index t 1 = 0)
    ∧ (win0_2.index t 0 = t.val ∧ win0_2.index t 1 = 0) ∧ (win0_3.index t 0 = t.val ∧ win0_3.index t 1 = 0)
    ∧ (win0_4.index t 0 = t.val ∧ win0_4.index t 1 = 0) ∧ t.val * 192 + 192 ≤ 4224)
theorem points : ∀ p : Fin 22, ∃ t : Fin cfg0.N, t.val = p.val := (by decide +kernel : ∀ p : Fin 22, ∃ t : Fin grid0.N, t.val = p.val)
abbrev fit (t : Fin cfg0.N) : t.val * 192 + 192 ≤ 4224 := (place t).2.2.2.2.2

theorem blk0 (t : Fin cfg0.N) (x : S192x1024.Idx) : (iblk m c 0 t : Vec Ideal S192x1024 .f32) x = m (c.tc.loc main_arg0) (Rows.up 192 t.val (fit t) x) := by
  unfold iblk; rw [View.read_apply, ← V_main_arg0 m c]
  exact congrArg (V m c main_arg0) (Rows.eq_up rfl rfl (place t).1.1 (place t).1.2)
theorem blk1 (t : Fin cfg0.N) (x : S192x1024.Idx) : (iblk m c 1 t : Vec Ideal S192x1024 .f32) x = m (c.tc.loc main_arg1) (Rows.up 192 t.val (fit t) x) := by
  unfold iblk; rw [View.read_apply, ← V_main_arg1 m c]
  exact congrArg (V m c main_arg1) (Rows.eq_up rfl rfl (place t).2.1.1 (place t).2.1.2)
theorem blk2 (t : Fin cfg0.N) (x : S192x1024.Idx) : (iblk m c 2 t : Vec Ideal S192x1024 .f32) x = m (c.tc.loc main_arg2) (Rows.up 192 t.val (fit t) x) := by
  unfold iblk; rw [View.read_apply, ← V_main_arg2 m c]
  exact congrArg (V m c main_arg2) (Rows.eq_up rfl rfl (place t).2.2.1.1 (place t).2.2.1.2)
theorem blk3 (t : Fin cfg0.N) (x : S192x3072.Idx) : (iblk m c 3 t : Vec Ideal S192x3072 .f32) x = m (c.tc.loc main_arg3) (Rows.up 192 t.val (fit t) x) := by
  unfold iblk; rw [View.read_apply, ← V_main_arg3 m c]
  exact congrArg (V m c main_arg3) (Rows.eq_up rfl rfl (place t).2.2.2.1.1 (place t).2.2.2.1.2)

/-- Column `l` of the first third of the gates, and of the third that starts at column `o`. -/
abbrev first (l : Fin 1024) : Fin 3072 := ⟨l.val, by omega⟩
abbrev after (o : ℕ) (ho : o ≤ 2048) (l : Fin 1024) : Fin 3072 := ⟨o + l.val, by omega⟩

theorem pay (x0 x1 x2 : Vec Ideal S192x1024 .f32) (x3 : Vec Ideal S192x3072 .f32) (j : S192x1024.Idx) :
    k0_pay1 x0 x1 x2 x3 j = Ideal.logistic (x3 (ix2 (j 0) (first (j 1)))) * x0 j + Ideal.logistic (x3 (ix2 (j 0) (after 1024 (by decide) (j 1)))) * x1 j
      + Ideal.logistic (x3 (ix2 (j 0) (after 2048 (by decide) (j 1)))) * x2 j := by
  rw [eta2 j]
  pointwise [k0_pay1]

open Cert.Reference17Ideal.Read in
theorem gate (y : S4224x3072.Idx → Elt Ideal .f32) (i : S4224x3072.Idx) : val_main_v5 (F := Ideal) y i = Ideal.logistic (y i) := by
  rw [val_main_v5_apply, val_main_v4_apply, val_main_cst_0_apply, val_main_v3_apply, val_main_v2_apply, val_main_cst_apply, val_main_v1_apply, val_main_v0_apply]
  unfold Ideal.logistic
  rw [← Ideal.ofBits_one_f32]
  rfl

open Cert.Reference17Ideal.Read in
theorem line (y0 y1 y2 : S4224x1024.Idx → Elt Ideal .f32) (y3 : S4224x3072.Idx → Elt Ideal .f32) (i : S4224x1024.Idx) :
    val_main_v13 (F := Ideal) y0 y1 y2 y3 i = Ideal.logistic (y3 (ix2 (i 0) (first (i 1)))) * y0 i
      + Ideal.logistic (y3 (ix2 (i 0) (after 1024 (by decide) (i 1)))) * y1 i + Ideal.logistic (y3 (ix2 (i 0) (after 2048 (by decide) (i 1)))) * y2 i := by
  rw [val_main_v13_apply, val_main_v12_apply, val_main_v11_apply, val_main_v10_apply, val_main_v9_apply, val_main_v8_apply, val_main_v7_apply,
    val_main_v6_apply, gate, gate, gate]
  have e0 : idx_main_v6 i = ix2 (i 0) (first (i 1)) := ext2 rfl rfl
  have e1 : idx_main_v7 i = ix2 (i 0) (after 1024 (by decide) (i 1)) := ext2 rfl rfl
  have e2 : idx_main_v8 i = ix2 (i 0) (after 2048 (by decide) (i 1)) := ext2 rfl rfl
  rw [e0, e1, e2]
  rfl

theorem value : (Gen.dats m 0 c).arrAt 4 cfg0.N = Cert.Reference17Ideal.Read.val_main_v13 (F := Ideal) (m (c.tc.loc main_arg0))
    (m (c.tc.loc main_arg1)) (m (c.tc.loc main_arg2)) (m (c.tc.loc main_arg3)) := by
  have he : ∀ (t : Fin cfg0.N) (j : S192x1024.Idx), ((cfg0.win 4).blk t).view.emb j = Rows.up 192 t.val (fit t) j := fun t j =>
    Rows.eq_up rfl rfl (place t).2.2.2.2.1.1 (place t).2.2.2.2.1.2
  refine (Gen.dats m 0 c).arrAt_eq_of_cover 4 _ (fun t hf => ?_) (fun i => ?_)
  · rw [Value.flushed4]
    funext j
    rw [View.read_apply]
    unfold out0_4
    rw [View.canon_unit_zero (S := S192x1024) zero2]
    simp only [View.ld_unit_zero (S := S192x1024) zero2, View.ld_unit_zero (S := S192x3072) zero2]
    show k0_pay1 _ _ _ _ j = _
    rw [pay, he t j, line, blk0, blk1, blk2, blk3, blk3, blk3]
    rfl
  · have b0 : (i 0).val < 4224 := (i 0).isLt
    obtain ⟨t, ht⟩ := points ⟨(i 0).val / 192, by omega⟩
    obtain ⟨j, hj⟩ := Rows.split (R := 192) (by decide) (fit t) i ht
    refine ⟨t, flush0_4 t, ?_⟩
    have hx : i = ((cfg0.win 4).blk t).view.emb j := by rw [he]; exact hj
    exact hx ▸ View.emb_mem_set _ _

/-- Kernel and reference return the same merged rows. -/
theorem algebraic : @Cert.algebraic_Kernel17Ideal_Reference17Ideal Cert.Kernel17Ideal.Gen.facts Cert.Reference17Ideal.Gen.facts := by
  intro m ρ m' ρ' _ hagree
  refine ⟨_, Cert.Kernel17Ideal.Value.run_blocks m ρ, ?_⟩
  refine (θ_run _ _ _).mono (fun r h c => ?_) (Cert.Reference17Ideal.Value.run (F := Ideal) m' ρ')
  obtain ⟨h0, hk⟩ := h c
  obtain ⟨e0, e1, e2, e3⟩ := hagree c
  refine ⟨h0.trans ?_, hk⟩
  rw [value m c]
  refine (Cert.Reference17Ideal.Read.val_main_v13_eq _ _ _ _).trans ?_
  rw [e0, e1, e2, e3]

/-- The reference runs and keeps its arguments; it has no semaphores. -/
theorem frame_reference : @Cert.quiescent_Reference17Ideal Cert.Reference17Ideal.Gen.facts := fun m ρ _ =>
  (θ_run Cert.Reference17Ideal.defs _ _).mono (fun r h => ⟨fun c => (h c).2, sem_eq_zero_of_no_sems (by decide) r.2⟩)
    (Cert.Reference17Ideal.Value.run (F := Ideal) m ρ)

end Cert.Kernel17Ideal.Mm
end
end
-- ==== Proof.Relu2.lean ====
/-
  The squared ReLU of the feed-forward part and its derivative: the blocks of rows and the reference's line agree entry by entry.
-/
module

public import proofs.«01_k».proof.Defs
public import proofs.«01_k».proof.Proof.Gen.Kernel18Ideal.Value
public import proofs.«01_k».proof.Proof.Gen.Reference18Ideal.Read
public import proofs.«01_k».proof.Proof.Gen.Kernel19Ideal.Value
public import proofs.«01_k».proof.Proof.Gen.Reference19Ideal.Read
public import Idealize.ShloMosaic.Lib.Pointwise
public import Idealize.ShloMosaic.Adequacy
public import Idealize.ShloMosaic.Init

@[expose] public section
noncomputable section
open Idealize.ShloMosaic Idealize.ShloMosaic.TcCoe Idealize.SL.Sem

namespace Relu2

/-- A product by the positive part taken twice is a product by twice the positive part; elsewhere both are nought. -/
theorem slope (a y : EReal) :
    (max a 0 * y + y * max a 0) * (if 0 < a then 1 else if a = 0 then ((1 / 2 : ℝ) : EReal) else 0)
      = if 0 < a then y * ((2 : ℝ) * max a 0) else 0 := by
  by_cases h : 0 < a
  · rw [if_pos h, if_pos h, max_eq_left h.le, mul_one, mul_comm a y]
    have e : ((2 : ℝ) : EReal) = 1 + 1 := by rw [← EReal.coe_one, ← EReal.coe_add]; norm_num
    rw [e, EReal.right_distrib_of_nonneg (by norm_num) (by norm_num), one_mul,
      EReal.left_distrib_of_nonneg h.le h.le]
  · rw [if_neg h, if_neg h, max_eq_right (not_lt.mp h), zero_mul, mul_zero, add_zero, zero_mul]

theorem half : Ideal.ofBits FTy.f32 0x3F000000#32 = ((1 / 2 : ℝ) : EReal) := by
  simp [Ideal.ofBits, Ideal.ieee, -EReal.coe_mul]; norm_num
theorem two : Ideal.ofBits FTy.f32 0x40000000#32 = ((2 : ℝ) : EReal) := by
  simp [Ideal.ofBits, Ideal.ieee, -EReal.coe_mul]; norm_num
theorem one : Ideal.ofBits FTy.f32 0x3F800000#32 = 1 := by
  simp [Ideal.ofBits, Ideal.ieee, -EReal.coe_mul]; norm_num
theorem zero : Ideal.ofBits FTy.f32 0#32 = 0 := by
  simp [Ideal.ofBits, Ideal.ieee]

theorem pick {α : Type} (p : Prop) [Decidable p] (a b : α) :
    Scalar.select (BitVec.ofBool (decide p)) a b = if p then a else b := by
  by_cases h : p <;> simp [h, Scalar.select]

end Relu2

namespace Cert.Kernel18Ideal.Mm
open Cert.Kernel18Ideal Cert.Kernel18Ideal.Gen Cert.Reference18Ideal.Read

theorem value (x y : S4224x4096.Idx → Elt Ideal .f32) : Value.G2 x y = val_main_v9 (F := Ideal) x y := by
  funext i
  rw [val_main_v9_apply, val_main_v2_apply, val_main_v1_apply, val_main_cst_apply, val_main_v7_apply, val_main_v6_apply,
    val_main_v5_apply, val_main_cst_1_apply, val_main_v0_apply, val_main_call0_v0_apply, val_main_call0_cst_apply, val_main_v8_apply,
    val_main_cst_2_apply]
  have h := Relu2.slope (x i) (y i)
  simp only [← Relu2.zero, ← Relu2.one, ← Relu2.two, ← Relu2.half, ← Relu2.pick] at h
  exact h

theorem algebraic : @Cert.algebraic_Kernel18Ideal_Reference18Ideal Cert.Kernel18Ideal.Gen.facts Cert.Reference18Ideal.Gen.facts := by
  intro m ρ m' ρ' _ hagree
  refine ⟨_, Cert.Kernel18Ideal.Value.run m ρ, ?_⟩
  refine (θ_run _ _ _).mono (fun r h c => ?_) (Cert.Reference18Ideal.Value.run (F := Ideal) m' ρ')
  obtain ⟨h0, hk⟩ := h c
  obtain ⟨e0, e1⟩ := hagree c
  refine ⟨h0.trans ?_, hk⟩
  refine (val_main_v9_eq _ _).trans ?_
  rw [e0, e1]
  exact (value _ _).symm

theorem frame_reference : @Cert.quiescent_Reference18Ideal Cert.Reference18Ideal.Gen.facts := fun m ρ _ =>
  (θ_run Cert.Reference18Ideal.defs _ _).mono (fun r h => ⟨fun c => (h c).2, sem_eq_zero_of_no_sems (by decide) r.2⟩)
    (Cert.Reference18Ideal.Value.run (F := Ideal) m ρ)
end Cert.Kernel18Ideal.Mm

namespace Cert.Kernel19Ideal.Mm
open Cert.Kernel19Ideal Cert.Kernel19Ideal.Gen Cert.Reference19Ideal.Read

theorem value (x : S4224x4096.Idx → Elt Ideal .f32) : Value.G1 x = val_main_v1 (F := Ideal) x := by
  funext i
  rw [val_main_v1_apply, val_main_v0_apply, val_main_call0_v0_apply, val_main_call0_cst_apply]

theorem algebraic : @Cert.algebraic_Kernel19Ideal_Reference19Ideal Cert.Kernel19Ideal.Gen.facts Cert.Reference19Ideal.Gen.facts := by
  intro m ρ m' ρ' _ hagree
  refine ⟨_, Cert.Kernel19Ideal.Value.run m ρ, ?_⟩
  refine (θ_run _ _ _).mono (fun r h c => ?_) (Cert.Reference19Ideal.Value.run (F := Ideal) m' ρ')
  obtain ⟨h0, hk⟩ := h c
  refine ⟨h0.trans ?_, hk⟩
  refine (val_main_v1_eq _).trans ?_
  rw [hagree c]
  exact (value _).symm

theorem frame_reference : @Cert.quiescent_Reference19Ideal Cert.Reference19Ideal.Gen.facts := fun m ρ _ =>
  (θ_run Cert.Reference19Ideal.defs _ _).mono (fun r h => ⟨fun c => (h c).2, sem_eq_zero_of_no_sems (by decide) r.2⟩)
    (Cert.Reference19Ideal.Value.run (F := Ideal) m ρ)
end Cert.Kernel19Ideal.Mm
end
-- ==== Proof.SwaForward.lean ====
/-
  The forward pass of the windowed attention.
-/
module

public import proofs.«01_k».proof.Defs
public import proofs.«01_k».proof.Proof.Block
public import proofs.«01_k».proof.Proof.RefScore
public import proofs.«01_k».proof.Proof.Precond
public import proofs.«01_k».proof.Proof.Rows
public import proofs.«01_k».proof.Proof.Gen.Kernel20Ideal.Value
public import proofs.«01_k».proof.Proof.Gen.Reference20Ideal.Read
public import proofs.«01_k».proof.Proof.Gen.Pre_finite_attention
public import Idealize.ShloMosaic.Lib.Pointwise
public import Idealize.ShloMosaic.Adequacy
public import Idealize.ShloMosaic.Init

@[expose] public section
noncomputable section
namespace Cert.Kernel20Ideal.Mm
open Cert.Kernel20Ideal Cert.Kernel20Ideal.Gen Idealize.ShloMosaic Idealize.ShloMosaic.TcCoe Idealize.SL.Sem
open Idealize.ShloMosaic.Pipeline (Dat)
open _root_.Swa
open Cert.KernelIdeal.Swa (keyB valB scoreB casts_apply cat16 Blk)

theorem key_eq (x1 x2 x3 : Vec Ideal S128x512 .f32) :
    k0_pay12 (k0_pay2 x1) (k0_pay4 x2) (k0_pay6 x3) (k0_pay7 x3) (k0_pay8 x3) = keyB x1 x2 x3 := rfl
theorem score_eq (n : BitVec 32) (x0 : Vec Ideal S128x1024 .f32) (x1 x2 x3 : Vec Ideal S128x512 .f32) :
    k0_pay13 n (k0_pay11 x0) (k0_pay12 (k0_pay2 x1) (k0_pay4 x2) (k0_pay6 x3) (k0_pay7 x3) (k0_pay8 x3)) (constant S4x512x384 .f32 0x00000000#32)
      = scoreB n x0 x1 x2 x3 := rfl
theorem sink_eq (x4 : Vec Ideal S16x1x1 .f32) : k0_pay10 x4 = Cert.KernelIdeal.Gen.k0_pay17 x4 := rfl
theorem out_eq (x1 x2 x3 : Vec Ideal S128x512 .f32) (v99 : FVec Ideal S4x4x1x1 .f32) (s : FVec Ideal S4x512x384 .f32) :
    k0_pay16 (k0_pay3 x1) (k0_pay5 x2) (k0_pay9 x3) v99 s (k0_pay14 v99) (k0_pay15 v99)
      = shapeCast S16x128x64 (shapeCast S4x4x128x64 (matmul dot_S4x512x384_S4x384x64_S4x512x64_2_1_1_2_0_0 none
          (truncf .bf16 (Cert.KernelIdeal.Gen.k0_pay27 v99 s) bitsLt_bf16_f32) (truncf .bf16 (valB x1 x2 x3) bitsLt_bf16_f32)
          (constant S4x512x64 .f32 0x00000000#32)) shapeCasts_S4x512x64_S4x4x128x64) shapeCasts_S4x4x128x64_S16x128x64 := rfl

theorem heads_apply (A : FVec Ideal S4x512x384 .f32) (B : FVec Ideal S4x384x64 .f32) (h g : Fin 4) (r : Fin 128) (d : Fin 64) :
    shapeCast S16x128x64 (shapeCast S4x4x128x64 (matmul dot_S4x512x384_S4x384x64_S4x512x64_2_1_1_2_0_0 none
          (truncf .bf16 A bitsLt_bf16_f32) (truncf .bf16 B bitsLt_bf16_f32)
          (constant S4x512x64 .f32 0x00000000#32)) shapeCasts_S4x512x64_S4x4x128x64) shapeCasts_S4x4x128x64_S16x128x64 (ix3 (head h g) r d)
      = ∑ c, A (ix3 h (row4 g r) c) * B (ix3 h c d) := by
  unfold head row4
  pointwise [dot_S4x512x384_S4x384x64_S4x512x64_2_1_1_2_0_0]
  exact Finset.sum_congr rfl fun c _ => congrArg (fun a => A (ix3 h a c) * B (ix3 h c d)) (Fin.ext (by dsimp only; omega))

/-- The output of the attention: query head `g` of group `h`, row `i`, entry `d`. -/
def fo (q : Fin 4224 → Fin 1024 → EReal) (kv : Fin 4224 → Fin 512 → EReal) (sk : Fin 16 → EReal) (h g : Fin 4) (i : Fin 4224) (d : Fin 64) : EReal :=
  ∑ j, gP q kv sk h g i j * kv j (vcol h d)
/-- The same by column. -/
def ro (q : Fin 4224 → Fin 1024 → EReal) (kv : Fin 4224 → Fin 512 → EReal) (sk : Fin 16 → EReal) (i : Fin 4224) (k : Fin 1024) : EReal :=
  fo q kv sk ⟨k.val / 256, by omega⟩ ⟨k.val / 64 % 4, by omega⟩ i ⟨k.val % 64, by omega⟩
theorem ro_col (q : Fin 4224 → Fin 1024 → EReal) (kv : Fin 4224 → Fin 512 → EReal) (sk : Fin 16 → EReal) (i : Fin 4224) (h g : Fin 4) (d : Fin 64) :
    ro q kv sk i (qcol h g d) = fo q kv sk h g i d := by
  unfold ro qcol
  congr 1 <;> exact Fin.ext (by dsimp only; omega)

section
variable {q : Fin 4224 → Fin 1024 → EReal} {kv : Fin 4224 → Fin 512 → EReal} {sk : Fin 16 → EReal} {n : Fin 33}
  {x0 : Vec Ideal S128x1024 .f32} {x1 x2 x3 : Vec Ideal S128x512 .f32} {x4 : Vec Ideal S16x1x1 .f32}

theorem head_out (B : Blk q kv sk q n x0 x1 x2 x3 x4 x0) (hD : DenOk q kv sk) (h g : Fin 4) (r : Fin 128) (d : Fin 64) :
    k0_pay16 (k0_pay3 x1) (k0_pay5 x2) (k0_pay9 x3) (k0_pay10 x4) (scoreB (BitVec.ofNat 32 n.val) x0 x1 x2 x3) (k0_pay14 (k0_pay10 x4))
      (k0_pay15 (k0_pay10 x4)) (ix3 (head h g) r d) = fo q kv sk h g (row n r) d := by
  rw [out_eq, heads_apply]
  have hp : ∀ c, Cert.KernelIdeal.Gen.k0_pay27 (F := Ideal) (k0_pay10 x4) (scoreB (BitVec.ofNat 32 n.val) x0 x1 x2 x3) (ix3 h (row4 g r) c)
      = if ok n r c then gP q kv sk h g (row n r) (bkey n c) else 0 := fun c =>
    (B.prob h g r c).trans (b_prob q kv sk n h g r hD c)
  simp only [hp, B.val]
  unfold fo
  refine (match_row n r).sum (fun c hc => ?_) (fun c hc => ?_) (fun j hj => ?_)
  · rw [if_pos hc]
  · rw [if_neg hc, zero_mul]
  · rw [gP_off hD h g _ j hj, zero_mul]
end

/-- The sixteen heads side by side. -/
theorem cat (v24 v44 v64 : FVec Ideal S4x128x64 .f32) (v99 : FVec Ideal S4x4x1x1 .f32) (v146 : FVec Ideal S4x512x384 .f32) (v150 v154 : FVec Ideal S4x128x1 .f32)
    (h g : Fin 4) (r : Fin 128) (d : Fin 64) :
    k0_pay1 (F := Ideal) (k0_pay16 v24 v44 v64 v99 v146 v150 v154) (k0_pay17 v24 v44 v64 v99 v146 v150 v154) (k0_pay18 v24 v44 v64 v99 v146 v150 v154)
      (k0_pay19 v24 v44 v64 v99 v146 v150 v154) (k0_pay20 v24 v44 v64 v99 v146 v150 v154) (k0_pay21 v24 v44 v64 v99 v146 v150 v154)
      (k0_pay22 v24 v44 v64 v99 v146 v150 v154) (k0_pay23 v24 v44 v64 v99 v146 v150 v154) (k0_pay24 v24 v44 v64 v99 v146 v150 v154)
      (k0_pay25 v24 v44 v64 v99 v146 v150 v154) (k0_pay26 v24 v44 v64 v99 v146 v150 v154) (k0_pay27 v24 v44 v64 v99 v146 v150 v154)
      (k0_pay28 v24 v44 v64 v99 v146 v150 v154) (k0_pay29 v24 v44 v64 v99 v146 v150 v154) (k0_pay30 v24 v44 v64 v99 v146 v150 v154)
      (k0_pay31 v24 v44 v64 v99 v146 v150 v154) (ix2 r (qcol h g d)) = k0_pay16 v24 v44 v64 v99 v146 v150 v154 (ix3 (head h g) r d) := by
  unfold k0_pay1 k0_pay17 k0_pay18 k0_pay19 k0_pay20 k0_pay21 k0_pay22 k0_pay23 k0_pay24 k0_pay25 k0_pay26 k0_pay27 k0_pay28 k0_pay29 k0_pay30 k0_pay31
  generalize k0_pay16 v24 v44 v64 v99 v146 v150 v154 = w
  have hf : ∀ a : Fin 16, S16x128x64.Slices ![a.val, 0, 0] S1x128x64 := by decide
  refine (cat16 (fun a => shapeCast S128x64 (extractStridedSlice S1x128x64 ![a.val, 0, 0] w (hf a)) shapeCasts_S1x128x64_S128x64) h g r d).trans ?_
  generalize head h g = a
  fin_cases a <;> pointwise

section
variable (m : (ℓ : Loc nD τ sig) → Buf (Elt Ideal) ℓ) (c : Dev nD)

/-- The three arguments by row and column. -/
def aq (i : Fin 4224) (k : Fin 1024) : EReal := m (c.tc.loc main_arg0) (ix2 i k)
@[inherit_doc aq] def akv (i : Fin 4224) (k : Fin 512) : EReal := m (c.tc.loc main_arg1) (ix2 i k)
@[inherit_doc aq] def ask (a : Fin 16) : EReal := m (c.tc.loc main_arg2) (ix3 a (0 : Fin 1) (0 : Fin 1))

theorem place : ∀ t : Fin cfg0.N, (win0_0.index t 0 = t.val ∧ win0_0.index t 1 = 0) ∧ (win0_1.index t 0 = 0 ∧ win0_1.index t 1 = 0)
    ∧ (win0_2.index t 0 = t.val - 1 ∧ win0_2.index t 1 = 0) ∧ (win0_3.index t 0 = t.val ∧ win0_3.index t 1 = 0)
    ∧ (∀ a, win0_4.index t a = 0) ∧ (win0_5.index t 0 = t.val ∧ win0_5.index t 1 = 0) ∧ (grid0.coords t 0).val = t.val ∧ t.val < 33 :=
  (by decide +kernel : ∀ t : Fin grid0.N, (win0_0.index t 0 = t.val ∧ win0_0.index t 1 = 0) ∧ (win0_1.index t 0 = 0 ∧ win0_1.index t 1 = 0)
    ∧ (win0_2.index t 0 = t.val - 1 ∧ win0_2.index t 1 = 0) ∧ (win0_3.index t 0 = t.val ∧ win0_3.index t 1 = 0)
    ∧ (∀ a, win0_4.index t a = 0) ∧ (win0_5.index t 0 = t.val ∧ win0_5.index t 1 = 0) ∧ (grid0.coords t 0).val = t.val ∧ t.val < 33)
theorem points : ∀ p : Fin 33, ∃ t : Fin cfg0.N, t.val = p.val := (by decide +kernel : ∀ p : Fin 33, ∃ t : Fin grid0.N, t.val = p.val)
/-- The block of a grid point. -/
abbrev nn (t : Fin cfg0.N) : Fin 33 := ⟨t.val, (place t).2.2.2.2.2.2.2⟩

theorem blk0 (t : Fin cfg0.N) (r : Fin 128) (k : Fin 1024) : (iblk m c 0 t : Vec Ideal S128x1024 .f32) (ix2 r k) = aq m c (row (nn t) r) k := by
  unfold iblk aq; rw [View.read_apply]
  refine (congrArg (V m c main_arg0) (Mm.ext2 (y := ix2 (row (nn t) r) k) ?_ ?_)).trans (congrFun (V_main_arg0 m c) _)
  · show win0_0.index t 0 * 128 + 1 * r.val = 128 * t.val + r.val; rw [(place t).1.1]; omega
  · show win0_0.index t 1 * 1024 + 1 * k.val = k.val; rw [(place t).1.2]; omega
theorem blk1 (t : Fin cfg0.N) (r : Fin 128) (k : Fin 512) : (iblk m c 1 t : Vec Ideal S128x512 .f32) (ix2 r k) = akv m c (row 0 r) k := by
  unfold iblk akv; rw [View.read_apply]
  refine (congrArg (V m c main_arg1) (Mm.ext2 (y := ix2 (row 0 r) k) ?_ ?_)).trans (congrFun (V_main_arg1 m c) _)
  · show win0_1.index t 0 * 128 + 1 * r.val = 128 * 0 + r.val; rw [(place t).2.1.1]; omega
  · show win0_1.index t 1 * 512 + 1 * k.val = k.val; rw [(place t).2.1.2]; omega
theorem blk2 (t : Fin cfg0.N) (r : Fin 128) (k : Fin 512) :
    (iblk m c 2 t : Vec Ideal S128x512 .f32) (ix2 r k) = akv m c (⟨128 * ((nn t).val - 1) + r.val, by omega⟩ : Fin 4224) k := by
  unfold iblk akv; rw [View.read_apply]
  refine (congrArg (V m c main_arg1) (Mm.ext2 (y := ix2 (⟨128 * ((nn t).val - 1) + r.val, by omega⟩ : Fin 4224) k) ?_ ?_)).trans (congrFun (V_main_arg1 m c) _)
  · show win0_2.index t 0 * 128 + 1 * r.val = 128 * (t.val - 1) + r.val; rw [(place t).2.2.1.1]; omega
  · show win0_2.index t 1 * 512 + 1 * k.val = k.val; rw [(place t).2.2.1.2]; omega
theorem blk3 (t : Fin cfg0.N) (r : Fin 128) (k : Fin 512) : (iblk m c 3 t : Vec Ideal S128x512 .f32) (ix2 r k) = akv m c (row (nn t) r) k := by
  unfold iblk akv; rw [View.read_apply]
  refine (congrArg (V m c main_arg1) (Mm.ext2 (y := ix2 (row (nn t) r) k) ?_ ?_)).trans (congrFun (V_main_arg1 m c) _)
  · show win0_3.index t 0 * 128 + 1 * r.val = 128 * t.val + r.val; rw [(place t).2.2.2.1.1]; omega
  · show win0_3.index t 1 * 512 + 1 * k.val = k.val; rw [(place t).2.2.2.1.2]; omega
theorem blk4 (t : Fin cfg0.N) (a : Fin 16) : (iblk m c 4 t : Vec Ideal S16x1x1 .f32) (ix3 a (0 : Fin 1) (0 : Fin 1)) = ask m c a := by
  unfold iblk ask; rw [View.read_apply]
  refine (congrArg (V m c main_arg2) (funext fun b => Fin.ext ?_)).trans (congrFun (V_main_arg2 m c) _)
  have h4 := (place t).2.2.2.2.1
  match b with
  | ⟨0, _⟩ => show win0_4.index t 0 * 16 + 1 * a.val = a.val; rw [h4 0]; omega
  | ⟨1, _⟩ => show win0_4.index t 1 * 1 + 1 * 0 = 0; rw [h4 1]
  | ⟨2, _⟩ => show win0_4.index t 2 * 1 + 1 * 0 = 0; rw [h4 2]
theorem blk (t : Fin cfg0.N) : Blk (aq m c) (akv m c) (ask m c) (aq m c) (nn t) (iblk m c 0 t) (iblk m c 1 t) (iblk m c 2 t) (iblk m c 3 t)
    (iblk m c 4 t) (iblk m c 0 t) :=
  ⟨blk0 m c t, blk1 m c t, blk2 m c t, blk3 m c t, blk4 m c t, blk0 m c t⟩

theorem zero3 : (![0, 0, 0] : Fin 3 → Nat) = fun _ => 0 := funext fun a => by fin_cases a <;> rfl

theorem value (hD : DenOk (aq m c) (akv m c) (ask m c)) :
    (Gen.dats m 0 c).arrAt 5 cfg0.N = fun i => ro (aq m c) (akv m c) (ask m c) (i 0) (i 1) := by
  have he : ∀ (t : Fin cfg0.N) (j : S128x1024.Idx), ((cfg0.win 5).blk t).view.emb j = ix2 (row (nn t) (j 0)) (j 1) := by
    intro t j
    refine Mm.ext2 ?_ ?_
    · show win0_5.index t 0 * 128 + 1 * (j 0).val = 128 * t.val + (j 0).val; rw [(place t).2.2.2.2.2.1.1]; omega
    · show win0_5.index t 1 * 1024 + 1 * (j 1).val = (j 1).val; rw [(place t).2.2.2.2.2.1.2]; omega
  refine (Gen.dats m 0 c).arrAt_eq_of_cover 5 _ (fun t hf => ?_) (fun i => ?_)
  · rw [Value.flushed5]
    funext j
    rw [View.read_apply, he t j]
    unfold_out out0_5
    rw [View.canon_unit_zero (S := S128x1024) Mm.zero2]
    simp only [View.ld_unit_zero (S := S128x1024) Mm.zero2, View.ld_unit_zero (S := S128x512) Mm.zero2, View.ld_unit_zero (S := S16x1x1) zero3]
    rw [show (grid0.coords t 0).val = (nn t).val from (place t).2.2.2.2.2.2.1]
    obtain ⟨h, g, d, hk⟩ := qcol_cases (j 1)
    have hj : j = ix2 (j 0) (qcol h g d) := by rw [← hk]; exact Mm.eta2 j
    refine (congrArg _ hj).trans ((cat _ _ _ _ _ _ _ h g (j 0) d).trans ?_)
    refine (head_out (blk m c t) hD h g (j 0) d).trans ?_
    show _ = ro _ _ _ (row (nn t) (j 0)) (j 1)
    rw [hk, ro_col]
  · have b0 : (i 0).val < 4224 := (i 0).isLt
    obtain ⟨t, ht⟩ := points ⟨(i 0).val / 128, by omega⟩
    refine ⟨t, flush0_5 t, ?_⟩
    have hx : i = ((cfg0.win 5).blk t).view.emb (ix2 ⟨(i 0).val % 128, by omega⟩ (i 1)) := by
      rw [he]
      refine Mm.ext2 ?_ rfl
      show (i 0).val = 128 * t.val + (i 0).val % 128
      rw [ht]; dsimp only; omega
    exact hx ▸ View.emb_mem_set _ _
end

section
open Cert.Reference20Ideal Cert.Reference20Ideal.Read
open Cert.ReferenceIdeal.Swa (v6_apply v30_apply v31_apply v32_apply)
variable (x0 : (⟨S4224x1024, .f32⟩ : BufTy).Contents (Elt Ideal)) (x1 : (⟨S4224x512, .f32⟩ : BufTy).Contents (Elt Ideal))
  (x2 : (⟨S16x1x1, .f32⟩ : BufTy).Contents (Elt Ideal))

abbrev yq (i : Fin 4224) (k : Fin 1024) : EReal := x0 (ix2 i k)
abbrev ykv (i : Fin 4224) (k : Fin 512) : EReal := x1 (ix2 i k)
abbrev ysk (a : Fin 16) : EReal := x2 (ix3 a (0 : Fin 1) (0 : Fin 1))

theorem score (h g : Fin 4) (i j : Fin 4224) : val_main_v30 (F := Ideal) x0 x1 (ix4 h g i j) = gS (yq x0) (ykv x1) h g i j :=
  v30_apply x0 x1 h g i j
theorem peak (h g : Fin 4) (i : Fin 4224) : val_main_v32 (F := Ideal) x0 x1 (ix3 h g i) = Finset.univ.sup (gS (yq x0) (ykv x1) h g i) :=
  v32_apply x0 x1 h g i
theorem sink (h g : Fin 4) : val_main_v31 (F := Ideal) x2 (ix4 h g (0 : Fin 1) (0 : Fin 1)) = ysk x2 (head h g) := v31_apply x2 h g
theorem vals (j : Fin 4224) (h : Fin 4) (d : Fin 64) : val_main_v6 (F := Ideal) x1 (ix3 j h d) = ykv x1 j (vcol h d) := v6_apply x1 j h d

theorem most (h g : Fin 4) (i : Fin 4224) : val_main_v35 (F := Ideal) x0 x1 x2 (ix4 h g i (0 : Fin 1)) = rMax (gS (yq x0) (ykv x1) h g i) (ysk x2 (head h g)) := by
  have e3 : idx_main_v33 (ix4 h g i (0 : Fin 1)) = ix3 h g i := funext fun a => by fin_cases a <;> rfl
  have e4 : idx_main_v34 (ix4 h g i (0 : Fin 1)) = ix4 h g (0 : Fin 1) (0 : Fin 1) := funext fun a => by fin_cases a <;> rfl
  rw [val_main_v35_apply, val_main_v33_apply, val_main_v34_apply, e3, e4, peak, sink]
  rfl
theorem expo (h g : Fin 4) (i j : Fin 4224) :
    val_main_v38 (F := Ideal) x0 x1 x2 (ix4 h g i j) = rExp (gS (yq x0) (ykv x1) h g i) (ysk x2 (head h g)) j := by
  have e6 : idx_main_v36 (ix4 h g i j) = ix4 h g i (0 : Fin 1) := funext fun a => by fin_cases a <;> rfl
  rw [val_main_v38_apply, val_main_v37_apply, val_main_v36_apply, score, e6, most]
  rfl
theorem deno (h g : Fin 4) (i : Fin 4224) :
    val_main_v44 (F := Ideal) x0 x1 x2 (ix4 h g i (0 : Fin 1)) = rDen (gS (yq x0) (ykv x1) h g i) (ysk x2 (head h g)) := by
  have e0 : idx_main_v40 (ix4 h g i (0 : Fin 1)) = ix3 h g i := funext fun a => by fin_cases a <;> rfl
  have e9 : ∀ j, idx_main_v39 (ix3 h g i) j = ix4 h g i j := fun j => funext fun a => by fin_cases a <;> rfl
  have e1 : idx_main_v41 (ix4 h g i (0 : Fin 1)) = ix4 h g (0 : Fin 1) (0 : Fin 1) := funext fun a => by fin_cases a <;> rfl
  rw [val_main_v44_apply, val_main_v40_apply, e0, val_main_v39_apply, val_main_v43_apply, val_main_v42_apply, most, val_main_v41_apply, e1, sink,
    val_main_cst_4_apply]
  simp only [e9, expo]
  show (Ideal.ofBits .f32 0x00000000#32 + _ : EReal) + _ = _
  rw [Ideal.ofBits_zero_f32, zero_add]
  rfl
theorem prob (h g : Fin 4) (i j : Fin 4224) : val_main_v46 (F := Ideal) x0 x1 x2 (ix4 h g i j) = gP (yq x0) (ykv x1) (ysk x2) h g i j := by
  have e5 : idx_main_v45 (ix4 h g i j) = ix4 h g i (0 : Fin 1) := funext fun a => by fin_cases a <;> rfl
  rw [val_main_v46_apply, expo, val_main_v45_apply, e5, deno]
  rfl
theorem outs (h g : Fin 4) (i : Fin 4224) (d : Fin 64) :
    val_main_v47 (F := Ideal) x0 x1 x2 (ix4 h d g i) = fo (yq x0) (ykv x1) (ysk x2) h g i d := by
  have el : ∀ k, lidx_main_v47 (ix4 h d g i) k = ix3 k h d := fun k => funext fun a => by fin_cases a <;> rfl
  have er : ∀ k, ridx_main_v47 (ix4 h d g i) k = ix4 h g i k := fun k => funext fun a => by fin_cases a <;> rfl
  rw [val_main_v47_apply]
  simp only [el, er, prob, vals]
  exact Finset.sum_congr rfl fun j _ => mul_comm _ _
theorem line : val_main_v49 (F := Ideal) x0 x1 x2 = fun i => ro (yq x0) (ykv x1) (ysk x2) (i 0) (i 1) := by
  funext i
  rw [val_main_v49_apply, val_main_v48_apply]
  have b1 : (i 1).val < 1024 := (i 1).isLt
  refine Eq.trans (congrArg _ (funext fun a => Fin.ext ?_)) (outs x0 x1 x2 ⟨(i 1).val / 256, by omega⟩ ⟨(i 1).val / 64 % 4, by omega⟩ (i 0) ⟨(i 1).val % 64, by omega⟩)
  match a with
  | ⟨0, _⟩ => show ((i 0).val * 1024 + (i 1).val) / 256 % 4 = (i 1).val / 256; omega
  | ⟨1, _⟩ => show ((i 0).val * 1024 + (i 1).val) % 64 = (i 1).val % 64; omega
  | ⟨2, _⟩ => show ((i 0).val * 1024 + (i 1).val) / 64 % 4 = (i 1).val / 64 % 4; omega
  | ⟨3, _⟩ => show ((i 0).val * 1024 + (i 1).val) / 1024 = (i 0).val; omega
end

/-- What the precondition says: every entry of the three arguments is a real number. -/
theorem real (x0 : FVec Ideal S4224x1024 .f32) (x1 : FVec Ideal S4224x512 .f32) (x2 : FVec Ideal S16x1x1 .f32)
    (h : @Cert.Pre_finite_attention.fn Cert.Pre_finite_attention.Gen.facts Ideal _ x0 x1 x2 = fun _ => 1#1) :
    (∀ i, IsR (x0 i)) ∧ (∀ i, IsR (x1 i)) ∧ ∀ i, IsR (x2 i) := by
  have h0 := congrFun h (Shape.Idx.first Cert.Pre_finite_attention.Gen.h_S_)
  unfold Cert.Pre_finite_attention.fn at h0
  dsimp only at h0
  obtain ⟨h0, h2⟩ := Cert.Pre_finite.andi_split h0
  obtain ⟨h0, h1⟩ := Cert.Pre_finite.andi_split h0
  exact ⟨@Cert.Pre_finite.all_real Cert.Pre_finite.facts _ _ _ _ _ _ h0, @Cert.Pre_finite.all_real Cert.Pre_finite.facts _ _ _ _ _ _ h1,
    @Cert.Pre_finite.all_real Cert.Pre_finite.facts _ _ _ _ _ _ h2⟩

/-- Kernel and reference return the same rows for real arguments. -/
theorem algebraic : @Cert.algebraic_Kernel20Ideal_Reference20Ideal_pre_finite_attention Cert.Kernel20Ideal.Gen.facts Cert.Reference20Ideal.Gen.facts
    Cert.Pre_finite_attention.Gen.facts := by
  intro m ρ m' ρ' hp hagree
  refine ⟨_, Cert.Kernel20Ideal.Value.run_blocks m ρ, ?_⟩
  refine (θ_run _ _ _).mono (fun r h c => ?_) (Cert.Reference20Ideal.Value.run (F := Ideal) m' ρ')
  obtain ⟨h0, hk⟩ := h c
  obtain ⟨e0, e1, e2⟩ := hagree c
  obtain ⟨r0, r1, r2⟩ := real _ _ _ (hp c)
  refine ⟨h0.trans ?_, hk⟩
  rw [value m c (denOk (fun _ _ => r0 _) (fun _ _ => r1 _) fun _ => r2 _)]
  refine (Cert.Reference20Ideal.Read.val_main_v49_eq _ _).trans ?_
  rw [e0, e1, e2]
  exact line _ _ _

/-- The reference runs and keeps its arguments; it has no semaphores. -/
theorem frame_reference : @Cert.quiescent_Reference20Ideal Cert.Reference20Ideal.Gen.facts := fun m ρ _ =>
  (θ_run Cert.Reference20Ideal.defs _ _).mono (fun r h => ⟨fun c => (h c).2, sem_eq_zero_of_no_sems (by decide) r.2⟩)
    (Cert.Reference20Ideal.Value.run (F := Ideal) m ρ)

end Cert.Kernel20Ideal.Mm
end
end
-- ==== Proof.ConvForward.lean ====
/-
  The causal convolution of four taps with its SiLU, forward.
-/
module

public import proofs.«01_k».proof.Defs
public import proofs.«01_k».proof.Proof.Rows
public import proofs.«01_k».proof.Proof.Gen.Kernel22Ideal.Value
public import proofs.«01_k».proof.Proof.Gen.Reference22Ideal.Read
public import Idealize.ShloMosaic.Lib.Pointwise
public import Idealize.ShloMosaic.Lib.KernelVsHost
public import Idealize.ShloMosaic.Lib.Pipeline.Value
public import Idealize.ShloMosaic.Lib.Pipeline.ValueKit.Tiles
public import Idealize.ShloMosaic.Adequacy
public import Idealize.ShloMosaic.Init

@[expose] public section
noncomputable section
namespace Cert.Kernel22Ideal.Conv
open Cert.Kernel22Ideal Cert.Kernel22Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

/-- An entry `s` rows back in a block of 128 rows that has eight rows in front. -/
def near (h : Fin 8 → EReal) (x : Fin 128 → EReal) (s : ℕ) (p : Fin 128) : EReal :=
  if e : p.val < s then h ⟨(8 + p.val - s) % 8, Nat.mod_lt _ (by decide)⟩ else x ⟨p.val - s, by omega⟩

def silu (z : EReal) : EReal := z * Ideal.logistic z

variable (h : Vec Ideal S8x256 .f32) (x : Vec Ideal S128x256 .f32)
abbrev joined : FVec Ideal S136x256 .f32 := concatenate S136x256 0 [⟨S8x256, h⟩, ⟨S128x256, x⟩] concatenates_S8x256_S128x256_S136x256_d0

theorem joined_near (s : ℕ) (hs : s ≤ 8) (p : Fin 128) (q : Fin 256) (k : S136x256.Idx) (h0 : (k 0).val = 8 + p.val - s) (h1 : (k 1).val = q.val) :
    joined h x k = near (fun r => h (ix2 r q)) (fun r => x (ix2 r q)) s p := by
  unfold near
  split
  · refine concatenate_pair_apply_left (s₁ := S8x256) (s₂ := S128x256) _ _ _ _ k rfl _ (fun b => ?_)
    fin_cases b
    · show (8 + p.val - s) % 8 = (k 0).val; omega
    · exact h1.symm
  · refine concatenate_pair_apply_right (s₁ := S8x256) (s₂ := S128x256) _ _ _ _ k rfl rfl _ (fun b hb => ?_) ?_
    · fin_cases b
      · exact absurd rfl hb
      · exact h1.symm
    · show p.val - s + 8 = (k 0).val; omega

theorem turned (sb : BitVec 32) (s : ℕ) (e : sb.toNat = s) (hs : s ≤ 8) (p : Fin 128) (q : Fin 256) :
    extractStridedSlice S128x256 ![8, 0] (dynamicRotate 0 sb none (joined h x) rotates_S136x256_d0) slices_S136x256_o8_0_S128x256 (ix2 p q)
      = near (fun r => h (ix2 r q)) (fun r => x (ix2 r q)) s p := by
  refine (extractStridedSlice_apply ![8, 0] _ slices_S136x256_o8_0_S128x256 (ix2 p q) (ix2 (⟨8 + p.val, by omega⟩ : Fin 136) q) (fun a => ?_)).trans ?_
  · fin_cases a
    · rfl
    · show q.val = 0 + q.val; omega
  · refine (dynamicRotate_apply 0 sb (joined h x) _ _ (ix2 (⟨8 + p.val - s, by omega⟩ : Fin 136) q) (fun b => ?_)).trans (joined_near h x s hs p q _ rfl rfl)
    fin_cases b
    · show 8 + p.val - s = if (0 : Fin 2) = 0 then (8 + p.val + 136 - sb.toNat % 136) % 136 else 8 + p.val
      rw [if_pos rfl, e]; omega
    · rfl

theorem straight (p : Fin 128) (q : Fin 256) :
    extractStridedSlice S128x256 ![8, 0] (joined h x) slices_S136x256_o8_0_S128x256 (ix2 p q)
      = near (fun r => h (ix2 r q)) (fun r => x (ix2 r q)) 0 p := by
  refine (extractStridedSlice_apply ![8, 0] _ slices_S136x256_o8_0_S128x256 (ix2 p q) (ix2 (⟨8 + p.val, by omega⟩ : Fin 136) q) (fun a => ?_)).trans (joined_near h x 0 (by decide) p q _ rfl rfl)
  fin_cases a
  · rfl
  · show q.val = 0 + q.val; omega

theorem pay (v0 : Vec Ideal S4x256 .f32) (v1 : Vec Ideal S1x256 .f32) (k : Fin k0_t1_loop.trips) (v11 : Vec Ideal S8x256 .f32) (v15 : Vec Ideal S128x256 .f32)
    (y : Vec Ideal S8x256 .f32) (hy : (Scalar.select (Scalar.cmpi .sgt (Scf.iv 0#32 1#32 k) 0#32) v11 (broadcast S8x256 (Scalar.ofBits (F := Ideal) .f32 0x00000000#32)) : Vec Ideal S8x256 .f32) = y) (p : Fin 128) (q : Fin 256) :
    k0_pay1 (F := Ideal) v0 v1 k v11 v15 (ix2 p q) = silu ((v0 (ix2 0 q) : EReal) * near (fun r => y (ix2 r q)) (fun r => v15 (ix2 r q)) 3 p
      + v0 (ix2 1 q) * near (fun r => y (ix2 r q)) (fun r => v15 (ix2 r q)) 2 p + v0 (ix2 2 q) * near (fun r => y (ix2 r q)) (fun r => v15 (ix2 r q)) 1 p
      + v0 (ix2 3 q) * near (fun r => y (ix2 r q)) (fun r => v15 (ix2 r q)) 0 p + v1 (ix2 0 q)) := by
  unfold k0_pay1
  dsimp only
  rw [hy, ← turned y v15 3#32 3 rfl (by decide) p q, ← turned y v15 2#32 2 rfl (by decide) p q, ← turned y v15 1#32 1 rfl (by decide) p q, ← straight y v15 p q]
  generalize extractStridedSlice S128x256 ![8, 0] (dynamicRotate 0 3#32 none (joined y v15) rotates_S136x256_d0) slices_S136x256_o8_0_S128x256 = y3
  generalize extractStridedSlice S128x256 ![8, 0] (dynamicRotate 0 2#32 none (joined y v15) rotates_S136x256_d0) slices_S136x256_o8_0_S128x256 = y2
  generalize extractStridedSlice S128x256 ![8, 0] (dynamicRotate 0 1#32 none (joined y v15) rotates_S136x256_d0) slices_S136x256_o8_0_S128x256 = y1
  generalize extractStridedSlice S128x256 ![8, 0] (joined y v15) slices_S136x256_o8_0_S128x256 = y0
  unfold silu
  pointwise

theorem lead : ∀ k : Fin k0_t1_loop.trips, Scalar.cmpi .sgt (Scf.iv 0#32 1#32 k) 0#32 = if k.val = 0 then 0#1 else 1#1 := by decide +kernel
theorem off1 : ∀ k : Fin k0_t1_loop.trips, k0_off1 k = ![128 * k.val - 8, 0] := by decide +kernel

variable (𝒱 : Variants) (bd : Option 𝒱.V) (i : grid0.Coords) (a1 : Memref sig .tc .vmem S4224x256 .f32) (h1 : a1.IsWhole) (a2 : Memref sig .tc .vmem S4x256 .f32) (h2 : a2.IsWhole) (a3 : Memref sig .tc .vmem S1x256 .f32) (h3 : a3.IsWhole) (a4 : Memref sig .tc .vmem S4224x256 .f32) (h4 : a4.IsWhole)

theorem trip (v0 : Vec Ideal S4x256 .f32) (v1 : Vec Ideal S1x256 .f32) (X : BufTy.Contents (Elt Ideal) a1.view.ty) (k : Fin k0_t1_loop.trips) :
    tripL_k0_t1 (F := Ideal) 𝒱 c bd i a1 h1 a2 h2 a3 h3 a4 h4 v0 v1 X k
      = [⟨Rect.unit (s := S4224x256) (k0_off2 k) S128x256.size (k0_off2_inb k), k0_pay1 v0 v1 k
          (View.ld (a1.view.read (Elt Ideal) X) (Rect.unit (s := S4224x256) (k0_off1 k) S8x256.size (k0_off1_inb k)))
          (View.ld (a1.view.read (Elt Ideal) X) (Rect.unit (s := S4224x256) (k0_off2 k) S128x256.size (k0_off2_inb k)))⟩] := by
  unfold tripL_k0_t1 trip_k0_t1
  rfl

/-- The entry `s` rows back, nought before the first row. -/
def tap {N : ℕ} (f : Fin N → EReal) (s : ℕ) (r : Fin N) : EReal := if s ≤ r.val then f ⟨r.val - s, by omega⟩ else 0

/-- The convolution's line at a row, with its SiLU. -/
def line {N : ℕ} (w0 w1 w2 w3 b : EReal) (f : Fin N → EReal) (r : Fin N) : EReal :=
  silu (w0 * tap f 3 r + w1 * tap f 2 r + w2 * tap f 1 r + w3 * tap f 0 r + b)

theorem near_tap {h : Fin 8 → EReal} {x : Fin 128 → EReal} {f : Fin 4224 → EReal} {k : ℕ} (hk : k < 33)
    (hx : ∀ r : Fin 128, x r = f ⟨128 * k + r.val, by omega⟩)
    (hh : ∀ r : Fin 8, h r = if k = 0 then 0 else f ⟨128 * k - 8 + r.val, by omega⟩) (s : ℕ) (hs : s ≤ 8) (p : Fin 128) :
    near h x s p = tap f s ⟨128 * k + p.val, by omega⟩ := by
  unfold near tap
  by_cases e : p.val < s
  · rw [dif_pos e, hh]
    by_cases z : k = 0
    · rw [if_pos z, if_neg (by show ¬ s ≤ 128 * k + p.val; omega)]
    · rw [if_neg z, if_pos (by show s ≤ 128 * k + p.val; omega)]
      exact congrArg f (Fin.ext (by show 128 * k - 8 + (8 + p.val - s) % 8 = 128 * k + p.val - s; omega))
  · rw [dif_neg e, hx, if_pos (by show s ≤ 128 * k + p.val; omega)]
    exact congrArg f (Fin.ext (by show 128 * k + (p.val - s) = 128 * k + p.val - s; omega))

/-- A strip of the convolution. -/
def strip {N C : ℕ} (X : (⟨2, ![N, C]⟩ : Shape).Idx → EReal) (W : (⟨2, ![4, C]⟩ : Shape).Idx → EReal) (b : Fin C → EReal) (j : (⟨2, ![N, C]⟩ : Shape).Idx) : EReal :=
  line (W (ix2 0 (j 1))) (W (ix2 1 (j 1))) (W (ix2 2 (j 1))) (W (ix2 3 (j 1))) (b (j 1)) (fun r => X (ix2 r (j 1))) (j 0)

theorem piece (X : Vec Ideal S4224x256 .f32) (W : Vec Ideal S4x256 .f32) (B : Vec Ideal S1x256 .f32) (k : Fin k0_t1_loop.trips)
    (z : (Rect.unit (s := S4224x256) (k0_off2 k) S128x256.size (k0_off2_inb k)).shape.Idx) :
    k0_pay1 (F := Ideal) W B k (View.ld X (Rect.unit (s := S4224x256) (k0_off1 k) S8x256.size (k0_off1_inb k)))
          (View.ld X (Rect.unit (s := S4224x256) (k0_off2 k) S128x256.size (k0_off2_inb k))) z
      = strip X W (fun q => B (ix2 0 q)) ((Rect.unit (s := S4224x256) (k0_off2 k) S128x256.size (k0_off2_inb k)).emb z) := by
  have hk : k.val < 33 := Nat.lt_of_lt_of_le k.isLt k0_t1_abs.2.1
  obtain ⟨p, q, rfl⟩ : ∃ (p : Fin 128) (q : Fin 256), z = (ix2 p q : S128x256.Idx) := ⟨z 0, z 1, eta2 z⟩
  have he : (Rect.unit (s := S4224x256) (k0_off2 k) S128x256.size (k0_off2_inb k)).emb (ix2 p q : S128x256.Idx) = (ix2 (⟨128 * k.val + p.val, by omega⟩ : Fin 4224) q : S4224x256.Idx) := by
    refine ext2 ?_ ?_
    · show k0_off2 k 0 + 1 * p.val = 128 * k.val + p.val
      rw [k0_off2_eq k]; show 128 * k.val + 1 * p.val = _; omega
    · show k0_off2 k 1 + 1 * q.val = q.val
      rw [k0_off2_eq k]; show 0 + 1 * q.val = _; omega
  rw [he]
  refine (pay W B k _ _ _ rfl p q).trans ?_
  have hx : ∀ r : Fin 128, View.ld X (Rect.unit (s := S4224x256) (k0_off2 k) S128x256.size (k0_off2_inb k)) (ix2 r q : S128x256.Idx) = X (ix2 (⟨128 * k.val + r.val, by omega⟩ : Fin 4224) q) := fun r =>
    View.ld_unit_apply_of X _ _ _ _ _ fun a => by
      have e := congrFun (k0_off2_eq k) a
      refine Eq.trans ?_ (congrArg (· + _) e.symm)
      fin_cases a
      · rfl
      · exact (Nat.zero_add _).symm
  have hh : ∀ r : Fin 8, (Scalar.select (Scalar.cmpi .sgt (Scf.iv 0#32 1#32 k) 0#32) (View.ld X (Rect.unit (s := S4224x256) (k0_off1 k) S8x256.size (k0_off1_inb k))) (broadcast S8x256 (Scalar.ofBits (F := Ideal) .f32 0x00000000#32)) : Vec Ideal S8x256 .f32) (ix2 r q : S8x256.Idx)
      = if k.val = 0 then 0 else X (ix2 (⟨128 * k.val - 8 + r.val, by omega⟩ : Fin 4224) q) := fun r => by
    rw [lead k]
    by_cases z : k.val = 0
    · rw [if_pos z, if_pos z]
      exact Ideal.ofBits_zero_f32
    · rw [if_neg z, if_neg z]
      refine View.ld_unit_apply_of X _ _ _ _ _ fun a => ?_
      have e := congrFun (off1 k) a
      refine Eq.trans ?_ (congrArg (· + _) e.symm)
      fin_cases a
      · rfl
      · exact (Nat.zero_add _).symm
  have e := fun (s : ℕ) (hs : s ≤ 8) => near_tap (f := fun r => X (ix2 r q)) hk hx hh s hs p
  rw [e 3 (by decide), e 2 (by decide), e 1 (by decide), e 0 (by decide)]
  rfl

theorem pieces (v0 : Vec Ideal S4x256 .f32) (v1 : Vec Ideal S1x256 .f32) (X : BufTy.Contents (Elt Ideal) a1.view.ty) : ∀ (n : ℕ),
    ∀ pc ∈ pb_k0_t1 (F := Ideal) 𝒱 c bd i a1 h1 a2 h2 a3 h3 a4 h4 v0 v1 X n, ∃ k, pc ∈ tripL_k0_t1 (F := Ideal) 𝒱 c bd i a1 h1 a2 h2 a3 h3 a4 h4 v0 v1 X k
  | 0, pc, hp => absurd hp List.not_mem_nil
  | n + 1, pc, hp => by
    rw [pb_k0_t1.eq_2] at hp
    unfold pb_k0_t1Step at hp
    by_cases h : n < k0_t1_loop.trips
    · rw [dif_pos h] at hp
      rcases List.mem_append.mp hp with hp | hp
      · exact ⟨⟨n, h⟩, hp⟩
      · exact pieces v0 v1 X n pc hp
    · rw [dif_neg h] at hp
      exact pieces v0 v1 X n pc hp

theorem zero2 : (![0, 0] : Fin 2 → ℕ) = fun _ => 0 := by
  funext a; fin_cases a <;> rfl

theorem out (x0 : Vec Ideal S4224x256 .f32) (x1 : Vec Ideal S4x256 .f32) (x2 : Vec Ideal S1x256 .f32) (y : S4224x256.Idx) :
    out0_A_3 c i a1 h1 a2 h2 a3 h3 a4 h4 x0 x1 x2 y = strip x0 x1 (fun q => x2 (ix2 0 q)) y := by
  unfold out0_A_3
  rw [View.read_writes_eq_canon _ _ _ (cover0_A_3 c i a1 h1 a2 h2 a3 h3 a4 h4 x0 x1 x2)]
  refine View.canon_apply_of_pieces (strip x0 x1 (fun q => x2 (ix2 0 q))) _ (fun pc hp z => ?_) y (cover0_A_3 c i a1 h1 a2 h2 a3 h3 a4 h4 x0 x1 x2 y)
  unfold kernelRun0_A at hp
  dsimp only at hp
  obtain ⟨k, hk⟩ := pieces _ _ _ _ _ _ _ _ _ _ _ _ _ _ _ _ _ hp
  rw [trip, h1.read_unread] at hk
  obtain rfl := List.mem_singleton.mp hk
  simp only [View.readAt_eq_ld, h2.read_unread, h3.read_unread, View.ld_unit_zero (S := S4x256) zero2, View.ld_unit_zero (S := S1x256) zero2]
  exact piece x0 x1 x2 k z

theorem place : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val) ∧ t.val * 256 + 256 ≤ 2048 :=
  (by decide +kernel : ∀ t : Fin grid0.N, (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val) ∧ t.val * 256 + 256 ≤ 2048)
theorem points : ∀ p : Fin 8, ∃ t : Fin cfg0.N, t.val = p.val := (by decide +kernel : ∀ p : Fin 8, ∃ t : Fin grid0.N, t.val = p.val)
abbrev fit (t : Fin cfg0.N) : t.val * 256 + 256 ≤ 2048 := (place t).2.2.2.2

/-- The column, among all, of a strip's column. -/
abbrev wide (t : Fin cfg0.N) (q : Fin 256) : Fin 2048 := ⟨t.val * 256 + q.val, by have := fit t; omega⟩

abbrev col (k : Fin 2048) : S2048.Idx := fun a => match a with | ⟨0, _⟩ => k

theorem blk0 (t : Fin cfg0.N) (x : S4224x256.Idx) : (iblk m c 0 t : Vec Ideal S4224x256 .f32) x = m (c.tc.loc main_arg0) (ix2 (x 0) (wide t (x 1))) := by
  unfold iblk; rw [View.read_apply, ← V_main_arg0 m c]
  refine congrArg (V m c main_arg0) (ext2 ?_ ?_)
  · show win0_0.index t 0 * 4224 + 1 * (x 0).val = (x 0).val; rw [(place t).1.1]; omega
  · show win0_0.index t 1 * 256 + 1 * (x 1).val = t.val * 256 + (x 1).val; rw [(place t).1.2]; omega
theorem blk1 (t : Fin cfg0.N) (x : S4x256.Idx) : (iblk m c 1 t : Vec Ideal S4x256 .f32) x = m (c.tc.loc main_arg1) (ix2 (x 0) (wide t (x 1))) := by
  unfold iblk; rw [View.read_apply, ← V_main_arg1 m c]
  refine congrArg (V m c main_arg1) (ext2 ?_ ?_)
  · show win0_1.index t 0 * 4 + 1 * (x 0).val = (x 0).val; rw [(place t).2.1.1]; omega
  · show win0_1.index t 1 * 256 + 1 * (x 1).val = t.val * 256 + (x 1).val; rw [(place t).2.1.2]; omega

theorem laid (y : S2048.Idx → Elt Ideal .f32) (x : S1x2048.Idx) : shapeCast S1x2048 y shapeCasts_S2048_S1x2048 x = y (col (x 1)) :=
  shapeCast_apply y shapeCasts_S2048_S1x2048 x (col (x 1))
    (by rewrite [Shape.rowMajor_val_two, Shape.rowMajor_val_one]; have h0 : (x 0).val < 1 := (x 0).isLt; show (x 1).val = (x 0).val * 2048 + (x 1).val; omega)

theorem bias (x : S1x2048.Idx) : (V m c main_v0 : Vec Ideal S1x2048 .f32) x = m (c.tc.loc main_arg2) (col (x 1)) := by
  have e : V m c main_v0 = shapeCast S1x2048 (m (c.tc.loc main_arg2)) shapeCasts_S2048_S1x2048 := by
    unfold V; after_results; rfl
  rw [e]
  exact laid _ x

theorem blk2 (t : Fin cfg0.N) (x : S1x256.Idx) : (iblk m c 2 t : Vec Ideal S1x256 .f32) x = m (c.tc.loc main_arg2) (col (wide t (x 1))) := by
  refine Eq.trans ?_ (bias m c (ix2 (x 0) (wide t (x 1))))
  unfold iblk; rw [View.read_apply]
  refine congrArg (V m c main_v0) (ext2 ?_ ?_)
  · show win0_2.index t 0 * 1 + 1 * (x 0).val = (x 0).val; rw [(place t).2.2.1.1]; omega
  · show win0_2.index t 1 * 256 + 1 * (x 1).val = t.val * 256 + (x 1).val; rw [(place t).2.2.1.2]; omega

open Cert.Reference22Ideal.Read in
/-- The reference's padded array, read `s` rows back. -/
theorem padded (y : S4224x2048.Idx → Elt Ideal .f32) (s : ℕ) (hs : s ≤ 3) (r : Fin 4224) (q : Fin 2048) (k : Cert.Reference22Ideal.S4227x2048.Idx)
    (h0 : (k 0).val = 3 - s + r.val) (h1 : (k 1).val = q.val) : val_main_v1 (F := Ideal) y k = tap (fun r => y (ix2 r q)) s r := by
  unfold val_main_v1 tap
  by_cases e : s ≤ r.val
  · rw [if_pos e]
    refine concatenate_pair_apply_right (s₁ := Cert.Reference22Ideal.S3x2048) (s₂ := S4224x2048) _ _ _ _ k rfl rfl (ix2 (⟨r.val - s, by omega⟩ : Fin 4224) q) (fun b hb => ?_) ?_
    · fin_cases b
      · exact absurd rfl hb
      · exact h1.symm
    · show r.val - s + 3 = (k 0).val; omega
  · rw [if_neg e]
    refine (concatenate_pair_apply_left (s₁ := Cert.Reference22Ideal.S3x2048) (s₂ := S4224x2048) _ _ _ _ k rfl (ix2 (⟨(3 - s + r.val) % 3, Nat.mod_lt _ (by decide)⟩ : Fin 3) q) (fun b => ?_)).trans ?_
    · fin_cases b
      · show (3 - s + r.val) % 3 = (k 0).val; omega
      · exact h1.symm
    · rw [val_main_v0_apply, val_main_cst_apply]
      exact Ideal.ofBits_zero_f32

open Cert.Reference22Ideal.Read in
theorem sum (y0 : S4224x2048.Idx → Elt Ideal .f32) (y1 : S4x2048.Idx → Elt Ideal .f32) (y2 : S2048.Idx → Elt Ideal .f32) (i : S4224x2048.Idx) :
    val_main_v33 (F := Ideal) y0 y1 y2 i = y1 (ix2 0 (i 1)) * tap (fun r => y0 (ix2 r (i 1))) 3 (i 0) + y1 (ix2 1 (i 1)) * tap (fun r => y0 (ix2 r (i 1))) 2 (i 0)
      + y1 (ix2 2 (i 1)) * tap (fun r => y0 (ix2 r (i 1))) 1 (i 0) + y1 (ix2 3 (i 1)) * tap (fun r => y0 (ix2 r (i 1))) 0 (i 0) + y2 (col (i 1)) := by
  rw [val_main_v33_apply, val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply, val_main_v10_apply,
    val_main_v9_apply, val_main_v8_apply, val_main_cst_0_apply, val_main_v7_apply, val_main_v6_apply, val_main_v5_apply, val_main_v4_apply, val_main_v3_apply, val_main_v2_apply]
  have hq : (i 1).val % 2048 = (i 1).val := Nat.mod_eq_of_lt (i 1).isLt
  rw [padded y0 3 (by decide) (i 0) (i 1) (idx_main_v2 i) (by show (i 0).val = 3 - 3 + (i 0).val; omega) rfl,
    padded y0 2 (by decide) (i 0) (i 1) (idx_main_v10 i) rfl rfl, padded y0 1 (by decide) (i 0) (i 1) (idx_main_v17 i) rfl rfl,
    padded y0 0 (by decide) (i 0) (i 1) (idx_main_v24 i) rfl rfl]
  have e0 : idx_main_v3 (idx_main_v4 (idx_main_v5 (idx_main_v6 i))) = ix2 0 (i 1) := ext2 rfl hq
  have e1 : idx_main_v11 (idx_main_v12 (idx_main_v13 (idx_main_v14 i))) = ix2 1 (i 1) := ext2 rfl hq
  have e2 : idx_main_v18 (idx_main_v19 (idx_main_v20 (idx_main_v21 i))) = ix2 2 (i 1) := ext2 rfl hq
  have e3 : idx_main_v25 (idx_main_v26 (idx_main_v27 (idx_main_v28 i))) = ix2 3 (i 1) := ext2 rfl hq
  have e4 : idx_main_v31 (idx_main_v32 i) = col (i 1) := funext fun a => by fin_cases a; rfl
  rw [e0, e1, e2, e3, e4]
  have z : FloatOps.ofBits (F := Ideal) .f32 0x00000000#32 = (0 : EReal) := Ideal.ofBits_zero_f32
  rw [z]
  show (0 : EReal) + _ * _ + _ * _ + _ * _ + _ * _ + _ = _
  rw [zero_add, mul_comm (y1 (ix2 0 (i 1)) : EReal), mul_comm (y1 (ix2 1 (i 1)) : EReal), mul_comm (y1 (ix2 2 (i 1)) : EReal), mul_comm (y1 (ix2 3 (i 1)) : EReal)]
  rfl

open Cert.Reference22Ideal.Read in
theorem whole (y0 : S4224x2048.Idx → Elt Ideal .f32) (y1 : S4x2048.Idx → Elt Ideal .f32) (y2 : S2048.Idx → Elt Ideal .f32) (i : S4224x2048.Idx) :
    val_main_v34 (F := Ideal) y0 y1 y2 i = strip y0 y1 (fun q => y2 (col q)) i := by
  rw [val_main_v34_apply, val_main_call0_v5_apply, val_main_call0_v4_apply, val_main_call0_cst_0_apply, val_main_call0_v3_apply, val_main_call0_v2_apply,
    val_main_call0_cst_apply, val_main_call0_v1_apply, val_main_call0_v0_apply, sum]
  unfold strip line silu Ideal.logistic
  rw [← Ideal.ofBits_one_f32]
  rfl

/-- A strip of the convolution is the convolution of the strip. -/
theorem cut (t : Fin cfg0.N) (j : S4224x256.Idx) : strip (iblk m c 0 t : Vec Ideal S4224x256 .f32) (iblk m c 1 t : Vec Ideal S4x256 .f32) (fun q => (iblk m c 2 t : Vec Ideal S1x256 .f32) (ix2 0 q)) j
    = strip (m (c.tc.loc main_arg0)) (m (c.tc.loc main_arg1)) (fun q => m (c.tc.loc main_arg2) (col q)) (ix2 (j 0) (wide t (j 1)) : S4224x2048.Idx) := by
  have hb : (fun q => (iblk m c 2 t : Vec Ideal S1x256 .f32) (ix2 0 q)) = fun q => m (c.tc.loc main_arg2) (col (wide t q)) := funext fun q => blk2 m c t _
  rw [hb]
  unfold strip
  rw [blk1, blk1, blk1, blk1]
  have h : ∀ r : Fin 4224, (iblk m c 0 t : Vec Ideal S4224x256 .f32) (ix2 r (j 1)) = m (c.tc.loc main_arg0) (ix2 r (wide t (j 1))) := fun r => blk0 m c t _
  rw [funext h]
  rfl

theorem value : (Gen.dats m 0 c).arrAt 3 cfg0.N = Cert.Reference22Ideal.Read.val_main_v34 (F := Ideal) (m (c.tc.loc main_arg0))
    (m (c.tc.loc main_arg1)) (m (c.tc.loc main_arg2)) := by
  have he : ∀ (t : Fin cfg0.N) (j : S4224x256.Idx), ((cfg0.win 3).blk t).view.emb j = ix2 (j 0) (wide t (j 1)) := fun t j => by
    refine ext2 ?_ ?_
    · show win0_3.index t 0 * 4224 + 1 * (j 0).val = (j 0).val; rw [(place t).2.2.2.1.1]; omega
    · show win0_3.index t 1 * 256 + 1 * (j 1).val = t.val * 256 + (j 1).val; rw [(place t).2.2.2.1.2]; omega
  refine (Gen.dats m 0 c).arrAt_eq_of_cover 3 _ (fun t hf => ?_) (fun i => ?_)
  · rw [Value.flushed3_A]
    funext j
    rw [View.read_apply]
    show out0_A_3 _ _ _ _ _ _ _ _ _ _ _ _ _ j = _
    rw [out]
    exact (cut m c t j).trans (((congrArg _ (he t j)).trans (whole _ _ _ _)).symm)
  · have b1 : (i 1).val < 2048 := (i 1).isLt
    obtain ⟨t, ht⟩ := points ⟨(i 1).val / 256, by omega⟩
    refine ⟨t, flush0_3 t, ?_⟩
    have hx : i = ((cfg0.win 3).blk t).view.emb (ix2 (i 0) (⟨(i 1).val % 256, Nat.mod_lt _ (by decide)⟩ : Fin 256) : S4224x256.Idx) := by
      rw [he]
      refine ext2 rfl ?_
      show (i 1).val = t.val * 256 + (i 1).val % 256
      rw [ht]; show (i 1).val = (i 1).val / 256 * 256 + (i 1).val % 256; omega
    exact hx ▸ View.emb_mem_set _ _

/-- Kernel and reference return the same convolved rows. -/
theorem algebraic : @Cert.algebraic_Kernel22Ideal_Reference22Ideal Cert.Kernel22Ideal.Gen.facts Cert.Reference22Ideal.Gen.facts := by
  intro m ρ m' ρ' _ hagree
  refine ⟨_, Cert.Kernel22Ideal.Value.run_blocks m ρ, ?_⟩
  refine (θ_run _ _ _).mono (fun r h c => ?_) (Cert.Reference22Ideal.Value.run (F := Ideal) m' ρ')
  obtain ⟨h0, hk⟩ := h c
  obtain ⟨e0, e1, e2⟩ := hagree c
  refine ⟨h0.trans ?_, hk⟩
  rw [value m c]
  refine (Cert.Reference22Ideal.Read.val_main_v34_eq _ _).trans ?_
  rw [e0, e1, e2]

/-- The reference runs and keeps its arguments; it has no semaphores. -/
theorem frame_reference : @Cert.quiescent_Reference22Ideal Cert.Reference22Ideal.Gen.facts := fun m ρ _ =>
  (θ_run Cert.Reference22Ideal.defs _ _).mono (fun r h => ⟨fun c => (h c).2, sem_eq_zero_of_no_sems (by decide) r.2⟩)
    (Cert.Reference22Ideal.Value.run (F := Ideal) m ρ)

end Cert.Kernel22Ideal.Conv
end
end
-- ==== Proof.ConvPlain.lean ====
/-
  The causal convolution of four taps with its SiLU, forward, at half the width and without a bias: its blocks are those of
  the module before.
-/
module

public import proofs.«01_k».proof.Defs
public import proofs.«01_k».proof.Proof.ConvForward
public import proofs.«01_k».proof.Proof.Gen.Kernel28Ideal.Value
public import proofs.«01_k».proof.Proof.Gen.Reference28Ideal.Read
public import Idealize.ShloMosaic.Lib.Pointwise
public import Idealize.ShloMosaic.Lib.KernelVsHost
public import Idealize.ShloMosaic.Lib.Pipeline.Value
public import Idealize.ShloMosaic.Lib.Pipeline.ValueKit.Tiles
public import Idealize.ShloMosaic.Adequacy
public import Idealize.ShloMosaic.Init

@[expose] public section
noncomputable section
namespace Cert.Kernel28Ideal.Conv
open Cert.Kernel28Ideal Cert.Kernel28Ideal.Gen Idealize.ShloMosaic Idealize.ShloMosaic.TcCoe Idealize.SL.Sem
open Idealize.ShloMosaic.Pipeline (Dat)
open _root_.Mm
open Cert.Kernel22Ideal.Conv (strip line tap silu)

variable (m : (ℓ : Loc nD τ sig) → Buf (Elt Ideal) ℓ) (c : Dev nD)

variable (𝒱 : Variants) (bd : Option 𝒱.V) (i : grid0.Coords) (a1 : Memref sig .tc .vmem S4224x256 .f32) (h1 : a1.IsWhole) (a2 : Memref sig .tc .vmem S4x256 .f32) (h2 : a2.IsWhole) (a3 : Memref sig .tc .vmem S1x256 .f32) (h3 : a3.IsWhole) (a4 : Memref sig .tc .vmem S4224x256 .f32) (h4 : a4.IsWhole)

theorem trip (v0 : Vec Ideal S4x256 .f32) (v1 : Vec Ideal S1x256 .f32) (X : BufTy.Contents (Elt Ideal) a1.view.ty) (k : Fin k0_t1_loop.trips) :
    tripL_k0_t1 (F := Ideal) 𝒱 c bd i a1 h1 a2 h2 a3 h3 a4 h4 v0 v1 X k
      = [⟨Rect.unit (s := S4224x256) (k0_off2 k) S128x256.size (k0_off2_inb k), k0_pay1 v0 v1 k
          (View.ld (a1.view.read (Elt Ideal) X) (Rect.unit (s := S4224x256) (k0_off1 k) S8x256.size (k0_off1_inb k)))
          (View.ld (a1.view.read (Elt Ideal) X) (Rect.unit (s := S4224x256) (k0_off2 k) S128x256.size (k0_off2_inb k)))⟩] := by
  unfold tripL_k0_t1 trip_k0_t1
  rfl

theorem piece (X : Vec Ideal S4224x256 .f32) (W : Vec Ideal S4x256 .f32) (B : Vec Ideal S1x256 .f32) (k : Fin k0_t1_loop.trips)
    (z : (Rect.unit (s := S4224x256) (k0_off2 k) S128x256.size (k0_off2_inb k)).shape.Idx) :
    k0_pay1 (F := Ideal) W B k (View.ld X (Rect.unit (s := S4224x256) (k0_off1 k) S8x256.size (k0_off1_inb k)))
          (View.ld X (Rect.unit (s := S4224x256) (k0_off2 k) S128x256.size (k0_off2_inb k))) z
      = strip X W (fun q => B (ix2 0 q)) ((Rect.unit (s := S4224x256) (k0_off2 k) S128x256.size (k0_off2_inb k)).emb z) :=
  Cert.Kernel22Ideal.Conv.piece X W B k z

theorem pieces (v0 : Vec Ideal S4x256 .f32) (v1 : Vec Ideal S1x256 .f32) (X : BufTy.Contents (Elt Ideal) a1.view.ty) : ∀ (n : ℕ),
    ∀ pc ∈ pb_k0_t1 (F := Ideal) 𝒱 c bd i a1 h1 a2 h2 a3 h3 a4 h4 v0 v1 X n, ∃ k, pc ∈ tripL_k0_t1 (F := Ideal) 𝒱 c bd i a1 h1 a2 h2 a3 h3 a4 h4 v0 v1 X k
  | 0, pc, hp => absurd hp List.not_mem_nil
  | n + 1, pc, hp => by
    rw [pb_k0_t1.eq_2] at hp
    unfold pb_k0_t1Step at hp
    by_cases h : n < k0_t1_loop.trips
    · rw [dif_pos h] at hp
      rcases List.mem_append.mp hp with hp | hp
      · exact ⟨⟨n, h⟩, hp⟩
      · exact pieces v0 v1 X n pc hp
    · rw [dif_neg h] at hp
      exact pieces v0 v1 X n pc hp

theorem out (x0 : Vec Ideal S4224x256 .f32) (x1 : Vec Ideal S4x256 .f32) (x2 : Vec Ideal S1x256 .f32) (y : S4224x256.Idx) :
    out0_A_3 c i a1 h1 a2 h2 a3 h3 a4 h4 x0 x1 x2 y = strip x0 x1 (fun q => x2 (ix2 0 q)) y := by
  unfold out0_A_3
  rw [View.read_writes_eq_canon _ _ _ (cover0_A_3 c i a1 h1 a2 h2 a3 h3 a4 h4 x0 x1 x2)]
  refine View.canon_apply_of_pieces (strip x0 x1 (fun q => x2 (ix2 0 q))) _ (fun pc hp z => ?_) y (cover0_A_3 c i a1 h1 a2 h2 a3 h3 a4 h4 x0 x1 x2 y)
  unfold kernelRun0_A at hp
  dsimp only at hp
  obtain ⟨k, hk⟩ := pieces _ _ _ _ _ _ _ _ _ _ _ _ _ _ _ _ _ hp
  rw [trip, h1.read_unread] at hk
  obtain rfl := List.mem_singleton.mp hk
  simp only [View.readAt_eq_ld, h2.read_unread, h3.read_unread, View.ld_unit_zero (S := S4x256) zero2, View.ld_unit_zero (S := S1x256) zero2]
  exact piece x0 x1 x2 k z

theorem place : ∀ t : Fin cfg0.N, (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val) ∧ t.val * 256 + 256 ≤ 1024 :=
  (by decide +kernel : ∀ t : Fin grid0.N, (win0_0.index t 0 = 0 ∧ win0_0.index t 1 = t.val) ∧ (win0_1.index t 0 = 0 ∧ win0_1.index t 1 = t.val)
    ∧ (win0_2.index t 0 = 0 ∧ win0_2.index t 1 = t.val) ∧ (win0_3.index t 0 = 0 ∧ win0_3.index t 1 = t.val) ∧ t.val * 256 + 256 ≤ 1024)
theorem points : ∀ p : Fin 4, ∃ t : Fin cfg0.N, t.val = p.val := (by decide +kernel : ∀ p : Fin 4, ∃ t : Fin grid0.N, t.val = p.val)
abbrev fit (t : Fin cfg0.N) : t.val * 256 + 256 ≤ 1024 := (place t).2.2.2.2

/-- The column, among all, of a strip's column. -/
abbrev wide (t : Fin cfg0.N) (q : Fin 256) : Fin 1024 := ⟨t.val * 256 + q.val, by have := fit t; omega⟩

theorem blk0 (t : Fin cfg0.N) (x : S4224x256.Idx) : (iblk m c 0 t : Vec Ideal S4224x256 .f32) x = m (c.tc.loc main_arg0) (ix2 (x 0) (wide t (x 1))) := by
  unfold iblk; rw [View.read_apply, ← V_main_arg0 m c]
  refine congrArg (V m c main_arg0) (ext2 ?_ ?_)
  · show win0_0.index t 0 * 4224 + 1 * (x 0).val = (x 0).val; rw [(place t).1.1]; omega
  · show win0_0.index t 1 * 256 + 1 * (x 1).val = t.val * 256 + (x 1).val; rw [(place t).1.2]; omega
theorem blk1 (t : Fin cfg0.N) (x : S4x256.Idx) : (iblk m c 1 t : Vec Ideal S4x256 .f32) x = m (c.tc.loc main_arg1) (ix2 (x 0) (wide t (x 1))) := by
  unfold iblk; rw [View.read_apply, ← V_main_arg1 m c]
  refine congrArg (V m c main_arg1) (ext2 ?_ ?_)
  · show win0_1.index t 0 * 4 + 1 * (x 0).val = (x 0).val; rw [(place t).2.1.1]; omega
  · show win0_1.index t 1 * 256 + 1 * (x 1).val = t.val * 256 + (x 1).val; rw [(place t).2.1.2]; omega

/-- The bias is a row of zeros. -/
theorem bias (x : S1x1024.Idx) : (V m c main_v0 : Vec Ideal S1x1024 .f32) x = (0 : EReal) := by
  have e : V m c main_v0 = broadcastInDim S1x1024 ![] bcast_S_S1x1024 (constant (F := Ideal) S_ .f32 0x00000000#32) := by
    unfold V; after_results
  rw [e]
  exact Ideal.ofBits_zero_f32

theorem blk2 (t : Fin cfg0.N) (x : S1x256.Idx) : (iblk m c 2 t : Vec Ideal S1x256 .f32) x = (0 : EReal) := by
  unfold iblk; rw [View.read_apply]
  exact bias m c _

open Cert.Reference28Ideal.Read in
/-- The reference's padded array, read `s` rows back. -/
theorem padded (y : S4224x1024.Idx → Elt Ideal .f32) (s : ℕ) (hs : s ≤ 3) (r : Fin 4224) (q : Fin 1024) (k : Cert.Reference28Ideal.S4227x1024.Idx)
    (h0 : (k 0).val = 3 - s + r.val) (h1 : (k 1).val = q.val) : val_main_v1 (F := Ideal) y k = tap (fun r => y (ix2 r q)) s r := by
  unfold val_main_v1 tap
  by_cases e : s ≤ r.val
  · rw [if_pos e]
    refine concatenate_pair_apply_right (s₁ := Cert.Reference28Ideal.S3x1024) (s₂ := S4224x1024) _ _ _ _ k rfl rfl (ix2 (⟨r.val - s, by omega⟩ : Fin 4224) q) (fun b hb => ?_) ?_
    · fin_cases b
      · exact absurd rfl hb
      · exact h1.symm
    · show r.val - s + 3 = (k 0).val; omega
  · rw [if_neg e]
    refine (concatenate_pair_apply_left (s₁ := Cert.Reference28Ideal.S3x1024) (s₂ := S4224x1024) _ _ _ _ k rfl (ix2 (⟨(3 - s + r.val) % 3, Nat.mod_lt _ (by decide)⟩ : Fin 3) q) (fun b => ?_)).trans ?_
    · fin_cases b
      · show (3 - s + r.val) % 3 = (k 0).val; omega
      · exact h1.symm
    · rw [val_main_v0_apply, val_main_cst_apply]
      exact Ideal.ofBits_zero_f32

open Cert.Reference28Ideal.Read in
theorem sum (y0 : S4224x1024.Idx → Elt Ideal .f32) (y1 : S4x1024.Idx → Elt Ideal .f32) (i : S4224x1024.Idx) :
    val_main_v30 (F := Ideal) y0 y1 i = y1 (ix2 0 (i 1)) * tap (fun r => y0 (ix2 r (i 1))) 3 (i 0) + y1 (ix2 1 (i 1)) * tap (fun r => y0 (ix2 r (i 1))) 2 (i 0)
      + y1 (ix2 2 (i 1)) * tap (fun r => y0 (ix2 r (i 1))) 1 (i 0) + y1 (ix2 3 (i 1)) * tap (fun r => y0 (ix2 r (i 1))) 0 (i 0) := by
  rw [val_main_v30_apply, val_main_v29_apply, val_main_v28_apply, val_main_v27_apply, val_main_v26_apply,
    val_main_v25_apply, val_main_v24_apply, val_main_v23_apply, val_main_v22_apply, val_main_v21_apply, val_main_v20_apply, val_main_v19_apply, val_main_v18_apply,
    val_main_v17_apply, val_main_v16_apply, val_main_v15_apply, val_main_v14_apply, val_main_v13_apply, val_main_v12_apply, val_main_v11_apply, val_main_v10_apply,
    val_main_v9_apply, val_main_v8_apply, val_main_cst_0_apply, val_main_v7_apply, val_main_v6_apply, val_main_v5_apply, val_main_v4_apply, val_main_v3_apply, val_main_v2_apply]
  have hq : (i 1).val % 1024 = (i 1).val := Nat.mod_eq_of_lt (i 1).isLt
  rw [padded y0 3 (by decide) (i 0) (i 1) (idx_main_v2 i) (by show (i 0).val = 3 - 3 + (i 0).val; omega) rfl,
    padded y0 2 (by decide) (i 0) (i 1) (idx_main_v10 i) rfl rfl, padded y0 1 (by decide) (i 0) (i 1) (idx_main_v17 i) rfl rfl,
    padded y0 0 (by decide) (i 0) (i 1) (idx_main_v24 i) rfl rfl]
  have e0 : idx_main_v3 (idx_main_v4 (idx_main_v5 (idx_main_v6 i))) = ix2 0 (i 1) := ext2 rfl hq
  have e1 : idx_main_v11 (idx_main_v12 (idx_main_v13 (idx_main_v14 i))) = ix2 1 (i 1) := ext2 rfl hq
  have e2 : idx_main_v18 (idx_main_v19 (idx_main_v20 (idx_main_v21 i))) = ix2 2 (i 1) := ext2 rfl hq
  have e3 : idx_main_v25 (idx_main_v26 (idx_main_v27 (idx_main_v28 i))) = ix2 3 (i 1) := ext2 rfl hq
  rw [e0, e1, e2, e3]
  have z : FloatOps.ofBits (F := Ideal) .f32 0x00000000#32 = (0 : EReal) := Ideal.ofBits_zero_f32
  rw [z]
  show (0 : EReal) + _ * _ + _ * _ + _ * _ + _ * _ = _
  rw [zero_add, mul_comm (y1 (ix2 0 (i 1)) : EReal), mul_comm (y1 (ix2 1 (i 1)) : EReal), mul_comm (y1 (ix2 2 (i 1)) : EReal), mul_comm (y1 (ix2 3 (i 1)) : EReal)]
  rfl

open Cert.Reference28Ideal.Read in
theorem whole (y0 : S4224x1024.Idx → Elt Ideal .f32) (y1 : S4x1024.Idx → Elt Ideal .f32) (i : S4224x1024.Idx) :
    val_main_v31 (F := Ideal) y0 y1 i = strip y0 y1 (fun _ => 0) i := by
  rw [val_main_v31_apply, val_main_call0_v5_apply, val_main_call0_v4_apply, val_main_call0_cst_0_apply, val_main_call0_v3_apply, val_main_call0_v2_apply,
    val_main_call0_cst_apply, val_main_call0_v1_apply, val_main_call0_v0_apply, sum]
  unfold strip line silu
  rw [add_zero]
  unfold Ideal.logistic
  rw [← Ideal.ofBits_one_f32]
  rfl

/-- A strip of the convolution is the convolution of the strip. -/
theorem cut (t : Fin cfg0.N) (j : S4224x256.Idx) : strip (iblk m c 0 t : Vec Ideal S4224x256 .f32) (iblk m c 1 t : Vec Ideal S4x256 .f32) (fun q => (iblk m c 2 t : Vec Ideal S1x256 .f32) (ix2 0 q)) j
    = strip (m (c.tc.loc main_arg0)) (m (c.tc.loc main_arg1)) (fun _ => 0) (ix2 (j 0) (wide t (j 1)) : S4224x1024.Idx) := by
  have hb : (fun q : Fin 256 => ((iblk m c 2 t : Vec Ideal S1x256 .f32) (ix2 0 q) : EReal)) = fun _ => (0 : EReal) := funext fun q => blk2 m c t _
  rw [hb]
  unfold strip
  rw [blk1, blk1, blk1, blk1]
  have h : ∀ r : Fin 4224, (iblk m c 0 t : Vec Ideal S4224x256 .f32) (ix2 r (j 1)) = m (c.tc.loc main_arg0) (ix2 r (wide t (j 1))) := fun r => blk0 m c t _
  rw [funext h]
  rfl

theorem value : (Gen.dats m 0 c).arrAt 3 cfg0.N = Cert.Reference28Ideal.Read.val_main_v31 (F := Ideal) (m (c.tc.loc main_arg0))
    (m (c.tc.loc main_arg1)) := by
  have he : ∀ (t : Fin cfg0.N) (j : S4224x256.Idx), ((cfg0.win 3).blk t).view.emb j = ix2 (j 0) (wide t (j 1)) := fun t j => by
    refine ext2 ?_ ?_
    · show win0_3.index t 0 * 4224 + 1 * (j 0).val = (j 0).val; rw [(place t).2.2.2.1.1]; omega
    · show win0_3.index t 1 * 256 + 1 * (j 1).val = t.val * 256 + (j 1).val; rw [(place t).2.2.2.1.2]; omega
  refine (Gen.dats m 0 c).arrAt_eq_of_cover 3 _ (fun t hf => ?_) (fun i => ?_)
  · rw [Value.flushed3_A]
    funext j
    rw [View.read_apply]
    show out0_A_3 _ _ _ _ _ _ _ _ _ _ _ _ _ j = _
    rw [out]
    exact (cut m c t j).trans (((congrArg _ (he t j)).trans (whole _ _ _)).symm)
  · have b1 : (i 1).val < 1024 := (i 1).isLt
    obtain ⟨t, ht⟩ := points ⟨(i 1).val / 256, by omega⟩
    refine ⟨t, flush0_3 t, ?_⟩
    have hx : i = ((cfg0.win 3).blk t).view.emb (ix2 (i 0) (⟨(i 1).val % 256, Nat.mod_lt _ (by decide)⟩ : Fin 256) : S4224x256.Idx) := by
      rw [he]
      refine ext2 rfl ?_
      show (i 1).val = t.val * 256 + (i 1).val % 256
      rw [ht]; show (i 1).val = (i 1).val / 256 * 256 + (i 1).val % 256; omega
    exact hx ▸ View.emb_mem_set _ _

/-- Kernel and reference return the same convolved rows. -/
theorem algebraic : @Cert.algebraic_Kernel28Ideal_Reference28Ideal Cert.Kernel28Ideal.Gen.facts Cert.Reference28Ideal.Gen.facts := by
  intro m ρ m' ρ' _ hagree
  refine ⟨_, Cert.Kernel28Ideal.Value.run_blocks m ρ, ?_⟩
  refine (θ_run _ _ _).mono (fun r h c => ?_) (Cert.Reference28Ideal.Value.run (F := Ideal) m' ρ')
  obtain ⟨h0, hk⟩ := h c
  obtain ⟨e0, e1⟩ := hagree c
  refine ⟨h0.trans ?_, hk⟩
  rw [value m c]
  refine (Cert.Reference28Ideal.Read.val_main_v31_eq _ _).trans ?_
  rw [e0, e1]

/-- The reference runs and keeps its arguments; it has no semaphores. -/
theorem frame_reference : @Cert.quiescent_Reference28Ideal Cert.Reference28Ideal.Gen.facts := fun m ρ _ =>
  (θ_run Cert.Reference28Ideal.defs _ _).mono (fun r h => ⟨fun c => (h c).2, sem_eq_zero_of_no_sems (by decide) r.2⟩)
    (Cert.Reference28Ideal.Value.run (F := Ideal) m ρ)

end Cert.Kernel28Ideal.Conv
end
end
-- ==== Proof.Loss.lean ====
/-
  The loss with the final norm, and its gradients: the loss and the weights' gradient are added up block after block, the rows'
  gradient agrees entry by entry. The rows in front of the targets' first have no target and count for nothing.
-/
module

public import proofs.«01_k».proof.Defs
public import proofs.«01_k».proof.Proof.RmsRows
public import proofs.«01_k».proof.Proof.Relu2
public import proofs.«01_k».proof.Proof.Gen.Kernel23Ideal.Value
public import proofs.«01_k».proof.Proof.Gen.Reference23Ideal.Read
public import Idealize.ShloMosaic.Lib.KernelVsHost
public import Idealize.ShloMosaic.Lib.ValueIdxRank1
public import Idealize.ShloMosaic.Lib.Pointwise
public import Idealize.ShloMosaic.Adequacy
public import Idealize.ShloMosaic.Init

@[expose] public section
noncomputable section
namespace Cert.Kernel23Ideal.Mm
open Cert.Kernel23Ideal Cert.Kernel23Ideal.Gen Idealize.ShloMosaic Idealize.ShloMosaic.TcCoe Idealize.SL.Sem
open Idealize.ShloMosaic.Pipeline (Dat)
open _root_.Mm

variable (m : (ℓ : Loc nD τ sig) → Buf (Elt Ideal) ℓ) (c : Dev nD)

theorem place : ∀ t : Fin cfg0.N, (win0_0.index t 0 = t.val ∧ win0_0.index t 1 = 0) ∧ (win0_1.index t 0 = 0 ∧ win0_1.index t 1 = 0)
    ∧ (win0_2.index t 0 = t.val - 1 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) ∧ t.val * 128 + 128 ≤ 4224 :=
  (by decide +kernel : ∀ t : Fin grid0.N, (win0_0.index t 0 = t.val ∧ win0_0.index t 1 = 0) ∧ (win0_1.index t 0 = 0 ∧ win0_1.index t 1 = 0)
    ∧ (win0_2.index t 0 = t.val - 1 ∧ win0_2.index t 1 = 0) ∧ (win0_3.index t 0 = 0 ∧ win0_3.index t 1 = 0)
    ∧ (win0_4.index t 0 = t.val ∧ win0_4.index t 1 = 0) ∧ (win0_5.index t 0 = 0 ∧ win0_5.index t 1 = 0) ∧ t.val * 128 + 128 ≤ 4224)
theorem points : ∀ p : Fin 33, ∃ t : Fin cfg0.N, t.val = p.val := (by decide +kernel : ∀ p : Fin 33, ∃ t : Fin grid0.N, t.val = p.val)
theorem count : ∀ t : Fin cfg0.N, t.val < 33 := (by decide +kernel : ∀ t : Fin grid0.N, t.val < 33)
theorem live : ∀ t : Fin cfg0.N, (Scalar.extui (Scalar.cmpi .sgt (BitVec.ofNat 32 (grid0.coords t 0).val) 0#32) : BitVec 32) = if t.val = 0 then 0#32 else 1#32 :=
  (by decide +kernel : ∀ t : Fin grid0.N, (Scalar.extui (Scalar.cmpi .sgt (BitVec.ofNat 32 (grid0.coords t 0).val) 0#32) : BitVec 32) = if t.val = 0 then 0#32 else 1#32)
abbrev fit (t : Fin cfg0.N) : t.val * 128 + 128 ≤ 4224 := (place t).2.2.2.2.2.2
theorem back (t : Fin cfg0.N) : (t.val - 1) * 128 + 128 ≤ 4096 := by have := count t; omega

theorem blk0 (t : Fin cfg0.N) (x : S128x1024.Idx) : (iblk m c 0 t : Vec Ideal S128x1024 .f32) x = m (c.tc.loc main_arg0) (Rows.up 128 t.val (fit t) x) := by
  unfold iblk; rw [View.read_apply, ← V_main_arg0 m c]
  exact congrArg (V m c main_arg0) (Rows.eq_up rfl rfl (place t).1.1 (place t).1.2)

abbrev col (k : Fin 1024) : S1024.Idx := fun a => match a with | ⟨0, _⟩ => k

theorem weights (x : S1x1024.Idx) : (V m c main_v0 : Vec Ideal S1x1024 .f32) x = m (c.tc.loc main_arg1) (col (x 1)) := by
  have e : V m c main_v0 = shapeCast S1x1024 (m (c.tc.loc main_arg1)) shapeCasts_S1024_S1x1024 := by
    unfold V; after_results; rfl
  rw [e, eta2 x]
  generalize m (c.tc.loc main_arg1) = y
  pointwise
  exact congrArg y (funext fun a => by fin_cases a; rfl)

theorem blk1 (t : Fin cfg0.N) (x : S1x1024.Idx) : (iblk m c 1 t : Vec Ideal S1x1024 .f32) x = m (c.tc.loc main_arg1) (col (x 1)) := by
  rw [← weights m c x]
  unfold iblk; rw [View.read_apply]
  refine congrArg (V m c main_v0) (ext2 ?_ ?_)
  · show win0_1.index t 0 * 1 + 1 * (x 0).val = (x 0).val; rw [(place t).2.1.1]; omega
  · show win0_1.index t 1 * 1024 + 1 * (x 1).val = (x 1).val; rw [(place t).2.1.2]; omega

theorem blk2 (t : Fin cfg0.N) (x : S128x1024.Idx) : (iblk m c 2 t : Vec Ideal S128x1024 .f32) x = m (c.tc.loc main_arg2) (Rows.up 128 (t.val - 1) (back t) x) := by
  unfold iblk; rw [View.read_apply, ← V_main_arg2 m c]
  exact congrArg (V m c main_arg2) (Rows.eq_up rfl rfl (place t).2.2.1.1 (place t).2.2.1.2)

abbrev half : EReal := Ideal.ofBits .f32 0x3F000000#32
abbrev one : EReal := Ideal.ofBits .f32 0x3F800000#32
abbrev two : EReal := Ideal.ofBits .f32 0x40000000#32
abbrev wide : EReal := Ideal.ofBits .f32 0x44800000#32

theorem pay_miss (x0 : Vec Ideal S128x1024 .f32) (x1 : Vec Ideal S1x1024 .f32) (x2 : Vec Ideal S128x1024 .f32) (j : S128x1024.Idx) :
    k0_pay6 x2 x0 x1 j = Rms.scaled (N := 128) x0 (fun k => x1 (ix2 0 k)) j - x2 j := by
  rw [eta2 j]
  unfold Rms.scaled Rms.meanSq
  pointwise [k0_pay6, k0_pay5, k0_pay1, k0_pay3, k0_pay2]

theorem pay_rate (i : grid0.Coords) (j : S1x1.Idx) : k0_pay9 (F := Ideal) i j = k0_pay7 (F := Ideal) i * one := by
  rw [eta2 j]
  pointwise [k0_pay9]
  simp only [Fin.sum_univ_one]

theorem pay_cot (e : Vec Ideal S128x1024 .f32) (r : Vec Ideal S1x1 .f32) (j : S128x1024.Idx) :
    k0_pay10 (F := Ideal) e r j = (e j : EReal) * Ideal.div (r (ix2 0 0)) wide + Ideal.div (r (ix2 0 0)) wide * e j := by
  rw [eta2 j]
  pointwise [k0_pay10]
  simp only [Fin.sum_univ_one]

theorem pay_rows (x0 : Vec Ideal S128x1024 .f32) (x1 : Vec Ideal S1x1024 .f32) (e : Vec Ideal S128x1024 .f32) (r : Vec Ideal S1x1 .f32) (j : S128x1024.Idx) :
    k0_pay11 (F := Ideal) x0 (k0_pay1 x1) (k0_pay3 x0) (k0_pay4 x0) e r j = Rms.grad (N := 128) x0 (k0_pay10 (F := Ideal) e r) (fun k => x1 (ix2 0 k)) j := by
  rw [eta2 j]
  unfold Rms.grad Rms.slope Rms.meanSq
  pointwise [k0_pay11, k0_pay1, k0_pay4, k0_pay3, k0_pay2]
  simp only [Fin.sum_univ_one]

theorem pay_weights (x0 : Vec Ideal S128x1024 .f32) (e : Vec Ideal S128x1024 .f32) (r : Vec Ideal S1x1 .f32) (v : Vec Ideal S1x1024 .f32) (j : S1x1024.Idx) :
    k0_pay15 (F := Ideal) (k0_pay5 x0) e r v j = (v j : EReal) + ∑ p : Fin 128, Rms.share (N := 128) x0 (k0_pay10 (F := Ideal) e r) (j 1) p := by
  rw [eta2 j]
  unfold Rms.share Rms.meanSq
  pointwise [k0_pay15, k0_pay5, k0_pay3, k0_pay2]

theorem pay_loss (i : grid0.Coords) (x0 : Vec Ideal S128x1024 .f32) (x1 : Vec Ideal S1x1024 .f32) (x2 : Vec Ideal S128x1024 .f32) (j : S1x1.Idx) :
    k0_pay8 i x2 x0 x1 j = (k0_pay7 (F := Ideal) i : EReal) * ∑ p : Fin 128, Ideal.div (∑ k : Fin 1024, k0_pay6 x2 x0 x1 (ix2 p k) * k0_pay6 x2 x0 x1 (ix2 p k)) wide := by
  rw [eta2 j]
  pointwise [k0_pay8]

theorem pay_add (v w : Vec Ideal S1x1 .f32) (j : S1x1.Idx) : k0_pay14 v w j = (w j : EReal) + v j := by
  rw [eta2 j]
  pointwise [k0_pay14]

theorem pay_zero (j : S1x1.Idx) : k0_pay12 (F := Ideal) j = (0 : EReal) := by
  rw [eta2 j]
  pointwise [k0_pay12]

theorem pay_zeros (j : S1x1024.Idx) : k0_pay13 (F := Ideal) j = (0 : EReal) := by
  rw [eta2 j]
  pointwise [k0_pay13]

/-- The block before the first target counts for nothing, each other for one half. -/
theorem pay_live (t : Fin cfg0.N) : k0_pay7 (F := Ideal) (grid0.coords t) = (if t.val = 0 then 0 else half : EReal) := by
  unfold k0_pay7
  dsimp only
  rw [live t]
  by_cases h : t.val = 0
  · rw [if_pos h, if_pos h]
    show half * ((((0#32 : BitVec 32).toInt : ℝ)) : EReal) = 0
    simp
  · rw [if_neg h, if_neg h]
    show half * ((((1#32 : BitVec 32).toInt : ℝ)) : EReal) = half
    simp

/-- The first point starts the loss from zero. -/
theorem loss_first (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : cond0_0 i) (x0 : Vec Ideal S128x1024 .f32) (x1 : Vec Ideal S1x1024 .f32) (x2 : Vec Ideal S128x1024 .f32) :
    out0_A_3 c i a1 h1 a2 h2 a3 h3 a4 h4 a5 h5 a6 h6 hc0 x0 x1 x2 = k0_pay14 (k0_pay8 i x2 x0 x1) (k0_pay12 (F := Ideal)) := by
  unfold out0_A_3
  rw [View.read_writes_eq_canon _ _ _ (cover0_A_3 c i a1 h1 a2 h2 a3 h3 a4 h4 a5 h5 a6 h6 hc0 x0 x1 x2)]
  unfold kernelRun0_A
  dsimp only
  sl_unfold_words
  simp only [View.canon_unit_zero (S := S1x1) zero2, View.canon_cons_unit_zero (S := S1x1) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- Each other point adds to what the point before left. -/
theorem loss_next (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : ¬cond0_0 i) (x0 : Vec Ideal S128x1024 .f32) (x1 : Vec Ideal S1x1024 .f32) (x2 : Vec Ideal S128x1024 .f32) (xl : Vec Ideal S1x1 .f32) (xw : Vec Ideal S1x1024 .f32) :
    out0_B_3 c i a1 h1 a2 h2 a3 h3 a4 h4 a5 h5 a6 h6 hc0 x0 x1 x2 xl xw = k0_pay14 (k0_pay8 i x2 x0 x1) xl := by
  unfold out0_B_3
  rw [View.read_writes_eq_canon _ _ _ (cover0_B_3 c i a1 h1 a2 h2 a3 h3 a4 h4 a5 h5 a6 h6 hc0 x0 x1 x2 xl xw)]
  unfold kernelRun0_B
  dsimp only
  sl_unfold_words
  simp only [View.canon_unit_zero (S := S1x1) zero2, View.canon_cons_unit_zero (S := S1x1) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- The first point writes the gradient of its rows. -/
theorem rows_first (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : cond0_0 i) (x0 : Vec Ideal S128x1024 .f32) (x1 : Vec Ideal S1x1024 .f32) (x2 : Vec Ideal S128x1024 .f32) :
    out0_A_4 c i a1 h1 a2 h2 a3 h3 a4 h4 a5 h5 a6 h6 hc0 x0 x1 x2 = k0_pay11 x0 (k0_pay1 x1) (k0_pay3 x0) (k0_pay4 x0) (k0_pay6 x2 x0 x1) (k0_pay9 (F := Ideal) i) := by
  unfold out0_A_4
  rw [View.read_writes_eq_canon _ _ _ (cover0_A_4 c i a1 h1 a2 h2 a3 h3 a4 h4 a5 h5 a6 h6 hc0 x0 x1 x2)]
  unfold kernelRun0_A
  dsimp only
  sl_unfold_words
  simp only [View.canon_unit_zero (S := S128x1024) zero2, View.canon_cons_unit_zero (S := S128x1024) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- So does each other point. -/
theorem rows_next (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : ¬cond0_0 i) (x0 : Vec Ideal S128x1024 .f32) (x1 : Vec Ideal S1x1024 .f32) (x2 : Vec Ideal S128x1024 .f32) (xl : Vec Ideal S1x1 .f32) (xw : Vec Ideal S1x1024 .f32) :
    out0_B_4 c i a1 h1 a2 h2 a3 h3 a4 h4 a5 h5 a6 h6 hc0 x0 x1 x2 xl xw = k0_pay11 x0 (k0_pay1 x1) (k0_pay3 x0) (k0_pay4 x0) (k0_pay6 x2 x0 x1) (k0_pay9 (F := Ideal) i) := by
  unfold out0_B_4
  rw [View.read_writes_eq_canon _ _ _ (cover0_B_4 c i a1 h1 a2 h2 a3 h3 a4 h4 a5 h5 a6 h6 hc0 x0 x1 x2 xl xw)]
  unfold kernelRun0_B
  dsimp only
  sl_unfold_words
  simp only [View.canon_unit_zero (S := S128x1024) zero2, View.canon_cons_unit_zero (S := S128x1024) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- The first point starts the weights' gradient from zero. -/
theorem weights_first (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : cond0_0 i) (x0 : Vec Ideal S128x1024 .f32) (x1 : Vec Ideal S1x1024 .f32) (x2 : Vec Ideal S128x1024 .f32) :
    out0_A_5 c i a1 h1 a2 h2 a3 h3 a4 h4 a5 h5 a6 h6 hc0 x0 x1 x2 = k0_pay15 (k0_pay5 x0) (k0_pay6 x2 x0 x1) (k0_pay9 (F := Ideal) i) (k0_pay13 (F := Ideal)) := by
  unfold out0_A_5
  rw [View.read_writes_eq_canon _ _ _ (cover0_A_5 c i a1 h1 a2 h2 a3 h3 a4 h4 a5 h5 a6 h6 hc0 x0 x1 x2)]
  unfold kernelRun0_A
  dsimp only
  sl_unfold_words
  simp only [View.canon_unit_zero (S := S1x1024) zero2, View.canon_cons_unit_zero (S := S1x1024) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- Each other point adds to what the point before left. -/
theorem weights_next (c : Dev nD) (i : grid0.Coords) (a1 : Memref sig .tc .vmem S128x1024 .f32) (h1 : a1.IsWhole) (a2 : Memref sig .tc .vmem S1x1024 .f32) (h2 : a2.IsWhole) (a3 : Memref sig .tc .vmem S128x1024 .f32) (h3 : a3.IsWhole) (a4 : Memref sig .tc .vmem S1x1 .f32) (h4 : a4.IsWhole) (a5 : Memref sig .tc .vmem S128x1024 .f32) (h5 : a5.IsWhole) (a6 : Memref sig .tc .vmem S1x1024 .f32) (h6 : a6.IsWhole) (hc0 : ¬cond0_0 i) (x0 : Vec Ideal S128x1024 .f32) (x1 : Vec Ideal S1x1024 .f32) (x2 : Vec Ideal S128x1024 .f32) (xl : Vec Ideal S1x1 .f32) (xw : Vec Ideal S1x1024 .f32) :
    out0_B_5 c i a1 h1 a2 h2 a3 h3 a4 h4 a5 h5 a6 h6 hc0 x0 x1 x2 xl xw = k0_pay15 (k0_pay5 x0) (k0_pay6 x2 x0 x1) (k0_pay9 (F := Ideal) i) xw := by
  unfold out0_B_5
  rw [View.read_writes_eq_canon _ _ _ (cover0_B_5 c i a1 h1 a2 h2 a3 h3 a4 h4 a5 h5 a6 h6 hc0 x0 x1 x2 xl xw)]
  unfold kernelRun0_B
  dsimp only
  sl_unfold_words
  simp only [View.canon_unit_zero (S := S1x1024) zero2, View.canon_cons_unit_zero (S := S1x1024) zero2, View.readCov_cons_toLoadRect, View.readCov_unit_zero (S := S1x1024) _ zero2, View.readCov_unit_zero (S := S1x1) _ zero2, View.readAt_eq_ld, h1.read_unread, h2.read_unread, h3.read_unread, h4.read_unread, h6.read_unread, View.ld_unit_zero (S := S128x1024) zero2, View.ld_unit_zero (S := S1x1024) zero2, View.ld_unit_zero (S := S1x1) zero2]

/-- How far row `i` past the first 128 is from its target. -/
def miss (y0 : S4224x1024.Idx → EReal) (y1 : S1024.Idx → EReal) (y2 : S4096x1024.Idx → EReal) (i : S4096x1024.Idx) : EReal :=
  Rms.scaled (N := 4224) y0 (fun k => y1 (col k)) (ix2 ⟨128 + (i 0).val, by have h0 : (i 0).val < 4096 := (i 0).isLt; omega⟩ (i 1)) - y2 i

/-- What each row adds to the loss. -/
def cost (y0 : S4224x1024.Idx → EReal) (y1 : S1024.Idx → EReal) (y2 : S4096x1024.Idx → EReal) (p : Fin 4096) : EReal :=
  Ideal.div (∑ k : Fin 1024, miss y0 y1 y2 (ix2 p k) * miss y0 y1 y2 (ix2 p k)) wide

/-- The slope of the loss along the normalised rows: nought for the rows that have no target. -/
def cot (y0 : S4224x1024.Idx → EReal) (y1 : S1024.Idx → EReal) (y2 : S4096x1024.Idx → EReal) (i : S4224x1024.Idx) : EReal :=
  if h : (i 0).val < 128 then 0
  else Ideal.div (half * one) wide * (two * miss y0 y1 y2 (ix2 ⟨(i 0).val - 128, by have h0 : (i 0).val < 4224 := (i 0).isLt; omega⟩ (i 1)))

/-- What each row adds, the rows without a target among them. -/
def term (y0 : S4224x1024.Idx → EReal) (y1 : S1024.Idx → EReal) (y2 : S4096x1024.Idx → EReal) (r : Fin 4224) : EReal :=
  if h : r.val < 128 then 0 else half * cost y0 y1 y2 ⟨r.val - 128, by omega⟩

theorem twice (x y : EReal) : x * y + y * x = y * (two * x) := by
  have e : two = 1 + 1 := Relu2.two.trans (by rw [← EReal.coe_one, ← EReal.coe_add]; norm_num)
  rw [e, mul_left_comm, EReal.right_distrib_of_nonneg (by norm_num) (by norm_num), one_mul, mul_comm x y]

theorem wide_eq : wide = ((1024 : ℝ) : EReal) := by
  simp [Ideal.ofBits, Ideal.ieee, -EReal.coe_mul]; norm_num

theorem still : Ideal.div (0 * one) wide = 0 := by
  have h : wide ≠ 0 := by rw [wide_eq]; norm_num
  unfold Ideal.div
  rw [if_neg h, zero_mul, zero_mul]

theorem half_sum {n : ℕ} (f : Fin n → EReal) : half * ∑ p, f p = ∑ p, half * f p := by
  have h0 : 0 ≤ half := (EReal.coe_nonneg.mpr (by norm_num)).trans_eq Relu2.half.symm
  have h1 : half ≠ ⊤ := Relu2.half.trans_ne (EReal.coe_ne_top _)
  have key : ∀ s : Finset (Fin n), half * ∑ p ∈ s, f p = ∑ p ∈ s, half * f p := fun s => by
    induction s using Finset.induction_on with
    | empty => simp
    | insert a s ha ih => rw [Finset.sum_insert ha, Finset.sum_insert ha, EReal.left_distrib_of_nonneg_of_ne_top h0 h1, ih]
  exact key _

/-- The kernel's distances are the array's, one block of targets back. -/
theorem miss_band (t : Fin cfg0.N) (h : t.val ≠ 0) (j : S128x1024.Idx) :
    (k0_pay6 (iblk m c 2 t) (iblk m c 0 t) (iblk m c 1 t) j : EReal)
      = miss (m (c.tc.loc main_arg0)) (m (c.tc.loc main_arg1)) (m (c.tc.loc main_arg2)) (Rows.up 128 (t.val - 1) (back t) j) := by
  rw [pay_miss, blk2, Rms.scaled_up (fit t) (blk0 m c t) (fun k => blk1 m c t (ix2 0 k))]
  unfold miss
  congr 2
  refine ext2 ?_ rfl
  show t.val * 128 + (j 0).val = 128 + ((t.val - 1) * 128 + (j 0).val)
  omega

theorem cot_band (t : Fin cfg0.N) (j : S128x1024.Idx) :
    (k0_pay10 (F := Ideal) (k0_pay6 (iblk m c 2 t) (iblk m c 0 t) (iblk m c 1 t)) (k0_pay9 (F := Ideal) (grid0.coords t)) j : EReal)
      = cot (m (c.tc.loc main_arg0)) (m (c.tc.loc main_arg1)) (m (c.tc.loc main_arg2)) (Rows.up 128 t.val (fit t) j) := by
  have hj : (j 0).val < 128 := (j 0).isLt
  rw [pay_cot, pay_rate, pay_live]
  unfold cot
  by_cases h : t.val = 0
  · rw [if_pos h, still, dif_pos (by show t.val * 128 + (j 0).val < 128; omega), mul_zero, zero_mul, add_zero]
  · rw [if_neg h, dif_neg (by show ¬ t.val * 128 + (j 0).val < 128; omega), twice, miss_band m c t h]
    congr 3
    refine ext2 ?_ rfl
    show (t.val - 1) * 128 + (j 0).val = t.val * 128 + (j 0).val - 128
    omega

theorem loss_band (t : Fin cfg0.N) (j : S1x1.Idx) :
    (k0_pay8 (grid0.coords t) (iblk m c 2 t) (iblk m c 0 t) (iblk m c 1 t) j : EReal)
      = ∑ p : Fin 128, term (m (c.tc.loc main_arg0)) (m (c.tc.loc main_arg1)) (m (c.tc.loc main_arg2)) ⟨t.val * 128 + p.val, by have := fit t; omega⟩ := by
  rw [pay_loss, pay_live]
  by_cases h : t.val = 0
  · rw [if_pos h, zero_mul]
    refine (Finset.sum_eq_zero fun p _ => ?_).symm
    unfold term
    rw [dif_pos (by show t.val * 128 + p.val < 128; omega)]
  · rw [if_neg h, half_sum]
    refine Finset.sum_congr rfl fun p _ => ?_
    unfold term cost
    rw [dif_neg (by show ¬ t.val * 128 + p.val < 128; omega)]
    congr 2
    refine Finset.sum_congr rfl fun k _ => ?_
    rw [miss_band m c t h]
    have e : Rows.up 128 (t.val - 1) (back t) (ix2 p k) = ix2 ⟨t.val * 128 + p.val - 128, by have := fit t; omega⟩ k :=
      ext2 (by show (t.val - 1) * 128 + p.val = t.val * 128 + p.val - 128; omega) rfl
    rw [e]

/-- The rows without a target add nothing. -/
theorem term_sum (y0 : S4224x1024.Idx → EReal) (y1 : S1024.Idx → EReal) (y2 : S4096x1024.Idx → EReal) :
    ∑ r, term y0 y1 y2 r = half * ∑ p, cost y0 y1 y2 p := by
  rw [half_sum]
  refine (Fin.sum_univ_add (a := 128) (b := 4096) (term y0 y1 y2)).trans ?_
  have e : ∑ i : Fin 128, term y0 y1 y2 (Fin.castAdd 4096 i) = 0 := Finset.sum_eq_zero fun p _ => by
    unfold term
    exact dif_pos p.isLt
  rw [e, zero_add]
  refine Finset.sum_congr rfl fun p _ => ?_
  unfold term
  rw [dif_neg (by show ¬ 128 + p.val < 128; omega)]
  congr 2
  exact Fin.ext (by show 128 + p.val - 128 = p.val; omega)

theorem left (t : Fin cfg0.N) : (outsAt0 m c t.val t.isLt).2.1 = k0_pay11 (iblk m c 0 t) (k0_pay1 (iblk m c 1 t)) (k0_pay3 (iblk m c 0 t)) (k0_pay4 (iblk m c 0 t))
    (k0_pay6 (iblk m c 2 t) (iblk m c 0 t) (iblk m c 1 t)) (k0_pay9 (F := Ideal) (grid0.coords t)) := by
  by_cases h0 : t.val % 33 = 0
  · have h := congrArg (fun z => z.2.1) (outsAt0_A m c t h0)
    dsimp only at h
    rw [rows_first] at h
    exact h
  · have h := congrArg (fun z => z.2.1) (outsAt0_B m c t h0)
    dsimp only at h
    rw [rows_next] at h
    exact h

theorem before {n k : ℕ} (hn : n < cfg0.N) (hk : k < cfg0.N) (e : n = k) : outsAt0 m c n hn = outsAt0 m c k hk := by
  subst e; rfl

/-- What each row adds to the loss of these arguments. -/
def part : Fin 4224 → EReal := term (m (c.tc.loc main_arg0)) (m (c.tc.loc main_arg1)) (m (c.tc.loc main_arg2))

/-- What each row adds to the gradient of weight `q`. -/
def share (q : Fin 1024) : Fin 4224 → EReal :=
  Rms.share (N := 4224) (m (c.tc.loc main_arg0)) (cot (m (c.tc.loc main_arg0)) (m (c.tc.loc main_arg1)) (m (c.tc.loc main_arg2))) q

theorem share_band (t : Fin cfg0.N) (q : Fin 1024) (p : Fin 128) :
    Rms.share (N := 128) (iblk m c 0 t) (k0_pay10 (F := Ideal) (k0_pay6 (iblk m c 2 t) (iblk m c 0 t) (iblk m c 1 t)) (k0_pay9 (F := Ideal) (grid0.coords t))) q p
      = share m c q ⟨t.val * 128 + p.val, by have := fit t; omega⟩ :=
  Rms.share_up (fit t) (blk0 m c t) (cot_band m c t) q p

/-- After point `n` the loss is the sum over the rows up to its block's last. -/
theorem added_loss : ∀ (n : ℕ) (hn : n < cfg0.N) (j : S1x1.Idx), (outsAt0 m c n hn).1 j = Rms.upto (part m c) (n * 128 + 128)
  | 0, hn, j => by
    have h := congrArg Prod.fst (outsAt0_A m c ⟨0, hn⟩ rfl)
    rw [loss_first] at h
    dsimp only at h
    rw [h, pay_add, pay_zero, loss_band m c ⟨0, hn⟩, ← Rms.upto_next (fit ⟨0, hn⟩) (part m c) _ (fun p => rfl)]
    rfl
  | n + 1, hn, j => by
    have hc := count ⟨n + 1, hn⟩
    have h := congrArg Prod.fst (outsAt0_B m c ⟨n + 1, hn⟩ (by dsimp only at hc ⊢; omega))
    rw [loss_next] at h
    dsimp only at h
    rw [h, pay_add, loss_band m c ⟨n + 1, hn⟩, ← Rms.upto_next (fit ⟨n + 1, hn⟩) (part m c) _ (fun p => rfl),
      before m c _ (Nat.lt_of_succ_lt hn) (Nat.add_sub_cancel n 1), added_loss n (Nat.lt_of_succ_lt hn) j]
    congr 2
    show n * 128 + 128 = (n + 1) * 128
    omega

/-- After point `n` the weights' gradient is the sum over the rows up to its block's last. -/
theorem added : ∀ (n : ℕ) (hn : n < cfg0.N) (j : S1x1024.Idx), (outsAt0 m c n hn).2.2 j = Rms.upto (share m c (j 1)) (n * 128 + 128)
  | 0, hn, j => by
    have h := congrArg (fun z => z.2.2) (outsAt0_A m c ⟨0, hn⟩ rfl)
    dsimp only at h
    rw [weights_first] at h
    rw [h, pay_weights, pay_zeros, ← Rms.upto_next (fit ⟨0, hn⟩) (share m c (j 1)) _ (share_band m c ⟨0, hn⟩ (j 1))]
    rfl
  | n + 1, hn, j => by
    have hc := count ⟨n + 1, hn⟩
    have h := congrArg (fun z => z.2.2) (outsAt0_B m c ⟨n + 1, hn⟩ (by dsimp only at hc ⊢; omega))
    dsimp only at h
    rw [weights_next] at h
    rw [h, pay_weights, ← Rms.upto_next (fit ⟨n + 1, hn⟩) (share m c (j 1)) _ (share_band m c ⟨n + 1, hn⟩ (j 1)),
      before m c _ (Nat.lt_of_succ_lt hn) (Nat.add_sub_cancel n 1), added n (Nat.lt_of_succ_lt hn) j]
    congr 2
    show n * 128 + 128 = (n + 1) * 128
    omega

open Cert.Reference23Ideal.Read in
theorem ms_line (y0 : S4224x1024.Idx → Elt Ideal .f32) (p : Reference23Ideal.S4224x1.Idx) : val_main_v6 (F := Ideal) y0 p = Rms.meanSq (N := 4224) y0 (p 0) := by
  rw [val_main_v6_apply, val_main_v5_apply, val_main_v4_apply, val_main_v3_apply, val_main_v2_apply, val_main_v1_apply, val_main_cst_apply, Ideal.ofBits_def, Ideal.ofBits_zero_f32, zero_add]
  unfold Rms.meanSq
  simp only [val_main_v0_apply, val_main_cst_0_apply, val_main_cst_1_apply]
  have e : ∀ k, idx_main_v1 (idx_main_v2 p) k = ix2 (p 0) k := fun k => ext2 rfl rfl
  simp only [e]
  rfl

open Cert.Reference23Ideal.Read in
theorem miss_line (y0 : S4224x1024.Idx → Elt Ideal .f32) (y1 : S1024.Idx → Elt Ideal .f32) (y2 : S4096x1024.Idx → Elt Ideal .f32) (i : S4096x1024.Idx) :
    val_main_v17 (F := Ideal) y0 y1 y2 i = miss y0 y1 y2 i := by
  rw [val_main_v17_apply, val_main_v16_apply, val_main_v15_apply, val_main_v14_apply, val_main_v13_apply, val_main_v12_apply, val_main_v11_apply, val_main_v7_apply, ms_line]
  unfold miss Rms.scaled
  have e : idx_main_v16 i = ix2 ⟨128 + (i 0).val, by have h0 : (i 0).val < 4096 := (i 0).isLt; omega⟩ (i 1) := ext2 rfl rfl
  rw [e]
  rfl

open Cert.Reference23Ideal.Read in
theorem cost_line (y0 : S4224x1024.Idx → Elt Ideal .f32) (y1 : S1024.Idx → Elt Ideal .f32) (y2 : S4096x1024.Idx → Elt Ideal .f32) (p : Reference23Ideal.S4096.Idx) :
    val_main_v23 (F := Ideal) y0 y1 y2 p = cost y0 y1 y2 (p 0) := by
  rw [val_main_v23_apply, val_main_v22_apply, val_main_cst_5_apply, val_main_v21_apply, val_main_cst_4_apply, Ideal.ofBits_def, Ideal.ofBits_zero_f32, zero_add]
  unfold cost
  have s : ∀ k, val_main_v18 (F := Ideal) y0 y1 y2 (idx_main_v21 p k) = (miss y0 y1 y2 (ix2 (p 0) k) : EReal) * miss y0 y1 y2 (ix2 (p 0) k) := fun k => by
    have e : idx_main_v21 p k = ix2 (p 0) k := ext2 rfl rfl
    rw [val_main_v18_apply, miss_line, e]
    rfl
  rw [Finset.sum_congr rfl fun k _ => s k]
  rfl

open Cert.Reference23Ideal.Read in
theorem loss_line (y0 : S4224x1024.Idx → Elt Ideal .f32) (y1 : S1024.Idx → Elt Ideal .f32) (y2 : S4096x1024.Idx → Elt Ideal .f32) (i : S1x1.Idx) :
    val_main_v53 (F := Ideal) y0 y1 y2 i = half * ∑ p, cost y0 y1 y2 p := by
  have e : ∀ i, val_main_v25 (F := Ideal) y0 y1 y2 i = half * ∑ p, cost y0 y1 y2 p := fun i => by
    rw [val_main_v25_apply, val_main_cst_7_apply, val_main_v24_apply, val_main_cst_6_apply, Ideal.ofBits_def, Ideal.ofBits_def, Ideal.ofBits_zero_f32, zero_add]
    have s : ∑ p : Reference23Ideal.S4096.Idx, val_main_v23 (F := Ideal) y0 y1 y2 p = ∑ p, cost y0 y1 y2 p :=
      (Finset.sum_congr rfl fun p _ => cost_line y0 y1 y2 p).trans (Equiv.sum_comp (ValueIdx.idxEquiv1 (n := 4096)) (cost y0 y1 y2))
    rw [s]
    rfl
  unfold val_main_v53 shapeCast
  exact e _

open Cert.Reference23Ideal.Read in
theorem pull_line (y0 : S4224x1024.Idx → Elt Ideal .f32) (y1 : S1024.Idx → Elt Ideal .f32) (y2 : S4096x1024.Idx → Elt Ideal .f32) (i : S4096x1024.Idx) :
    val_main_v31 (F := Ideal) y0 y1 y2 i = Ideal.div (half * one) wide * (two * miss y0 y1 y2 i) := by
  rw [val_main_v31_apply, val_main_v30_apply, val_main_v29_apply, val_main_v28_apply, val_main_cst_10_apply, val_main_v27_apply, val_main_v26_apply, val_main_cst_8_apply, val_main_cst_9_apply,
    val_main_v20_apply, val_main_v19_apply, val_main_cst_3_apply, miss_line]
  rfl

open Cert.Reference23Ideal.Read in
theorem cot_line (y0 : S4224x1024.Idx → Elt Ideal .f32) (y1 : S1024.Idx → Elt Ideal .f32) (y2 : S4096x1024.Idx → Elt Ideal .f32) (i : S4224x1024.Idx) :
    val_main_v32 (F := Ideal) y0 y1 y2 i = cot y0 y1 y2 i := by
  have h0 : (i 0).val < 4224 := (i 0).isLt
  unfold cot val_main_v32
  by_cases h : (i 0).val < 128
  · rw [dif_pos h, pad_apply_of_not_inside _ _ _ _ _ _ _ _ 0 (fun hin => by have := hin.1; change 128 ≤ (i 0).val at this; omega)]
    rw [val_main_cst_11_apply, Ideal.ofBits_def, Ideal.ofBits_zero_f32]
  · rw [dif_neg h]
    refine (pad_apply_of_inside _ _ _ _ _ _ _ _ (ix2 (⟨(i 0).val - 128, by omega⟩ : Fin 4096) (i 1 : Fin 1024)) (fun a => ?_)).trans ?_
    · fin_cases a
      · show (i 0).val = 128 + ((i 0).val - 128) * 1
        omega
      · show (i 1).val = 0 + (i 1).val * 1
        omega
    · exact pull_line y0 y1 y2 _

open Cert.Reference23Ideal.Read in
theorem weighted (y0 : S4224x1024.Idx → Elt Ideal .f32) (y1 : S1024.Idx → Elt Ideal .f32) (y2 : S4096x1024.Idx → Elt Ideal .f32) (i : S4224x1024.Idx) :
    val_main_v37 (F := Ideal) y0 y1 y2 i = cot y0 y1 y2 i * y1 (col (i 1)) := by
  rw [val_main_v37_apply, val_main_v36_apply, val_main_v13_apply, cot_line]
  rfl

open Cert.Reference23Ideal.Read in
theorem slope_line (y0 : S4224x1024.Idx → Elt Ideal .f32) (y1 : S1024.Idx → Elt Ideal .f32) (y2 : S4096x1024.Idx → Elt Ideal .f32) (i : S4224x1024.Idx) :
    val_main_v48 (F := Ideal) y0 y1 y2 i = Rms.slope (N := 4224) y0 (cot y0 y1 y2) (fun k => y1 (col k)) (i 0) := by
  rw [val_main_v48_apply, val_main_v47_apply, val_main_cst_16_apply, Ideal.ofBits_def, Ideal.ofBits_zero_f32, zero_add, Fin.sum_univ_one,
    val_main_v46_apply, val_main_v45_apply, val_main_cst_15_apply, val_main_v44_apply, val_main_v41_apply, val_main_v40_apply, val_main_cst_14_apply,
    Ideal.ofBits_def, Ideal.ofBits_zero_f32, zero_add, val_main_v10_apply, val_main_v9_apply, val_main_cst_2_apply, val_main_v8_apply, val_main_v7_apply, ms_line]
  unfold Rms.slope
  have e : ∀ k, idx_main_v40 (idx_main_v41 (idx_main_v47 (idx_main_v48 i) 0)) k = ix2 (i 0) k := fun k => ext2 (by show (i 0).val * 1 + 0 = (i 0).val; omega) rfl
  have s : ∀ k, val_main_v39 (F := Ideal) y0 y1 y2 (idx_main_v40 (idx_main_v41 (idx_main_v47 (idx_main_v48 i) 0)) k) = (y0 (ix2 (i 0) k) : EReal) * (cot y0 y1 y2 (ix2 (i 0) k) * y1 (col k)) := fun k => by
    rw [val_main_v39_apply, weighted, e]
    rfl
  rw [Finset.sum_congr rfl fun k _ => s k]
  rfl

open Cert.Reference23Ideal.Read in
theorem line_rows (y0 : S4224x1024.Idx → Elt Ideal .f32) (y1 : S1024.Idx → Elt Ideal .f32) (y2 : S4096x1024.Idx → Elt Ideal .f32) (i : S4224x1024.Idx) :
    val_main_v52 (F := Ideal) y0 y1 y2 i = Rms.grad (N := 4224) y0 (cot y0 y1 y2) (fun k => y1 (col k)) i := by
  rw [val_main_v52_apply, val_main_v51_apply, val_main_v50_apply, val_main_v49_apply, val_main_v43_apply, val_main_v42_apply, val_main_v7_apply, ms_line, weighted, slope_line]
  unfold Rms.grad
  rfl

open Cert.Reference23Ideal.Read in
theorem line_weights (y0 : S4224x1024.Idx → Elt Ideal .f32) (y1 : S1024.Idx → Elt Ideal .f32) (y2 : S4096x1024.Idx → Elt Ideal .f32) (i : S1x1024.Idx) :
    val_main_v54 (F := Ideal) y0 y1 y2 i = ∑ p : Fin 4224, Rms.share (N := 4224) y0 (cot y0 y1 y2) (i 1) p := by
  have z : (i 0).val = 0 := by have := (i 0).isLt; change (i 0).val < 1 at this; omega
  rw [val_main_v54_apply, val_main_v38_apply, val_main_cst_13_apply, Ideal.ofBits_def, Ideal.ofBits_zero_f32, zero_add, Fin.sum_univ_one,
    val_main_v35_apply, val_main_v34_apply, val_main_cst_12_apply, Ideal.ofBits_def, Ideal.ofBits_zero_f32, zero_add]
  refine Finset.sum_congr rfl fun p _ => ?_
  have e : idx_main_v34 (idx_main_v35 (idx_main_v38 (idx_main_v54 i) 0)) p = ix2 p (i 1) :=
    ext2 rfl (by show 0 * 1024 + ((i 0).val * 1024 + (i 1).val) = (i 1).val; omega)
  rw [val_main_v33_apply, val_main_v12_apply, val_main_v11_apply, val_main_v7_apply, ms_line, cot_line, e]
  unfold Rms.share
  rfl

theorem value_loss : (Gen.dats m 0 c).arrAt 3 cfg0.N = Cert.Reference23Ideal.Read.val_main_v53 (F := Ideal) (m (c.tc.loc main_arg0)) (m (c.tc.loc main_arg1)) (m (c.tc.loc main_arg2)) := by
  have he : ∀ (t : Fin cfg0.N) (j : S1x1.Idx), ((cfg0.win 3).blk t).view.emb j = j := fun t j => by
    refine ext2 ?_ ?_
    · show win0_3.index t 0 * 1 + 1 * (j 0).val = (j 0).val; rw [(place t).2.2.2.1.1]; omega
    · show win0_3.index t 1 * 1 + 1 * (j 1).val = (j 1).val; rw [(place t).2.2.2.1.2]; omega
  refine (Gen.dats m 0 c).arrAt_eq_of_cover 3 _ (fun t hf => ?_) (fun i => ?_)
  · have ht : t.val = 32 := by have := (flush0_3 t).mp hf; have := count t; omega
    rw [Value.flushed3]
    funext j
    rw [View.read_apply, he t j, loss_line, ← term_sum]
    have h := added_loss m c t.val t.isLt j
    have h' := (h.trans (congrArg (Rms.upto (part m c)) (by omega : t.val * 128 + 128 = 4224))).trans (Rms.upto_all (part m c))
    generalize (outsAt0 m c t.val t.isLt).1 = y at h' ⊢
    exact h'
  · obtain ⟨t, ht⟩ := points 32
    refine ⟨t, (flush0_3 t).mpr (by rw [ht]; rfl), ?_⟩
    have hx : i = ((cfg0.win 3).blk t).view.emb i := (he t i).symm
    exact hx ▸ View.emb_mem_set _ _

theorem value_rows : (Gen.dats m 0 c).arrAt 4 cfg0.N = Cert.Reference23Ideal.Read.val_main_v52 (F := Ideal) (m (c.tc.loc main_arg0)) (m (c.tc.loc main_arg1)) (m (c.tc.loc main_arg2)) := by
  have he : ∀ (t : Fin cfg0.N) (j : S128x1024.Idx), ((cfg0.win 4).blk t).view.emb j = Rows.up 128 t.val (fit t) j := fun t j =>
    Rows.eq_up rfl rfl (place t).2.2.2.2.1.1 (place t).2.2.2.2.1.2
  refine (Gen.dats m 0 c).arrAt_eq_of_cover 4 _ (fun t hf => ?_) (fun i => ?_)
  · rw [Value.flushed4, left]
    funext j
    rw [View.read_apply]
    show k0_pay11 (F := Ideal) _ _ _ _ _ _ j = _
    rw [pay_rows, he t j, line_rows, Rms.grad_up (fit t) (blk0 m c t) (cot_band m c t) (fun k => blk1 m c t (ix2 0 k))]
    rfl
  · have b0 : (i 0).val < 4224 := (i 0).isLt
    obtain ⟨t, ht⟩ := points ⟨(i 0).val / 128, by omega⟩
    obtain ⟨j, hj⟩ := Rows.split (R := 128) (by decide) (fit t) i ht
    refine ⟨t, flush0_4 t, ?_⟩
    have hx : i = ((cfg0.win 4).blk t).view.emb j := by rw [he]; exact hj
    exact hx ▸ View.emb_mem_set _ _

theorem value_weights : (Gen.dats m 0 c).arrAt 5 cfg0.N = Cert.Reference23Ideal.Read.val_main_v54 (F := Ideal) (m (c.tc.loc main_arg0)) (m (c.tc.loc main_arg1)) (m (c.tc.loc main_arg2)) := by
  have he : ∀ (t : Fin cfg0.N) (j : S1x1024.Idx), ((cfg0.win 5).blk t).view.emb j = j := fun t j => by
    refine ext2 ?_ ?_
    · show win0_5.index t 0 * 1 + 1 * (j 0).val = (j 0).val; rw [(place t).2.2.2.2.2.1.1]; omega
    · show win0_5.index t 1 * 1024 + 1 * (j 1).val = (j 1).val; rw [(place t).2.2.2.2.2.1.2]; omega
  refine (Gen.dats m 0 c).arrAt_eq_of_cover 5 _ (fun t hf => ?_) (fun i => ?_)
  · have ht : t.val = 32 := by have := (flush0_5 t).mp hf; have := count t; omega
    rw [Value.flushed5]
    funext j
    rw [View.read_apply, he t j, line_weights]
    have h := added m c t.val t.isLt j
    have h' := (h.trans (congrArg (Rms.upto (share m c (j 1))) (by omega : t.val * 128 + 128 = 4224))).trans (Rms.upto_all (share m c (j 1)))
    generalize (outsAt0 m c t.val t.isLt).2.2 = y at h' ⊢
    exact h'
  · obtain ⟨t, ht⟩ := points 32
    refine ⟨t, (flush0_5 t).mpr (by rw [ht]; rfl), ?_⟩
    have hx : i = ((cfg0.win 5).blk t).view.emb i := (he t i).symm
    exact hx ▸ View.emb_mem_set _ _

/-- Kernel and reference return the same loss and the same gradients. -/
theorem algebraic : @Cert.algebraic_Kernel23Ideal_Reference23Ideal Cert.Kernel23Ideal.Gen.facts Cert.Reference23Ideal.Gen.facts := by
  intro m ρ m' ρ' _ hagree
  refine ⟨_, _, _, Cert.Kernel23Ideal.Value.run_blocks m ρ, ?_⟩
  refine (θ_run _ _ _).mono (fun r h c => ?_) (Cert.Reference23Ideal.Value.run (F := Ideal) m' ρ')
  obtain ⟨h0, h1, h2, hk⟩ := h c
  obtain ⟨e0, e1, e2⟩ := hagree c
  refine ⟨h0.trans ?_, h1.trans ?_, h2.trans ?_, hk⟩
  · rw [value_loss m c]
    refine (Cert.Reference23Ideal.Read.val_main_v53_eq _ _ _).trans ?_
    rw [e0, e1, e2]
  · rw [value_rows m c]
    refine (Cert.Reference23Ideal.Read.val_main_v52_eq _ _).trans ?_
    rw [e0, e1, e2]
  · rw [value_weights m c]
    refine (Cert.Reference23Ideal.Read.val_main_v54_eq _ _ _).trans ?_
    rw [e0, e1, e2]

/-- The reference runs and keeps its arguments; it has no semaphores. -/
theorem frame_reference : @Cert.quiescent_Reference23Ideal Cert.Reference23Ideal.Gen.facts := fun m ρ _ =>
  (θ_run Cert.Reference23Ideal.defs _ _).mono (fun r h => ⟨fun c => (h c).2.2.2, sem_eq_zero_of_no_sems (by decide) r.2⟩)
    (Cert.Reference23Ideal.Value.run (F := Ideal) m ρ)

end Cert.Kernel23Ideal.Mm
end
end
-- ==== Proof.Adam.lean ====
/-
  The optimiser's step over the two slabs of a layered weight, entry by entry: the gradient's parts are added up, the two
  moments move towards the gradient and its square, and the weight's change follows from them. A band of rows of the slabs
  is stepped like the whole slabs.
-/
module

public import proofs.«01_k».proof.Proof.Rows
public import Idealize.ShloMosaic.Lib.KernelVsHost
public import Idealize.ShloMosaic.Lib.Pipeline.Value
public import Idealize.ShloMosaic.Lib.Pipeline.ValueKit.Tiles

@[expose] public section
noncomputable section
namespace Adam
open Idealize.ShloMosaic

abbrev Box (n r c : ℕ) : Shape := ⟨3, ![n, r, c]⟩

variable {n R N C : ℕ}

theorem ext3 {x y : (Box n R C).Idx} (h0 : (x 0).val = (y 0).val) (h1 : (x 1).val = (y 1).val) (h2 : (x 2).val = (y 2).val) : x = y := by
  funext i; fin_cases i
  · exact Fin.ext h0
  · exact Fin.ext h1
  · exact Fin.ext h2

theorem eta3 (x : (Box n R C).Idx) : x = ix3 (x 0) (x 1) (x 2) := ext3 rfl rfl rfl

/-- The one slab of a box of one slab. -/
theorem one (x : (Box 1 R C).Idx) : x = ix3 (0 : Fin 1) (x 1) (x 2) :=
  ext3 (by have := (x 0).isLt; change (x 0).val < 1 at this; show (x 0).val = 0; omega) rfl rfl

/-- Row `p` of the band of `R` rows that starts at row `t * R`. -/
def row (R t : ℕ) (h : t * R + R ≤ N) (p : Fin R) : Fin N := ⟨t * R + p.val, by omega⟩

/-- The index, in slabs of `N` rows, of an index of the band of `R` rows that starts at row `t * R`. -/
def up (R t : ℕ) (h : t * R + R ≤ N) (j : (Box n R C).Idx) : (Box n N C).Idx := ix3 (j 0) (row R t h (j 1)) (j 2)

/-- The place of the band number `t`. -/
abbrev Lies (f : Fin 3 → ℕ) (t : ℕ) : Prop := f 0 = 0 ∧ f 1 = t ∧ f 2 = 0

theorem eq_up {t : ℕ} {h : t * R + R ≤ N} {j : (Box n R C).Idx} {x : (Box n N C).Idx} {f : Fin 3 → ℕ} (hf : Lies f t)
    (e0 : (x 0).val = f 0 * n + 1 * (j 0).val) (e1 : (x 1).val = f 1 * R + 1 * (j 1).val) (e2 : (x 2).val = f 2 * C + 1 * (j 2).val) :
    x = up R t h j := by
  obtain ⟨h0, h1, h2⟩ := hf
  rw [h0] at e0
  rw [h1] at e1
  rw [h2] at e2
  refine ext3 (e0.trans ?_) (e1.trans ?_) (e2.trans ?_)
  · show _ = (j 0).val; omega
  · show _ = t * R + (j 1).val; omega
  · show _ = (j 2).val; omega

/-- Each index lies in the band of its row. -/
theorem split {t : ℕ} (hR : 0 < R) (h : t * R + R ≤ N) (i : (Box n N C).Idx) (ht : t = (i 1).val / R) :
    ∃ j : (Box n R C).Idx, i = up R t h j := by
  subst ht
  exact ⟨ix3 (i 0) ⟨(i 1).val % R, Nat.mod_lt _ hR⟩ (i 2), ext3 rfl (Nat.div_add_mod' _ _).symm rfl⟩

/-- A slab's gradient: the device's own part, and the three parts from the other chips. -/
def sum4 (o : Fin R → Fin C → EReal) (a : (Box 3 R C).Idx → EReal) (p : Fin R) (q : Fin C) : EReal :=
  o p q + a (ix3 0 p q) + a (ix3 1 p q) + a (ix3 2 p q)

/-- The two slabs' gradients. -/
def grad (o : Fin R → Fin C → EReal) (a : (Box 3 R C).Idx → EReal) (o' : Fin R → Fin C → EReal) (a' : (Box 3 R C).Idx → EReal) :
    (Box 2 R C).Idx → EReal :=
  fun i => if (i 0).val = 0 then sum4 o a (i 1) (i 2) else sum4 o' a' (i 1) (i 2)

/-- An entry's first moment, from the old one and the gradient. -/
def first (m g : EReal) : EReal := Ideal.ofBits .f32 0x3F666666#32 * m + Ideal.ofBits .f32 0x3DCCCCCD#32 * g

/-- An entry's second moment, from the old one and the gradient. -/
def second (v g : EReal) : EReal := Ideal.ofBits .f32 0x3F7FBE77#32 * v + Ideal.ofBits .f32 0x3A83126F#32 * (g * g)

/-- An entry's change, from the weight and its two new moments. -/
def change (w m v : EReal) : EReal :=
  Ideal.ofBits .f32 0xBA83126F#32 * (Ideal.div (Ideal.div m (Ideal.ofBits .f32 0x3F26BD02#32))
    (Ideal.sqrt (Ideal.div v (Ideal.ofBits .f32 0x3C231ACC#32)) + Ideal.ofBits .f32 0x322BCC77#32) + Ideal.ofBits .f32 0x3C23D70A#32 * w)

theorem sum4_up {t : ℕ} (h : t * R + R ≤ N) {b : Fin R → Fin C → EReal} {o : Fin N → Fin C → EReal}
    {x : (Box 3 R C).Idx → EReal} {a : (Box 3 N C).Idx → EReal} (hb : ∀ p q, b p q = o (row R t h p) q) (hx : ∀ j, x j = a (up R t h j))
    (p : Fin R) (q : Fin C) : sum4 b x p q = sum4 o a (row R t h p) q := by
  unfold sum4
  rw [hb, hx, hx, hx]
  rfl

theorem grad_up {t : ℕ} (h : t * R + R ≤ N) {b b' : Fin R → Fin C → EReal} {o o' : Fin N → Fin C → EReal}
    {x x' : (Box 3 R C).Idx → EReal} {a a' : (Box 3 N C).Idx → EReal} (hb : ∀ p q, b p q = o (row R t h p) q) (hx : ∀ j, x j = a (up R t h j))
    (hb' : ∀ p q, b' p q = o' (row R t h p) q) (hx' : ∀ j, x' j = a' (up R t h j)) (j : (Box 2 R C).Idx) :
    grad b x b' x' j = grad o a o' a' (up R t h j) := by
  unfold grad
  exact if_congr Iff.rfl (sum4_up h hb hx _ _) (sum4_up h hb' hx' _ _)

/-- Own part and the sum of the other parts, as the sum of the four. -/
theorem parts (o : EReal) (a : Fin 3 → EReal) : o + (0 + ∑ k : Fin 3, a k) = o + a 0 + a 1 + a 2 := by
  rw [zero_add, Fin.sum_univ_three, ← add_assoc, ← add_assoc]

/-- A slab loaded from a box. -/
theorem slab {e : EltTy} (X : (Box n R C).Idx → Elt Ideal e) (o : ℕ) (ho : o < n) (inb : ∀ a, (![o, 0, 0] : Fin 3 → ℕ) a + (![1, R, C] : Fin 3 → ℕ) a ≤ (Box n R C).size a)
    (p : Fin R) (q : Fin C) : View.ld X (Rect.unit (s := Box n R C) ![o, 0, 0] ![1, R, C] inb) (ix3 (0 : Fin 1) p q) = X (ix3 ⟨o, ho⟩ p q) :=
  View.ld_unit_apply_of X _ _ _ _ _ fun a => by
    fin_cases a
    · rfl
    · exact (Nat.zero_add _).symm
    · exact (Nat.zero_add _).symm

/-- Two slabs stored one after the other are the box they agree with. -/
theorem two (G : (Box 2 R C).Idx → EReal) (P P' : (Box 1 R C).Idx → EReal)
    (inb : ∀ a, (![0, 0, 0] : Fin 3 → ℕ) a + (![1, R, C] : Fin 3 → ℕ) a ≤ (Box 2 R C).size a)
    (inb' : ∀ a, (![1, 0, 0] : Fin 3 → ℕ) a + (![1, R, C] : Fin 3 → ℕ) a ≤ (Box 2 R C).size a)
    (h : ∀ p q, P (ix3 (0 : Fin 1) p q) = G (ix3 0 p q)) (h' : ∀ p q, P' (ix3 (0 : Fin 1) p q) = G (ix3 1 p q)) (y : (Box 2 R C).Idx)
    (hy : ∃ pc ∈ ([⟨Rect.unit (s := Box 2 R C) ![1, 0, 0] ![1, R, C] inb', P'⟩, ⟨Rect.unit (s := Box 2 R C) ![0, 0, 0] ![1, R, C] inb, P⟩] :
      List (View.Piece (Elt Ideal) (Box 2 R C) .f32)), y ∈ pc.1.set) :
    View.canon ([⟨Rect.unit (s := Box 2 R C) ![1, 0, 0] ![1, R, C] inb', P'⟩, ⟨Rect.unit (s := Box 2 R C) ![0, 0, 0] ![1, R, C] inb, P⟩] :
      List (View.Piece (Elt Ideal) (Box 2 R C) .f32)) y = G y := by
  refine View.canon_apply_of_pieces G _ (fun pc hp => ?_) y hy
  rcases List.mem_cons.mp hp with rfl | hp
  · intro x
    refine (congrArg P' (one (R := R) (C := C) x)).trans ((h' _ _).trans (congrArg G (ext3 ?_ ?_ ?_)))
    · have : (x 0).val < 1 := (x 0).isLt
      show 1 = 1 + 1 * (x 0).val; omega
    · show (x 1).val = 0 + 1 * (x 1).val; omega
    · show (x 2).val = 0 + 1 * (x 2).val; omega
  · obtain rfl := List.mem_singleton.mp hp
    intro x
    refine (congrArg P (one (R := R) (C := C) x)).trans ((h _ _).trans (congrArg G (ext3 ?_ ?_ ?_)))
    · have : (x 0).val < 1 := (x 0).isLt
      show 0 = 0 + 1 * (x 0).val; omega
    · show (x 1).val = 0 + 1 * (x 1).val; omega
    · show (x 2).val = 0 + 1 * (x 2).val; omega

/-- Two slabs set one after the other, each a slab's gradient, are the two slabs' gradients. -/
theorem stacked {o o' : Fin R → Fin C → EReal} {a a' : (Box 3 R C).Idx → EReal} {x x' : (Box 1 R C).Idx → EReal}
    (h : ∀ p q, x (ix3 (0 : Fin 1) p q) = sum4 o a p q) (h' : ∀ p q, x' (ix3 (0 : Fin 1) p q) = sum4 o' a' p q)
    (H : Shape.Concatenates [Box 1 R C, Box 1 R C] (Box 2 R C) 0) (i : (Box 2 R C).Idx) :
    concatenate (Box 2 R C) 0 [⟨Box 1 R C, x⟩, ⟨Box 1 R C, x'⟩] H i = grad o a o' a' i := by
  unfold grad
  by_cases z : (i 0).val = 0
  · rw [if_pos z]
    refine (concatenate_pair_apply_left (s₁ := Box 1 R C) (s₂ := Box 1 R C) _ _ _ _ i rfl (ix3 (0 : Fin 1) (i 1) (i 2)) (fun b => ?_)).trans (h (i 1) (i 2))
    fin_cases b
    · exact z.symm
    · rfl
    · rfl
  · rw [if_neg z]
    refine (concatenate_pair_apply_right (s₁ := Box 1 R C) (s₂ := Box 1 R C) _ _ _ _ i rfl rfl (ix3 (0 : Fin 1) (i 1) (i 2)) (fun b hb => ?_) ?_).trans (h' (i 1) (i 2))
    · fin_cases b
      · exact absurd rfl hb
      · rfl
      · rfl
    · have := (i 0).isLt; change (i 0).val < 2 at this; show 0 + 1 = (i 0).val; omega

end Adam
end
end
-- ==== Proof.AdamInput.lean ====
/-
  The optimiser's step on the mixers' joint input projection, in bands of rows.
-/
module

public import proofs.«01_k».proof.Defs
public import proofs.«01_k».proof.Proof.Adam
public import proofs.«01_k».proof.Proof.Gen.Kernel24Ideal.Value
public import proofs.«01_k».proof.Proof.Gen.Reference24Ideal.Read
public import Idealize.ShloMosaic.Lib.Pointwise
public import Idealize.ShloMosaic.Adequacy
public import Idealize.ShloMosaic.Init

@[expose] public section
noncomputable section
namespace Cert.Kernel24Ideal.Adam
open Cert.Kernel24Ideal Cert.Kernel24Ideal.Gen Idealize.ShloMosaic Idealize.ShloMosaic.TcCoe Idealize.SL.Sem
open Idealize.ShloMosaic.Pipeline (Dat)
open _root_.Adam

/-! ## The band that a point of the grid works on -/

section
variable (m : (ℓ : Loc nD τ sig) → Buf (Elt Ideal) ℓ) (c : Dev nD)

theorem place : ∀ t : Fin cfg0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 128 + 128 ≤ 1024 :=
  (by decide +kernel : ∀ t : Fin grid0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 128 + 128 ≤ 1024)
theorem points : ∀ p : Fin 8, ∃ t : Fin cfg0.N, t.val = p.val := (by decide +kernel : ∀ p : Fin 8, ∃ t : Fin grid0.N, t.val = p.val)
abbrev fit (t : Fin cfg0.N) : t.val * 128 + 128 ≤ 1024 := (place t).2.2.2.2.2.2.2.2.2.2.2

theorem found (i : S2x1024x1536.Idx) : ∃ (t : Fin cfg0.N) (j : S2x128x1536.Idx), i = up 128 t.val (fit t) j := by
  have b : (i 1).val < 1024 := (i 1).isLt
  obtain ⟨t, ht⟩ := points ⟨(i 1).val / 128, by omega⟩
  exact ⟨t, split (by decide) (fit t) i ht⟩

theorem blk1 (t : Fin cfg0.N) (x : S3x128x1536.Idx) : (iblk m c 1 t : Vec Ideal S3x128x1536 .bf16) x = m (c.tc.loc main_arg1) (up 128 t.val (fit t) x) := by
  unfold iblk; rw [View.read_apply, ← V_main_arg1 m c]
  exact congrArg (V m c main_arg1) (eq_up (place t).2.1 rfl rfl rfl)
theorem blk3 (t : Fin cfg0.N) (x : S3x128x1536.Idx) : (iblk m c 3 t : Vec Ideal S3x128x1536 .bf16) x = m (c.tc.loc main_arg3) (up 128 t.val (fit t) x) := by
  unfold iblk; rw [View.read_apply, ← V_main_arg3 m c]
  exact congrArg (V m c main_arg3) (eq_up (place t).2.2.2.1 rfl rfl rfl)
theorem blk4 (t : Fin cfg0.N) (x : S2x128x1536.Idx) : (iblk m c 4 t : Vec Ideal S2x128x1536 .f32) x = m (c.tc.loc main_arg4) (up 128 t.val (fit t) x) := by
  unfold iblk; rw [View.read_apply, ← V_main_arg4 m c]
  exact congrArg (V m c main_arg4) (eq_up (place t).2.2.2.2.1 rfl rfl rfl)
theorem blk5 (t : Fin cfg0.N) (x : S2x128x1536.Idx) : (iblk m c 5 t : Vec Ideal S2x128x1536 .f32) x = m (c.tc.loc main_arg5) (up 128 t.val (fit t) x) := by
  unfold iblk; rw [View.read_apply, ← V_main_arg5 m c]
  exact congrArg (V m c main_arg5) (eq_up (place t).2.2.2.2.2.1 rfl rfl rfl)
theorem blk6 (t : Fin cfg0.N) (x : S2x128x1536.Idx) : (iblk m c 6 t : Vec Ideal S2x128x1536 .f32) x = m (c.tc.loc main_arg6) (up 128 t.val (fit t) x) := by
  unfold iblk; rw [View.read_apply, ← V_main_arg6 m c]
  exact congrArg (V m c main_arg6) (eq_up (place t).2.2.2.2.2.2.1 rfl rfl rfl)
theorem host0 (p : Fin 1024) (q : Fin 1536) : (V m c main_v0 : Vec Ideal S1x1024x1536 .f32) (ix3 (0 : Fin 1) p q) = m (c.tc.loc main_arg0) (ix2 p q) := by
  have e : V m c main_v0 = broadcastInDim S1x1024x1536 ![1, 2] bcast_S1024x1536_S1x1024x1536_1_2 (m (c.tc.loc main_arg0)) := by
    unfold V; after_results
  rw [e]
  generalize m (c.tc.loc main_arg0) = y
  pointwise
theorem own0 (t : Fin cfg0.N) (p : Fin 128) (q : Fin 1536) : (iblk m c 0 t : Vec Ideal S1x128x1536 .f32) (ix3 (0 : Fin 1) p q) = m (c.tc.loc main_arg0) (ix2 (row 128 t.val (fit t) p) q) := by
  rw [← host0 m c]
  unfold iblk; rw [View.read_apply]
  exact congrArg (V m c main_v0) (eq_up (h := fit t) (j := ix3 (0 : Fin 1) p q) (place t).1 rfl rfl rfl)
theorem host2 (p : Fin 1024) (q : Fin 1536) : (V m c main_v1 : Vec Ideal S1x1024x1536 .f32) (ix3 (0 : Fin 1) p q) = m (c.tc.loc main_arg2) (ix2 p q) := by
  have e : V m c main_v1 = broadcastInDim S1x1024x1536 ![1, 2] bcast_S1024x1536_S1x1024x1536_1_2 (m (c.tc.loc main_arg2)) := by
    unfold V; after_results
  rw [e]
  generalize m (c.tc.loc main_arg2) = y
  pointwise
theorem own2 (t : Fin cfg0.N) (p : Fin 128) (q : Fin 1536) : (iblk m c 2 t : Vec Ideal S1x128x1536 .f32) (ix3 (0 : Fin 1) p q) = m (c.tc.loc main_arg2) (ix2 (row 128 t.val (fit t) p) q) := by
  rw [← host2 m c]
  unfold iblk; rw [View.read_apply]
  exact congrArg (V m c main_v1) (eq_up (h := fit t) (j := ix3 (0 : Fin 1) p q) (place t).2.2.1 rfl rfl rfl)
end

/-! ## What the body leaves in a band -/

section
theorem ld0 {e : EltTy} (X : Vec Ideal S1x128x1536 e) (p : Fin 128) (q : Fin 1536) : View.ld X r0_0 (ix3 (0 : Fin 1) p q) = X (ix3 0 p q) := slab X 0 (by decide) _ p q
theorem ld1 {e : EltTy} (X : Vec Ideal S3x128x1536 e) (p : Fin 128) (q : Fin 1536) : View.ld X r0_1 (ix3 (0 : Fin 1) p q) = X (ix3 0 p q) := slab X 0 (by decide) _ p q
theorem ld2 {e : EltTy} (X : Vec Ideal S3x128x1536 e) (p : Fin 128) (q : Fin 1536) : View.ld X r0_2 (ix3 (0 : Fin 1) p q) = X (ix3 1 p q) := slab X 1 (by decide) _ p q
theorem ld3 {e : EltTy} (X : Vec Ideal S3x128x1536 e) (p : Fin 128) (q : Fin 1536) : View.ld X r0_3 (ix3 (0 : Fin 1) p q) = X (ix3 2 p q) := slab X 2 (by decide) _ p q
theorem ld4 {e : EltTy} (X : Vec Ideal S2x128x1536 e) (p : Fin 128) (q : Fin 1536) : View.ld X r0_4 (ix3 (0 : Fin 1) p q) = X (ix3 0 p q) := slab X 0 (by decide) _ p q
theorem ld5 {e : EltTy} (X : Vec Ideal S2x128x1536 e) (p : Fin 128) (q : Fin 1536) : View.ld X r0_5 (ix3 (0 : Fin 1) p q) = X (ix3 1 p q) := slab X 1 (by decide) _ p q

variable (v0 : Vec Ideal S1x128x1536 .f32) (v2 v6 v10 : Vec Ideal S1x128x1536 .bf16) (v14 v21 v40 : Vec Ideal S1x128x1536 .f32) (p : Fin 128) (q : Fin 1536)

theorem sum_a : k0_pay4 (F := Ideal) v0 v2 v6 v10 (ix2 p q) = (v0 (ix3 0 p q) : EReal) + v2 (ix3 0 p q) + v6 (ix3 0 p q) + v10 (ix3 0 p q) := by
  pointwise [k0_pay4]
theorem sum_b : k0_pay15 (F := Ideal) (k0_pay13 v0 v2) (k0_pay14 v6) v10 (ix2 p q) = (v0 (ix3 0 p q) : EReal) + v2 (ix3 0 p q) + v6 (ix3 0 p q) + v10 (ix3 0 p q) := by
  pointwise [k0_pay15, k0_pay13, k0_pay14]
theorem first_a : k0_pay5 (F := Ideal) v0 v2 v6 v10 v14 (ix2 p q) = first (v14 (ix3 0 p q)) (k0_pay4 (F := Ideal) v0 v2 v6 v10 (ix2 p q)) := by
  unfold k0_pay5; generalize k0_pay4 (F := Ideal) v0 v2 v6 v10 = g; unfold first; pointwise
theorem second_a : k0_pay6 (F := Ideal) v0 v2 v6 v10 v21 (ix2 p q) = second (v21 (ix3 0 p q)) (k0_pay4 (F := Ideal) v0 v2 v6 v10 (ix2 p q)) := by
  unfold k0_pay6; generalize k0_pay4 (F := Ideal) v0 v2 v6 v10 = g; unfold second; pointwise
theorem change_a : k0_pay10 (F := Ideal) (k0_pay7 v0 v2 v6 v10 v14) (k0_pay8 v0 v2 v6 v10 v21) v40 (ix3 (0 : Fin 1) p q)
    = change (v40 (ix3 0 p q)) (k0_pay5 (F := Ideal) v0 v2 v6 v10 v14 (ix2 p q)) (k0_pay6 (F := Ideal) v0 v2 v6 v10 v21 (ix2 p q)) := by
  unfold k0_pay7 k0_pay8; generalize k0_pay5 (F := Ideal) v0 v2 v6 v10 v14 = a; generalize k0_pay6 (F := Ideal) v0 v2 v6 v10 v21 = b; unfold change; pointwise [k0_pay10]

variable (v61 : FVec Ideal S128x1536 .f32) (v63 : FVec Ideal S128x1536 .bf16)
theorem first_b : k0_pay16 (F := Ideal) v61 v63 v10 v14 (ix2 p q) = first (v14 (ix3 0 p q)) (k0_pay15 (F := Ideal) v61 v63 v10 (ix2 p q)) := by
  unfold k0_pay16; generalize k0_pay15 (F := Ideal) v61 v63 v10 = g; unfold first; pointwise
theorem second_b : k0_pay17 (F := Ideal) v61 v63 v10 v21 (ix2 p q) = second (v21 (ix3 0 p q)) (k0_pay15 (F := Ideal) v61 v63 v10 (ix2 p q)) := by
  unfold k0_pay17; generalize k0_pay15 (F := Ideal) v61 v63 v10 = g; unfold second; pointwise
theorem change_b : k0_pay1 (F := Ideal) (k0_pay19 v61 v63 v10 v14 v21) (k0_pay20 v40) (ix3 (0 : Fin 1) p q)
    = change (v40 (ix3 0 p q)) (k0_pay16 (F := Ideal) v61 v63 v10 v14 (ix2 p q)) (k0_pay17 (F := Ideal) v61 v63 v10 v21 (ix2 p q)) := by
  unfold k0_pay19; generalize k0_pay16 (F := Ideal) v61 v63 v10 v14 = a; generalize k0_pay17 (F := Ideal) v61 v63 v10 v21 = b; unfold change; pointwise [k0_pay1, k0_pay20]
theorem put_g (g : FVec Ideal S128x1536 .f32) : k0_pay9 g (ix3 (0 : Fin 1) p q) = g (ix2 p q) := by pointwise [k0_pay9]
theorem put_g' : k0_pay18 v61 v63 v10 (ix3 (0 : Fin 1) p q) = k0_pay15 (F := Ideal) v61 v63 v10 (ix2 p q) := by
  unfold k0_pay18; generalize k0_pay15 (F := Ideal) v61 v63 v10 = g; pointwise
theorem put_m (g : FVec Ideal S128x1536 .f32) : k0_pay11 g (ix3 (0 : Fin 1) p q) = g (ix2 p q) := by pointwise [k0_pay11]
theorem put_m' (g : FVec Ideal S128x1536 .f32) : k0_pay2 g (ix3 (0 : Fin 1) p q) = g (ix2 p q) := by pointwise [k0_pay2]
theorem put_v (g : FVec Ideal S128x1536 .f32) : k0_pay12 g (ix3 (0 : Fin 1) p q) = g (ix2 p q) := by pointwise [k0_pay12]
theorem put_v' (g : FVec Ideal S128x1536 .f32) : k0_pay3 g (ix3 (0 : Fin 1) p q) = g (ix2 p q) := by pointwise [k0_pay3]

end

section
variable (x0 : Vec Ideal S1x128x1536 .f32) (x1 : Vec Ideal S3x128x1536 .bf16) (x2 : Vec Ideal S1x128x1536 .f32) (x3 : Vec Ideal S3x128x1536 .bf16) (x4 x5 x6 : Vec Ideal S2x128x1536 .f32)

/-- The gradient of the band, from its parts. -/
abbrev band : S2x128x1536.Idx → EReal := grad (fun p q => x0 (ix3 0 p q)) x1 (fun p q => x2 (ix3 0 p q)) x3

theorem out_g (y : S2x128x1536.Idx) : out0_7 x0 x1 x2 x3 x4 x5 x6 y = band x0 x1 x2 x3 y := by
  unfold out0_7 k0_pay21 k0_pay22
  refine two (band x0 x1 x2 x3) _ _ _ _ (fun p q => ?_) (fun p q => ?_) y (cover0_7 _ _ y)
  · rw [put_g, sum_a, ld0, ld1, ld2, ld3]; rfl
  · rw [put_g', sum_b, ld0, ld1, ld2, ld3]; rfl
theorem out_m (y : S2x128x1536.Idx) : out0_9 x0 x1 x2 x3 x4 x5 x6 y = first (x5 y) (band x0 x1 x2 x3 y) := by
  unfold out0_9 k0_pay21 k0_pay22
  refine two (fun y => first (x5 y) (band x0 x1 x2 x3 y)) _ _ _ _ (fun p q => ?_) (fun p q => ?_) y (cover0_9 _ _ y)
  · rw [put_m, first_a, sum_a, ld0, ld1, ld2, ld3, ld4]; rfl
  · rw [put_m', first_b, sum_b, ld0, ld1, ld2, ld3, ld5]; rfl
theorem out_v (y : S2x128x1536.Idx) : out0_10 x0 x1 x2 x3 x4 x5 x6 y = second (x6 y) (band x0 x1 x2 x3 y) := by
  unfold out0_10 k0_pay21 k0_pay22
  refine two (fun y => second (x6 y) (band x0 x1 x2 x3 y)) _ _ _ _ (fun p q => ?_) (fun p q => ?_) y (cover0_10 _ _ y)
  · rw [put_v, second_a, sum_a, ld0, ld1, ld2, ld3, ld4]; rfl
  · rw [put_v', second_b, sum_b, ld0, ld1, ld2, ld3, ld5]; rfl
theorem out_d (y : S2x128x1536.Idx) : out0_8 x0 x1 x2 x3 x4 x5 x6 y = change (x4 y) (first (x5 y) (band x0 x1 x2 x3 y)) (second (x6 y) (band x0 x1 x2 x3 y)) := by
  unfold out0_8 k0_pay21 k0_pay22
  refine two (fun y => change (x4 y) (first (x5 y) (band x0 x1 x2 x3 y)) (second (x6 y) (band x0 x1 x2 x3 y))) _ _ _ _ (fun p q => ?_) (fun p q => ?_) y (cover0_8 _ _ y)
  · rw [change_a, first_a, second_a, sum_a, ld0, ld1, ld2, ld3, ld4, ld4, ld4]; rfl
  · rw [change_b, first_b, second_b, sum_b, ld0, ld1, ld2, ld3, ld5, ld5, ld5]; rfl

end

/-! ## What the reference returns -/

/-- The whole gradient, from its parts. -/
abbrev whole (y0 : S1024x1536.Idx → Elt Ideal .f32) (y1 : S3x1024x1536.Idx → Elt Ideal .bf16) (y2 : S1024x1536.Idx → Elt Ideal .f32) (y3 : S3x1024x1536.Idx → Elt Ideal .bf16) : S2x1024x1536.Idx → EReal := grad (fun p q => y0 (ix2 p q)) y1 (fun p q => y2 (ix2 p q)) y3

section
open Cert.Reference24Ideal.Read
variable (y0 : S1024x1536.Idx → Elt Ideal .f32) (y1 : S3x1024x1536.Idx → Elt Ideal .bf16) (y2 : S1024x1536.Idx → Elt Ideal .f32) (y3 : S3x1024x1536.Idx → Elt Ideal .bf16) (y4 y5 y6 : S2x1024x1536.Idx → Elt Ideal .f32)

theorem slab_a (p : Fin 1024) (q : Fin 1536) : val_main_v2 (F := Ideal) y0 y1 (ix2 p q) = sum4 (fun p q => y0 (ix2 p q)) y1 p q := by
  rw [val_main_v2_apply, val_main_v1_apply, val_main_cst_apply, Ideal.ofBits_def, Ideal.ofBits_zero_f32, Ideal.addf_def, parts]
  have e : ∀ k : Fin 3, idx_main_v1 (ix2 p q) k = ix3 k p q := fun k => ext3 rfl rfl rfl
  rw [e, e, e]
  rfl
theorem slab_b (p : Fin 1024) (q : Fin 1536) : val_main_v5 (F := Ideal) y2 y3 (ix2 p q) = sum4 (fun p q => y2 (ix2 p q)) y3 p q := by
  rw [val_main_v5_apply, val_main_v4_apply, val_main_cst_0_apply, Ideal.ofBits_def, Ideal.ofBits_zero_f32, Ideal.addf_def, parts]
  have e : ∀ k : Fin 3, idx_main_v4 (ix2 p q) k = ix3 k p q := fun k => ext3 rfl rfl rfl
  rw [e, e, e]
  rfl

theorem ref_g (i : S2x1024x1536.Idx) : val_main_v8 (F := Ideal) y0 y1 y2 y3 i = whole y0 y1 y2 y3 i := by
  unfold val_main_v8
  refine stacked (fun p q => ?_) (fun p q => ?_) _ i
  · exact (val_main_v6_apply _ _ _).trans ((congrArg (val_main_v2 (F := Ideal) y0 y1) (Mm.ext2 rfl rfl : idx_main_v6 (ix3 (0 : Fin 1) p q) = ix2 p q)).trans (slab_a _ _ p q))
  · exact (val_main_v7_apply _ _ _).trans ((congrArg (val_main_v5 (F := Ideal) y2 y3) (Mm.ext2 rfl rfl : idx_main_v7 (ix3 (0 : Fin 1) p q) = ix2 p q)).trans (slab_b _ _ p q))
theorem ref_m (i : S2x1024x1536.Idx) : val_main_v13 (F := Ideal) y0 y1 y2 y3 y5 i = first (y5 i) (whole y0 y1 y2 y3 i) := by
  rw [val_main_v13_apply, val_main_v12_apply, val_main_v11_apply, val_main_v10_apply, val_main_v9_apply, ref_g]; rfl
theorem ref_v (i : S2x1024x1536.Idx) : val_main_v19 (F := Ideal) y0 y1 y2 y3 y6 i = second (y6 i) (whole y0 y1 y2 y3 i) := by
  rw [val_main_v19_apply, val_main_v18_apply, val_main_v17_apply, val_main_v16_apply, val_main_v15_apply, val_main_v14_apply, ref_g]; rfl
theorem ref_d (i : S2x1024x1536.Idx) : val_main_v32 (F := Ideal) y0 y1 y2 y3 y4 y5 y6 i = change (y4 i) (first (y5 i) (whole y0 y1 y2 y3 i)) (second (y6 i) (whole y0 y1 y2 y3 i)) := by
  rw [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, ref_m, ref_v]; rfl
end

/-! ## The values -/

section
variable (m : (ℓ : Loc nD τ sig) → Buf (Elt Ideal) ℓ) (c : Dev nD)

theorem band_eq (t : Fin cfg0.N) (j : S2x128x1536.Idx) : band (iblk m c 0 t) (iblk m c 1 t) (iblk m c 2 t) (iblk m c 3 t) j = (whole (m (c.tc.loc main_arg0)) (m (c.tc.loc main_arg1)) (m (c.tc.loc main_arg2)) (m (c.tc.loc main_arg3))) (up 128 t.val (fit t) j) :=
  grad_up (fit t) (own0 m c t) (blk1 m c t) (own2 m c t) (blk3 m c t) j

theorem value_g : (Gen.dats m 0 c).arrAt 7 cfg0.N = Cert.Reference24Ideal.Read.val_main_v8 (F := Ideal) (m (c.tc.loc main_arg0)) (m (c.tc.loc main_arg1)) (m (c.tc.loc main_arg2)) (m (c.tc.loc main_arg3)) := by
  have he : ∀ (t : Fin cfg0.N) (j : S2x128x1536.Idx), ((cfg0.win 7).blk t).view.emb j = up 128 t.val (fit t) j := fun t j => eq_up (place t).2.2.2.2.2.2.2.1 rfl rfl rfl
  refine (Gen.dats m 0 c).arrAt_eq_of_cover 7 _ (fun t hf => ?_) (fun i => ?_)
  · rw [Value.flushed7]
    funext j
    rw [View.read_apply]
    show out0_7 _ _ _ _ _ _ _ j = _
    rw [out_g, he t j, ref_g, band_eq]
    rfl
  · obtain ⟨t, j, hj⟩ := found i
    refine ⟨t, flush0_7 t, ?_⟩
    have hx : i = ((cfg0.win 7).blk t).view.emb j := by rw [he]; exact hj
    exact hx ▸ View.emb_mem_set _ _
theorem value_d : (Gen.dats m 0 c).arrAt 8 cfg0.N = Cert.Reference24Ideal.Read.val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  have he : ∀ (t : Fin cfg0.N) (j : S2x128x1536.Idx), ((cfg0.win 8).blk t).view.emb j = up 128 t.val (fit t) j := fun t j => eq_up (place t).2.2.2.2.2.2.2.2.1 rfl rfl rfl
  refine (Gen.dats m 0 c).arrAt_eq_of_cover 8 _ (fun t hf => ?_) (fun i => ?_)
  · rw [Value.flushed8]
    funext j
    rw [View.read_apply]
    show out0_8 _ _ _ _ _ _ _ j = _
    rw [out_d, he t j, ref_d, band_eq, blk4, blk5, blk6]
    rfl
  · obtain ⟨t, j, hj⟩ := found i
    refine ⟨t, flush0_8 t, ?_⟩
    have hx : i = ((cfg0.win 8).blk t).view.emb j := by rw [he]; exact hj
    exact hx ▸ View.emb_mem_set _ _
theorem value_m : (Gen.dats m 0 c).arrAt 9 cfg0.N = Cert.Reference24Ideal.Read.val_main_v13 (F := Ideal) (m (c.tc.loc main_arg0)) (m (c.tc.loc main_arg1)) (m (c.tc.loc main_arg2)) (m (c.tc.loc main_arg3)) (m (c.tc.loc main_arg5)) := by
  have he : ∀ (t : Fin cfg0.N) (j : S2x128x1536.Idx), ((cfg0.win 9).blk t).view.emb j = up 128 t.val (fit t) j := fun t j => eq_up (place t).2.2.2.2.2.2.2.2.2.1 rfl rfl rfl
  refine (Gen.dats m 0 c).arrAt_eq_of_cover 9 _ (fun t hf => ?_) (fun i => ?_)
  · rw [Value.flushed9]
    funext j
    rw [View.read_apply]
    show out0_9 _ _ _ _ _ _ _ j = _
    rw [out_m, he t j, ref_m, band_eq, blk5]
    rfl
  · obtain ⟨t, j, hj⟩ := found i
    refine ⟨t, flush0_9 t, ?_⟩
    have hx : i = ((cfg0.win 9).blk t).view.emb j := by rw [he]; exact hj
    exact hx ▸ View.emb_mem_set _ _
theorem value_v : (Gen.dats m 0 c).arrAt 10 cfg0.N = Cert.Reference24Ideal.Read.val_main_v19 (F := Ideal) (m (c.tc.loc main_arg0)) (m (c.tc.loc main_arg1)) (m (c.tc.loc main_arg2)) (m (c.tc.loc main_arg3)) (m (c.tc.loc main_arg6)) := by
  have he : ∀ (t : Fin cfg0.N) (j : S2x128x1536.Idx), ((cfg0.win 10).blk t).view.emb j = up 128 t.val (fit t) j := fun t j => eq_up (place t).2.2.2.2.2.2.2.2.2.2.1 rfl rfl rfl
  refine (Gen.dats m 0 c).arrAt_eq_of_cover 10 _ (fun t hf => ?_) (fun i => ?_)
  · rw [Value.flushed10]
    funext j
    rw [View.read_apply]
    show out0_10 _ _ _ _ _ _ _ j = _
    rw [out_v, he t j, ref_v, band_eq, blk6]
    rfl
  · obtain ⟨t, j, hj⟩ := found i
    refine ⟨t, flush0_10 t, ?_⟩
    have hx : i = ((cfg0.win 10).blk t).view.emb j := by rw [he]; exact hj
    exact hx ▸ View.emb_mem_set _ _
end

/-- Kernel and reference return the same gradient, change and moments. -/
theorem algebraic : @Cert.algebraic_Kernel24Ideal_Reference24Ideal Cert.Kernel24Ideal.Gen.facts Cert.Reference24Ideal.Gen.facts := by
  intro m ρ m' ρ' _ hagree
  refine ⟨_, _, _, _, Cert.Kernel24Ideal.Value.run_blocks m ρ, ?_⟩
  refine (θ_run _ _ _).mono (fun r h c => ?_) (Cert.Reference24Ideal.Value.run (F := Ideal) m' ρ')
  obtain ⟨h0, h1, h2, h3, hk⟩ := h c
  obtain ⟨e0, e1, e2, e3, e4, e5, e6⟩ := hagree c
  refine ⟨h0.trans ?_, h1.trans ?_, h2.trans ?_, h3.trans ?_, hk⟩
  · rw [value_g m c]
    refine (Cert.Reference24Ideal.Read.val_main_v8_eq _ _ _ _).trans ?_
    rw [e0, e1, e2, e3]
  · rw [value_d m c]
    refine (Cert.Reference24Ideal.Read.val_main_v32_eq _ _ _ _ _ _ _).trans ?_
    rw [e0, e1, e2, e3, e4, e5, e6]
  · rw [value_m m c]
    refine (Cert.Reference24Ideal.Read.val_main_v13_eq _ _ _ _ _).trans ?_
    rw [e0, e1, e2, e3, e5]
  · rw [value_v m c]
    refine (Cert.Reference24Ideal.Read.val_main_v19_eq _ _ _ _ _).trans ?_
    rw [e0, e1, e2, e3, e6]

/-- The reference runs and keeps its arguments; it has no semaphores. -/
theorem frame_reference : @Cert.quiescent_Reference24Ideal Cert.Reference24Ideal.Gen.facts := fun m ρ _ =>
  (θ_run Cert.Reference24Ideal.defs _ _).mono (fun r h => ⟨fun c => (h c).2.2.2.2, sem_eq_zero_of_no_sems (by decide) r.2⟩)
    (Cert.Reference24Ideal.Value.run (F := Ideal) m ρ)

end Cert.Kernel24Ideal.Adam
end
end
-- ==== Proof.AdamSquare.lean ====
/-
  The optimiser's step on a mixer's projection or the output projection, all rows at once.
-/
module

public import proofs.«01_k».proof.Defs
public import proofs.«01_k».proof.Proof.Adam
public import proofs.«01_k».proof.Proof.Gen.Kernel25Ideal.Value
public import proofs.«01_k».proof.Proof.Gen.Reference25Ideal.Read
public import Idealize.ShloMosaic.Lib.Pointwise
public import Idealize.ShloMosaic.Adequacy
public import Idealize.ShloMosaic.Init

@[expose] public section
noncomputable section
namespace Cert.Kernel25Ideal.Adam
open Cert.Kernel25Ideal Cert.Kernel25Ideal.Gen Idealize.ShloMosaic Idealize.ShloMosaic.TcCoe Idealize.SL.Sem
open Idealize.ShloMosaic.Pipeline (Dat)
open _root_.Adam

/-! ## The band that a point of the grid works on -/

section
variable (m : (ℓ : Loc nD τ sig) → Buf (Elt Ideal) ℓ) (c : Dev nD)

theorem place : ∀ t : Fin cfg0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 128 + 128 ≤ 128 :=
  (by decide +kernel : ∀ t : Fin grid0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 128 + 128 ≤ 128)
theorem points : ∀ p : Fin 1, ∃ t : Fin cfg0.N, t.val = p.val := (by decide +kernel : ∀ p : Fin 1, ∃ t : Fin grid0.N, t.val = p.val)
abbrev fit (t : Fin cfg0.N) : t.val * 128 + 128 ≤ 128 := (place t).2.2.2.2.2.2.2.2.2.2.2

theorem found (i : S2x128x1024.Idx) : ∃ (t : Fin cfg0.N) (j : S2x128x1024.Idx), i = up 128 t.val (fit t) j := by
  have b : (i 1).val < 128 := (i 1).isLt
  obtain ⟨t, ht⟩ := points ⟨(i 1).val / 128, by omega⟩
  exact ⟨t, split (by decide) (fit t) i ht⟩

theorem blk1 (t : Fin cfg0.N) (x : S3x128x1024.Idx) : (iblk m c 1 t : Vec Ideal S3x128x1024 .bf16) x = m (c.tc.loc main_arg1) (up 128 t.val (fit t) x) := by
  unfold iblk; rw [View.read_apply, ← V_main_arg1 m c]
  exact congrArg (V m c main_arg1) (eq_up (place t).2.1 rfl rfl rfl)
theorem blk3 (t : Fin cfg0.N) (x : S3x128x1024.Idx) : (iblk m c 3 t : Vec Ideal S3x128x1024 .bf16) x = m (c.tc.loc main_arg3) (up 128 t.val (fit t) x) := by
  unfold iblk; rw [View.read_apply, ← V_main_arg3 m c]
  exact congrArg (V m c main_arg3) (eq_up (place t).2.2.2.1 rfl rfl rfl)
theorem blk4 (t : Fin cfg0.N) (x : S2x128x1024.Idx) : (iblk m c 4 t : Vec Ideal S2x128x1024 .f32) x = m (c.tc.loc main_arg4) (up 128 t.val (fit t) x) := by
  unfold iblk; rw [View.read_apply, ← V_main_arg4 m c]
  exact congrArg (V m c main_arg4) (eq_up (place t).2.2.2.2.1 rfl rfl rfl)
theorem blk5 (t : Fin cfg0.N) (x : S2x128x1024.Idx) : (iblk m c 5 t : Vec Ideal S2x128x1024 .f32) x = m (c.tc.loc main_arg5) (up 128 t.val (fit t) x) := by
  unfold iblk; rw [View.read_apply, ← V_main_arg5 m c]
  exact congrArg (V m c main_arg5) (eq_up (place t).2.2.2.2.2.1 rfl rfl rfl)
theorem blk6 (t : Fin cfg0.N) (x : S2x128x1024.Idx) : (iblk m c 6 t : Vec Ideal S2x128x1024 .f32) x = m (c.tc.loc main_arg6) (up 128 t.val (fit t) x) := by
  unfold iblk; rw [View.read_apply, ← V_main_arg6 m c]
  exact congrArg (V m c main_arg6) (eq_up (place t).2.2.2.2.2.2.1 rfl rfl rfl)
theorem host0 (p : Fin 128) (q : Fin 1024) : (V m c main_v0 : Vec Ideal S1x128x1024 .f32) (ix3 (0 : Fin 1) p q) = m (c.tc.loc main_arg0) (ix2 p q) := by
  have e : V m c main_v0 = broadcastInDim S1x128x1024 ![1, 2] bcast_S128x1024_S1x128x1024_1_2 (m (c.tc.loc main_arg0)) := by
    unfold V; after_results
  rw [e]
  generalize m (c.tc.loc main_arg0) = y
  pointwise
theorem own0 (t : Fin cfg0.N) (p : Fin 128) (q : Fin 1024) : (iblk m c 0 t : Vec Ideal S1x128x1024 .f32) (ix3 (0 : Fin 1) p q) = m (c.tc.loc main_arg0) (ix2 (row 128 t.val (fit t) p) q) := by
  rw [← host0 m c]
  unfold iblk; rw [View.read_apply]
  exact congrArg (V m c main_v0) (eq_up (h := fit t) (j := ix3 (0 : Fin 1) p q) (place t).1 rfl rfl rfl)
theorem host2 (p : Fin 128) (q : Fin 1024) : (V m c main_v1 : Vec Ideal S1x128x1024 .f32) (ix3 (0 : Fin 1) p q) = m (c.tc.loc main_arg2) (ix2 p q) := by
  have e : V m c main_v1 = broadcastInDim S1x128x1024 ![1, 2] bcast_S128x1024_S1x128x1024_1_2 (m (c.tc.loc main_arg2)) := by
    unfold V; after_results
  rw [e]
  generalize m (c.tc.loc main_arg2) = y
  pointwise
theorem own2 (t : Fin cfg0.N) (p : Fin 128) (q : Fin 1024) : (iblk m c 2 t : Vec Ideal S1x128x1024 .f32) (ix3 (0 : Fin 1) p q) = m (c.tc.loc main_arg2) (ix2 (row 128 t.val (fit t) p) q) := by
  rw [← host2 m c]
  unfold iblk; rw [View.read_apply]
  exact congrArg (V m c main_v1) (eq_up (h := fit t) (j := ix3 (0 : Fin 1) p q) (place t).2.2.1 rfl rfl rfl)
end

/-! ## What the body leaves in a band -/

section
theorem ld0 {e : EltTy} (X : Vec Ideal S1x128x1024 e) (p : Fin 128) (q : Fin 1024) : View.ld X r0_0 (ix3 (0 : Fin 1) p q) = X (ix3 0 p q) := slab X 0 (by decide) _ p q
theorem ld1 {e : EltTy} (X : Vec Ideal S3x128x1024 e) (p : Fin 128) (q : Fin 1024) : View.ld X r0_1 (ix3 (0 : Fin 1) p q) = X (ix3 0 p q) := slab X 0 (by decide) _ p q
theorem ld2 {e : EltTy} (X : Vec Ideal S3x128x1024 e) (p : Fin 128) (q : Fin 1024) : View.ld X r0_2 (ix3 (0 : Fin 1) p q) = X (ix3 1 p q) := slab X 1 (by decide) _ p q
theorem ld3 {e : EltTy} (X : Vec Ideal S3x128x1024 e) (p : Fin 128) (q : Fin 1024) : View.ld X r0_3 (ix3 (0 : Fin 1) p q) = X (ix3 2 p q) := slab X 2 (by decide) _ p q
theorem ld4 {e : EltTy} (X : Vec Ideal S2x128x1024 e) (p : Fin 128) (q : Fin 1024) : View.ld X r0_4 (ix3 (0 : Fin 1) p q) = X (ix3 0 p q) := slab X 0 (by decide) _ p q
theorem ld5 {e : EltTy} (X : Vec Ideal S2x128x1024 e) (p : Fin 128) (q : Fin 1024) : View.ld X r0_5 (ix3 (0 : Fin 1) p q) = X (ix3 1 p q) := slab X 1 (by decide) _ p q

variable (v0 : Vec Ideal S1x128x1024 .f32) (v2 v6 v10 : Vec Ideal S1x128x1024 .bf16) (v14 v21 v40 : Vec Ideal S1x128x1024 .f32) (p : Fin 128) (q : Fin 1024)

theorem sum_a : k0_pay4 (F := Ideal) v0 v2 v6 v10 (ix2 p q) = (v0 (ix3 0 p q) : EReal) + v2 (ix3 0 p q) + v6 (ix3 0 p q) + v10 (ix3 0 p q) := by
  pointwise [k0_pay4]
theorem sum_b : k0_pay15 (F := Ideal) (k0_pay13 v0 v2) (k0_pay14 v6) v10 (ix2 p q) = (v0 (ix3 0 p q) : EReal) + v2 (ix3 0 p q) + v6 (ix3 0 p q) + v10 (ix3 0 p q) := by
  pointwise [k0_pay15, k0_pay13, k0_pay14]
theorem first_a : k0_pay5 (F := Ideal) v0 v2 v6 v10 v14 (ix2 p q) = first (v14 (ix3 0 p q)) (k0_pay4 (F := Ideal) v0 v2 v6 v10 (ix2 p q)) := by
  unfold k0_pay5; generalize k0_pay4 (F := Ideal) v0 v2 v6 v10 = g; unfold first; pointwise
theorem second_a : k0_pay6 (F := Ideal) v0 v2 v6 v10 v21 (ix2 p q) = second (v21 (ix3 0 p q)) (k0_pay4 (F := Ideal) v0 v2 v6 v10 (ix2 p q)) := by
  unfold k0_pay6; generalize k0_pay4 (F := Ideal) v0 v2 v6 v10 = g; unfold second; pointwise
theorem change_a : k0_pay10 (F := Ideal) (k0_pay7 v0 v2 v6 v10 v14) (k0_pay8 v0 v2 v6 v10 v21) v40 (ix3 (0 : Fin 1) p q)
    = change (v40 (ix3 0 p q)) (k0_pay5 (F := Ideal) v0 v2 v6 v10 v14 (ix2 p q)) (k0_pay6 (F := Ideal) v0 v2 v6 v10 v21 (ix2 p q)) := by
  unfold k0_pay7 k0_pay8; generalize k0_pay5 (F := Ideal) v0 v2 v6 v10 v14 = a; generalize k0_pay6 (F := Ideal) v0 v2 v6 v10 v21 = b; unfold change; pointwise [k0_pay10]

variable (v61 : FVec Ideal S128x1024 .f32) (v63 : FVec Ideal S128x1024 .bf16)
theorem first_b : k0_pay16 (F := Ideal) v61 v63 v10 v14 (ix2 p q) = first (v14 (ix3 0 p q)) (k0_pay15 (F := Ideal) v61 v63 v10 (ix2 p q)) := by
  unfold k0_pay16; generalize k0_pay15 (F := Ideal) v61 v63 v10 = g; unfold first; pointwise
theorem second_b : k0_pay17 (F := Ideal) v61 v63 v10 v21 (ix2 p q) = second (v21 (ix3 0 p q)) (k0_pay15 (F := Ideal) v61 v63 v10 (ix2 p q)) := by
  unfold k0_pay17; generalize k0_pay15 (F := Ideal) v61 v63 v10 = g; unfold second; pointwise
theorem change_b : k0_pay1 (F := Ideal) (k0_pay19 v61 v63 v10 v14 v21) (k0_pay20 v40) (ix3 (0 : Fin 1) p q)
    = change (v40 (ix3 0 p q)) (k0_pay16 (F := Ideal) v61 v63 v10 v14 (ix2 p q)) (k0_pay17 (F := Ideal) v61 v63 v10 v21 (ix2 p q)) := by
  unfold k0_pay19; generalize k0_pay16 (F := Ideal) v61 v63 v10 v14 = a; generalize k0_pay17 (F := Ideal) v61 v63 v10 v21 = b; unfold change; pointwise [k0_pay1, k0_pay20]
theorem put_g (g : FVec Ideal S128x1024 .f32) : k0_pay9 g (ix3 (0 : Fin 1) p q) = g (ix2 p q) := by pointwise [k0_pay9]
theorem put_g' : k0_pay18 v61 v63 v10 (ix3 (0 : Fin 1) p q) = k0_pay15 (F := Ideal) v61 v63 v10 (ix2 p q) := by
  unfold k0_pay18; generalize k0_pay15 (F := Ideal) v61 v63 v10 = g; pointwise
theorem put_m (g : FVec Ideal S128x1024 .f32) : k0_pay11 g (ix3 (0 : Fin 1) p q) = g (ix2 p q) := by pointwise [k0_pay11]
theorem put_m' (g : FVec Ideal S128x1024 .f32) : k0_pay2 g (ix3 (0 : Fin 1) p q) = g (ix2 p q) := by pointwise [k0_pay2]
theorem put_v (g : FVec Ideal S128x1024 .f32) : k0_pay12 g (ix3 (0 : Fin 1) p q) = g (ix2 p q) := by pointwise [k0_pay12]
theorem put_v' (g : FVec Ideal S128x1024 .f32) : k0_pay3 g (ix3 (0 : Fin 1) p q) = g (ix2 p q) := by pointwise [k0_pay3]

end

section
variable (x0 : Vec Ideal S1x128x1024 .f32) (x1 : Vec Ideal S3x128x1024 .bf16) (x2 : Vec Ideal S1x128x1024 .f32) (x3 : Vec Ideal S3x128x1024 .bf16) (x4 x5 x6 : Vec Ideal S2x128x1024 .f32)

/-- The gradient of the band, from its parts. -/
abbrev band : S2x128x1024.Idx → EReal := grad (fun p q => x0 (ix3 0 p q)) x1 (fun p q => x2 (ix3 0 p q)) x3

theorem out_g (y : S2x128x1024.Idx) : out0_7 x0 x1 x2 x3 x4 x5 x6 y = band x0 x1 x2 x3 y := by
  unfold out0_7 k0_pay21 k0_pay22
  refine two (band x0 x1 x2 x3) _ _ _ _ (fun p q => ?_) (fun p q => ?_) y (cover0_7 _ _ y)
  · rw [put_g, sum_a, ld0, ld1, ld2, ld3]; rfl
  · rw [put_g', sum_b, ld0, ld1, ld2, ld3]; rfl
theorem out_m (y : S2x128x1024.Idx) : out0_9 x0 x1 x2 x3 x4 x5 x6 y = first (x5 y) (band x0 x1 x2 x3 y) := by
  unfold out0_9 k0_pay21 k0_pay22
  refine two (fun y => first (x5 y) (band x0 x1 x2 x3 y)) _ _ _ _ (fun p q => ?_) (fun p q => ?_) y (cover0_9 _ _ y)
  · rw [put_m, first_a, sum_a, ld0, ld1, ld2, ld3, ld4]; rfl
  · rw [put_m', first_b, sum_b, ld0, ld1, ld2, ld3, ld5]; rfl
theorem out_v (y : S2x128x1024.Idx) : out0_10 x0 x1 x2 x3 x4 x5 x6 y = second (x6 y) (band x0 x1 x2 x3 y) := by
  unfold out0_10 k0_pay21 k0_pay22
  refine two (fun y => second (x6 y) (band x0 x1 x2 x3 y)) _ _ _ _ (fun p q => ?_) (fun p q => ?_) y (cover0_10 _ _ y)
  · rw [put_v, second_a, sum_a, ld0, ld1, ld2, ld3, ld4]; rfl
  · rw [put_v', second_b, sum_b, ld0, ld1, ld2, ld3, ld5]; rfl
theorem out_d (y : S2x128x1024.Idx) : out0_8 x0 x1 x2 x3 x4 x5 x6 y = change (x4 y) (first (x5 y) (band x0 x1 x2 x3 y)) (second (x6 y) (band x0 x1 x2 x3 y)) := by
  unfold out0_8 k0_pay21 k0_pay22
  refine two (fun y => change (x4 y) (first (x5 y) (band x0 x1 x2 x3 y)) (second (x6 y) (band x0 x1 x2 x3 y))) _ _ _ _ (fun p q => ?_) (fun p q => ?_) y (cover0_8 _ _ y)
  · rw [change_a, first_a, second_a, sum_a, ld0, ld1, ld2, ld3, ld4, ld4, ld4]; rfl
  · rw [change_b, first_b, second_b, sum_b, ld0, ld1, ld2, ld3, ld5, ld5, ld5]; rfl

end

/-! ## What the reference returns -/

/-- The whole gradient, from its parts. -/
abbrev whole (y0 : S128x1024.Idx → Elt Ideal .f32) (y1 : S3x128x1024.Idx → Elt Ideal .bf16) (y2 : S128x1024.Idx → Elt Ideal .f32) (y3 : S3x128x1024.Idx → Elt Ideal .bf16) : S2x128x1024.Idx → EReal := grad (fun p q => y0 (ix2 p q)) y1 (fun p q => y2 (ix2 p q)) y3

section
open Cert.Reference25Ideal.Read
variable (y0 : S128x1024.Idx → Elt Ideal .f32) (y1 : S3x128x1024.Idx → Elt Ideal .bf16) (y2 : S128x1024.Idx → Elt Ideal .f32) (y3 : S3x128x1024.Idx → Elt Ideal .bf16) (y4 y5 y6 : S2x128x1024.Idx → Elt Ideal .f32)

theorem slab_a (p : Fin 128) (q : Fin 1024) : val_main_v2 (F := Ideal) y0 y1 (ix2 p q) = sum4 (fun p q => y0 (ix2 p q)) y1 p q := by
  rw [val_main_v2_apply, val_main_v1_apply, val_main_cst_apply, Ideal.ofBits_def, Ideal.ofBits_zero_f32, Ideal.addf_def, parts]
  have e : ∀ k : Fin 3, idx_main_v1 (ix2 p q) k = ix3 k p q := fun k => ext3 rfl rfl rfl
  rw [e, e, e]
  rfl
theorem slab_b (p : Fin 128) (q : Fin 1024) : val_main_v5 (F := Ideal) y2 y3 (ix2 p q) = sum4 (fun p q => y2 (ix2 p q)) y3 p q := by
  rw [val_main_v5_apply, val_main_v4_apply, val_main_cst_0_apply, Ideal.ofBits_def, Ideal.ofBits_zero_f32, Ideal.addf_def, parts]
  have e : ∀ k : Fin 3, idx_main_v4 (ix2 p q) k = ix3 k p q := fun k => ext3 rfl rfl rfl
  rw [e, e, e]
  rfl

theorem ref_g (i : S2x128x1024.Idx) : val_main_v8 (F := Ideal) y0 y1 y2 y3 i = whole y0 y1 y2 y3 i := by
  unfold val_main_v8
  refine stacked (fun p q => ?_) (fun p q => ?_) _ i
  · exact (val_main_v6_apply _ _ _).trans ((congrArg (val_main_v2 (F := Ideal) y0 y1) (Mm.ext2 rfl rfl : idx_main_v6 (ix3 (0 : Fin 1) p q) = ix2 p q)).trans (slab_a _ _ p q))
  · exact (val_main_v7_apply _ _ _).trans ((congrArg (val_main_v5 (F := Ideal) y2 y3) (Mm.ext2 rfl rfl : idx_main_v7 (ix3 (0 : Fin 1) p q) = ix2 p q)).trans (slab_b _ _ p q))
theorem ref_m (i : S2x128x1024.Idx) : val_main_v13 (F := Ideal) y0 y1 y2 y3 y5 i = first (y5 i) (whole y0 y1 y2 y3 i) := by
  rw [val_main_v13_apply, val_main_v12_apply, val_main_v11_apply, val_main_v10_apply, val_main_v9_apply, ref_g]; rfl
theorem ref_v (i : S2x128x1024.Idx) : val_main_v19 (F := Ideal) y0 y1 y2 y3 y6 i = second (y6 i) (whole y0 y1 y2 y3 i) := by
  rw [val_main_v19_apply, val_main_v18_apply, val_main_v17_apply, val_main_v16_apply, val_main_v15_apply, val_main_v14_apply, ref_g]; rfl
theorem ref_d (i : S2x128x1024.Idx) : val_main_v32 (F := Ideal) y0 y1 y2 y3 y4 y5 y6 i = change (y4 i) (first (y5 i) (whole y0 y1 y2 y3 i)) (second (y6 i) (whole y0 y1 y2 y3 i)) := by
  rw [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, ref_m, ref_v]; rfl
end

/-! ## The values -/

section
variable (m : (ℓ : Loc nD τ sig) → Buf (Elt Ideal) ℓ) (c : Dev nD)

theorem band_eq (t : Fin cfg0.N) (j : S2x128x1024.Idx) : band (iblk m c 0 t) (iblk m c 1 t) (iblk m c 2 t) (iblk m c 3 t) j = (whole (m (c.tc.loc main_arg0)) (m (c.tc.loc main_arg1)) (m (c.tc.loc main_arg2)) (m (c.tc.loc main_arg3))) (up 128 t.val (fit t) j) :=
  grad_up (fit t) (own0 m c t) (blk1 m c t) (own2 m c t) (blk3 m c t) j

theorem value_g : (Gen.dats m 0 c).arrAt 7 cfg0.N = Cert.Reference25Ideal.Read.val_main_v8 (F := Ideal) (m (c.tc.loc main_arg0)) (m (c.tc.loc main_arg1)) (m (c.tc.loc main_arg2)) (m (c.tc.loc main_arg3)) := by
  have he : ∀ (t : Fin cfg0.N) (j : S2x128x1024.Idx), ((cfg0.win 7).blk t).view.emb j = up 128 t.val (fit t) j := fun t j => eq_up (place t).2.2.2.2.2.2.2.1 rfl rfl rfl
  refine (Gen.dats m 0 c).arrAt_eq_of_cover 7 _ (fun t hf => ?_) (fun i => ?_)
  · rw [Value.flushed7]
    funext j
    rw [View.read_apply]
    show out0_7 _ _ _ _ _ _ _ j = _
    rw [out_g, he t j, ref_g, band_eq]
    rfl
  · obtain ⟨t, j, hj⟩ := found i
    refine ⟨t, flush0_7 t, ?_⟩
    have hx : i = ((cfg0.win 7).blk t).view.emb j := by rw [he]; exact hj
    exact hx ▸ View.emb_mem_set _ _
theorem value_d : (Gen.dats m 0 c).arrAt 8 cfg0.N = Cert.Reference25Ideal.Read.val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  have he : ∀ (t : Fin cfg0.N) (j : S2x128x1024.Idx), ((cfg0.win 8).blk t).view.emb j = up 128 t.val (fit t) j := fun t j => eq_up (place t).2.2.2.2.2.2.2.2.1 rfl rfl rfl
  refine (Gen.dats m 0 c).arrAt_eq_of_cover 8 _ (fun t hf => ?_) (fun i => ?_)
  · rw [Value.flushed8]
    funext j
    rw [View.read_apply]
    show out0_8 _ _ _ _ _ _ _ j = _
    rw [out_d, he t j, ref_d, band_eq, blk4, blk5, blk6]
    rfl
  · obtain ⟨t, j, hj⟩ := found i
    refine ⟨t, flush0_8 t, ?_⟩
    have hx : i = ((cfg0.win 8).blk t).view.emb j := by rw [he]; exact hj
    exact hx ▸ View.emb_mem_set _ _
theorem value_m : (Gen.dats m 0 c).arrAt 9 cfg0.N = Cert.Reference25Ideal.Read.val_main_v13 (F := Ideal) (m (c.tc.loc main_arg0)) (m (c.tc.loc main_arg1)) (m (c.tc.loc main_arg2)) (m (c.tc.loc main_arg3)) (m (c.tc.loc main_arg5)) := by
  have he : ∀ (t : Fin cfg0.N) (j : S2x128x1024.Idx), ((cfg0.win 9).blk t).view.emb j = up 128 t.val (fit t) j := fun t j => eq_up (place t).2.2.2.2.2.2.2.2.2.1 rfl rfl rfl
  refine (Gen.dats m 0 c).arrAt_eq_of_cover 9 _ (fun t hf => ?_) (fun i => ?_)
  · rw [Value.flushed9]
    funext j
    rw [View.read_apply]
    show out0_9 _ _ _ _ _ _ _ j = _
    rw [out_m, he t j, ref_m, band_eq, blk5]
    rfl
  · obtain ⟨t, j, hj⟩ := found i
    refine ⟨t, flush0_9 t, ?_⟩
    have hx : i = ((cfg0.win 9).blk t).view.emb j := by rw [he]; exact hj
    exact hx ▸ View.emb_mem_set _ _
theorem value_v : (Gen.dats m 0 c).arrAt 10 cfg0.N = Cert.Reference25Ideal.Read.val_main_v19 (F := Ideal) (m (c.tc.loc main_arg0)) (m (c.tc.loc main_arg1)) (m (c.tc.loc main_arg2)) (m (c.tc.loc main_arg3)) (m (c.tc.loc main_arg6)) := by
  have he : ∀ (t : Fin cfg0.N) (j : S2x128x1024.Idx), ((cfg0.win 10).blk t).view.emb j = up 128 t.val (fit t) j := fun t j => eq_up (place t).2.2.2.2.2.2.2.2.2.2.1 rfl rfl rfl
  refine (Gen.dats m 0 c).arrAt_eq_of_cover 10 _ (fun t hf => ?_) (fun i => ?_)
  · rw [Value.flushed10]
    funext j
    rw [View.read_apply]
    show out0_10 _ _ _ _ _ _ _ j = _
    rw [out_v, he t j, ref_v, band_eq, blk6]
    rfl
  · obtain ⟨t, j, hj⟩ := found i
    refine ⟨t, flush0_10 t, ?_⟩
    have hx : i = ((cfg0.win 10).blk t).view.emb j := by rw [he]; exact hj
    exact hx ▸ View.emb_mem_set _ _
end

/-- Kernel and reference return the same gradient, change and moments. -/
theorem algebraic : @Cert.algebraic_Kernel25Ideal_Reference25Ideal Cert.Kernel25Ideal.Gen.facts Cert.Reference25Ideal.Gen.facts := by
  intro m ρ m' ρ' _ hagree
  refine ⟨_, _, _, _, Cert.Kernel25Ideal.Value.run_blocks m ρ, ?_⟩
  refine (θ_run _ _ _).mono (fun r h c => ?_) (Cert.Reference25Ideal.Value.run (F := Ideal) m' ρ')
  obtain ⟨h0, h1, h2, h3, hk⟩ := h c
  obtain ⟨e0, e1, e2, e3, e4, e5, e6⟩ := hagree c
  refine ⟨h0.trans ?_, h1.trans ?_, h2.trans ?_, h3.trans ?_, hk⟩
  · rw [value_g m c]
    refine (Cert.Reference25Ideal.Read.val_main_v8_eq _ _ _ _).trans ?_
    rw [e0, e1, e2, e3]
  · rw [value_d m c]
    refine (Cert.Reference25Ideal.Read.val_main_v32_eq _ _ _ _ _ _ _).trans ?_
    rw [e0, e1, e2, e3, e4, e5, e6]
  · rw [value_m m c]
    refine (Cert.Reference25Ideal.Read.val_main_v13_eq _ _ _ _ _).trans ?_
    rw [e0, e1, e2, e3, e5]
  · rw [value_v m c]
    refine (Cert.Reference25Ideal.Read.val_main_v19_eq _ _ _ _ _).trans ?_
    rw [e0, e1, e2, e3, e6]

/-- The reference runs and keeps its arguments; it has no semaphores. -/
theorem frame_reference : @Cert.quiescent_Reference25Ideal Cert.Reference25Ideal.Gen.facts := fun m ρ _ =>
  (θ_run Cert.Reference25Ideal.defs _ _).mono (fun r h => ⟨fun c => (h c).2.2.2.2, sem_eq_zero_of_no_sems (by decide) r.2⟩)
    (Cert.Reference25Ideal.Value.run (F := Ideal) m ρ)

end Cert.Kernel25Ideal.Adam
end
end
-- ==== Proof.AdamUp.lean ====
/-
  The optimiser's step on the feed-forward's first weight, in bands of rows.
-/
module

public import proofs.«01_k».proof.Defs
public import proofs.«01_k».proof.Proof.Adam
public import proofs.«01_k».proof.Proof.Gen.Kernel26Ideal.Value
public import proofs.«01_k».proof.Proof.Gen.Reference26Ideal.Read
public import Idealize.ShloMosaic.Lib.Pointwise
public import Idealize.ShloMosaic.Adequacy
public import Idealize.ShloMosaic.Init

@[expose] public section
noncomputable section
namespace Cert.Kernel26Ideal.Adam
open Cert.Kernel26Ideal Cert.Kernel26Ideal.Gen Idealize.ShloMosaic Idealize.ShloMosaic.TcCoe Idealize.SL.Sem
open Idealize.ShloMosaic.Pipeline (Dat)
open _root_.Adam

/-! ## The band that a point of the grid works on -/

section
variable (m : (ℓ : Loc nD τ sig) → Buf (Elt Ideal) ℓ) (c : Dev nD)

theorem place : ∀ t : Fin cfg0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 256 + 256 ≤ 1024 :=
  (by decide +kernel : ∀ t : Fin grid0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 256 + 256 ≤ 1024)
theorem points : ∀ p : Fin 4, ∃ t : Fin cfg0.N, t.val = p.val := (by decide +kernel : ∀ p : Fin 4, ∃ t : Fin grid0.N, t.val = p.val)
abbrev fit (t : Fin cfg0.N) : t.val * 256 + 256 ≤ 1024 := (place t).2.2.2.2.2.2.2.2.2.2.2

theorem found (i : S2x1024x512.Idx) : ∃ (t : Fin cfg0.N) (j : S2x256x512.Idx), i = up 256 t.val (fit t) j := by
  have b : (i 1).val < 1024 := (i 1).isLt
  obtain ⟨t, ht⟩ := points ⟨(i 1).val / 256, by omega⟩
  exact ⟨t, split (by decide) (fit t) i ht⟩

theorem blk1 (t : Fin cfg0.N) (x : S3x256x512.Idx) : (iblk m c 1 t : Vec Ideal S3x256x512 .bf16) x = m (c.tc.loc main_arg1) (up 256 t.val (fit t) x) := by
  unfold iblk; rw [View.read_apply, ← V_main_arg1 m c]
  exact congrArg (V m c main_arg1) (eq_up (place t).2.1 rfl rfl rfl)
theorem blk3 (t : Fin cfg0.N) (x : S3x256x512.Idx) : (iblk m c 3 t : Vec Ideal S3x256x512 .bf16) x = m (c.tc.loc main_arg3) (up 256 t.val (fit t) x) := by
  unfold iblk; rw [View.read_apply, ← V_main_arg3 m c]
  exact congrArg (V m c main_arg3) (eq_up (place t).2.2.2.1 rfl rfl rfl)
theorem blk4 (t : Fin cfg0.N) (x : S2x256x512.Idx) : (iblk m c 4 t : Vec Ideal S2x256x512 .f32) x = m (c.tc.loc main_arg4) (up 256 t.val (fit t) x) := by
  unfold iblk; rw [View.read_apply, ← V_main_arg4 m c]
  exact congrArg (V m c main_arg4) (eq_up (place t).2.2.2.2.1 rfl rfl rfl)
theorem blk5 (t : Fin cfg0.N) (x : S2x256x512.Idx) : (iblk m c 5 t : Vec Ideal S2x256x512 .f32) x = m (c.tc.loc main_arg5) (up 256 t.val (fit t) x) := by
  unfold iblk; rw [View.read_apply, ← V_main_arg5 m c]
  exact congrArg (V m c main_arg5) (eq_up (place t).2.2.2.2.2.1 rfl rfl rfl)
theorem blk6 (t : Fin cfg0.N) (x : S2x256x512.Idx) : (iblk m c 6 t : Vec Ideal S2x256x512 .f32) x = m (c.tc.loc main_arg6) (up 256 t.val (fit t) x) := by
  unfold iblk; rw [View.read_apply, ← V_main_arg6 m c]
  exact congrArg (V m c main_arg6) (eq_up (place t).2.2.2.2.2.2.1 rfl rfl rfl)
theorem host0 (p : Fin 1024) (q : Fin 512) : (V m c main_v0 : Vec Ideal S1x1024x512 .f32) (ix3 (0 : Fin 1) p q) = m (c.tc.loc main_arg0) (ix2 p q) := by
  have e : V m c main_v0 = broadcastInDim S1x1024x512 ![1, 2] bcast_S1024x512_S1x1024x512_1_2 (m (c.tc.loc main_arg0)) := by
    unfold V; after_results
  rw [e]
  generalize m (c.tc.loc main_arg0) = y
  pointwise
theorem own0 (t : Fin cfg0.N) (p : Fin 256) (q : Fin 512) : (iblk m c 0 t : Vec Ideal S1x256x512 .f32) (ix3 (0 : Fin 1) p q) = m (c.tc.loc main_arg0) (ix2 (row 256 t.val (fit t) p) q) := by
  rw [← host0 m c]
  unfold iblk; rw [View.read_apply]
  exact congrArg (V m c main_v0) (eq_up (h := fit t) (j := ix3 (0 : Fin 1) p q) (place t).1 rfl rfl rfl)
theorem host2 (p : Fin 1024) (q : Fin 512) : (V m c main_v1 : Vec Ideal S1x1024x512 .f32) (ix3 (0 : Fin 1) p q) = m (c.tc.loc main_arg2) (ix2 p q) := by
  have e : V m c main_v1 = broadcastInDim S1x1024x512 ![1, 2] bcast_S1024x512_S1x1024x512_1_2 (m (c.tc.loc main_arg2)) := by
    unfold V; after_results
  rw [e]
  generalize m (c.tc.loc main_arg2) = y
  pointwise
theorem own2 (t : Fin cfg0.N) (p : Fin 256) (q : Fin 512) : (iblk m c 2 t : Vec Ideal S1x256x512 .f32) (ix3 (0 : Fin 1) p q) = m (c.tc.loc main_arg2) (ix2 (row 256 t.val (fit t) p) q) := by
  rw [← host2 m c]
  unfold iblk; rw [View.read_apply]
  exact congrArg (V m c main_v1) (eq_up (h := fit t) (j := ix3 (0 : Fin 1) p q) (place t).2.2.1 rfl rfl rfl)
end

/-! ## What the body leaves in a band -/

section
theorem ld0 {e : EltTy} (X : Vec Ideal S1x256x512 e) (p : Fin 256) (q : Fin 512) : View.ld X r0_0 (ix3 (0 : Fin 1) p q) = X (ix3 0 p q) := slab X 0 (by decide) _ p q
theorem ld1 {e : EltTy} (X : Vec Ideal S3x256x512 e) (p : Fin 256) (q : Fin 512) : View.ld X r0_1 (ix3 (0 : Fin 1) p q) = X (ix3 0 p q) := slab X 0 (by decide) _ p q
theorem ld2 {e : EltTy} (X : Vec Ideal S3x256x512 e) (p : Fin 256) (q : Fin 512) : View.ld X r0_2 (ix3 (0 : Fin 1) p q) = X (ix3 1 p q) := slab X 1 (by decide) _ p q
theorem ld3 {e : EltTy} (X : Vec Ideal S3x256x512 e) (p : Fin 256) (q : Fin 512) : View.ld X r0_3 (ix3 (0 : Fin 1) p q) = X (ix3 2 p q) := slab X 2 (by decide) _ p q
theorem ld4 {e : EltTy} (X : Vec Ideal S2x256x512 e) (p : Fin 256) (q : Fin 512) : View.ld X r0_4 (ix3 (0 : Fin 1) p q) = X (ix3 0 p q) := slab X 0 (by decide) _ p q
theorem ld5 {e : EltTy} (X : Vec Ideal S2x256x512 e) (p : Fin 256) (q : Fin 512) : View.ld X r0_5 (ix3 (0 : Fin 1) p q) = X (ix3 1 p q) := slab X 1 (by decide) _ p q

variable (v0 : Vec Ideal S1x256x512 .f32) (v2 v6 v10 : Vec Ideal S1x256x512 .bf16) (v14 v21 v40 : Vec Ideal S1x256x512 .f32) (p : Fin 256) (q : Fin 512)

theorem sum_a : k0_pay4 (F := Ideal) v0 v2 v6 v10 (ix2 p q) = (v0 (ix3 0 p q) : EReal) + v2 (ix3 0 p q) + v6 (ix3 0 p q) + v10 (ix3 0 p q) := by
  pointwise [k0_pay4]
theorem sum_b : k0_pay15 (F := Ideal) (k0_pay13 v0 v2) (k0_pay14 v6) v10 (ix2 p q) = (v0 (ix3 0 p q) : EReal) + v2 (ix3 0 p q) + v6 (ix3 0 p q) + v10 (ix3 0 p q) := by
  pointwise [k0_pay15, k0_pay13, k0_pay14]
theorem first_a : k0_pay5 (F := Ideal) v0 v2 v6 v10 v14 (ix2 p q) = first (v14 (ix3 0 p q)) (k0_pay4 (F := Ideal) v0 v2 v6 v10 (ix2 p q)) := by
  unfold k0_pay5; generalize k0_pay4 (F := Ideal) v0 v2 v6 v10 = g; unfold first; pointwise
theorem second_a : k0_pay6 (F := Ideal) v0 v2 v6 v10 v21 (ix2 p q) = second (v21 (ix3 0 p q)) (k0_pay4 (F := Ideal) v0 v2 v6 v10 (ix2 p q)) := by
  unfold k0_pay6; generalize k0_pay4 (F := Ideal) v0 v2 v6 v10 = g; unfold second; pointwise
theorem change_a : k0_pay10 (F := Ideal) (k0_pay7 v0 v2 v6 v10 v14) (k0_pay8 v0 v2 v6 v10 v21) v40 (ix3 (0 : Fin 1) p q)
    = change (v40 (ix3 0 p q)) (k0_pay5 (F := Ideal) v0 v2 v6 v10 v14 (ix2 p q)) (k0_pay6 (F := Ideal) v0 v2 v6 v10 v21 (ix2 p q)) := by
  unfold k0_pay7 k0_pay8; generalize k0_pay5 (F := Ideal) v0 v2 v6 v10 v14 = a; generalize k0_pay6 (F := Ideal) v0 v2 v6 v10 v21 = b; unfold change; pointwise [k0_pay10]

variable (v61 : FVec Ideal S256x512 .f32) (v63 : FVec Ideal S256x512 .bf16)
theorem first_b : k0_pay16 (F := Ideal) v61 v63 v10 v14 (ix2 p q) = first (v14 (ix3 0 p q)) (k0_pay15 (F := Ideal) v61 v63 v10 (ix2 p q)) := by
  unfold k0_pay16; generalize k0_pay15 (F := Ideal) v61 v63 v10 = g; unfold first; pointwise
theorem second_b : k0_pay17 (F := Ideal) v61 v63 v10 v21 (ix2 p q) = second (v21 (ix3 0 p q)) (k0_pay15 (F := Ideal) v61 v63 v10 (ix2 p q)) := by
  unfold k0_pay17; generalize k0_pay15 (F := Ideal) v61 v63 v10 = g; unfold second; pointwise
theorem change_b : k0_pay1 (F := Ideal) (k0_pay19 v61 v63 v10 v14 v21) (k0_pay20 v40) (ix3 (0 : Fin 1) p q)
    = change (v40 (ix3 0 p q)) (k0_pay16 (F := Ideal) v61 v63 v10 v14 (ix2 p q)) (k0_pay17 (F := Ideal) v61 v63 v10 v21 (ix2 p q)) := by
  unfold k0_pay19; generalize k0_pay16 (F := Ideal) v61 v63 v10 v14 = a; generalize k0_pay17 (F := Ideal) v61 v63 v10 v21 = b; unfold change; pointwise [k0_pay1, k0_pay20]
theorem put_g (g : FVec Ideal S256x512 .f32) : k0_pay9 g (ix3 (0 : Fin 1) p q) = g (ix2 p q) := by pointwise [k0_pay9]
theorem put_g' : k0_pay18 v61 v63 v10 (ix3 (0 : Fin 1) p q) = k0_pay15 (F := Ideal) v61 v63 v10 (ix2 p q) := by
  unfold k0_pay18; generalize k0_pay15 (F := Ideal) v61 v63 v10 = g; pointwise
theorem put_m (g : FVec Ideal S256x512 .f32) : k0_pay11 g (ix3 (0 : Fin 1) p q) = g (ix2 p q) := by pointwise [k0_pay11]
theorem put_m' (g : FVec Ideal S256x512 .f32) : k0_pay2 g (ix3 (0 : Fin 1) p q) = g (ix2 p q) := by pointwise [k0_pay2]
theorem put_v (g : FVec Ideal S256x512 .f32) : k0_pay12 g (ix3 (0 : Fin 1) p q) = g (ix2 p q) := by pointwise [k0_pay12]
theorem put_v' (g : FVec Ideal S256x512 .f32) : k0_pay3 g (ix3 (0 : Fin 1) p q) = g (ix2 p q) := by pointwise [k0_pay3]

end

section
variable (x0 : Vec Ideal S1x256x512 .f32) (x1 : Vec Ideal S3x256x512 .bf16) (x2 : Vec Ideal S1x256x512 .f32) (x3 : Vec Ideal S3x256x512 .bf16) (x4 x5 x6 : Vec Ideal S2x256x512 .f32)

/-- The gradient of the band, from its parts. -/
abbrev band : S2x256x512.Idx → EReal := grad (fun p q => x0 (ix3 0 p q)) x1 (fun p q => x2 (ix3 0 p q)) x3

theorem out_g (y : S2x256x512.Idx) : out0_7 x0 x1 x2 x3 x4 x5 x6 y = band x0 x1 x2 x3 y := by
  unfold out0_7 k0_pay21 k0_pay22
  refine two (band x0 x1 x2 x3) _ _ _ _ (fun p q => ?_) (fun p q => ?_) y (cover0_7 _ _ y)
  · rw [put_g, sum_a, ld0, ld1, ld2, ld3]; rfl
  · rw [put_g', sum_b, ld0, ld1, ld2, ld3]; rfl
theorem out_m (y : S2x256x512.Idx) : out0_9 x0 x1 x2 x3 x4 x5 x6 y = first (x5 y) (band x0 x1 x2 x3 y) := by
  unfold out0_9 k0_pay21 k0_pay22
  refine two (fun y => first (x5 y) (band x0 x1 x2 x3 y)) _ _ _ _ (fun p q => ?_) (fun p q => ?_) y (cover0_9 _ _ y)
  · rw [put_m, first_a, sum_a, ld0, ld1, ld2, ld3, ld4]; rfl
  · rw [put_m', first_b, sum_b, ld0, ld1, ld2, ld3, ld5]; rfl
theorem out_v (y : S2x256x512.Idx) : out0_10 x0 x1 x2 x3 x4 x5 x6 y = second (x6 y) (band x0 x1 x2 x3 y) := by
  unfold out0_10 k0_pay21 k0_pay22
  refine two (fun y => second (x6 y) (band x0 x1 x2 x3 y)) _ _ _ _ (fun p q => ?_) (fun p q => ?_) y (cover0_10 _ _ y)
  · rw [put_v, second_a, sum_a, ld0, ld1, ld2, ld3, ld4]; rfl
  · rw [put_v', second_b, sum_b, ld0, ld1, ld2, ld3, ld5]; rfl
theorem out_d (y : S2x256x512.Idx) : out0_8 x0 x1 x2 x3 x4 x5 x6 y = change (x4 y) (first (x5 y) (band x0 x1 x2 x3 y)) (second (x6 y) (band x0 x1 x2 x3 y)) := by
  unfold out0_8 k0_pay21 k0_pay22
  refine two (fun y => change (x4 y) (first (x5 y) (band x0 x1 x2 x3 y)) (second (x6 y) (band x0 x1 x2 x3 y))) _ _ _ _ (fun p q => ?_) (fun p q => ?_) y (cover0_8 _ _ y)
  · rw [change_a, first_a, second_a, sum_a, ld0, ld1, ld2, ld3, ld4, ld4, ld4]; rfl
  · rw [change_b, first_b, second_b, sum_b, ld0, ld1, ld2, ld3, ld5, ld5, ld5]; rfl

end

/-! ## What the reference returns -/

/-- The whole gradient, from its parts. -/
abbrev whole (y0 : S1024x512.Idx → Elt Ideal .f32) (y1 : S3x1024x512.Idx → Elt Ideal .bf16) (y2 : S1024x512.Idx → Elt Ideal .f32) (y3 : S3x1024x512.Idx → Elt Ideal .bf16) : S2x1024x512.Idx → EReal := grad (fun p q => y0 (ix2 p q)) y1 (fun p q => y2 (ix2 p q)) y3

section
open Cert.Reference26Ideal.Read
variable (y0 : S1024x512.Idx → Elt Ideal .f32) (y1 : S3x1024x512.Idx → Elt Ideal .bf16) (y2 : S1024x512.Idx → Elt Ideal .f32) (y3 : S3x1024x512.Idx → Elt Ideal .bf16) (y4 y5 y6 : S2x1024x512.Idx → Elt Ideal .f32)

theorem slab_a (p : Fin 1024) (q : Fin 512) : val_main_v2 (F := Ideal) y0 y1 (ix2 p q) = sum4 (fun p q => y0 (ix2 p q)) y1 p q := by
  rw [val_main_v2_apply, val_main_v1_apply, val_main_cst_apply, Ideal.ofBits_def, Ideal.ofBits_zero_f32, Ideal.addf_def, parts]
  have e : ∀ k : Fin 3, idx_main_v1 (ix2 p q) k = ix3 k p q := fun k => ext3 rfl rfl rfl
  rw [e, e, e]
  rfl
theorem slab_b (p : Fin 1024) (q : Fin 512) : val_main_v5 (F := Ideal) y2 y3 (ix2 p q) = sum4 (fun p q => y2 (ix2 p q)) y3 p q := by
  rw [val_main_v5_apply, val_main_v4_apply, val_main_cst_0_apply, Ideal.ofBits_def, Ideal.ofBits_zero_f32, Ideal.addf_def, parts]
  have e : ∀ k : Fin 3, idx_main_v4 (ix2 p q) k = ix3 k p q := fun k => ext3 rfl rfl rfl
  rw [e, e, e]
  rfl

theorem ref_g (i : S2x1024x512.Idx) : val_main_v8 (F := Ideal) y0 y1 y2 y3 i = whole y0 y1 y2 y3 i := by
  unfold val_main_v8
  refine stacked (fun p q => ?_) (fun p q => ?_) _ i
  · exact (val_main_v6_apply _ _ _).trans ((congrArg (val_main_v2 (F := Ideal) y0 y1) (Mm.ext2 rfl rfl : idx_main_v6 (ix3 (0 : Fin 1) p q) = ix2 p q)).trans (slab_a _ _ p q))
  · exact (val_main_v7_apply _ _ _).trans ((congrArg (val_main_v5 (F := Ideal) y2 y3) (Mm.ext2 rfl rfl : idx_main_v7 (ix3 (0 : Fin 1) p q) = ix2 p q)).trans (slab_b _ _ p q))
theorem ref_m (i : S2x1024x512.Idx) : val_main_v13 (F := Ideal) y0 y1 y2 y3 y5 i = first (y5 i) (whole y0 y1 y2 y3 i) := by
  rw [val_main_v13_apply, val_main_v12_apply, val_main_v11_apply, val_main_v10_apply, val_main_v9_apply, ref_g]; rfl
theorem ref_v (i : S2x1024x512.Idx) : val_main_v19 (F := Ideal) y0 y1 y2 y3 y6 i = second (y6 i) (whole y0 y1 y2 y3 i) := by
  rw [val_main_v19_apply, val_main_v18_apply, val_main_v17_apply, val_main_v16_apply, val_main_v15_apply, val_main_v14_apply, ref_g]; rfl
theorem ref_d (i : S2x1024x512.Idx) : val_main_v32 (F := Ideal) y0 y1 y2 y3 y4 y5 y6 i = change (y4 i) (first (y5 i) (whole y0 y1 y2 y3 i)) (second (y6 i) (whole y0 y1 y2 y3 i)) := by
  rw [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, ref_m, ref_v]; rfl
end

/-! ## The values -/

section
variable (m : (ℓ : Loc nD τ sig) → Buf (Elt Ideal) ℓ) (c : Dev nD)

theorem band_eq (t : Fin cfg0.N) (j : S2x256x512.Idx) : band (iblk m c 0 t) (iblk m c 1 t) (iblk m c 2 t) (iblk m c 3 t) j = (whole (m (c.tc.loc main_arg0)) (m (c.tc.loc main_arg1)) (m (c.tc.loc main_arg2)) (m (c.tc.loc main_arg3))) (up 256 t.val (fit t) j) :=
  grad_up (fit t) (own0 m c t) (blk1 m c t) (own2 m c t) (blk3 m c t) j

theorem value_g : (Gen.dats m 0 c).arrAt 7 cfg0.N = Cert.Reference26Ideal.Read.val_main_v8 (F := Ideal) (m (c.tc.loc main_arg0)) (m (c.tc.loc main_arg1)) (m (c.tc.loc main_arg2)) (m (c.tc.loc main_arg3)) := by
  have he : ∀ (t : Fin cfg0.N) (j : S2x256x512.Idx), ((cfg0.win 7).blk t).view.emb j = up 256 t.val (fit t) j := fun t j => eq_up (place t).2.2.2.2.2.2.2.1 rfl rfl rfl
  refine (Gen.dats m 0 c).arrAt_eq_of_cover 7 _ (fun t hf => ?_) (fun i => ?_)
  · rw [Value.flushed7]
    funext j
    rw [View.read_apply]
    show out0_7 _ _ _ _ _ _ _ j = _
    rw [out_g, he t j, ref_g, band_eq]
    rfl
  · obtain ⟨t, j, hj⟩ := found i
    refine ⟨t, flush0_7 t, ?_⟩
    have hx : i = ((cfg0.win 7).blk t).view.emb j := by rw [he]; exact hj
    exact hx ▸ View.emb_mem_set _ _
theorem value_d : (Gen.dats m 0 c).arrAt 8 cfg0.N = Cert.Reference26Ideal.Read.val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  have he : ∀ (t : Fin cfg0.N) (j : S2x256x512.Idx), ((cfg0.win 8).blk t).view.emb j = up 256 t.val (fit t) j := fun t j => eq_up (place t).2.2.2.2.2.2.2.2.1 rfl rfl rfl
  refine (Gen.dats m 0 c).arrAt_eq_of_cover 8 _ (fun t hf => ?_) (fun i => ?_)
  · rw [Value.flushed8]
    funext j
    rw [View.read_apply]
    show out0_8 _ _ _ _ _ _ _ j = _
    rw [out_d, he t j, ref_d, band_eq, blk4, blk5, blk6]
    rfl
  · obtain ⟨t, j, hj⟩ := found i
    refine ⟨t, flush0_8 t, ?_⟩
    have hx : i = ((cfg0.win 8).blk t).view.emb j := by rw [he]; exact hj
    exact hx ▸ View.emb_mem_set _ _
theorem value_m : (Gen.dats m 0 c).arrAt 9 cfg0.N = Cert.Reference26Ideal.Read.val_main_v13 (F := Ideal) (m (c.tc.loc main_arg0)) (m (c.tc.loc main_arg1)) (m (c.tc.loc main_arg2)) (m (c.tc.loc main_arg3)) (m (c.tc.loc main_arg5)) := by
  have he : ∀ (t : Fin cfg0.N) (j : S2x256x512.Idx), ((cfg0.win 9).blk t).view.emb j = up 256 t.val (fit t) j := fun t j => eq_up (place t).2.2.2.2.2.2.2.2.2.1 rfl rfl rfl
  refine (Gen.dats m 0 c).arrAt_eq_of_cover 9 _ (fun t hf => ?_) (fun i => ?_)
  · rw [Value.flushed9]
    funext j
    rw [View.read_apply]
    show out0_9 _ _ _ _ _ _ _ j = _
    rw [out_m, he t j, ref_m, band_eq, blk5]
    rfl
  · obtain ⟨t, j, hj⟩ := found i
    refine ⟨t, flush0_9 t, ?_⟩
    have hx : i = ((cfg0.win 9).blk t).view.emb j := by rw [he]; exact hj
    exact hx ▸ View.emb_mem_set _ _
theorem value_v : (Gen.dats m 0 c).arrAt 10 cfg0.N = Cert.Reference26Ideal.Read.val_main_v19 (F := Ideal) (m (c.tc.loc main_arg0)) (m (c.tc.loc main_arg1)) (m (c.tc.loc main_arg2)) (m (c.tc.loc main_arg3)) (m (c.tc.loc main_arg6)) := by
  have he : ∀ (t : Fin cfg0.N) (j : S2x256x512.Idx), ((cfg0.win 10).blk t).view.emb j = up 256 t.val (fit t) j := fun t j => eq_up (place t).2.2.2.2.2.2.2.2.2.2.1 rfl rfl rfl
  refine (Gen.dats m 0 c).arrAt_eq_of_cover 10 _ (fun t hf => ?_) (fun i => ?_)
  · rw [Value.flushed10]
    funext j
    rw [View.read_apply]
    show out0_10 _ _ _ _ _ _ _ j = _
    rw [out_v, he t j, ref_v, band_eq, blk6]
    rfl
  · obtain ⟨t, j, hj⟩ := found i
    refine ⟨t, flush0_10 t, ?_⟩
    have hx : i = ((cfg0.win 10).blk t).view.emb j := by rw [he]; exact hj
    exact hx ▸ View.emb_mem_set _ _
end

/-- Kernel and reference return the same gradient, change and moments. -/
theorem algebraic : @Cert.algebraic_Kernel26Ideal_Reference26Ideal Cert.Kernel26Ideal.Gen.facts Cert.Reference26Ideal.Gen.facts := by
  intro m ρ m' ρ' _ hagree
  refine ⟨_, _, _, _, Cert.Kernel26Ideal.Value.run_blocks m ρ, ?_⟩
  refine (θ_run _ _ _).mono (fun r h c => ?_) (Cert.Reference26Ideal.Value.run (F := Ideal) m' ρ')
  obtain ⟨h0, h1, h2, h3, hk⟩ := h c
  obtain ⟨e0, e1, e2, e3, e4, e5, e6⟩ := hagree c
  refine ⟨h0.trans ?_, h1.trans ?_, h2.trans ?_, h3.trans ?_, hk⟩
  · rw [value_g m c]
    refine (Cert.Reference26Ideal.Read.val_main_v8_eq _ _ _ _).trans ?_
    rw [e0, e1, e2, e3]
  · rw [value_d m c]
    refine (Cert.Reference26Ideal.Read.val_main_v32_eq _ _ _ _ _ _ _).trans ?_
    rw [e0, e1, e2, e3, e4, e5, e6]
  · rw [value_m m c]
    refine (Cert.Reference26Ideal.Read.val_main_v13_eq _ _ _ _ _).trans ?_
    rw [e0, e1, e2, e3, e5]
  · rw [value_v m c]
    refine (Cert.Reference26Ideal.Read.val_main_v19_eq _ _ _ _ _).trans ?_
    rw [e0, e1, e2, e3, e6]

/-- The reference runs and keeps its arguments; it has no semaphores. -/
theorem frame_reference : @Cert.quiescent_Reference26Ideal Cert.Reference26Ideal.Gen.facts := fun m ρ _ =>
  (θ_run Cert.Reference26Ideal.defs _ _).mono (fun r h => ⟨fun c => (h c).2.2.2.2, sem_eq_zero_of_no_sems (by decide) r.2⟩)
    (Cert.Reference26Ideal.Value.run (F := Ideal) m ρ)

end Cert.Kernel26Ideal.Adam
end
end
-- ==== Proof.AdamDown.lean ====
/-
  The optimiser's step on the feed-forward's second weight, in bands of rows.
-/
module

public import proofs.«01_k».proof.Defs
public import proofs.«01_k».proof.Proof.Adam
public import proofs.«01_k».proof.Proof.Gen.Kernel27Ideal.Value
public import proofs.«01_k».proof.Proof.Gen.Reference27Ideal.Read
public import Idealize.ShloMosaic.Lib.Pointwise
public import Idealize.ShloMosaic.Adequacy
public import Idealize.ShloMosaic.Init

@[expose] public section
noncomputable section
namespace Cert.Kernel27Ideal.Adam
open Cert.Kernel27Ideal Cert.Kernel27Ideal.Gen Idealize.ShloMosaic Idealize.ShloMosaic.TcCoe Idealize.SL.Sem
open Idealize.ShloMosaic.Pipeline (Dat)
open _root_.Adam

/-! ## The band that a point of the grid works on -/

section
variable (m : (ℓ : Loc nD τ sig) → Buf (Elt Ideal) ℓ) (c : Dev nD)

theorem place : ∀ t : Fin cfg0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 256 + 256 ≤ 512 :=
  (by decide +kernel : ∀ t : Fin grid0.N, Lies (win0_0.index t) t.val ∧ Lies (win0_1.index t) t.val ∧ Lies (win0_2.index t) t.val ∧ Lies (win0_3.index t) t.val ∧ Lies (win0_4.index t) t.val ∧ Lies (win0_5.index t) t.val ∧ Lies (win0_6.index t) t.val ∧ Lies (win0_7.index t) t.val ∧ Lies (win0_8.index t) t.val ∧ Lies (win0_9.index t) t.val ∧ Lies (win0_10.index t) t.val ∧ t.val * 256 + 256 ≤ 512)
theorem points : ∀ p : Fin 2, ∃ t : Fin cfg0.N, t.val = p.val := (by decide +kernel : ∀ p : Fin 2, ∃ t : Fin grid0.N, t.val = p.val)
abbrev fit (t : Fin cfg0.N) : t.val * 256 + 256 ≤ 512 := (place t).2.2.2.2.2.2.2.2.2.2.2

theorem found (i : S2x512x1024.Idx) : ∃ (t : Fin cfg0.N) (j : S2x256x1024.Idx), i = up 256 t.val (fit t) j := by
  have b : (i 1).val < 512 := (i 1).isLt
  obtain ⟨t, ht⟩ := points ⟨(i 1).val / 256, by omega⟩
  exact ⟨t, split (by decide) (fit t) i ht⟩

theorem blk1 (t : Fin cfg0.N) (x : S3x256x1024.Idx) : (iblk m c 1 t : Vec Ideal S3x256x1024 .bf16) x = m (c.tc.loc main_arg1) (up 256 t.val (fit t) x) := by
  unfold iblk; rw [View.read_apply, ← V_main_arg1 m c]
  exact congrArg (V m c main_arg1) (eq_up (place t).2.1 rfl rfl rfl)
theorem blk3 (t : Fin cfg0.N) (x : S3x256x1024.Idx) : (iblk m c 3 t : Vec Ideal S3x256x1024 .bf16) x = m (c.tc.loc main_arg3) (up 256 t.val (fit t) x) := by
  unfold iblk; rw [View.read_apply, ← V_main_arg3 m c]
  exact congrArg (V m c main_arg3) (eq_up (place t).2.2.2.1 rfl rfl rfl)
theorem blk4 (t : Fin cfg0.N) (x : S2x256x1024.Idx) : (iblk m c 4 t : Vec Ideal S2x256x1024 .f32) x = m (c.tc.loc main_arg4) (up 256 t.val (fit t) x) := by
  unfold iblk; rw [View.read_apply, ← V_main_arg4 m c]
  exact congrArg (V m c main_arg4) (eq_up (place t).2.2.2.2.1 rfl rfl rfl)
theorem blk5 (t : Fin cfg0.N) (x : S2x256x1024.Idx) : (iblk m c 5 t : Vec Ideal S2x256x1024 .f32) x = m (c.tc.loc main_arg5) (up 256 t.val (fit t) x) := by
  unfold iblk; rw [View.read_apply, ← V_main_arg5 m c]
  exact congrArg (V m c main_arg5) (eq_up (place t).2.2.2.2.2.1 rfl rfl rfl)
theorem blk6 (t : Fin cfg0.N) (x : S2x256x1024.Idx) : (iblk m c 6 t : Vec Ideal S2x256x1024 .f32) x = m (c.tc.loc main_arg6) (up 256 t.val (fit t) x) := by
  unfold iblk; rw [View.read_apply, ← V_main_arg6 m c]
  exact congrArg (V m c main_arg6) (eq_up (place t).2.2.2.2.2.2.1 rfl rfl rfl)
theorem host0 (p : Fin 512) (q : Fin 1024) : (V m c main_v0 : Vec Ideal S1x512x1024 .f32) (ix3 (0 : Fin 1) p q) = m (c.tc.loc main_arg0) (ix2 p q) := by
  have e : V m c main_v0 = broadcastInDim S1x512x1024 ![1, 2] bcast_S512x1024_S1x512x1024_1_2 (m (c.tc.loc main_arg0)) := by
    unfold V; after_results
  rw [e]
  generalize m (c.tc.loc main_arg0) = y
  pointwise
theorem own0 (t : Fin cfg0.N) (p : Fin 256) (q : Fin 1024) : (iblk m c 0 t : Vec Ideal S1x256x1024 .f32) (ix3 (0 : Fin 1) p q) = m (c.tc.loc main_arg0) (ix2 (row 256 t.val (fit t) p) q) := by
  rw [← host0 m c]
  unfold iblk; rw [View.read_apply]
  exact congrArg (V m c main_v0) (eq_up (h := fit t) (j := ix3 (0 : Fin 1) p q) (place t).1 rfl rfl rfl)
theorem host2 (p : Fin 512) (q : Fin 1024) : (V m c main_v1 : Vec Ideal S1x512x1024 .f32) (ix3 (0 : Fin 1) p q) = m (c.tc.loc main_arg2) (ix2 p q) := by
  have e : V m c main_v1 = broadcastInDim S1x512x1024 ![1, 2] bcast_S512x1024_S1x512x1024_1_2 (m (c.tc.loc main_arg2)) := by
    unfold V; after_results
  rw [e]
  generalize m (c.tc.loc main_arg2) = y
  pointwise
theorem own2 (t : Fin cfg0.N) (p : Fin 256) (q : Fin 1024) : (iblk m c 2 t : Vec Ideal S1x256x1024 .f32) (ix3 (0 : Fin 1) p q) = m (c.tc.loc main_arg2) (ix2 (row 256 t.val (fit t) p) q) := by
  rw [← host2 m c]
  unfold iblk; rw [View.read_apply]
  exact congrArg (V m c main_v1) (eq_up (h := fit t) (j := ix3 (0 : Fin 1) p q) (place t).2.2.1 rfl rfl rfl)
end

/-! ## What the body leaves in a band -/

section
theorem ld0 {e : EltTy} (X : Vec Ideal S1x256x1024 e) (p : Fin 256) (q : Fin 1024) : View.ld X r0_0 (ix3 (0 : Fin 1) p q) = X (ix3 0 p q) := slab X 0 (by decide) _ p q
theorem ld1 {e : EltTy} (X : Vec Ideal S3x256x1024 e) (p : Fin 256) (q : Fin 1024) : View.ld X r0_1 (ix3 (0 : Fin 1) p q) = X (ix3 0 p q) := slab X 0 (by decide) _ p q
theorem ld2 {e : EltTy} (X : Vec Ideal S3x256x1024 e) (p : Fin 256) (q : Fin 1024) : View.ld X r0_2 (ix3 (0 : Fin 1) p q) = X (ix3 1 p q) := slab X 1 (by decide) _ p q
theorem ld3 {e : EltTy} (X : Vec Ideal S3x256x1024 e) (p : Fin 256) (q : Fin 1024) : View.ld X r0_3 (ix3 (0 : Fin 1) p q) = X (ix3 2 p q) := slab X 2 (by decide) _ p q
theorem ld4 {e : EltTy} (X : Vec Ideal S2x256x1024 e) (p : Fin 256) (q : Fin 1024) : View.ld X r0_4 (ix3 (0 : Fin 1) p q) = X (ix3 0 p q) := slab X 0 (by decide) _ p q
theorem ld5 {e : EltTy} (X : Vec Ideal S2x256x1024 e) (p : Fin 256) (q : Fin 1024) : View.ld X r0_5 (ix3 (0 : Fin 1) p q) = X (ix3 1 p q) := slab X 1 (by decide) _ p q

variable (v0 : Vec Ideal S1x256x1024 .f32) (v2 v6 v10 : Vec Ideal S1x256x1024 .bf16) (v14 v21 v40 : Vec Ideal S1x256x1024 .f32) (p : Fin 256) (q : Fin 1024)

theorem sum_a : k0_pay4 (F := Ideal) v0 v2 v6 v10 (ix2 p q) = (v0 (ix3 0 p q) : EReal) + v2 (ix3 0 p q) + v6 (ix3 0 p q) + v10 (ix3 0 p q) := by
  pointwise [k0_pay4]
theorem sum_b : k0_pay15 (F := Ideal) (k0_pay13 v0 v2) (k0_pay14 v6) v10 (ix2 p q) = (v0 (ix3 0 p q) : EReal) + v2 (ix3 0 p q) + v6 (ix3 0 p q) + v10 (ix3 0 p q) := by
  pointwise [k0_pay15, k0_pay13, k0_pay14]
theorem first_a : k0_pay5 (F := Ideal) v0 v2 v6 v10 v14 (ix2 p q) = first (v14 (ix3 0 p q)) (k0_pay4 (F := Ideal) v0 v2 v6 v10 (ix2 p q)) := by
  unfold k0_pay5; generalize k0_pay4 (F := Ideal) v0 v2 v6 v10 = g; unfold first; pointwise
theorem second_a : k0_pay6 (F := Ideal) v0 v2 v6 v10 v21 (ix2 p q) = second (v21 (ix3 0 p q)) (k0_pay4 (F := Ideal) v0 v2 v6 v10 (ix2 p q)) := by
  unfold k0_pay6; generalize k0_pay4 (F := Ideal) v0 v2 v6 v10 = g; unfold second; pointwise
theorem change_a : k0_pay10 (F := Ideal) (k0_pay7 v0 v2 v6 v10 v14) (k0_pay8 v0 v2 v6 v10 v21) v40 (ix3 (0 : Fin 1) p q)
    = change (v40 (ix3 0 p q)) (k0_pay5 (F := Ideal) v0 v2 v6 v10 v14 (ix2 p q)) (k0_pay6 (F := Ideal) v0 v2 v6 v10 v21 (ix2 p q)) := by
  unfold k0_pay7 k0_pay8; generalize k0_pay5 (F := Ideal) v0 v2 v6 v10 v14 = a; generalize k0_pay6 (F := Ideal) v0 v2 v6 v10 v21 = b; unfold change; pointwise [k0_pay10]

variable (v61 : FVec Ideal S256x1024 .f32) (v63 : FVec Ideal S256x1024 .bf16)
theorem first_b : k0_pay16 (F := Ideal) v61 v63 v10 v14 (ix2 p q) = first (v14 (ix3 0 p q)) (k0_pay15 (F := Ideal) v61 v63 v10 (ix2 p q)) := by
  unfold k0_pay16; generalize k0_pay15 (F := Ideal) v61 v63 v10 = g; unfold first; pointwise
theorem second_b : k0_pay17 (F := Ideal) v61 v63 v10 v21 (ix2 p q) = second (v21 (ix3 0 p q)) (k0_pay15 (F := Ideal) v61 v63 v10 (ix2 p q)) := by
  unfold k0_pay17; generalize k0_pay15 (F := Ideal) v61 v63 v10 = g; unfold second; pointwise
theorem change_b : k0_pay1 (F := Ideal) (k0_pay19 v61 v63 v10 v14 v21) (k0_pay20 v40) (ix3 (0 : Fin 1) p q)
    = change (v40 (ix3 0 p q)) (k0_pay16 (F := Ideal) v61 v63 v10 v14 (ix2 p q)) (k0_pay17 (F := Ideal) v61 v63 v10 v21 (ix2 p q)) := by
  unfold k0_pay19; generalize k0_pay16 (F := Ideal) v61 v63 v10 v14 = a; generalize k0_pay17 (F := Ideal) v61 v63 v10 v21 = b; unfold change; pointwise [k0_pay1, k0_pay20]
theorem put_g (g : FVec Ideal S256x1024 .f32) : k0_pay9 g (ix3 (0 : Fin 1) p q) = g (ix2 p q) := by pointwise [k0_pay9]
theorem put_g' : k0_pay18 v61 v63 v10 (ix3 (0 : Fin 1) p q) = k0_pay15 (F := Ideal) v61 v63 v10 (ix2 p q) := by
  unfold k0_pay18; generalize k0_pay15 (F := Ideal) v61 v63 v10 = g; pointwise
theorem put_m (g : FVec Ideal S256x1024 .f32) : k0_pay11 g (ix3 (0 : Fin 1) p q) = g (ix2 p q) := by pointwise [k0_pay11]
theorem put_m' (g : FVec Ideal S256x1024 .f32) : k0_pay2 g (ix3 (0 : Fin 1) p q) = g (ix2 p q) := by pointwise [k0_pay2]
theorem put_v (g : FVec Ideal S256x1024 .f32) : k0_pay12 g (ix3 (0 : Fin 1) p q) = g (ix2 p q) := by pointwise [k0_pay12]
theorem put_v' (g : FVec Ideal S256x1024 .f32) : k0_pay3 g (ix3 (0 : Fin 1) p q) = g (ix2 p q) := by pointwise [k0_pay3]

end

section
variable (x0 : Vec Ideal S1x256x1024 .f32) (x1 : Vec Ideal S3x256x1024 .bf16) (x2 : Vec Ideal S1x256x1024 .f32) (x3 : Vec Ideal S3x256x1024 .bf16) (x4 x5 x6 : Vec Ideal S2x256x1024 .f32)

/-- The gradient of the band, from its parts. -/
abbrev band : S2x256x1024.Idx → EReal := grad (fun p q => x0 (ix3 0 p q)) x1 (fun p q => x2 (ix3 0 p q)) x3

theorem out_g (y : S2x256x1024.Idx) : out0_7 x0 x1 x2 x3 x4 x5 x6 y = band x0 x1 x2 x3 y := by
  unfold out0_7 k0_pay21 k0_pay22
  refine two (band x0 x1 x2 x3) _ _ _ _ (fun p q => ?_) (fun p q => ?_) y (cover0_7 _ _ y)
  · rw [put_g, sum_a, ld0, ld1, ld2, ld3]; rfl
  · rw [put_g', sum_b, ld0, ld1, ld2, ld3]; rfl
theorem out_m (y : S2x256x1024.Idx) : out0_9 x0 x1 x2 x3 x4 x5 x6 y = first (x5 y) (band x0 x1 x2 x3 y) := by
  unfold out0_9 k0_pay21 k0_pay22
  refine two (fun y => first (x5 y) (band x0 x1 x2 x3 y)) _ _ _ _ (fun p q => ?_) (fun p q => ?_) y (cover0_9 _ _ y)
  · rw [put_m, first_a, sum_a, ld0, ld1, ld2, ld3, ld4]; rfl
  · rw [put_m', first_b, sum_b, ld0, ld1, ld2, ld3, ld5]; rfl
theorem out_v (y : S2x256x1024.Idx) : out0_10 x0 x1 x2 x3 x4 x5 x6 y = second (x6 y) (band x0 x1 x2 x3 y) := by
  unfold out0_10 k0_pay21 k0_pay22
  refine two (fun y => second (x6 y) (band x0 x1 x2 x3 y)) _ _ _ _ (fun p q => ?_) (fun p q => ?_) y (cover0_10 _ _ y)
  · rw [put_v, second_a, sum_a, ld0, ld1, ld2, ld3, ld4]; rfl
  · rw [put_v', second_b, sum_b, ld0, ld1, ld2, ld3, ld5]; rfl
theorem out_d (y : S2x256x1024.Idx) : out0_8 x0 x1 x2 x3 x4 x5 x6 y = change (x4 y) (first (x5 y) (band x0 x1 x2 x3 y)) (second (x6 y) (band x0 x1 x2 x3 y)) := by
  unfold out0_8 k0_pay21 k0_pay22
  refine two (fun y => change (x4 y) (first (x5 y) (band x0 x1 x2 x3 y)) (second (x6 y) (band x0 x1 x2 x3 y))) _ _ _ _ (fun p q => ?_) (fun p q => ?_) y (cover0_8 _ _ y)
  · rw [change_a, first_a, second_a, sum_a, ld0, ld1, ld2, ld3, ld4, ld4, ld4]; rfl
  · rw [change_b, first_b, second_b, sum_b, ld0, ld1, ld2, ld3, ld5, ld5, ld5]; rfl

end

/-! ## What the reference returns -/

/-- The whole gradient, from its parts. -/
abbrev whole (y0 : S512x1024.Idx → Elt Ideal .f32) (y1 : S3x512x1024.Idx → Elt Ideal .bf16) (y2 : S512x1024.Idx → Elt Ideal .f32) (y3 : S3x512x1024.Idx → Elt Ideal .bf16) : S2x512x1024.Idx → EReal := grad (fun p q => y0 (ix2 p q)) y1 (fun p q => y2 (ix2 p q)) y3

section
open Cert.Reference27Ideal.Read
variable (y0 : S512x1024.Idx → Elt Ideal .f32) (y1 : S3x512x1024.Idx → Elt Ideal .bf16) (y2 : S512x1024.Idx → Elt Ideal .f32) (y3 : S3x512x1024.Idx → Elt Ideal .bf16) (y4 y5 y6 : S2x512x1024.Idx → Elt Ideal .f32)

theorem slab_a (p : Fin 512) (q : Fin 1024) : val_main_v2 (F := Ideal) y0 y1 (ix2 p q) = sum4 (fun p q => y0 (ix2 p q)) y1 p q := by
  rw [val_main_v2_apply, val_main_v1_apply, val_main_cst_apply, Ideal.ofBits_def, Ideal.ofBits_zero_f32, Ideal.addf_def, parts]
  have e : ∀ k : Fin 3, idx_main_v1 (ix2 p q) k = ix3 k p q := fun k => ext3 rfl rfl rfl
  rw [e, e, e]
  rfl
theorem slab_b (p : Fin 512) (q : Fin 1024) : val_main_v5 (F := Ideal) y2 y3 (ix2 p q) = sum4 (fun p q => y2 (ix2 p q)) y3 p q := by
  rw [val_main_v5_apply, val_main_v4_apply, val_main_cst_0_apply, Ideal.ofBits_def, Ideal.ofBits_zero_f32, Ideal.addf_def, parts]
  have e : ∀ k : Fin 3, idx_main_v4 (ix2 p q) k = ix3 k p q := fun k => ext3 rfl rfl rfl
  rw [e, e, e]
  rfl

theorem ref_g (i : S2x512x1024.Idx) : val_main_v8 (F := Ideal) y0 y1 y2 y3 i = whole y0 y1 y2 y3 i := by
  unfold val_main_v8
  refine stacked (fun p q => ?_) (fun p q => ?_) _ i
  · exact (val_main_v6_apply _ _ _).trans ((congrArg (val_main_v2 (F := Ideal) y0 y1) (Mm.ext2 rfl rfl : idx_main_v6 (ix3 (0 : Fin 1) p q) = ix2 p q)).trans (slab_a _ _ p q))
  · exact (val_main_v7_apply _ _ _).trans ((congrArg (val_main_v5 (F := Ideal) y2 y3) (Mm.ext2 rfl rfl : idx_main_v7 (ix3 (0 : Fin 1) p q) = ix2 p q)).trans (slab_b _ _ p q))
theorem ref_m (i : S2x512x1024.Idx) : val_main_v13 (F := Ideal) y0 y1 y2 y3 y5 i = first (y5 i) (whole y0 y1 y2 y3 i) := by
  rw [val_main_v13_apply, val_main_v12_apply, val_main_v11_apply, val_main_v10_apply, val_main_v9_apply, ref_g]; rfl
theorem ref_v (i : S2x512x1024.Idx) : val_main_v19 (F := Ideal) y0 y1 y2 y3 y6 i = second (y6 i) (whole y0 y1 y2 y3 i) := by
  rw [val_main_v19_apply, val_main_v18_apply, val_main_v17_apply, val_main_v16_apply, val_main_v15_apply, val_main_v14_apply, ref_g]; rfl
theorem ref_d (i : S2x512x1024.Idx) : val_main_v32 (F := Ideal) y0 y1 y2 y3 y4 y5 y6 i = change (y4 i) (first (y5 i) (whole y0 y1 y2 y3 i)) (second (y6 i) (whole y0 y1 y2 y3 i)) := by
  rw [val_main_v32_apply, val_main_v31_apply, val_main_v30_apply, val_main_v29_apply, val_main_v28_apply, val_main_v27_apply, val_main_v26_apply,
    val_main_v25_apply, val_main_v24_apply, val_main_v23_apply, val_main_v22_apply, val_main_v21_apply, val_main_v20_apply, ref_m, ref_v]; rfl
end

/-! ## The values -/

section
variable (m : (ℓ : Loc nD τ sig) → Buf (Elt Ideal) ℓ) (c : Dev nD)

theorem band_eq (t : Fin cfg0.N) (j : S2x256x1024.Idx) : band (iblk m c 0 t) (iblk m c 1 t) (iblk m c 2 t) (iblk m c 3 t) j = (whole (m (c.tc.loc main_arg0)) (m (c.tc.loc main_arg1)) (m (c.tc.loc main_arg2)) (m (c.tc.loc main_arg3))) (up 256 t.val (fit t) j) :=
  grad_up (fit t) (own0 m c t) (blk1 m c t) (own2 m c t) (blk3 m c t) j

theorem value_g : (Gen.dats m 0 c).arrAt 7 cfg0.N = Cert.Reference27Ideal.Read.val_main_v8 (F := Ideal) (m (c.tc.loc main_arg0)) (m (c.tc.loc main_arg1)) (m (c.tc.loc main_arg2)) (m (c.tc.loc main_arg3)) := by
  have he : ∀ (t : Fin cfg0.N) (j : S2x256x1024.Idx), ((cfg0.win 7).blk t).view.emb j = up 256 t.val (fit t) j := fun t j => eq_up (place t).2.2.2.2.2.2.2.1 rfl rfl rfl
  refine (Gen.dats m 0 c).arrAt_eq_of_cover 7 _ (fun t hf => ?_) (fun i => ?_)
  · rw [Value.flushed7]
    funext j
    rw [View.read_apply]
    show out0_7 _ _ _ _ _ _ _ j = _
    rw [out_g, he t j, ref_g, band_eq]
    rfl
  · obtain ⟨t, j, hj⟩ := found i
    refine ⟨t, flush0_7 t, ?_⟩
    have hx : i = ((cfg0.win 7).blk t).view.emb j := by rw [he]; exact hj
    exact hx ▸ View.emb_mem_set _ _
theorem value_d : (Gen.dats m 0 c).arrAt 8 cfg0.N = Cert.Reference27Ideal.Read.val_main_v32 (F := Ideal) (m (c.tc.loc main_arg0)) (m (c.tc.loc main_arg1)) (m (c.tc.loc main_arg2)) (m (c.tc.loc main_arg3)) (m (c.tc.loc main_arg4)) (m (c.tc.loc main_arg5)) (m (c.tc.loc main_arg6)) := by
  have he : ∀ (t : Fin cfg0.N) (j : S2x256x1024.Idx), ((cfg0.win 8).blk t).view.emb j = up 256 t.val (fit t) j := fun t j => eq_up (place t).2.2.2.2.2.2.2.2.1 rfl rfl rfl
  refine (Gen.dats m 0 c).arrAt_eq_of_cover 8 _ (fun t hf => ?_) (fun i => ?_)
  · rw [Value.flushed8]
    funext j
    rw [View.read_apply]
    show out0_8 _ _ _ _ _ _ _ j = _
    rw [out_d, he t j, ref_d, band_eq, blk4, blk5, blk6]
    rfl
  · obtain ⟨t, j, hj⟩ := found i
    refine ⟨t, flush0_8 t, ?_⟩
    have hx : i = ((cfg0.win 8).blk t).view.emb j := by rw [he]; exact hj
    exact hx ▸ View.emb_mem_set _ _
theorem value_m : (Gen.dats m 0 c).arrAt 9 cfg0.N = Cert.Reference27Ideal.Read.val_main_v13 (F := Ideal) (m (c.tc.loc main_arg0)) (m (c.tc.loc main_arg1)) (m (c.tc.loc main_arg2)) (m (c.tc.loc main_arg3)) (m (c.tc.loc main_arg5)) := by
  have he : ∀ (t : Fin cfg0.N) (j : S2x256x1024.Idx), ((cfg0.win 9).blk t).view.emb j = up 256 t.val (fit t) j := fun t j => eq_up (place t).2.2.2.2.2.2.2.2.2.1 rfl rfl rfl
  refine (Gen.dats m 0 c).arrAt_eq_of_cover 9 _ (fun t hf => ?_) (fun i => ?_)
  · rw [Value.flushed9]
    funext j
    rw [View.read_apply]
    show out0_9 _ _ _ _ _ _ _ j = _
    rw [out_m, he t j, ref_m, band_eq, blk5]
    rfl
  · obtain ⟨t, j, hj⟩ := found i
    refine ⟨t, flush0_9 t, ?_⟩
    have hx : i = ((cfg0.win 9).blk t).view.emb j := by rw [he]; exact hj
    exact hx ▸ View.emb_mem_set _ _
theorem value_v : (Gen.dats m 0 c).arrAt 10 cfg0.N = Cert.Reference27Ideal.Read.val_main_v19 (F := Ideal) (m (c.tc.loc main_arg0)) (m (c.tc.loc main_arg1)) (m (c.tc.loc main_arg2)) (m (c.tc.loc main_arg3)) (m (c.tc.loc main_arg6)) := by
  have he : ∀ (t : Fin cfg0.N) (j : S2x256x1024.Idx), ((cfg0.win 10).blk t).view.emb j = up 256 t.val (fit t) j := fun t j => eq_up (place t).2.2.2.2.2.2.2.2.2.2.1 rfl rfl rfl
  refine (Gen.dats m 0 c).arrAt_eq_of_cover 10 _ (fun t hf => ?_) (fun i => ?_)
  · rw [Value.flushed10]
    funext j
    rw [View.read_apply]
    show out0_10 _ _ _ _ _ _ _ j = _
    rw [out_v, he t j, ref_v, band_eq, blk6]
    rfl
  · obtain ⟨t, j, hj⟩ := found i
    refine ⟨t, flush0_10 t, ?_⟩
    have hx : i = ((cfg0.win 10).blk t).view.emb j := by rw [he]; exact hj
    exact hx ▸ View.emb_mem_set _ _
end

/-- Kernel and reference return the same gradient, change and moments. -/
theorem algebraic : @Cert.algebraic_Kernel27Ideal_Reference27Ideal Cert.Kernel27Ideal.Gen.facts Cert.Reference27Ideal.Gen.facts := by
  intro m ρ m' ρ' _ hagree
  refine ⟨_, _, _, _, Cert.Kernel27Ideal.Value.run_blocks m ρ, ?_⟩
  refine (θ_run _ _ _).mono (fun r h c => ?_) (Cert.Reference27Ideal.Value.run (F := Ideal) m' ρ')
  obtain ⟨h0, h1, h2, h3, hk⟩ := h c
  obtain ⟨e0, e1, e2, e3, e4, e5, e6⟩ := hagree c
  refine ⟨h0.trans ?_, h1.trans ?_, h2.trans ?_, h3.trans ?_, hk⟩
  · rw [value_g m c]
    refine (Cert.Reference27Ideal.Read.val_main_v8_eq _ _ _ _).trans ?_
    rw [e0, e1, e2, e3]
  · rw [value_d m c]
    refine (Cert.Reference27Ideal.Read.val_main_v32_eq _ _ _ _ _ _ _).trans ?_
    rw [e0, e1, e2, e3, e4, e5, e6]
  · rw [value_m m c]
    refine (Cert.Reference27Ideal.Read.val_main_v13_eq _ _ _ _ _).trans ?_
    rw [e0, e1, e2, e3, e5]
  · rw [value_v m c]
    refine (Cert.Reference27Ideal.Read.val_main_v19_eq _ _ _ _ _).trans ?_
    rw [e0, e1, e2, e3, e6]

/-- The reference runs and keeps its arguments; it has no semaphores. -/
theorem frame_reference : @Cert.quiescent_Reference27Ideal Cert.Reference27Ideal.Gen.facts := fun m ρ _ =>
  (θ_run Cert.Reference27Ideal.defs _ _).mono (fun r h => ⟨fun c => (h c).2.2.2.2, sem_eq_zero_of_no_sems (by decide) r.2⟩)
    (Cert.Reference27Ideal.Value.run (F := Ideal) m ρ)

end Cert.Kernel27Ideal.Adam
end
end
-- ==== Proof.lean ====
/-
  The gradient of the windowed attention with sinks: the pipelined backward kernel and the derivative of the attention
  written out over all rows return the same three arrays. The products of the linear layers and their gradients, the
  causal convolution, and the calls that work row by row, with their gradients, the loss and the optimiser's step, each as
  a program of its own. All run, keep their arguments and leave every counter at zero.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Read
public import proofs.«01_k».proof.Proof.Gen.Kernel28
public import proofs.«01_k».proof.Proof.Gen.Kernel28.Skeleton
public import proofs.«01_k».proof.Proof.Gen.Kernel28.Launch
public import proofs.«01_k».proof.Proof.Gen.Kernel28.Points
public import proofs.«01_k».proof.Proof.Gen.Kernel28.Frame
public import proofs.«01_k».proof.Proof.Gen.Kernel28Ideal
public import proofs.«01_k».proof.Proof.Gen.Kernel28Ideal.Skeleton
public import proofs.«01_k».proof.Proof.Gen.Kernel28Ideal.Launch
public import proofs.«01_k».proof.Proof.Gen.Kernel28Ideal.Points
public import proofs.«01_k».proof.Proof.Gen.Kernel28Ideal.Frame
public import proofs.«01_k».proof.Proof.Gen.Kernel28Ideal.Value
public import proofs.«01_k».proof.Proof.Gen.Reference28Ideal
public import proofs.«01_k».proof.Proof.Gen.Reference28Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Read
public import proofs.«01_k».proof.Proof.Gen.Kernel24
public import proofs.«01_k».proof.Proof.Gen.Kernel24.Skeleton
public import proofs.«01_k».proof.Proof.Gen.Kernel24.Launch
public import proofs.«01_k».proof.Proof.Gen.Kernel24.Points
public import proofs.«01_k».proof.Proof.Gen.Kernel24.Frame
public import proofs.«01_k».proof.Proof.Gen.Kernel24Ideal
public import proofs.«01_k».proof.Proof.Gen.Kernel24Ideal.Skeleton
public import proofs.«01_k».proof.Proof.Gen.Kernel24Ideal.Launch
public import proofs.«01_k».proof.Proof.Gen.Kernel24Ideal.Points
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Read
public import proofs.«01_k».proof.Proof.Gen.Kernel25
public import proofs.«01_k».proof.Proof.Gen.Kernel25.Skeleton
public import proofs.«01_k».proof.Proof.Gen.Kernel25.Launch
public import proofs.«01_k».proof.Proof.Gen.Kernel25.Points
public import proofs.«01_k».proof.Proof.Gen.Kernel25.Frame
public import proofs.«01_k».proof.Proof.Gen.Kernel25Ideal
public import proofs.«01_k».proof.Proof.Gen.Kernel25Ideal.Skeleton
public import proofs.«01_k».proof.Proof.Gen.Kernel25Ideal.Launch
public import proofs.«01_k».proof.Proof.Gen.Kernel25Ideal.Points
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Read
public import proofs.«01_k».proof.Proof.Gen.Kernel26
public import proofs.«01_k».proof.Proof.Gen.Kernel26.Skeleton
public import proofs.«01_k».proof.Proof.Gen.Kernel26.Launch
public import proofs.«01_k».proof.Proof.Gen.Kernel26.Points
public import proofs.«01_k».proof.Proof.Gen.Kernel26.Frame
public import proofs.«01_k».proof.Proof.Gen.Kernel26Ideal
public import proofs.«01_k».proof.Proof.Gen.Kernel26Ideal.Skeleton
public import proofs.«01_k».proof.Proof.Gen.Kernel26Ideal.Launch
public import proofs.«01_k».proof.Proof.Gen.Kernel26Ideal.Points
public import proofs.«01_k».proof.Proof.Gen.Kernel26Ideal.Frame
public import proofs.«01_k».proof.Proof.Gen.Kernel26Ideal.Value
public import proofs.«01_k».proof.Proof.Gen.Reference26Ideal
public import proofs.«01_k».proof.Proof.Gen.Reference26Ideal.Read
public import proofs.«01_k».proof.Proof.Gen.Kernel27
public import proofs.«01_k».proof.Proof.Gen.Kernel27.Skeleton
public import proofs.«01_k».proof.Proof.Gen.Kernel27.Launch
public import proofs.«01_k».proof.Proof.Gen.Kernel27.Points
public import proofs.«01_k».proof.Proof.Gen.Kernel27.Frame
public import proofs.«01_k».proof.Proof.Gen.Kernel27Ideal
public import proofs.«01_k».proof.Proof.Gen.Kernel27Ideal.Skeleton
public import proofs.«01_k».proof.Proof.Gen.Kernel27Ideal.Launch
public import proofs.«01_k».proof.Proof.Gen.Kernel27Ideal.Points
public import proofs.«01_k».proof.Proof.Gen.Kernel27Ideal.Frame
public import proofs.«01_k».proof.Proof.Gen.Kernel27Ideal.Value
public import proofs.«01_k».proof.Proof.Gen.Reference27Ideal
public import proofs.«01_k».proof.Proof.Gen.Reference27Ideal.Read
public import proofs.«01_k».proof.Proof.Precond
public import proofs.«01_k».proof.Proof.Arrays
public import proofs.«01_k».proof.Proof.RefGrad
public import proofs.«01_k».proof.Proof.RowsInput
public import proofs.«01_k».proof.Proof.WeightInput
public import proofs.«01_k».proof.Proof.RowsSquare
public import proofs.«01_k».proof.Proof.WeightSquare
public import proofs.«01_k».proof.Proof.RowsUp
public import proofs.«01_k».proof.Proof.WeightUp
public import proofs.«01_k».proof.Proof.RowsDown
public import proofs.«01_k».proof.Proof.WeightDown
public import proofs.«01_k».proof.Proof.ForwardInput
public import proofs.«01_k».proof.Proof.ForwardSquare
public import proofs.«01_k».proof.Proof.ForwardUp
public import proofs.«01_k».proof.Proof.ForwardDown
public import proofs.«01_k».proof.Proof.RmsBackward
public import proofs.«01_k».proof.Proof.RmsForward
public import proofs.«01_k».proof.Proof.MergeBackward
public import proofs.«01_k».proof.Proof.MergeForward
public import proofs.«01_k».proof.Proof.Relu2
public import proofs.«01_k».proof.Proof.SwaForward
public import proofs.«01_k».proof.Proof.ConvForward
public import proofs.«01_k».proof.Proof.ConvPlain
public import proofs.«01_k».proof.Proof.Loss
public import proofs.«01_k».proof.Proof.AdamInput
public import proofs.«01_k».proof.Proof.AdamSquare
public import proofs.«01_k».proof.Proof.AdamUp
public import proofs.«01_k».proof.Proof.AdamDown
public import Idealize.ShloMosaic.Adequacy
public import Idealize.ShloMosaic.Init

@[expose] public section

noncomputable section

namespace Cert.Proof

open Idealize.ShloMosaic Idealize.SL.Sem Cert.Kernel

/-- Kernel and reference return the same three gradients of real arguments. -/
theorem algebraic : @Cert.algebraic_KernelIdeal_ReferenceIdeal_pre_finite Cert.KernelIdeal.Gen.facts Cert.ReferenceIdeal.Gen.facts
    Cert.Pre_finite.facts := by
  intro m ρ m' ρ' hp hagree
  refine ⟨_, _, _, Cert.KernelIdeal.Value.run_blocks m ρ, ?_⟩
  refine (θ_run _ _ _).mono (fun r h c => ?_) (Cert.ReferenceIdeal.Value.run (F := Ideal) m' ρ')
  obtain ⟨h0, h1, h2, hk⟩ := h c
  obtain ⟨e0, e1, e2, e3⟩ := hagree c
  obtain ⟨r0, r1, r2, r3⟩ := @Cert.Pre_finite.real Cert.Pre_finite.facts _ _ _ _ (hp c)
  have H : Cert.ReferenceIdeal.Swa.Fin' (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)) :=
    ⟨fun _ _ => r0 _, fun _ _ => r1 _, fun _ => r2 _, fun _ _ => r3 _⟩
  refine ⟨h0.trans ?_, h1.trans ?_, h2.trans ?_, hk⟩
  · rw [Cert.KernelIdeal.Swa.final6]
    refine (Cert.ReferenceIdeal.Read.val_main_v125_eq _).trans ?_
    exact (congr (congr (congr (congrArg _ e0) e1) e2) e3).trans H.queries
  · rw [Cert.KernelIdeal.Swa.final7 m c (Swa.denOk H.hq H.hkv H.hs)]
    refine (Cert.ReferenceIdeal.Read.val_main_v122_eq _).trans ?_
    exact (congr (congr (congr (congrArg _ e0) e1) e2) e3).trans H.keys
  · rw [Cert.KernelIdeal.Swa.final8]
    refine (Cert.ReferenceIdeal.Read.val_main_v111_eq _).trans ?_
    exact (congr (congr (congr (congrArg _ e0) e1) e2) e3).trans H.sinks

/-- The reference runs and keeps its arguments; it has no semaphores. -/
theorem frame_reference : @Cert.quiescent_ReferenceIdeal Cert.ReferenceIdeal.Gen.facts := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- Everything that is claimed. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Kernel11.Gen.facts, Cert.Kernel11Ideal.Gen.facts, Cert.Reference11Ideal.Gen.facts, Cert.Kernel12.Gen.facts, Cert.Kernel12Ideal.Gen.facts, Cert.Reference12Ideal.Gen.facts, Cert.Kernel13.Gen.facts, Cert.Kernel13Ideal.Gen.facts, Cert.Reference13Ideal.Gen.facts, Cert.Kernel14.Gen.facts, Cert.Kernel14Ideal.Gen.facts, Cert.Reference14Ideal.Gen.facts, Cert.Kernel15.Gen.facts, Cert.Kernel15Ideal.Gen.facts, Cert.Reference15Ideal.Gen.facts, Cert.Kernel16.Gen.facts, Cert.Kernel16Ideal.Gen.facts, Cert.Reference16Ideal.Gen.facts, Cert.Kernel17.Gen.facts, Cert.Kernel17Ideal.Gen.facts, Cert.Reference17Ideal.Gen.facts, Cert.Kernel18.Gen.facts, Cert.Kernel18Ideal.Gen.facts, Cert.Reference18Ideal.Gen.facts, Cert.Kernel19.Gen.facts, Cert.Kernel19Ideal.Gen.facts, Cert.Reference19Ideal.Gen.facts, Cert.Kernel20.Gen.facts, Cert.Kernel20Ideal.Gen.facts, Cert.Reference20Ideal.Gen.facts, Cert.Kernel22.Gen.facts, Cert.Kernel22Ideal.Gen.facts, Cert.Reference22Ideal.Gen.facts, Cert.Kernel28.Gen.facts, Cert.Kernel28Ideal.Gen.facts, Cert.Reference28Ideal.Gen.facts, Cert.Kernel23.Gen.facts, Cert.Kernel23Ideal.Gen.facts, Cert.Reference23Ideal.Gen.facts, Cert.Kernel24.Gen.facts, Cert.Kernel24Ideal.Gen.facts, Cert.Reference24Ideal.Gen.facts, Cert.Kernel25.Gen.facts, Cert.Kernel25Ideal.Gen.facts, Cert.Reference25Ideal.Gen.facts, Cert.Kernel26.Gen.facts, Cert.Kernel26Ideal.Gen.facts, Cert.Reference26Ideal.Gen.facts, Cert.Kernel27.Gen.facts, Cert.Kernel27Ideal.Gen.facts, Cert.Reference27Ideal.Gen.facts, Cert.Pre_finite.facts, Cert.Pre_finite_attention.Gen.facts,
  fun m ρ _ => Cert.Kernel.Gen.frame m ρ,
  fun m ρ _ => Cert.KernelIdeal.Gen.frame m ρ,
  fun m ρ _ => Cert.KernelIdeal.Gen.frame m ρ,
  fun m ρ _ => frame_reference m ρ trivial,
  fun m ρ _ => frame_reference m ρ trivial,
  fun m ρ _ => Cert.Kernel2.Gen.frame m ρ,
  fun m ρ _ => Cert.Kernel2Ideal.Gen.frame m ρ,
  Cert.Kernel2Ideal.Mm.frame_reference,
  fun m ρ _ => Cert.Kernel3.Gen.frame m ρ,
  fun m ρ _ => Cert.Kernel3Ideal.Gen.frame m ρ,
  Cert.Kernel3Ideal.Mm.frame_reference,
  fun m ρ _ => Cert.Kernel4.Gen.frame m ρ,
  fun m ρ _ => Cert.Kernel4Ideal.Gen.frame m ρ,
  Cert.Kernel4Ideal.Mm.frame_reference,
  fun m ρ _ => Cert.Kernel5.Gen.frame m ρ,
  fun m ρ _ => Cert.Kernel5Ideal.Gen.frame m ρ,
  Cert.Kernel5Ideal.Mm.frame_reference,
  fun m ρ _ => Cert.Kernel6.Gen.frame m ρ,
  fun m ρ _ => Cert.Kernel6Ideal.Gen.frame m ρ,
  Cert.Kernel6Ideal.Mm.frame_reference,
  fun m ρ _ => Cert.Kernel7.Gen.frame m ρ,
  fun m ρ _ => Cert.Kernel7Ideal.Gen.frame m ρ,
  Cert.Kernel7Ideal.Mm.frame_reference,
  fun m ρ _ => Cert.Kernel8.Gen.frame m ρ,
  fun m ρ _ => Cert.Kernel8Ideal.Gen.frame m ρ,
  Cert.Kernel8Ideal.Mm.frame_reference,
  fun m ρ _ => Cert.Kernel9.Gen.frame m ρ,
  fun m ρ _ => Cert.Kernel9Ideal.Gen.frame m ρ,
  Cert.Kernel9Ideal.Mm.frame_reference,
  fun m ρ _ => Cert.Kernel10.Gen.frame m ρ,
  fun m ρ _ => Cert.Kernel10Ideal.Gen.frame m ρ,
  Cert.Kernel10Ideal.Mm.frame_reference,
  fun m ρ _ => Cert.Kernel11.Gen.frame m ρ,
  fun m ρ _ => Cert.Kernel11Ideal.Gen.frame m ρ,
  Cert.Kernel11Ideal.Mm.frame_reference,
  fun m ρ _ => Cert.Kernel12.Gen.frame m ρ,
  fun m ρ _ => Cert.Kernel12Ideal.Gen.frame m ρ,
  Cert.Kernel12Ideal.Mm.frame_reference,
  fun m ρ _ => Cert.Kernel13.Gen.frame m ρ,
  fun m ρ _ => Cert.Kernel13Ideal.Gen.frame m ρ,
  Cert.Kernel13Ideal.Mm.frame_reference,
  fun m ρ _ => Cert.Kernel14.Gen.frame m ρ,
  fun m ρ _ => Cert.Kernel14Ideal.Gen.frame m ρ,
  Cert.Kernel14Ideal.Mm.frame_reference,
  fun m ρ _ => Cert.Kernel15.Gen.frame m ρ,
  fun m ρ _ => Cert.Kernel15Ideal.Gen.frame m ρ,
  Cert.Kernel15Ideal.Mm.frame_reference,
  fun m ρ _ => Cert.Kernel16.Gen.frame m ρ,
  fun m ρ _ => Cert.Kernel16Ideal.Gen.frame m ρ,
  Cert.Kernel16Ideal.Mm.frame_reference,
  fun m ρ _ => Cert.Kernel17.Gen.frame m ρ,
  fun m ρ _ => Cert.Kernel17Ideal.Gen.frame m ρ,
  Cert.Kernel17Ideal.Mm.frame_reference,
  fun m ρ _ => Cert.Kernel18.Gen.frame m ρ,
  fun m ρ _ => Cert.Kernel18Ideal.Gen.frame m ρ,
  Cert.Kernel18Ideal.Mm.frame_reference,
  fun m ρ _ => Cert.Kernel19.Gen.frame m ρ,
  fun m ρ _ => Cert.Kernel19Ideal.Gen.frame m ρ,
  Cert.Kernel19Ideal.Mm.frame_reference,
  fun m ρ _ => Cert.Kernel20.Gen.frame m ρ,
  fun m ρ _ => Cert.Kernel20Ideal.Gen.frame m ρ,
  fun m ρ _ => Cert.Kernel20Ideal.Gen.frame m ρ,
  Cert.Kernel20Ideal.Mm.frame_reference,
  fun m ρ _ => Cert.Kernel20Ideal.Mm.frame_reference m ρ trivial,
  fun m ρ _ => Cert.Kernel22.Gen.frame m ρ,
  fun m ρ _ => Cert.Kernel22Ideal.Gen.frame m ρ,
  Cert.Kernel22Ideal.Conv.frame_reference,
  fun m ρ _ => Cert.Kernel28.Gen.frame m ρ,
  fun m ρ _ => Cert.Kernel28Ideal.Gen.frame m ρ,
  Cert.Kernel28Ideal.Conv.frame_reference,
  fun m ρ _ => Cert.Kernel23.Gen.frame m ρ,
  fun m ρ _ => Cert.Kernel23Ideal.Gen.frame m ρ,
  Cert.Kernel23Ideal.Mm.frame_reference,
  fun m ρ _ => Cert.Kernel24.Gen.frame m ρ,
  fun m ρ _ => Cert.Kernel24Ideal.Gen.frame m ρ,
  Cert.Kernel24Ideal.Adam.frame_reference,
  fun m ρ _ => Cert.Kernel25.Gen.frame m ρ,
  fun m ρ _ => Cert.Kernel25Ideal.Gen.frame m ρ,
  Cert.Kernel25Ideal.Adam.frame_reference,
  fun m ρ _ => Cert.Kernel26.Gen.frame m ρ,
  fun m ρ _ => Cert.Kernel26Ideal.Gen.frame m ρ,
  Cert.Kernel26Ideal.Adam.frame_reference,
  fun m ρ _ => Cert.Kernel27.Gen.frame m ρ,
  fun m ρ _ => Cert.Kernel27Ideal.Gen.frame m ρ,
  Cert.Kernel27Ideal.Adam.frame_reference,
  IdealRules.named_const.statement Cert.KernelIdeal.κ "mask" .f32 0xF149F2CA#32 ⊥ rfl,
  algebraic,
  trivial,
  Cert.Kernel2Ideal.Mm.algebraic,
  trivial,
  Cert.Kernel3Ideal.Mm.algebraic,
  trivial,
  Cert.Kernel4Ideal.Mm.algebraic,
  trivial,
  Cert.Kernel5Ideal.Mm.algebraic,
  trivial,
  Cert.Kernel6Ideal.Mm.algebraic,
  trivial,
  Cert.Kernel7Ideal.Mm.algebraic,
  trivial,
  Cert.Kernel8Ideal.Mm.algebraic,
  trivial,
  Cert.Kernel9Ideal.Mm.algebraic,
  trivial,
  Cert.Kernel10Ideal.Mm.algebraic,
  trivial,
  Cert.Kernel11Ideal.Mm.algebraic,
  trivial,
  Cert.Kernel12Ideal.Mm.algebraic,
  trivial,
  Cert.Kernel13Ideal.Mm.algebraic,
  trivial,
  Cert.Kernel14Ideal.Mm.algebraic,
  trivial,
  Cert.Kernel15Ideal.Mm.algebraic,
  trivial,
  Cert.Kernel16Ideal.Mm.algebraic,
  trivial,
  Cert.Kernel17Ideal.Mm.algebraic,
  trivial,
  Cert.Kernel18Ideal.Mm.algebraic,
  trivial,
  Cert.Kernel19Ideal.Mm.algebraic,
  IdealRules.named_const.statement Cert.Kernel20Ideal.κ "mask" .f32 0xF149F2CA#32 ⊥ rfl,
  Cert.Kernel20Ideal.Mm.algebraic,
  trivial,
  Cert.Kernel22Ideal.Conv.algebraic,
  trivial,
  Cert.Kernel28Ideal.Conv.algebraic,
  trivial,
  Cert.Kernel23Ideal.Mm.algebraic,
  trivial,
  Cert.Kernel24Ideal.Adam.algebraic,
  trivial,
  Cert.Kernel25Ideal.Adam.algebraic,
  trivial,
  Cert.Kernel26Ideal.Adam.algebraic,
  trivial,
  Cert.Kernel27Ideal.Adam.algebraic⟩

end Cert.Proof

end
